-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.bf16_pair.BufferStatement Cert.KernelIdeal.S20x8x2x256 Cert.KernelIdeal.S20x8x1x256
  ∧ IdealRules.bf16_pair.PackStatement Cert.KernelIdeal.S8x256
  ∧ IdealRules.bf16_pair.Statement Cert.KernelIdeal.S1x8x2x256 Cert.KernelIdeal.S1x8x1x256
  ∧ IdealRules.bf16_pair.Statement Cert.KernelIdeal.S16x256 Cert.KernelIdeal.S8x256

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v16)) (v2 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_v18) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_v156) = v1 c
          ∧ r.2.mem ((c.tc : Thread Cert.ReferenceIdeal.nD Cert.ReferenceIdeal.τ).loc Cert.ReferenceIdeal.main_v157) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x1x5120 : Shape := ⟨3, ![128, 1, 5120]⟩
abbrev S5120 : Shape := ⟨1, ![5120]⟩
abbrev S128x1 : Shape := ⟨2, ![128, 1]⟩
abbrev S1280x160x16 : Shape := ⟨3, ![1280, 160, 16]⟩
abbrev S1280x160 : Shape := ⟨2, ![1280, 160]⟩
abbrev S160x16x1280 : Shape := ⟨3, ![160, 16, 1280]⟩
abbrev S160x1280 : Shape := ⟨2, ![160, 1280]⟩
abbrev S128x5120 : Shape := ⟨2, ![128, 5120]⟩
abbrev S1x5120 : Shape := ⟨2, ![1, 5120]⟩
abbrev S1x128 : Shape := ⟨2, ![1, 128]⟩
abbrev S10x128x128 : Shape := ⟨3, ![10, 128, 128]⟩
abbrev S160x16x256 : Shape := ⟨3, ![160, 16, 256]⟩
abbrev S160x256 : Shape := ⟨2, ![160, 256]⟩
abbrev S2x128x128 : Shape := ⟨3, ![2, 128, 128]⟩
abbrev S20x128x256 : Shape := ⟨3, ![20, 128, 256]⟩
abbrev S128x128 : Shape := ⟨2, ![128, 128]⟩
abbrev S20x8x256 : Shape := ⟨3, ![20, 8, 256]⟩
abbrev S128 : Shape := ⟨1, ![128]⟩
abbrev S128x128x1 : Shape := ⟨3, ![128, 128, 1]⟩
abbrev S1x128x128 : Shape := ⟨3, ![1, 128, 128]⟩
abbrev S128x256 : Shape := ⟨2, ![128, 256]⟩
abbrev S8x256 : Shape := ⟨2, ![8, 256]⟩
abbrev S1x8x256 : Shape := ⟨3, ![1, 8, 256]⟩
abbrev S8x16x256 : Shape := ⟨3, ![8, 16, 256]⟩
abbrev S128x1x256 : Shape := ⟨3, ![128, 1, 256]⟩
abbrev S128x2x256 : Shape := ⟨3, ![128, 2, 256]⟩
abbrev S256x256 : Shape := ⟨2, ![256, 256]⟩
abbrev S16x256 : Shape := ⟨2, ![16, 256]⟩
abbrev S1x256 : Shape := ⟨2, ![1, 256]⟩
abbrev S32x256 : Shape := ⟨2, ![32, 256]⟩
abbrev S1x128x256 : Shape := ⟨3, ![1, 128, 256]⟩
abbrev S128x10x128 : Shape := ⟨3, ![128, 10, 128]⟩
abbrev S128x1x10x128 : Shape := ⟨4, ![128, 1, 10, 128]⟩

abbrev nBuf : Space → Nat
  | .hbm => 33
  | .vmem => 32
  | .smem => 0
  | _ => 0

abbrev bufTy : (tb : Table) → Fin (tcTables nBuf tb) → BufTy
  | .hbm, ⟨0, _⟩ => ⟨S128x1x5120, .bf16⟩
  | .hbm, ⟨1, _⟩ => ⟨S5120, .bf16⟩
  | .hbm, ⟨2, _⟩ => ⟨S128x1, .i32⟩
  | .hbm, ⟨3, _⟩ => ⟨S1280x160x16, .i8⟩
  | .hbm, ⟨4, _⟩ => ⟨S1280x160, .bf16⟩
  | .hbm, ⟨5, _⟩ => ⟨S1280x160, .bf16⟩
  | .hbm, ⟨6, _⟩ => ⟨S1280x160x16, .i8⟩
  | .hbm, ⟨7, _⟩ => ⟨S1280x160, .bf16⟩
  | .hbm, ⟨8, _⟩ => ⟨S1280x160, .bf16⟩
  | .hbm, ⟨9, _⟩ => ⟨S1280x160x16, .i8⟩
  | .hbm, ⟨10, _⟩ => ⟨S1280x160, .bf16⟩
  | .hbm, ⟨11, _⟩ => ⟨S1280x160, .bf16⟩
  | .hbm, ⟨12, _⟩ => ⟨S160x16x1280, .i8⟩
  | .hbm, ⟨13, _⟩ => ⟨S160x1280, .bf16⟩
  | .hbm, ⟨14, _⟩ => ⟨S160x1280, .bf16⟩
  | .hbm, ⟨15, _⟩ => ⟨S160x16x1280, .i8⟩
  | .hbm, ⟨16, _⟩ => ⟨S160x1280, .bf16⟩
  | .hbm, ⟨17, _⟩ => ⟨S160x1280, .bf16⟩
  | .hbm, ⟨18, _⟩ => ⟨S160x16x1280, .i8⟩
  | .hbm, ⟨19, _⟩ => ⟨S160x1280, .bf16⟩
  | .hbm, ⟨20, _⟩ => ⟨S160x1280, .bf16⟩
  | .hbm, ⟨21, _⟩ => ⟨S128x5120, .bf16⟩
  | .hbm, ⟨22, _⟩ => ⟨S1x5120, .bf16⟩
  | .hbm, ⟨23, _⟩ => ⟨S1x128, .i32⟩
  | .hbm, ⟨24, _⟩ => ⟨S10x128x128, .bf16⟩
  | .hbm, ⟨25, _⟩ => ⟨S10x128x128, .bf16⟩
  | .hbm, ⟨26, _⟩ => ⟨S10x128x128, .bf16⟩
  | .hbm, ⟨27, _⟩ => ⟨S128x10x128, .bf16⟩
  | .hbm, ⟨28, _⟩ => ⟨S128x1x10x128, .bf16⟩
  | .hbm, ⟨29, _⟩ => ⟨S128x10x128, .bf16⟩
  | .hbm, ⟨30, _⟩ => ⟨S128x1x10x128, .bf16⟩
  | .hbm, ⟨31, _⟩ => ⟨S128x10x128, .bf16⟩
  | .hbm, ⟨32, _⟩ => ⟨S128x1x10x128, .bf16⟩
  | .local _ .vmem, ⟨0, _⟩ => ⟨S128x5120, .bf16⟩
  | .local _ .vmem, ⟨1, _⟩ => ⟨S1x5120, .bf16⟩
  | .local _ .vmem, ⟨2, _⟩ => ⟨S1x128, .i32⟩
  | .local _ .vmem, ⟨3, _⟩ => ⟨S160x16x256, .i8⟩
  | .local _ .vmem, ⟨4, _⟩ => ⟨S160x16x256, .i8⟩
  | .local _ .vmem, ⟨5, _⟩ => ⟨S160x256, .bf16⟩
  | .local _ .vmem, ⟨6, _⟩ => ⟨S160x256, .bf16⟩
  | .local _ .vmem, ⟨7, _⟩ => ⟨S160x256, .bf16⟩
  | .local _ .vmem, ⟨8, _⟩ => ⟨S160x256, .bf16⟩
  | .local _ .vmem, ⟨9, _⟩ => ⟨S160x16x256, .i8⟩
  | .local _ .vmem, ⟨10, _⟩ => ⟨S160x16x256, .i8⟩
  | .local _ .vmem, ⟨11, _⟩ => ⟨S160x256, .bf16⟩
  | .local _ .vmem, ⟨12, _⟩ => ⟨S160x256, .bf16⟩
  | .local _ .vmem, ⟨13, _⟩ => ⟨S160x256, .bf16⟩
  | .local _ .vmem, ⟨14, _⟩ => ⟨S160x256, .bf16⟩
  | .local _ .vmem, ⟨15, _⟩ => ⟨S160x16x256, .i8⟩
  | .local _ .vmem, ⟨16, _⟩ => ⟨S160x16x256, .i8⟩
  | .local _ .vmem, ⟨17, _⟩ => ⟨S160x256, .bf16⟩
  | .local _ .vmem, ⟨18, _⟩ => ⟨S160x256, .bf16⟩
  | .local _ .vmem, ⟨19, _⟩ => ⟨S160x256, .bf16⟩
  | .local _ .vmem, ⟨20, _⟩ => ⟨S160x256, .bf16⟩
  | .local _ .vmem, ⟨21, _⟩ => ⟨S2x128x128, .bf16⟩
  | .local _ .vmem, ⟨22, _⟩ => ⟨S2x128x128, .bf16⟩
  | .local _ .vmem, ⟨23, _⟩ => ⟨S2x128x128, .bf16⟩
  | .local _ .vmem, ⟨24, _⟩ => ⟨S2x128x128, .bf16⟩
  | .local _ .vmem, ⟨25, _⟩ => ⟨S2x128x128, .bf16⟩
  | .local _ .vmem, ⟨26, _⟩ => ⟨S2x128x128, .bf16⟩
  | .local _ .vmem, ⟨27, _⟩ => ⟨S20x128x256, .bf16⟩
  | .local _ .vmem, ⟨28, _⟩ => ⟨S128x128, .f32⟩
  | .local _ .vmem, ⟨29, _⟩ => ⟨S128x128, .f32⟩
  | .local _ .vmem, ⟨30, _⟩ => ⟨S20x8x256, .i32⟩
  | .local _ .vmem, ⟨31, _⟩ => ⟨S20x8x256, .i32⟩
  | _, _ => ⟨S128x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev main_v12_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_scratch4 : Ref sig .tc := ⟨.vmem, 31, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26

abbrev nD : Nat := 1
abbrev τ : Topo := Topo.v7x

variable {F : FTy → Type} [BitOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S128x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S160x16x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S160x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S160x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S160x16x256 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S160x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S160x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S160x16x256 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S160x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S160x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2x128x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2x128x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2x128x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== KernelIdeal.lean ====
abbrev S20x8x2x256 : Shape := ⟨4, ![20, 8, 2, 256]⟩
abbrev S20x8x1x256 : Shape := ⟨4, ![20, 8, 1, 256]⟩
abbrev S1x8x2x256 : Shape := ⟨4, ![1, 8, 2, 256]⟩
abbrev S1x8x1x256 : Shape := ⟨4, ![1, 8, 1, 256]⟩
  | .local _ .vmem, ⟨30, _⟩ => ⟨S20x8x2x256, .bf16⟩
  | .local _ .vmem, ⟨31, _⟩ => ⟨S20x8x2x256, .bf16⟩
variable {F : FTy → Type} [FloatOps F]
-- ==== ReferenceIdeal.lean ====
abbrev S128x1x5120 : Shape := ⟨3, ![128, 1, 5120]⟩
abbrev S5120 : Shape := ⟨1, ![5120]⟩
abbrev S128x1 : Shape := ⟨2, ![128, 1]⟩
abbrev S1280x160x16 : Shape := ⟨3, ![1280, 160, 16]⟩
abbrev S1280x160 : Shape := ⟨2, ![1280, 160]⟩
abbrev S_ : Shape := ⟨0, ![]⟩
abbrev S128x1x1 : Shape := ⟨3, ![128, 1, 1]⟩
abbrev S1x1x5120 : Shape := ⟨3, ![1, 1, 5120]⟩
abbrev S128x160x2x16 : Shape := ⟨4, ![128, 160, 2, 16]⟩
abbrev S128x160x1x16 : Shape := ⟨4, ![128, 160, 1, 16]⟩
abbrev S128x160x16 : Shape := ⟨3, ![128, 160, 16]⟩
abbrev S128x2560 : Shape := ⟨2, ![128, 2560]⟩
abbrev S128x5120 : Shape := ⟨2, ![128, 5120]⟩
abbrev S1280x2560 : Shape := ⟨2, ![1280, 2560]⟩
abbrev S1280x5120 : Shape := ⟨2, ![1280, 5120]⟩
abbrev S128x1280 : Shape := ⟨2, ![128, 1280]⟩
abbrev S128x1x10x128 : Shape := ⟨4, ![128, 1, 10, 128]⟩
abbrev S64 : Shape := ⟨1, ![64]⟩
abbrev S128x1x1x1 : Shape := ⟨4, ![128, 1, 1, 1]⟩
abbrev S1x1x1x64 : Shape := ⟨4, ![1, 1, 1, 64]⟩
abbrev S128x1x1x64 : Shape := ⟨4, ![128, 1, 1, 64]⟩
abbrev S128x1x10x64x2 : Shape := ⟨5, ![128, 1, 10, 64, 2]⟩
abbrev S128x1x10x64x1 : Shape := ⟨5, ![128, 1, 10, 64, 1]⟩
abbrev S128x1x10x64 : Shape := ⟨4, ![128, 1, 10, 64]⟩

abbrev nBuf : Space → Nat
  | .hbm => 187
  | .vmem => 0
  | .smem => 0
  | _ => 0

abbrev hbmTy0_0 (i : Nat) : BufTy := match i % 128 with
  | 0 => ⟨S128x1x5120, .bf16⟩
  | 1 => ⟨S5120, .bf16⟩
  | 2 => ⟨S128x1, .i32⟩
  | 3 => ⟨S1280x160x16, .i8⟩
  | 4 => ⟨S1280x160, .bf16⟩
  | 5 => ⟨S1280x160, .bf16⟩
  | 6 => ⟨S1280x160x16, .i8⟩
  | 7 => ⟨S1280x160, .bf16⟩
  | 8 => ⟨S1280x160, .bf16⟩
  | 9 => ⟨S1280x160x16, .i8⟩
  | 10 => ⟨S1280x160, .bf16⟩
  | 11 => ⟨S1280x160, .bf16⟩
  | 12 => ⟨S128x1x5120, .f32⟩
  | 13 => ⟨S128x1x5120, .f32⟩
  | 14 => ⟨S_, .f32⟩
  | 15 => ⟨S128x1, .f32⟩
  | 16 => ⟨S128x1x1, .f32⟩
  | 17 => ⟨S_, .f32⟩
  | 18 => ⟨S128x1x1, .f32⟩
  | 19 => ⟨S128x1x1, .f32⟩
  | 20 => ⟨S_, .f32⟩
  | 21 => ⟨S128x1x1, .f32⟩
  | 22 => ⟨S128x1x1, .f32⟩
  | 23 => ⟨S128x1x1, .f32⟩
  | 24 => ⟨S128x1x5120, .f32⟩
  | 25 => ⟨S128x1x5120, .f32⟩
  | 26 => ⟨S5120, .f32⟩
  | 27 => ⟨S1x1x5120, .f32⟩
  | 28 => ⟨S128x1x5120, .f32⟩
  | 29 => ⟨S128x1x5120, .f32⟩
  | 30 => ⟨S128x1x5120, .bf16⟩
  | 31 => ⟨S128x160x2x16, .bf16⟩
  | 32 => ⟨S128x160x1x16, .bf16⟩
  | 33 => ⟨S128x160x16, .bf16⟩
  | 34 => ⟨S128x2560, .bf16⟩
  | 35 => ⟨S128x160x1x16, .bf16⟩
  | 36 => ⟨S128x160x16, .bf16⟩
  | 37 => ⟨S128x2560, .bf16⟩
  | 38 => ⟨S128x5120, .bf16⟩
  | 39 => ⟨S1280x160x16, .i32⟩
  | 40 => ⟨S1280x2560, .i32⟩
  | 41 => ⟨S1280x160x16, .bf16⟩
  | 42 => ⟨S1280x2560, .bf16⟩
  | 43 => ⟨S1280x160x16, .bf16⟩
  | 44 => ⟨S1280x2560, .bf16⟩
  | 45 => ⟨S_, .i32⟩
  | 46 => ⟨S1280x2560, .i32⟩
  | 47 => ⟨S1280x2560, .i32⟩
  | 48 => ⟨S1280x2560, .bf16⟩
  | 49 => ⟨S1280x2560, .bf16⟩
  | 50 => ⟨S1280x2560, .bf16⟩
  | 51 => ⟨S_, .i32⟩
  | 52 => ⟨S1280x2560, .i32⟩
  | 53 => ⟨S1280x2560, .i32⟩
  | 54 => ⟨S1280x2560, .bf16⟩
  | 55 => ⟨S1280x2560, .bf16⟩
  | 56 => ⟨S1280x2560, .bf16⟩
  | 57 => ⟨S1280x5120, .bf16⟩
  | 58 => ⟨S128x1280, .f32⟩
  | 59 => ⟨S128x1x10x128, .f32⟩
  | 60 => ⟨S1280x160x16, .i32⟩
  | 61 => ⟨S1280x2560, .i32⟩
  | 62 => ⟨S1280x160x16, .bf16⟩
  | 63 => ⟨S1280x2560, .bf16⟩
  | 64 => ⟨S1280x160x16, .bf16⟩
  | 65 => ⟨S1280x2560, .bf16⟩
  | 66 => ⟨S_, .i32⟩
  | 67 => ⟨S1280x2560, .i32⟩
  | 68 => ⟨S1280x2560, .i32⟩
  | 69 => ⟨S1280x2560, .bf16⟩
  | 70 => ⟨S1280x2560, .bf16⟩
  | 71 => ⟨S1280x2560, .bf16⟩
  | 72 => ⟨S_, .i32⟩
  | 73 => ⟨S1280x2560, .i32⟩
  | 74 => ⟨S1280x2560, .i32⟩
  | 75 => ⟨S1280x2560, .bf16⟩
  | 76 => ⟨S1280x2560, .bf16⟩
  | 77 => ⟨S1280x2560, .bf16⟩
  | 78 => ⟨S1280x5120, .bf16⟩
  | 79 => ⟨S128x1280, .f32⟩
  | 80 => ⟨S128x1x10x128, .f32⟩
  | 81 => ⟨S1280x160x16, .i32⟩
  | 82 => ⟨S1280x2560, .i32⟩
  | 83 => ⟨S1280x160x16, .bf16⟩
  | 84 => ⟨S1280x2560, .bf16⟩
  | 85 => ⟨S1280x160x16, .bf16⟩
  | 86 => ⟨S1280x2560, .bf16⟩
  | 87 => ⟨S_, .i32⟩
  | 88 => ⟨S1280x2560, .i32⟩
  | 89 => ⟨S1280x2560, .i32⟩
  | 90 => ⟨S1280x2560, .bf16⟩
  | 91 => ⟨S1280x2560, .bf16⟩
  | 92 => ⟨S1280x2560, .bf16⟩
  | 93 => ⟨S_, .i32⟩
  | 94 => ⟨S1280x2560, .i32⟩
  | 95 => ⟨S1280x2560, .i32⟩
  | 96 => ⟨S1280x2560, .bf16⟩
  | 97 => ⟨S1280x2560, .bf16⟩
  | 98 => ⟨S1280x2560, .bf16⟩
  | 99 => ⟨S1280x5120, .bf16⟩
  | 100 => ⟨S128x1280, .f32⟩
  | 101 => ⟨S128x1x10x128, .f32⟩
  | 102 => ⟨S64, .f32⟩
  | 103 => ⟨S_, .f32⟩
  | 104 => ⟨S64, .f32⟩
  | 105 => ⟨S64, .f32⟩
  | 106 => ⟨S_, .f32⟩
  | 107 => ⟨S64, .f32⟩
  | 108 => ⟨S64, .f32⟩
  | 109 => ⟨S64, .f32⟩
  | 110 => ⟨S_, .f32⟩
  | 111 => ⟨S64, .f32⟩
  | 112 => ⟨S64, .f32⟩
  | 113 => ⟨S_, .f32⟩
  | 114 => ⟨S64, .f32⟩
  | 115 => ⟨S64, .f32⟩
  | 116 => ⟨S128x1, .f32⟩
  | 117 => ⟨S128x1x1x1, .f32⟩
  | 118 => ⟨S1x1x1x64, .f32⟩
  | 119 => ⟨S128x1x1x64, .f32⟩
  | 120 => ⟨S128x1x1x64, .f32⟩
  | 121 => ⟨S128x1x1x64, .f32⟩
  | 122 => ⟨S128x1x1x64, .f32⟩
  | 123 => ⟨S128x1x1x64, .f32⟩
  | 124 => ⟨S128x1x10x64x2, .f32⟩
  | 125 => ⟨S128x1x10x64x1, .f32⟩
  | 126 => ⟨S128x1x10x64, .f32⟩
  | 127 => ⟨S128x1x10x64x1, .f32⟩
  | _ => ⟨S128x1x5120, .bf16⟩

abbrev hbmTy0_1 (i : Nat) : BufTy := match i % 128 with
  | 0 => ⟨S128x1x10x64, .f32⟩
  | 1 => ⟨S128x1x10x64, .f32⟩
  | 2 => ⟨S128x1x10x64, .f32⟩
  | 3 => ⟨S128x1x10x64, .f32⟩
  | 4 => ⟨S128x1x10x64, .f32⟩
  | 5 => ⟨S128x1x10x64, .f32⟩
  | 6 => ⟨S128x1x10x64, .f32⟩
  | 7 => ⟨S128x1x10x64, .f32⟩
  | 8 => ⟨S128x1x10x64, .f32⟩
  | 9 => ⟨S128x1x10x64, .f32⟩
  | 10 => ⟨S128x1x10x64, .f32⟩
  | 11 => ⟨S128x1x10x64x1, .f32⟩
  | 12 => ⟨S128x1x10x64x1, .f32⟩
  | 13 => ⟨S128x1x10x64x2, .f32⟩
  | 14 => ⟨S128x1x10x128, .f32⟩
  | 15 => ⟨S128x1x10x128, .bf16⟩
  | 16 => ⟨S64, .f32⟩
  | 17 => ⟨S_, .f32⟩
  | 18 => ⟨S64, .f32⟩
  | 19 => ⟨S64, .f32⟩
  | 20 => ⟨S_, .f32⟩
  | 21 => ⟨S64, .f32⟩
  | 22 => ⟨S64, .f32⟩
  | 23 => ⟨S64, .f32⟩
  | 24 => ⟨S_, .f32⟩
  | 25 => ⟨S64, .f32⟩
  | 26 => ⟨S64, .f32⟩
  | 27 => ⟨S_, .f32⟩
  | 28 => ⟨S64, .f32⟩
  | 29 => ⟨S64, .f32⟩
  | 30 => ⟨S128x1, .f32⟩
  | 31 => ⟨S128x1x1x1, .f32⟩
  | 32 => ⟨S1x1x1x64, .f32⟩
  | 33 => ⟨S128x1x1x64, .f32⟩
  | 34 => ⟨S128x1x1x64, .f32⟩
  | 35 => ⟨S128x1x1x64, .f32⟩
  | 36 => ⟨S128x1x1x64, .f32⟩
  | 37 => ⟨S128x1x1x64, .f32⟩
  | 38 => ⟨S128x1x10x64x2, .f32⟩
  | 39 => ⟨S128x1x10x64x1, .f32⟩
  | 40 => ⟨S128x1x10x64, .f32⟩
  | 41 => ⟨S128x1x10x64x1, .f32⟩
  | 42 => ⟨S128x1x10x64, .f32⟩
  | 43 => ⟨S128x1x10x64, .f32⟩
  | 44 => ⟨S128x1x10x64, .f32⟩
  | 45 => ⟨S128x1x10x64, .f32⟩
  | 46 => ⟨S128x1x10x64, .f32⟩
  | 47 => ⟨S128x1x10x64, .f32⟩
  | 48 => ⟨S128x1x10x64, .f32⟩
  | 49 => ⟨S128x1x10x64, .f32⟩
  | 50 => ⟨S128x1x10x64, .f32⟩
  | 51 => ⟨S128x1x10x64, .f32⟩
  | 52 => ⟨S128x1x10x64, .f32⟩
  | 53 => ⟨S128x1x10x64x1, .f32⟩
  | 54 => ⟨S128x1x10x64x1, .f32⟩
  | 55 => ⟨S128x1x10x64x2, .f32⟩
  | 56 => ⟨S128x1x10x128, .f32⟩
  | 57 => ⟨S128x1x10x128, .bf16⟩
  | 58 => ⟨S128x1x10x128, .bf16⟩
  | _ => ⟨S128x1x5120, .bf16⟩

abbrev hbmTy (i : Nat) : BufTy := match i / 128 with
  | 0 => hbmTy0_0 i
  | 1 => hbmTy0_1 i
  | _ => ⟨S128x1x5120, .bf16⟩

abbrev bufTy : (tb : Table) → Fin (tcTables nBuf tb) → BufTy
  | .hbm, ⟨i, _⟩ => hbmTy i
  | _, _ => ⟨S128x1x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_2 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_c_3 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_c_4 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_c_5 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_c_6 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_cst_7 : Ref sig .tc := ⟨.hbm, 103, rfl⟩
abbrev main_v82 : Ref sig .tc := ⟨.hbm, 104, rfl⟩
abbrev main_v83 : Ref sig .tc := ⟨.hbm, 105, rfl⟩
abbrev main_cst_8 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_cst_9 : Ref sig .tc := ⟨.hbm, 110, rfl⟩
abbrev main_v87 : Ref sig .tc := ⟨.hbm, 111, rfl⟩
abbrev main_v88 : Ref sig .tc := ⟨.hbm, 112, rfl⟩
abbrev main_cst_10 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_cst_11 : Ref sig .tc := ⟨.hbm, 145, rfl⟩
abbrev main_v120 : Ref sig .tc := ⟨.hbm, 146, rfl⟩
abbrev main_v121 : Ref sig .tc := ⟨.hbm, 147, rfl⟩
abbrev main_cst_12 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_cst_13 : Ref sig .tc := ⟨.hbm, 152, rfl⟩
abbrev main_v125 : Ref sig .tc := ⟨.hbm, 153, rfl⟩
abbrev main_v126 : Ref sig .tc := ⟨.hbm, 154, rfl⟩
abbrev main_cst_14 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_v156 : Ref sig .tc := ⟨.hbm, 185, rfl⟩
abbrev main_v157 : Ref sig .tc := ⟨.hbm, 186, rfl⟩

abbrev nD : Nat := 1
abbrev τ : Topo := Topo.v7x

variable {F : FTy → Type} [FloatOps F]
-- ==== Proof.Spec.lean ====
/- The mathematics both programs compute, over the extended reals: an RMS-normalised row, three
   4-bit projections of it, and the rotation by position of two of them. -/
module

public import Idealize.ShloMosaic.Lib.Pipeline.Value
public import Idealize.ShloMosaic.Lib.ValueIdx
public import Idealize.ShloMosaic.PureOps.Ideal.Laws

@[expose] public section

noncomputable section

namespace Cert.Spec

open Idealize.ShloMosaic

/-- The low (`u = 0`) or high (`u = 1`) half of a byte, as a number. -/
def nib (u : ℕ) (w : BitVec 8) : EReal :=
  if u = 0 then ((((w.setWidth 32) &&& 15#32).toInt : ℝ) : EReal)
  else ((((w.setWidth 32).sshiftRight 4).toInt : ℝ) : EReal)

/-- The column of the normalised row that the contraction index `k` meets: half `k / 2560`, group
    `k % 2560 / 16`, byte `k % 16`. -/
def col (k : Fin 5120) : Fin 5120 :=
  ⟨k.val % 2560 / 16 * 32 + k.val / 2560 * 16 + k.val % 16, by have := k.isLt; omega⟩

/-- The group of the contraction index `k`. -/
def grp (k : Fin 5120) : Fin 160 := ⟨k.val % 2560 / 16, by have := k.isLt; omega⟩

/-- The byte inside its group of the contraction index `k`. -/
def byt (k : Fin 5120) : Fin 16 := ⟨k.val % 16, by omega⟩

/-- One over the root of the mean square of a row. -/
def rinv (x : Fin 5120 → EReal) : EReal :=
  Ideal.rsqrt (Ideal.div (∑ k : Fin 5120, x k * x k) (Ideal.ofBits .f32 0x45A00000#32) + Ideal.ofBits .f32 0x358637BD#32)

/-- The normalised row, times the norm's weight. -/
def hn (x nw : Fin 5120 → EReal) (e : Fin 5120) : EReal := x e * rinv x * nw e

/-- A dequantised weight at the contraction index `k`. -/
def wt (p : Fin 160 → Fin 16 → BitVec 8) (s mn : Fin 160 → EReal) (k : Fin 5120) : EReal :=
  nib (k.val / 2560) (p (grp k) (byt k)) * s (grp k) + mn (grp k)

/-- One element of a projection. -/
def proj (x nw : Fin 5120 → EReal) (p : Fin 160 → Fin 16 → BitVec 8) (s mn : Fin 160 → EReal) : EReal :=
  ∑ k : Fin 5120, hn x nw (col k) * wt p s mn k

/-- The angle of the pair number `i` at a position. -/
def ang (pos : BitVec 32) (i : ℕ) : EReal :=
  ((pos.toInt : ℝ) : EReal) * Ideal.pow (Ideal.ofBits .f32 0x461C4000#32)
    (Ideal.div (-(((2 * i : ℕ) : ℝ) : EReal)) (Ideal.ofBits .f32 0x43000000#32))

/-- The rotation of lane `l`, given the lane's pair `(a, b)`. -/
def rot (pos : BitVec 32) (l : ℕ) (a b : EReal) : EReal :=
  if l % 2 = 0 then a * Ideal.cos (ang pos (l / 2)) - b * Ideal.sin (ang pos (l / 2))
  else a * Ideal.sin (ang pos (l / 2)) + b * Ideal.cos (ang pos (l / 2))

end Cert.Spec

end
-- ==== Proof.Step.lean ====
/- One tile of a projection, as the kernel computes it: the packed codes of eight groups unpacked to a 256 × 256 block,
   each group scaled and shifted by its own row, and the block multiplied from the left by a slab of the normalised rows
   and added to the accumulator. Read at an index over the extended reals. -/
module

public import proofs.«01_k».proof.Proof.Spec
public import proofs.«01_k».proof.Proof.Gen.KernelIdeal.Skeleton
public import Idealize.ShloMosaic.Lib.Pointwise.Contract

@[expose] public section

set_option maxRecDepth 16384

noncomputable section

namespace Cert.KernelIdeal.Val

open Cert.KernelIdeal Cert.KernelIdeal.Gen Idealize.ShloMosaic Cert.Spec

variable {F : FTy → Type} [FloatOps F]

/-- One row of a tile's scales, repeated over the 32 rows of its group: the tile's rows are held each twice over, as pairs
    of rows, read by parity and put together again, and the first copy of the row is taken. -/
def scaleRow (off : Fin 2 → ℕ) (h : S16x256.Slices off S1x256) (v : Vec F S1x8x2x256 .bf16) : FVec F S32x256 .bf16 :=
  broadcastTo S32x256 (shapeCast S1x256 (extractStridedSlice S1x256 off (k0_pay99 v) h) shapeCasts_S1x256_S1x256) broadcasts_S1x256_S32x256

/-- One group's 32 rows of weights: codes times scale plus minimum. -/
def grpW (q : FVec F S256x256 .bf16) (off : Fin 2 → ℕ) (h : S256x256.Slices off S32x256) (off' : Fin 2 → ℕ) (h' : S16x256.Slices off' S1x256)
    (s m : Vec F S1x8x2x256 .bf16) : FVec F S32x256 .bf16 :=
  addf (mulf (extractStridedSlice S32x256 off q h) (scaleRow off' h' s)) (scaleRow off' h' m)

/-- The 256 × 256 block of weights. -/
def tileW (q : FVec F S256x256 .bf16) (s m : Vec F S1x8x2x256 .bf16) : FVec F S256x256 .bf16 :=
  concatenate S256x256 0 [⟨S32x256, grpW q ![0, 0] slices_S256x256_o0_0_S32x256 ![0, 0] slices_S16x256_o0_0_S1x256 s m⟩,
    ⟨S32x256, grpW q ![32, 0] slices_S256x256_o32_0_S32x256 ![2, 0] slices_S16x256_o2_0_S1x256 s m⟩,
    ⟨S32x256, grpW q ![64, 0] slices_S256x256_o64_0_S32x256 ![4, 0] slices_S16x256_o4_0_S1x256 s m⟩,
    ⟨S32x256, grpW q ![96, 0] slices_S256x256_o96_0_S32x256 ![6, 0] slices_S16x256_o6_0_S1x256 s m⟩,
    ⟨S32x256, grpW q ![128, 0] slices_S256x256_o128_0_S32x256 ![8, 0] slices_S16x256_o8_0_S1x256 s m⟩,
    ⟨S32x256, grpW q ![160, 0] slices_S256x256_o160_0_S32x256 ![10, 0] slices_S16x256_o10_0_S1x256 s m⟩,
    ⟨S32x256, grpW q ![192, 0] slices_S256x256_o192_0_S32x256 ![12, 0] slices_S16x256_o12_0_S1x256 s m⟩,
    ⟨S32x256, grpW q ![224, 0] slices_S256x256_o224_0_S32x256 ![14, 0] slices_S16x256_o14_0_S1x256 s m⟩]
    concatenates_S32x256_S32x256_S32x256_S32x256_S32x256_S32x256_S32x256_S32x256_S256x256_d0

/-- The accumulator after one tile. -/
def step (acc : FVec F S128x256 .f32) (hb : Vec F S1x128x256 .bf16) (p : Vec F S8x16x256 .i8) (s m : Vec F S1x8x2x256 .bf16) : FVec F S128x256 .f32 :=
  addf acc (matmul dot_S128x256_S256x256_S128x256_1_0_0_1_n_n none (shapeCast S128x256 hb shapeCasts_S1x128x256_S128x256)
    (tileW (k0_pay98 p) s m) (constant S128x256 .f32 0x00000000#32))

/-- The unpacked codes at an index: even rows are low halves, odd rows high halves. -/
theorem codes_apply (p : Vec Ideal S8x16x256 .i8) (r n : Fin 256) :
    k0_pay98 (F := Ideal) p (ValueIdx.ix2 r n)
      = nib (r.val % 2) (p (ValueIdx.ix3 (⟨r.val / 32, by have := r.isLt; omega⟩ : Fin 8) (⟨r.val % 32 / 2, by omega⟩ : Fin 16) n)) := by
  have hr := r.isLt
  have hb : ∀ (x : IVec S128x256 32), shapeCast S128x1x256 x shapeCasts_S128x256_S128x1x256 (ValueIdx.ix3 (⟨r.val / 2, by omega⟩ : Fin 128) (0 : Fin 1) n)
      = x (ValueIdx.ix2 (⟨r.val / 2, by omega⟩ : Fin 128) n) := fun x =>
    shapeCast_apply x _ _ _ (by rw [Shape.rowMajor_val_two, Shape.rowMajor_val_three]; show r.val / 2 * 256 + n.val = (r.val / 2 * 1 + 0) * 256 + n.val; omega)
  have hc : shapeCast S128x256 (shapeCast S8x16x256 p shapeCasts_S8x16x256_S8x16x256) shapeCasts_S8x16x256_S128x256 (ValueIdx.ix2 (⟨r.val / 2, by omega⟩ : Fin 128) n)
      = p (ValueIdx.ix3 (⟨r.val / 32, by omega⟩ : Fin 8) (⟨r.val % 32 / 2, by omega⟩ : Fin 16) n) := by
    rw [shapeCast_self, shapeCast_apply p _ _ (ValueIdx.ix3 (⟨r.val / 32, by omega⟩ : Fin 8) (⟨r.val % 32 / 2, by omega⟩ : Fin 16) n)
      (by rw [Shape.rowMajor_val_two, Shape.rowMajor_val_three]; show (r.val / 32 * 16 + r.val % 32 / 2) * 256 + n.val = r.val / 2 * 256 + n.val; omega)]
  unfold k0_pay98
  rw [show ∀ (x : FVec Ideal S256x256 .f32) (i : S256x256.Idx), truncf .bf16 x bitsLt_bf16_f32 i = x i from fun _ _ => rfl]
  rw [ValueIdx.sitofp_apply, shapeCast_apply _ _ (ValueIdx.ix2 r n) (ValueIdx.ix3 (⟨r.val / 2, by omega⟩ : Fin 128) (⟨r.val % 2, by omega⟩ : Fin 2) n : S128x2x256.Idx)
    (by rw [Shape.rowMajor_val_two, Shape.rowMajor_val_three]; show (r.val / 2 * 2 + r.val % 2) * 256 + n.val = r.val * 256 + n.val; omega)]
  unfold nib
  by_cases h : r.val % 2 = 0
  · rw [if_pos h, concatenate_pair_apply_left (t := S128x2x256) (s₁ := S128x1x256) (s₂ := S128x1x256) 1 _ _ _ _ rfl
      (ValueIdx.ix3 (⟨r.val / 2, by omega⟩ : Fin 128) (0 : Fin 1) n : S128x1x256.Idx)
      (by intro b; match b with | ⟨0, _⟩ => rfl | ⟨1, _⟩ => exact h.symm | ⟨2, _⟩ => rfl), hb]
    rw [show ∀ (x y : IVec S128x256 32) (i : S128x256.Idx), andi x y i = x i &&& y i from fun _ _ _ => rfl,
      show ∀ (x : IVec S128x256 8) (i : S128x256.Idx), extui 32 x natLt_8_32 i = (x i).setWidth 32 from fun _ _ => rfl, hc]
    rfl
  · rw [if_neg h, concatenate_pair_apply_right (t := S128x2x256) (s₁ := S128x1x256) (s₂ := S128x1x256) 1 _ _ _ _ rfl rfl
      (ValueIdx.ix3 (⟨r.val / 2, by omega⟩ : Fin 128) (0 : Fin 1) n : S128x1x256.Idx)
      (by intro b; match b with | ⟨0, _⟩ => intro _; rfl | ⟨1, _⟩ => intro hh; exact absurd rfl hh | ⟨2, _⟩ => intro _; rfl)
      (by show 0 + 1 = r.val % 2; omega), hb]
    rw [show ∀ (x y : IVec S128x256 32) (i : S128x256.Idx), shrsi x y i = IntOp.shrsi .vector (x i) (y i) from fun _ _ _ => rfl,
      show ∀ (x : IVec S128x256 8) (i : S128x256.Idx), extui 32 x natLt_8_32 i = (x i).setWidth 32 from fun _ _ => rfl, hc]
    rfl

/-- Two vectors interleaved by rows, at an even row. -/
theorem interleave_even {s t : Shape} {α : Type} (lo hi : t.Idx → α) (h : s.Bitcasts 16 t 32) (i : s.Idx) (k : t.Idx) (h0 : s.row i % 2 = 0)
    (hk : ∀ b : Fin t.rank, (k b).val = if (b.cast h.1).val + 2 = s.rank then (i (b.cast h.1)).val / 2 else (i (b.cast h.1)).val) :
    interleaveRows s lo hi h i = lo k := by
  unfold interleaveRows
  dsimp only
  rw [if_pos h0]
  refine congrArg lo (funext fun b => Fin.ext ?_)
  rw [hk b]
  split <;> rfl

theorem scaleRow_apply (o g : ℕ) (ho : o = 2 * g) (hg : g < 8) (h : S16x256.Slices ![o, 0] S1x256) (v : Vec Ideal S1x8x2x256 .bf16) (r : Fin 32) (n : Fin 256) :
    scaleRow (F := Ideal) ![o, 0] h v (ValueIdx.ix2 r n) = v (ValueIdx.ix4 (0 : Fin 1) (⟨g, hg⟩ : Fin 8) (0 : Fin 2) n) := by
  subst ho
  unfold scaleRow
  rw [broadcastTo_apply _ _ _ (ValueIdx.ix2 (0 : Fin 1) n : S1x256.Idx) (by intro a; match a with | ⟨0, _⟩ => rfl | ⟨1, _⟩ => rfl), shapeCast_self]
  refine (extractStridedSlice_apply _ _ h _ (ValueIdx.ix2 (⟨2 * g, by omega⟩ : Fin 16) n : S16x256.Idx)
    (by intro a; match a with | ⟨0, _⟩ => rfl | ⟨1, _⟩ => exact (Nat.zero_add _).symm)).trans ?_
  unfold k0_pay99
  refine (interleave_even _ _ _ (ValueIdx.ix2 (⟨2 * g, by omega⟩ : Fin 16) n : S16x256.Idx) (ValueIdx.ix2 (⟨g, hg⟩ : Fin 8) n : S8x256.Idx) (by show 2 * g % 2 = 0; omega)
    (by intro b; match b with | ⟨0, _⟩ => exact ((if_pos rfl).trans (Nat.mul_div_cancel_left g (Nat.succ_pos 1))).symm | ⟨1, _⟩ => rfl)).trans ?_
  refine (shapeCast_apply _ _ _ (ValueIdx.ix3 (0 : Fin 1) (⟨g, hg⟩ : Fin 8) n : S1x8x256.Idx)
    (by rw [Shape.rowMajor_val_two, Shape.rowMajor_val_three]; show (0 * 8 + g) * 256 + n.val = g * 256 + n.val; omega)).trans ?_
  refine (shapeCast_apply _ _ _ (ValueIdx.ix4 (0 : Fin 1) (⟨g, hg⟩ : Fin 8) (0 : Fin 1) n : S1x8x1x256.Idx)
    (by rw [Shape.rowMajor_val_four, Shape.rowMajor_val_three]; show ((0 * 8 + g) * 1 + 0) * 256 + n.val = (0 * 8 + g) * 256 + n.val; omega)).trans ?_
  unfold rowsOfParity
  refine congrArg v (funext fun a => Fin.ext ?_)
  match a with
  | ⟨0, _⟩ => rfl
  | ⟨1, _⟩ => rfl
  | ⟨2, _⟩ => rfl
  | ⟨3, _⟩ => rfl

theorem grpW_apply (q : FVec Ideal S256x256 .bf16) (o : ℕ) (h : S256x256.Slices ![o, 0] S32x256) (o' g : ℕ) (ho' : o' = 2 * g) (hg : g < 8)
    (h' : S16x256.Slices ![o', 0] S1x256) (s m : Vec Ideal S1x8x2x256 .bf16) (r : Fin 32) (n : Fin 256) (ho : o + r.val < 256) :
    grpW (F := Ideal) q ![o, 0] h ![o', 0] h' s m (ValueIdx.ix2 r n)
      = q (ValueIdx.ix2 ⟨o + r.val, ho⟩ n) * s (ValueIdx.ix4 (0 : Fin 1) (⟨g, hg⟩ : Fin 8) (0 : Fin 2) n) + m (ValueIdx.ix4 (0 : Fin 1) (⟨g, hg⟩ : Fin 8) (0 : Fin 2) n) := by
  unfold grpW
  rw [show ∀ (x y : FVec Ideal S32x256 .bf16) (i : S32x256.Idx), addf x y i = x i + y i from fun _ _ _ => rfl,
    show ∀ (x y : FVec Ideal S32x256 .bf16) (i : S32x256.Idx), mulf x y i = x i * y i from fun _ _ _ => rfl, scaleRow_apply o' g ho' hg, scaleRow_apply o' g ho' hg,
    extractStridedSlice_apply _ _ _ _ (ValueIdx.ix2 ⟨o + r.val, ho⟩ n : S256x256.Idx) (by intro a; match a with | ⟨0, _⟩ => rfl | ⟨1, _⟩ => exact (Nat.zero_add _).symm)]

/-- The block of weights at row `r` of group `r / 32`, given the tile's scales and minima. -/
theorem tileW_apply (q : FVec Ideal S256x256 .bf16) (s m : Vec Ideal S1x8x2x256 .bf16) (r n : Fin 256) :
    tileW (F := Ideal) q s m (ValueIdx.ix2 r n)
      = q (ValueIdx.ix2 r n) * s (ValueIdx.ix4 (0 : Fin 1) (⟨r.val / 32, by have := r.isLt; omega⟩ : Fin 8) (0 : Fin 2) n)
        + m (ValueIdx.ix4 (0 : Fin 1) (⟨r.val / 32, by have := r.isLt; omega⟩ : Fin 8) (0 : Fin 2) n) := by
  obtain ⟨g, l, rfl⟩ : ∃ (g : Fin 8) (l : Fin 32), r = ⟨g.val * 32 + l.val, by have := g.isLt; have := l.isLt; omega⟩ :=
    ⟨⟨r.val / 32, by have := r.isLt; omega⟩, ⟨r.val % 32, by omega⟩, Fin.ext (by show r.val = r.val / 32 * 32 + r.val % 32; omega)⟩
  have hl := l.isLt
  have hg : (⟨(g.val * 32 + l.val) / 32, by have := g.isLt; omega⟩ : Fin 8) = g := Fin.ext (by show (g.val * 32 + l.val) / 32 = g.val; omega)
  rw [hg]
  unfold tileW
  match g with
  | ⟨0, _⟩ =>
    rw [concatenate_apply_piece (t := S256x256) 0 _ _ _ 0 (by simp) S32x256 _ rfl rfl 0 rfl (ValueIdx.ix2 l n : S32x256.Idx)
      (by intro b hb; match b with | ⟨0, _⟩ => exact absurd rfl hb | ⟨1, _⟩ => rfl) rfl, grpW_apply _ _ _ _ 0 rfl (by omega) _ _ _ _ _ (by omega)]
    rfl
  | ⟨1, _⟩ =>
    rw [concatenate_apply_piece (t := S256x256) 0 _ _ _ 1 (by simp) S32x256 _ rfl rfl 32 rfl (ValueIdx.ix2 l n : S32x256.Idx)
      (by intro b hb; match b with | ⟨0, _⟩ => exact absurd rfl hb | ⟨1, _⟩ => rfl) rfl, grpW_apply _ _ _ _ 1 rfl (by omega) _ _ _ _ _ (by omega)]
    rfl
  | ⟨2, _⟩ =>
    rw [concatenate_apply_piece (t := S256x256) 0 _ _ _ 2 (by simp) S32x256 _ rfl rfl 64 rfl (ValueIdx.ix2 l n : S32x256.Idx)
      (by intro b hb; match b with | ⟨0, _⟩ => exact absurd rfl hb | ⟨1, _⟩ => rfl) rfl, grpW_apply _ _ _ _ 2 rfl (by omega) _ _ _ _ _ (by omega)]
    rfl
  | ⟨3, _⟩ =>
    rw [concatenate_apply_piece (t := S256x256) 0 _ _ _ 3 (by simp) S32x256 _ rfl rfl 96 rfl (ValueIdx.ix2 l n : S32x256.Idx)
      (by intro b hb; match b with | ⟨0, _⟩ => exact absurd rfl hb | ⟨1, _⟩ => rfl) rfl, grpW_apply _ _ _ _ 3 rfl (by omega) _ _ _ _ _ (by omega)]
    rfl
  | ⟨4, _⟩ =>
    rw [concatenate_apply_piece (t := S256x256) 0 _ _ _ 4 (by simp) S32x256 _ rfl rfl 128 rfl (ValueIdx.ix2 l n : S32x256.Idx)
      (by intro b hb; match b with | ⟨0, _⟩ => exact absurd rfl hb | ⟨1, _⟩ => rfl) rfl, grpW_apply _ _ _ _ 4 rfl (by omega) _ _ _ _ _ (by omega)]
    rfl
  | ⟨5, _⟩ =>
    rw [concatenate_apply_piece (t := S256x256) 0 _ _ _ 5 (by simp) S32x256 _ rfl rfl 160 rfl (ValueIdx.ix2 l n : S32x256.Idx)
      (by intro b hb; match b with | ⟨0, _⟩ => exact absurd rfl hb | ⟨1, _⟩ => rfl) rfl, grpW_apply _ _ _ _ 5 rfl (by omega) _ _ _ _ _ (by omega)]
    rfl
  | ⟨6, _⟩ =>
    rw [concatenate_apply_piece (t := S256x256) 0 _ _ _ 6 (by simp) S32x256 _ rfl rfl 192 rfl (ValueIdx.ix2 l n : S32x256.Idx)
      (by intro b hb; match b with | ⟨0, _⟩ => exact absurd rfl hb | ⟨1, _⟩ => rfl) rfl, grpW_apply _ _ _ _ 6 rfl (by omega) _ _ _ _ _ (by omega)]
    rfl
  | ⟨7, _⟩ =>
    rw [concatenate_apply_piece (t := S256x256) 0 _ _ _ 7 (by simp) S32x256 _ rfl rfl 224 rfl (ValueIdx.ix2 l n : S32x256.Idx)
      (by intro b hb; match b with | ⟨0, _⟩ => exact absurd rfl hb | ⟨1, _⟩ => rfl) rfl, grpW_apply _ _ _ _ 7 rfl (by omega) _ _ _ _ _ (by omega)]
    rfl

/-- What one tile adds to the accumulator at token `t` and column `n`: the 256 contraction positions of tile `b`. -/
def T (h : S20x128x256.Idx → EReal) (w : S160x16x256.Idx → BitVec 8) (s m : S160x256.Idx → EReal) (b : Fin 20) (t : Fin 128) (n : Fin 256) : EReal :=
  ∑ r : Fin 256, h (ValueIdx.ix3 b t r)
    * (nib (r.val % 2) (w (ValueIdx.ix3 (⟨8 * b.val + r.val / 32, by have := b.isLt; have := r.isLt; omega⟩ : Fin 160) (⟨r.val % 32 / 2, by omega⟩ : Fin 16) n))
        * s (ValueIdx.ix2 (⟨8 * b.val + r.val / 32, by have := b.isLt; have := r.isLt; omega⟩ : Fin 160) n)
      + m (ValueIdx.ix2 (⟨8 * b.val + r.val / 32, by have := b.isLt; have := r.isLt; omega⟩ : Fin 160) n))

theorem step_apply (b : Fin 20) (h : S20x128x256.Idx → EReal) (w : S160x16x256.Idx → BitVec 8) (s m : S160x256.Idx → EReal)
    (acc : FVec Ideal S128x256 .f32) (hb : Vec Ideal S1x128x256 .bf16) (p : Vec Ideal S8x16x256 .i8) (sv mv : Vec Ideal S1x8x2x256 .bf16)
    (hhb : ∀ (t : Fin 128) (r : Fin 256), hb (ValueIdx.ix3 (0 : Fin 1) t r) = h (ValueIdx.ix3 b t r))
    (hp : ∀ (g : Fin 8) (j : Fin 16) (n : Fin 256), p (ValueIdx.ix3 g j n) = w (ValueIdx.ix3 (⟨8 * b.val + g.val, by have := b.isLt; have := g.isLt; omega⟩ : Fin 160) j n))
    (hs : ∀ (g : Fin 8) (n : Fin 256), sv (ValueIdx.ix4 (0 : Fin 1) g (0 : Fin 2) n) = s (ValueIdx.ix2 (⟨8 * b.val + g.val, by have := b.isLt; have := g.isLt; omega⟩ : Fin 160) n))
    (hm : ∀ (g : Fin 8) (n : Fin 256), mv (ValueIdx.ix4 (0 : Fin 1) g (0 : Fin 2) n) = m (ValueIdx.ix2 (⟨8 * b.val + g.val, by have := b.isLt; have := g.isLt; omega⟩ : Fin 160) n))
    (t : Fin 128) (n : Fin 256) :
    step (F := Ideal) acc hb p sv mv (ValueIdx.ix2 t n) = acc (ValueIdx.ix2 t n) + T h w s m b t n := by
  unfold step T
  rw [show ∀ (x y : FVec Ideal S128x256 .f32) (i : S128x256.Idx), addf x y i = x i + y i from fun _ _ _ => rfl]
  congr 1
  rw [show ∀ (x : FVec Ideal S128x256 .bf16) (y : FVec Ideal S256x256 .bf16) (i : S128x256.Idx),
      matmul dot_S128x256_S256x256_S128x256_1_0_0_1_n_n none x y (constant S128x256 .f32 0x00000000#32) i
        = ∑ k : Fin 256, x (ValueIdx.ix2 (i 0) k) * y (ValueIdx.ix2 k (i 1)) from fun x y i => by
    rw [matmul, Ideal.matmul_constant_zero_apply,
      ← Equiv.sum_comp (ValueIdx.contrEquiv1 dot_S128x256_S256x256_S128x256_1_0_0_1_n_n 256 rfl rfl).symm]
    refine Finset.sum_congr rfl fun k _ => ?_
    congr 2
    · funext a
      match a with
      | ⟨0, _⟩ => rfl
      | ⟨1, _⟩ => exact Fin.ext (ValueIdx.contrEquiv1_symm_val dot_S128x256_S256x256_S128x256_1_0_0_1_n_n 256 rfl rfl k)
    · funext a
      match a with
      | ⟨0, _⟩ => exact Fin.ext (ValueIdx.contrEquiv1_symm_val dot_S128x256_S256x256_S128x256_1_0_0_1_n_n 256 rfl rfl k)
      | ⟨1, _⟩ => rfl]
  refine Finset.sum_congr rfl fun r _ => ?_
  rw [shapeCast_apply _ _ (ValueIdx.ix2 t r) (ValueIdx.ix3 (0 : Fin 1) t r : S1x128x256.Idx)
      (by rw [Shape.rowMajor_val_two, Shape.rowMajor_val_three]; show (0 * 128 + t.val) * 256 + r.val = t.val * 256 + r.val; omega), hhb]
  rw [show (ValueIdx.ix2 t n : S128x256.Idx) 1 = n from rfl, tileW_apply, codes_apply, hp, hs, hm]

/-- A load of a box of a whole buffer holding `X` reads `X` there. -/
theorem readAt_box {s : Shape} {e : EltTy} {sp : Space} (a : Memref sig .tc sp s e) (ha : a.IsWhole) (X : s.Idx → Elt F e) (r : Rect s) (x : r.shape.Idx) :
    View.readAt (Elt F) a.view r.toLoadRect (ha.unread X) x = X (r.idx x) := by
  show (a.view.read (Elt F) (ha.unread X)) (r.idx x) = _
  rw [ha.read_unread]

/-- The packed codes of tile `b`. -/
theorem w_read (a : Memref sig .tc .vmem S160x16x256 .i8) (ha : a.IsWhole) (w : S160x16x256.Idx → Elt F .i8) (o b : ℕ) (ho : o = 8 * b) (hb : b < 20)
    (inb : ∀ x, (![o, 0, 0] : Fin 3 → ℕ) x + S8x16x256.size x ≤ S160x16x256.size x) (g : Fin 8) (j : Fin 16) (n : Fin 256) :
    View.readAt (Elt F) a.view (Rect.unit (s := S160x16x256) ![o, 0, 0] S8x16x256.size inb).toLoadRect (ha.unread w) (ValueIdx.ix3 g j n)
      = w (ValueIdx.ix3 (⟨8 * b + g.val, by have := g.isLt; omega⟩ : Fin 160) j n) := by
  subst ho
  refine (readAt_box a ha w _ _).trans (congrArg w (funext fun x => ?_))
  match x with
  | ⟨0, _⟩ => exact Fin.ext (by show 8 * b + 1 * g.val = 8 * b + g.val; omega)
  | ⟨1, _⟩ => exact Fin.ext (by show 0 + 1 * j.val = j.val; omega)
  | ⟨2, _⟩ => exact Fin.ext (by show 0 + 1 * n.val = n.val; omega)

/-- Slab `b` of the normalised rows, read from the scratch that holds `h`. -/
theorem h_read (a : Memref sig .tc .vmem S20x128x256 .bf16) (ha : a.IsWhole) (h : S20x128x256.Idx → Elt F .bf16) (b : ℕ) (hb : b < 20)
    (inb : ∀ x, (![b, 0, 0] : Fin 3 → ℕ) x + S1x128x256.size x ≤ S20x128x256.size x) (t : Fin 128) (r : Fin 256) :
    View.readAt (Elt F) a.view (Rect.unit (s := S20x128x256) ![b, 0, 0] S1x128x256.size inb).toLoadRect (ha.unread h) (ValueIdx.ix3 (0 : Fin 1) t r)
      = h (ValueIdx.ix3 (⟨b, hb⟩ : Fin 20) t r) := by
  refine (readAt_box a ha h _ _).trans (congrArg h (funext fun x => ?_))
  match x with
  | ⟨0, _⟩ => exact Fin.ext (by show b + 1 * 0 = b; omega)
  | ⟨1, _⟩ => exact Fin.ext (by show 0 + 1 * t.val = t.val; omega)
  | ⟨2, _⟩ => exact Fin.ext (by show 0 + 1 * r.val = r.val; omega)

/-- Slab `b` of the normalised rows, read from the scratch after the writes `L`. -/
theorem h_readCov (a : Memref sig .tc .vmem S20x128x256 .bf16) (L : List (View.Piece (Elt F) S20x128x256 .bf16)) (b : ℕ) (hb : b < 20)
    (inb : ∀ x, (![b, 0, 0] : Fin 3 → ℕ) x + S1x128x256.size x ≤ S20x128x256.size x) (t : Fin 128) (r : Fin 256) :
    a.view.readCov L (Rect.unit (s := S20x128x256) ![b, 0, 0] S1x128x256.size inb).toLoadRect (ValueIdx.ix3 (0 : Fin 1) t r)
      = View.canon L (ValueIdx.ix3 (⟨b, hb⟩ : Fin 20) t r) := by
  rw [View.readCov_eq_canon']
  refine congrArg (View.canon L) (funext fun x => ?_)
  match x with
  | ⟨0, _⟩ => exact Fin.ext (by show b + 1 * 0 = b; omega)
  | ⟨1, _⟩ => exact Fin.ext (by show 0 + 1 * t.val = t.val; omega)
  | ⟨2, _⟩ => exact Fin.ext (by show 0 + 1 * r.val = r.val; omega)

/-- The scales (or minima) of tile `b`, read back right after the tile's rows were stored, each twice over: the first copies. -/
theorem rows_read (a : Memref sig .tc .vmem S20x8x2x256 .bf16) (v : Memref sig .tc .vmem S160x256 .bf16) (hv : v.IsWhole) (s : S160x256.Idx → EReal)
    (L : List (View.Piece (Elt Ideal) S20x8x2x256 .bf16)) (o b : ℕ) (ho : o = 8 * b) (hb : b < 20)
    (inb : ∀ x, (![b, 0, 0, 0] : Fin 4 → ℕ) x + S1x8x2x256.size x ≤ S20x8x2x256.size x)
    (inb' : ∀ x, (![b, 0, 0, 0] : Fin 4 → ℕ) x + S1x8x2x256.size x ≤ S20x8x2x256.size x)
    (inb'' : ∀ x, (![o, 0] : Fin 2 → ℕ) x + S8x256.size x ≤ S160x256.size x) (g : Fin 8) (n : Fin 256) :
    a.view.readCov (⟨Rect.unit (s := S20x8x2x256) ![b, 0, 0, 0] S1x8x2x256.size inb',
        k0_pay96 (F := Ideal) (View.readAt (Elt Ideal) v.view (Rect.unit (s := S160x256) ![o, 0] S8x256.size inb'').toLoadRect (hv.unread s))⟩ :: L)
      (Rect.unit (s := S20x8x2x256) ![b, 0, 0, 0] S1x8x2x256.size inb).toLoadRect (ValueIdx.ix4 (0 : Fin 1) g (0 : Fin 2) n)
      = s (ValueIdx.ix2 (⟨8 * b + g.val, by have := g.isLt; omega⟩ : Fin 160) n) := by
  subst ho
  rw [View.readCov_eq_canon']
  show View.canon _ ((Rect.unit (s := S20x8x2x256) ![b, 0, 0, 0] S1x8x2x256.size inb).toLoadRect.idx (ValueIdx.ix4 (0 : Fin 1) g (0 : Fin 2) n)) = _
  rw [show (Rect.unit (s := S20x8x2x256) ![b, 0, 0, 0] S1x8x2x256.size inb).toLoadRect.idx (ValueIdx.ix4 (0 : Fin 1) g (0 : Fin 2) n)
      = (Rect.unit (s := S20x8x2x256) ![b, 0, 0, 0] S1x8x2x256.size inb').emb (ValueIdx.ix4 (0 : Fin 1) g (0 : Fin 2) n : S1x8x2x256.Idx) from funext fun x => by
    match x with
    | ⟨0, _⟩ => rfl
    | ⟨1, _⟩ => rfl
    | ⟨2, _⟩ => rfl
    | ⟨3, _⟩ => rfl, View.canon_cons_emb]
  unfold k0_pay96
  refine (interleave_even _ _ _ _ (ValueIdx.ix4 (0 : Fin 1) g (0 : Fin 1) n : S1x8x1x256.Idx) rfl
    (by intro b; match b with | ⟨0, _⟩ => rfl | ⟨1, _⟩ => rfl | ⟨2, _⟩ => exact ((if_pos rfl).trans (Nat.zero_div 2)).symm | ⟨3, _⟩ => rfl)).trans ?_
  refine (shapeCast_apply _ _ _ (ValueIdx.ix3 (0 : Fin 1) g n : S1x8x256.Idx)
    (by rw [Shape.rowMajor_val_four, Shape.rowMajor_val_three]; show (0 * 8 + g.val) * 256 + n.val = ((0 * 8 + g.val) * 1 + 0) * 256 + n.val; omega)).trans ?_
  refine (shapeCast_apply _ _ _ (ValueIdx.ix2 g n : S8x256.Idx)
    (by rw [Shape.rowMajor_val_two, Shape.rowMajor_val_three]; show g.val * 256 + n.val = (0 * 8 + g.val) * 256 + n.val; omega)).trans ?_
  rw [shapeCast_self]
  show View.readAt (Elt Ideal) v.view (Rect.unit (s := S160x256) ![8 * b, 0] S8x256.size inb'').toLoadRect (hv.unread s) (ValueIdx.ix2 g n : S8x256.Idx) = _
  refine (readAt_box (F := Ideal) (e := .bf16) v hv s (Rect.unit (s := S160x256) ![8 * b, 0] S8x256.size inb'') (ValueIdx.ix2 g n : S8x256.Idx)).trans (congrArg s (funext fun x => ?_))
  match x with
  | ⟨0, _⟩ => exact Fin.ext (by show 8 * b + 1 * g.val = 8 * b + g.val; omega)
  | ⟨1, _⟩ => exact Fin.ext (by show 0 + 1 * n.val = n.val; omega)

end Cert.KernelIdeal.Val

end
-- ==== Proof.Tiles.lean ====
/- Each tile of each projection in the kernel's own terms is the tile step: by unfolding. -/
module

public import proofs.«01_k».proof.Proof.Step

@[expose] public section

set_option maxRecDepth 65536
set_option maxHeartbeats 4000000

noncomputable section

namespace Cert.KernelIdeal.Val

open Cert.KernelIdeal Cert.KernelIdeal.Gen Idealize.ShloMosaic Cert.Spec

variable {F : FTy → Type} [FloatOps F]

theorem pay_q0 (acc : FVec F S128x256 .f32) (hb : Vec F S1x128x256 .bf16) (p : Vec F S8x16x256 .i8) (s m : Vec F S1x8x2x256 .bf16) :
    k0_pay111 acc (k0_pay98 p) (k0_pay100 m) (k0_pay103 (k0_pay98 p) (k0_pay101 s) (k0_pay102 m)) (k0_pay104 (k0_pay98 p) (k0_pay99 s) (k0_pay100 m)) (k0_pay105 (k0_pay98 p) (k0_pay99 s) (k0_pay100 m)) (k0_pay106 (k0_pay98 p) (k0_pay99 s) (k0_pay100 m)) (k0_pay107 (k0_pay98 p) (k0_pay99 s) (k0_pay100 m)) (k0_pay108 (k0_pay98 p) (k0_pay99 s) (k0_pay100 m)) (k0_pay109 (k0_pay98 p) (k0_pay99 s) (k0_pay100 m)) (k0_pay110 (k0_pay99 s)) hb
      = step acc hb p s m := rfl

theorem pay_q1 (acc : FVec F S128x256 .f32) (hb : Vec F S1x128x256 .bf16) (p : Vec F S8x16x256 .i8) (s m : Vec F S1x8x2x256 .bf16) :
    k0_pay122 acc (k0_pay115 (k0_pay114 p)) (k0_pay116 s) (k0_pay117 m) (k0_pay118 (k0_pay114 p) s m) (k0_pay119 (k0_pay114 p) s m) (k0_pay120 (k0_pay114 p) s m) (k0_pay121 s) hb
      = step acc hb p s m := rfl

theorem pay_q2 (acc : FVec F S128x256 .f32) (hb : Vec F S1x128x256 .bf16) (p : Vec F S8x16x256 .i8) (s m : Vec F S1x8x2x256 .bf16) :
    k0_pay137 acc (k0_pay128 p) (k0_pay129 s) (k0_pay130 m) (k0_pay131 (k0_pay128 p) (k0_pay129 s) m) (k0_pay132 (k0_pay128 p) (k0_pay129 s) m) (k0_pay133 (k0_pay128 p) (k0_pay129 s) m) (k0_pay134 (k0_pay128 p) (k0_pay129 s) m) (k0_pay135 (k0_pay128 p) (k0_pay129 s) m) (k0_pay136 (k0_pay128 p) (k0_pay129 s) m) hb
      = step acc hb p s m := rfl

theorem pay_q3 (acc : FVec F S128x256 .f32) (hb : Vec F S1x128x256 .bf16) (p : Vec F S8x16x256 .i8) (s m : Vec F S1x8x2x256 .bf16) :
    k0_pay151 acc (k0_pay149 (k0_pay144 p) (k0_pay145 s) (k0_pay146 m) (k0_pay147 p s m) (k0_pay148 p s m)) (k0_pay150 hb)
      = step acc hb p s m := rfl

theorem pay_q4 (acc : FVec F S128x256 .f32) (hb : Vec F S1x128x256 .bf16) (p : Vec F S8x16x256 .i8) (s m : Vec F S1x8x2x256 .bf16) :
    k0_pay163 acc (k0_pay154 p) (k0_pay155 s) (k0_pay156 m) (k0_pay157 (k0_pay154 p) s m) (k0_pay158 (k0_pay154 p) s m) (k0_pay159 (k0_pay154 p) s m) (k0_pay160 (k0_pay154 p) s m) (k0_pay161 s) (k0_pay162 m) hb
      = step acc hb p s m := rfl

theorem pay_q5 (acc : FVec F S128x256 .f32) (hb : Vec F S1x128x256 .bf16) (p : Vec F S8x16x256 .i8) (s m : Vec F S1x8x2x256 .bf16) :
    k0_pay179 acc (k0_pay166 p) (k0_pay168 m) (k0_pay171 (k0_pay166 p) (k0_pay169 s) (k0_pay170 m)) (k0_pay172 (k0_pay166 p) (k0_pay167 s) (k0_pay168 m)) (k0_pay173 (k0_pay166 p) (k0_pay167 s) (k0_pay168 m)) (k0_pay174 (k0_pay166 p) (k0_pay167 s) (k0_pay168 m)) (k0_pay175 (k0_pay166 p) (k0_pay167 s) (k0_pay168 m)) (k0_pay176 (k0_pay166 p) (k0_pay167 s) (k0_pay168 m)) (k0_pay177 (k0_pay166 p) (k0_pay167 s) (k0_pay168 m)) (k0_pay178 (k0_pay167 s)) hb
      = step acc hb p s m := rfl

theorem pay_q6 (acc : FVec F S128x256 .f32) (hb : Vec F S1x128x256 .bf16) (p : Vec F S8x16x256 .i8) (s m : Vec F S1x8x2x256 .bf16) :
    k0_pay190 acc (k0_pay183 (k0_pay182 p)) (k0_pay184 s) (k0_pay185 m) (k0_pay186 (k0_pay182 p) s m) (k0_pay187 (k0_pay182 p) s m) (k0_pay188 (k0_pay182 p) s m) (k0_pay189 s) hb
      = step acc hb p s m := rfl

theorem pay_q7 (acc : FVec F S128x256 .f32) (hb : Vec F S1x128x256 .bf16) (p : Vec F S8x16x256 .i8) (s m : Vec F S1x8x2x256 .bf16) :
    k0_pay205 acc (k0_pay196 p) (k0_pay197 s) (k0_pay198 m) (k0_pay199 (k0_pay196 p) (k0_pay197 s) m) (k0_pay200 (k0_pay196 p) (k0_pay197 s) m) (k0_pay201 (k0_pay196 p) (k0_pay197 s) m) (k0_pay202 (k0_pay196 p) (k0_pay197 s) m) (k0_pay203 (k0_pay196 p) (k0_pay197 s) m) (k0_pay204 (k0_pay196 p) (k0_pay197 s) m) hb
      = step acc hb p s m := rfl

theorem pay_q8 (acc : FVec F S128x256 .f32) (hb : Vec F S1x128x256 .bf16) (p : Vec F S8x16x256 .i8) (s m : Vec F S1x8x2x256 .bf16) :
    k0_pay219 acc (k0_pay217 (k0_pay212 p) (k0_pay213 s) (k0_pay214 m) (k0_pay215 p s m) (k0_pay216 p s m)) (k0_pay218 hb)
      = step acc hb p s m := rfl

theorem pay_q9 (acc : FVec F S128x256 .f32) (hb : Vec F S1x128x256 .bf16) (p : Vec F S8x16x256 .i8) (s m : Vec F S1x8x2x256 .bf16) :
    k0_pay231 acc (k0_pay222 p) (k0_pay223 s) (k0_pay224 m) (k0_pay225 (k0_pay222 p) s m) (k0_pay226 (k0_pay222 p) s m) (k0_pay227 (k0_pay222 p) s m) (k0_pay228 (k0_pay222 p) s m) (k0_pay229 s) (k0_pay230 m) hb
      = step acc hb p s m := rfl

theorem pay_q10 (acc : FVec F S128x256 .f32) (hb : Vec F S1x128x256 .bf16) (p : Vec F S8x16x256 .i8) (s m : Vec F S1x8x2x256 .bf16) :
    k0_pay247 acc (k0_pay234 p) (k0_pay236 m) (k0_pay239 (k0_pay234 p) (k0_pay237 s) (k0_pay238 m)) (k0_pay240 (k0_pay234 p) (k0_pay235 s) (k0_pay236 m)) (k0_pay241 (k0_pay234 p) (k0_pay235 s) (k0_pay236 m)) (k0_pay242 (k0_pay234 p) (k0_pay235 s) (k0_pay236 m)) (k0_pay243 (k0_pay234 p) (k0_pay235 s) (k0_pay236 m)) (k0_pay244 (k0_pay234 p) (k0_pay235 s) (k0_pay236 m)) (k0_pay245 (k0_pay234 p) (k0_pay235 s) (k0_pay236 m)) (k0_pay246 (k0_pay235 s)) hb
      = step acc hb p s m := rfl

theorem pay_q11 (acc : FVec F S128x256 .f32) (hb : Vec F S1x128x256 .bf16) (p : Vec F S8x16x256 .i8) (s m : Vec F S1x8x2x256 .bf16) :
    k0_pay258 acc (k0_pay251 (k0_pay250 p)) (k0_pay252 s) (k0_pay253 m) (k0_pay254 (k0_pay250 p) s m) (k0_pay255 (k0_pay250 p) s m) (k0_pay256 (k0_pay250 p) s m) (k0_pay257 s) hb
      = step acc hb p s m := rfl

theorem pay_q12 (acc : FVec F S128x256 .f32) (hb : Vec F S1x128x256 .bf16) (p : Vec F S8x16x256 .i8) (s m : Vec F S1x8x2x256 .bf16) :
    k0_pay273 acc (k0_pay264 p) (k0_pay265 s) (k0_pay266 m) (k0_pay267 (k0_pay264 p) (k0_pay265 s) m) (k0_pay268 (k0_pay264 p) (k0_pay265 s) m) (k0_pay269 (k0_pay264 p) (k0_pay265 s) m) (k0_pay270 (k0_pay264 p) (k0_pay265 s) m) (k0_pay271 (k0_pay264 p) (k0_pay265 s) m) (k0_pay272 (k0_pay264 p) (k0_pay265 s) m) hb
      = step acc hb p s m := rfl

theorem pay_q13 (acc : FVec F S128x256 .f32) (hb : Vec F S1x128x256 .bf16) (p : Vec F S8x16x256 .i8) (s m : Vec F S1x8x2x256 .bf16) :
    k0_pay287 acc (k0_pay285 (k0_pay280 p) (k0_pay281 s) (k0_pay282 m) (k0_pay283 p s m) (k0_pay284 p s m)) (k0_pay286 hb)
      = step acc hb p s m := rfl

theorem pay_q14 (acc : FVec F S128x256 .f32) (hb : Vec F S1x128x256 .bf16) (p : Vec F S8x16x256 .i8) (s m : Vec F S1x8x2x256 .bf16) :
    k0_pay299 acc (k0_pay290 p) (k0_pay291 s) (k0_pay292 m) (k0_pay293 (k0_pay290 p) s m) (k0_pay294 (k0_pay290 p) s m) (k0_pay295 (k0_pay290 p) s m) (k0_pay296 (k0_pay290 p) s m) (k0_pay297 s) (k0_pay298 m) hb
      = step acc hb p s m := rfl

theorem pay_q15 (acc : FVec F S128x256 .f32) (hb : Vec F S1x128x256 .bf16) (p : Vec F S8x16x256 .i8) (s m : Vec F S1x8x2x256 .bf16) :
    k0_pay315 acc (k0_pay302 p) (k0_pay304 m) (k0_pay307 (k0_pay302 p) (k0_pay305 s) (k0_pay306 m)) (k0_pay308 (k0_pay302 p) (k0_pay303 s) (k0_pay304 m)) (k0_pay309 (k0_pay302 p) (k0_pay303 s) (k0_pay304 m)) (k0_pay310 (k0_pay302 p) (k0_pay303 s) (k0_pay304 m)) (k0_pay311 (k0_pay302 p) (k0_pay303 s) (k0_pay304 m)) (k0_pay312 (k0_pay302 p) (k0_pay303 s) (k0_pay304 m)) (k0_pay313 (k0_pay302 p) (k0_pay303 s) (k0_pay304 m)) (k0_pay314 (k0_pay303 s)) hb
      = step acc hb p s m := rfl

theorem pay_q16 (acc : FVec F S128x256 .f32) (hb : Vec F S1x128x256 .bf16) (p : Vec F S8x16x256 .i8) (s m : Vec F S1x8x2x256 .bf16) :
    k0_pay326 acc (k0_pay319 (k0_pay318 p)) (k0_pay320 s) (k0_pay321 m) (k0_pay322 (k0_pay318 p) s m) (k0_pay323 (k0_pay318 p) s m) (k0_pay324 (k0_pay318 p) s m) (k0_pay325 s) hb
      = step acc hb p s m := rfl

theorem pay_q17 (acc : FVec F S128x256 .f32) (hb : Vec F S1x128x256 .bf16) (p : Vec F S8x16x256 .i8) (s m : Vec F S1x8x2x256 .bf16) :
    k0_pay341 acc (k0_pay332 p) (k0_pay333 s) (k0_pay334 m) (k0_pay335 (k0_pay332 p) (k0_pay333 s) m) (k0_pay336 (k0_pay332 p) (k0_pay333 s) m) (k0_pay337 (k0_pay332 p) (k0_pay333 s) m) (k0_pay338 (k0_pay332 p) (k0_pay333 s) m) (k0_pay339 (k0_pay332 p) (k0_pay333 s) m) (k0_pay340 (k0_pay332 p) (k0_pay333 s) m) hb
      = step acc hb p s m := rfl

theorem pay_q18 (acc : FVec F S128x256 .f32) (hb : Vec F S1x128x256 .bf16) (p : Vec F S8x16x256 .i8) (s m : Vec F S1x8x2x256 .bf16) :
    k0_pay355 acc (k0_pay353 (k0_pay348 p) (k0_pay349 s) (k0_pay350 m) (k0_pay351 p s m) (k0_pay352 p s m)) (k0_pay354 hb)
      = step acc hb p s m := rfl

theorem pay_q19 (acc : FVec F S128x256 .f32) (hb : Vec F S1x128x256 .bf16) (p : Vec F S8x16x256 .i8) (s m : Vec F S1x8x2x256 .bf16) :
    k0_pay367 acc (k0_pay358 p) (k0_pay359 s) (k0_pay360 m) (k0_pay361 (k0_pay358 p) s m) (k0_pay362 (k0_pay358 p) s m) (k0_pay363 (k0_pay358 p) s m) (k0_pay364 (k0_pay358 p) s m) (k0_pay365 s) (k0_pay366 m) hb
      = step acc hb p s m := rfl

theorem pay_k0 (acc : FVec F S128x256 .f32) (hb : Vec F S1x128x256 .bf16) (p : Vec F S8x16x256 .i8) (s m : Vec F S1x8x2x256 .bf16) :
    k0_pay389 acc (k0_pay375 p) (k0_pay380 (k0_pay378 m) (k0_pay379 p s)) (k0_pay381 (k0_pay375 p) (k0_pay376 s) (k0_pay377 m)) (k0_pay382 (k0_pay375 p) (k0_pay376 s) (k0_pay377 m)) (k0_pay383 (k0_pay375 p) (k0_pay376 s) (k0_pay377 m)) (k0_pay384 (k0_pay375 p) (k0_pay376 s) (k0_pay377 m)) (k0_pay385 (k0_pay375 p) (k0_pay376 s) (k0_pay377 m)) (k0_pay386 (k0_pay375 p) (k0_pay376 s) (k0_pay377 m)) (k0_pay387 (k0_pay376 s)) (k0_pay388 (k0_pay377 m)) hb
      = step acc hb p s m := rfl

theorem pay_k1 (acc : FVec F S128x256 .f32) (hb : Vec F S1x128x256 .bf16) (p : Vec F S8x16x256 .i8) (s m : Vec F S1x8x2x256 .bf16) :
    k0_pay402 acc (k0_pay394 (k0_pay392 p) k0_pay393) (k0_pay395 s) (k0_pay396 m) (k0_pay397 (k0_pay392 p) k0_pay393 s m) (k0_pay398 (k0_pay392 p) k0_pay393 s m) (k0_pay399 (k0_pay392 p) k0_pay393 s m) (k0_pay400 s) (k0_pay401 m) hb
      = step acc hb p s m := rfl

theorem pay_k2 (acc : FVec F S128x256 .f32) (hb : Vec F S1x128x256 .bf16) (p : Vec F S8x16x256 .i8) (s m : Vec F S1x8x2x256 .bf16) :
    k0_pay419 acc (k0_pay408 p) (k0_pay409 s) (k0_pay411 m (k0_pay410 m)) (k0_pay412 (k0_pay408 p) (k0_pay409 s) m (k0_pay410 m)) (k0_pay413 (k0_pay408 p) (k0_pay409 s) m (k0_pay410 m)) (k0_pay414 (k0_pay408 p) (k0_pay409 s) m (k0_pay410 m)) (k0_pay415 (k0_pay408 p) (k0_pay409 s) m (k0_pay410 m)) (k0_pay416 (k0_pay408 p) (k0_pay409 s) m (k0_pay410 m)) (k0_pay417 (k0_pay408 p) (k0_pay409 s) m (k0_pay410 m)) (k0_pay418 (k0_pay409 s)) hb
      = step acc hb p s m := rfl

theorem pay_k3 (acc : FVec F S128x256 .f32) (hb : Vec F S1x128x256 .bf16) (p : Vec F S8x16x256 .i8) (s m : Vec F S1x8x2x256 .bf16) :
    k0_pay432 acc (k0_pay431 (k0_pay425 p) (k0_pay426 s) (k0_pay427 m) (k0_pay428 p s m) (k0_pay429 p s m) (k0_pay430 s) hb)
      = step acc hb p s m := rfl

theorem pay_k4 (acc : FVec F S128x256 .f32) (hb : Vec F S1x128x256 .bf16) (p : Vec F S8x16x256 .i8) (s m : Vec F S1x8x2x256 .bf16) :
    k0_pay444 acc (k0_pay435 p) (k0_pay436 s) (k0_pay437 m) (k0_pay438 (k0_pay435 p) s m) (k0_pay439 (k0_pay435 p) s m) (k0_pay440 (k0_pay435 p) s m) (k0_pay441 (k0_pay435 p) s m) (k0_pay442 m) (k0_pay443 (k0_pay435 p) s) hb
      = step acc hb p s m := rfl

theorem pay_k5 (acc : FVec F S128x256 .f32) (hb : Vec F S1x128x256 .bf16) (p : Vec F S8x16x256 .i8) (s m : Vec F S1x8x2x256 .bf16) :
    k0_pay462 acc (k0_pay448 p) (k0_pay453 (k0_pay451 m) (k0_pay452 p s)) (k0_pay454 (k0_pay448 p) (k0_pay449 s) (k0_pay450 m)) (k0_pay455 (k0_pay448 p) (k0_pay449 s) (k0_pay450 m)) (k0_pay456 (k0_pay448 p) (k0_pay449 s) (k0_pay450 m)) (k0_pay457 (k0_pay448 p) (k0_pay449 s) (k0_pay450 m)) (k0_pay458 (k0_pay448 p) (k0_pay449 s) (k0_pay450 m)) (k0_pay459 (k0_pay448 p) (k0_pay449 s) (k0_pay450 m)) (k0_pay460 (k0_pay449 s)) (k0_pay461 (k0_pay450 m)) hb
      = step acc hb p s m := rfl

theorem pay_k6 (acc : FVec F S128x256 .f32) (hb : Vec F S1x128x256 .bf16) (p : Vec F S8x16x256 .i8) (s m : Vec F S1x8x2x256 .bf16) :
    k0_pay475 acc (k0_pay467 (k0_pay465 p) k0_pay466) (k0_pay468 s) (k0_pay469 m) (k0_pay470 (k0_pay465 p) k0_pay466 s m) (k0_pay471 (k0_pay465 p) k0_pay466 s m) (k0_pay472 (k0_pay465 p) k0_pay466 s m) (k0_pay473 s) (k0_pay474 m) hb
      = step acc hb p s m := rfl

theorem pay_k7 (acc : FVec F S128x256 .f32) (hb : Vec F S1x128x256 .bf16) (p : Vec F S8x16x256 .i8) (s m : Vec F S1x8x2x256 .bf16) :
    k0_pay492 acc (k0_pay481 p) (k0_pay482 s) (k0_pay484 m (k0_pay483 m)) (k0_pay485 (k0_pay481 p) (k0_pay482 s) m (k0_pay483 m)) (k0_pay486 (k0_pay481 p) (k0_pay482 s) m (k0_pay483 m)) (k0_pay487 (k0_pay481 p) (k0_pay482 s) m (k0_pay483 m)) (k0_pay488 (k0_pay481 p) (k0_pay482 s) m (k0_pay483 m)) (k0_pay489 (k0_pay481 p) (k0_pay482 s) m (k0_pay483 m)) (k0_pay490 (k0_pay481 p) (k0_pay482 s) m (k0_pay483 m)) (k0_pay491 (k0_pay482 s)) hb
      = step acc hb p s m := rfl

theorem pay_k8 (acc : FVec F S128x256 .f32) (hb : Vec F S1x128x256 .bf16) (p : Vec F S8x16x256 .i8) (s m : Vec F S1x8x2x256 .bf16) :
    k0_pay505 acc (k0_pay504 (k0_pay498 p) (k0_pay499 s) (k0_pay500 m) (k0_pay501 p s m) (k0_pay502 p s m) (k0_pay503 s) hb)
      = step acc hb p s m := rfl

theorem pay_k9 (acc : FVec F S128x256 .f32) (hb : Vec F S1x128x256 .bf16) (p : Vec F S8x16x256 .i8) (s m : Vec F S1x8x2x256 .bf16) :
    k0_pay517 acc (k0_pay508 p) (k0_pay509 s) (k0_pay510 m) (k0_pay511 (k0_pay508 p) s m) (k0_pay512 (k0_pay508 p) s m) (k0_pay513 (k0_pay508 p) s m) (k0_pay514 (k0_pay508 p) s m) (k0_pay515 m) (k0_pay516 (k0_pay508 p) s) hb
      = step acc hb p s m := rfl

theorem pay_k10 (acc : FVec F S128x256 .f32) (hb : Vec F S1x128x256 .bf16) (p : Vec F S8x16x256 .i8) (s m : Vec F S1x8x2x256 .bf16) :
    k0_pay535 acc (k0_pay521 p) (k0_pay526 (k0_pay524 m) (k0_pay525 p s)) (k0_pay527 (k0_pay521 p) (k0_pay522 s) (k0_pay523 m)) (k0_pay528 (k0_pay521 p) (k0_pay522 s) (k0_pay523 m)) (k0_pay529 (k0_pay521 p) (k0_pay522 s) (k0_pay523 m)) (k0_pay530 (k0_pay521 p) (k0_pay522 s) (k0_pay523 m)) (k0_pay531 (k0_pay521 p) (k0_pay522 s) (k0_pay523 m)) (k0_pay532 (k0_pay521 p) (k0_pay522 s) (k0_pay523 m)) (k0_pay533 (k0_pay522 s)) (k0_pay534 (k0_pay523 m)) hb
      = step acc hb p s m := rfl

theorem pay_k11 (acc : FVec F S128x256 .f32) (hb : Vec F S1x128x256 .bf16) (p : Vec F S8x16x256 .i8) (s m : Vec F S1x8x2x256 .bf16) :
    k0_pay548 acc (k0_pay540 (k0_pay538 p) k0_pay539) (k0_pay541 s) (k0_pay542 m) (k0_pay543 (k0_pay538 p) k0_pay539 s m) (k0_pay544 (k0_pay538 p) k0_pay539 s m) (k0_pay545 (k0_pay538 p) k0_pay539 s m) (k0_pay546 s) (k0_pay547 m) hb
      = step acc hb p s m := rfl

theorem pay_k12 (acc : FVec F S128x256 .f32) (hb : Vec F S1x128x256 .bf16) (p : Vec F S8x16x256 .i8) (s m : Vec F S1x8x2x256 .bf16) :
    k0_pay565 acc (k0_pay554 p) (k0_pay555 s) (k0_pay557 m (k0_pay556 m)) (k0_pay558 (k0_pay554 p) (k0_pay555 s) m (k0_pay556 m)) (k0_pay559 (k0_pay554 p) (k0_pay555 s) m (k0_pay556 m)) (k0_pay560 (k0_pay554 p) (k0_pay555 s) m (k0_pay556 m)) (k0_pay561 (k0_pay554 p) (k0_pay555 s) m (k0_pay556 m)) (k0_pay562 (k0_pay554 p) (k0_pay555 s) m (k0_pay556 m)) (k0_pay563 (k0_pay554 p) (k0_pay555 s) m (k0_pay556 m)) (k0_pay564 (k0_pay555 s)) hb
      = step acc hb p s m := rfl

theorem pay_k13 (acc : FVec F S128x256 .f32) (hb : Vec F S1x128x256 .bf16) (p : Vec F S8x16x256 .i8) (s m : Vec F S1x8x2x256 .bf16) :
    k0_pay578 acc (k0_pay577 (k0_pay571 p) (k0_pay572 s) (k0_pay573 m) (k0_pay574 p s m) (k0_pay575 p s m) (k0_pay576 s) hb)
      = step acc hb p s m := rfl

theorem pay_k14 (acc : FVec F S128x256 .f32) (hb : Vec F S1x128x256 .bf16) (p : Vec F S8x16x256 .i8) (s m : Vec F S1x8x2x256 .bf16) :
    k0_pay590 acc (k0_pay581 p) (k0_pay582 s) (k0_pay583 m) (k0_pay584 (k0_pay581 p) s m) (k0_pay585 (k0_pay581 p) s m) (k0_pay586 (k0_pay581 p) s m) (k0_pay587 (k0_pay581 p) s m) (k0_pay588 m) (k0_pay589 (k0_pay581 p) s) hb
      = step acc hb p s m := rfl

theorem pay_k15 (acc : FVec F S128x256 .f32) (hb : Vec F S1x128x256 .bf16) (p : Vec F S8x16x256 .i8) (s m : Vec F S1x8x2x256 .bf16) :
    k0_pay608 acc (k0_pay594 p) (k0_pay599 (k0_pay597 m) (k0_pay598 p s)) (k0_pay600 (k0_pay594 p) (k0_pay595 s) (k0_pay596 m)) (k0_pay601 (k0_pay594 p) (k0_pay595 s) (k0_pay596 m)) (k0_pay602 (k0_pay594 p) (k0_pay595 s) (k0_pay596 m)) (k0_pay603 (k0_pay594 p) (k0_pay595 s) (k0_pay596 m)) (k0_pay604 (k0_pay594 p) (k0_pay595 s) (k0_pay596 m)) (k0_pay605 (k0_pay594 p) (k0_pay595 s) (k0_pay596 m)) (k0_pay606 (k0_pay595 s)) (k0_pay607 (k0_pay596 m)) hb
      = step acc hb p s m := rfl

theorem pay_k16 (acc : FVec F S128x256 .f32) (hb : Vec F S1x128x256 .bf16) (p : Vec F S8x16x256 .i8) (s m : Vec F S1x8x2x256 .bf16) :
    k0_pay621 acc (k0_pay613 (k0_pay611 p) k0_pay612) (k0_pay614 s) (k0_pay615 m) (k0_pay616 (k0_pay611 p) k0_pay612 s m) (k0_pay617 (k0_pay611 p) k0_pay612 s m) (k0_pay618 (k0_pay611 p) k0_pay612 s m) (k0_pay619 s) (k0_pay620 m) hb
      = step acc hb p s m := rfl

theorem pay_k17 (acc : FVec F S128x256 .f32) (hb : Vec F S1x128x256 .bf16) (p : Vec F S8x16x256 .i8) (s m : Vec F S1x8x2x256 .bf16) :
    k0_pay638 acc (k0_pay627 p) (k0_pay628 s) (k0_pay630 m (k0_pay629 m)) (k0_pay631 (k0_pay627 p) (k0_pay628 s) m (k0_pay629 m)) (k0_pay632 (k0_pay627 p) (k0_pay628 s) m (k0_pay629 m)) (k0_pay633 (k0_pay627 p) (k0_pay628 s) m (k0_pay629 m)) (k0_pay634 (k0_pay627 p) (k0_pay628 s) m (k0_pay629 m)) (k0_pay635 (k0_pay627 p) (k0_pay628 s) m (k0_pay629 m)) (k0_pay636 (k0_pay627 p) (k0_pay628 s) m (k0_pay629 m)) (k0_pay637 (k0_pay628 s)) hb
      = step acc hb p s m := rfl

theorem pay_k18 (acc : FVec F S128x256 .f32) (hb : Vec F S1x128x256 .bf16) (p : Vec F S8x16x256 .i8) (s m : Vec F S1x8x2x256 .bf16) :
    k0_pay651 acc (k0_pay650 (k0_pay644 p) (k0_pay645 s) (k0_pay646 m) (k0_pay647 p s m) (k0_pay648 p s m) (k0_pay649 s) hb)
      = step acc hb p s m := rfl

theorem pay_k19 (acc : FVec F S128x256 .f32) (hb : Vec F S1x128x256 .bf16) (p : Vec F S8x16x256 .i8) (s m : Vec F S1x8x2x256 .bf16) :
    k0_pay663 acc (k0_pay654 p) (k0_pay655 s) (k0_pay656 m) (k0_pay657 (k0_pay654 p) s m) (k0_pay658 (k0_pay654 p) s m) (k0_pay659 (k0_pay654 p) s m) (k0_pay660 (k0_pay654 p) s m) (k0_pay661 m) (k0_pay662 (k0_pay654 p) s) hb
      = step acc hb p s m := rfl

theorem pay_v0 (acc : FVec F S128x256 .f32) (hb : Vec F S1x128x256 .bf16) (p : Vec F S8x16x256 .i8) (s m : Vec F S1x8x2x256 .bf16) :
    k0_pay686 acc (k0_pay675 p s m) (k0_pay677 (k0_pay672 p) (k0_pay674 m) (k0_pay676 s)) (k0_pay678 (k0_pay672 p) (k0_pay673 s) (k0_pay674 m)) (k0_pay679 (k0_pay672 p) (k0_pay673 s) (k0_pay674 m)) (k0_pay680 (k0_pay672 p) (k0_pay673 s) (k0_pay674 m)) (k0_pay681 (k0_pay672 p) (k0_pay673 s) (k0_pay674 m)) (k0_pay682 (k0_pay672 p) (k0_pay673 s) (k0_pay674 m)) (k0_pay683 (k0_pay673 s)) (k0_pay684 (k0_pay674 m)) (k0_pay685 (k0_pay672 p)) hb
      = step acc hb p s m := rfl

theorem pay_v1 (acc : FVec F S128x256 .f32) (hb : Vec F S1x128x256 .bf16) (p : Vec F S8x16x256 .i8) (s m : Vec F S1x8x2x256 .bf16) :
    k0_pay700 acc (k0_pay691 (k0_pay689 p) (k0_pay690 p) 4#32) (k0_pay692 s) (k0_pay693 m) (k0_pay694 (k0_pay689 p) (k0_pay690 p) 4#32 s m) (k0_pay695 (k0_pay689 p) (k0_pay690 p) 4#32 s m) (k0_pay696 (k0_pay689 p) (k0_pay690 p) 4#32 s m) (k0_pay697 s) (k0_pay698 m) (k0_pay699 (k0_pay689 p) (k0_pay690 p) 4#32) hb
      = step acc hb p s m := rfl

theorem pay_v2 (acc : FVec F S128x256 .f32) (hb : Vec F S1x128x256 .bf16) (p : Vec F S8x16x256 .i8) (s m : Vec F S1x8x2x256 .bf16) :
    k0_pay721 acc (k0_pay708 p) (k0_pay709 s) (k0_pay712 (k0_pay710 m) (k0_pay711 m)) (k0_pay713 (k0_pay708 p) (k0_pay709 s) (k0_pay710 m) (k0_pay711 m)) (k0_pay714 (k0_pay708 p) (k0_pay709 s) (k0_pay710 m) (k0_pay711 m)) (k0_pay715 (k0_pay708 p) (k0_pay709 s) (k0_pay710 m) (k0_pay711 m)) (k0_pay716 (k0_pay708 p) (k0_pay709 s) (k0_pay710 m) (k0_pay711 m)) (k0_pay717 (k0_pay708 p) (k0_pay709 s) (k0_pay710 m) (k0_pay711 m)) (k0_pay718 (k0_pay708 p) (k0_pay709 s) (k0_pay710 m) (k0_pay711 m)) (k0_pay719 (k0_pay709 s)) (k0_pay720 (k0_pay710 m) (k0_pay711 m)) hb
      = step acc hb p s m := rfl

theorem pay_v3 (acc : FVec F S128x256 .f32) (hb : Vec F S1x128x256 .bf16) (p : Vec F S8x16x256 .i8) (s m : Vec F S1x8x2x256 .bf16) :
    k0_pay731 acc (k0_pay724 p) (k0_pay725 s) (k0_pay726 m) (k0_pay727 p s m) (k0_pay728 p s m) (k0_pay729 s) (k0_pay730 m) hb
      = step acc hb p s m := rfl

theorem pay_v4 (acc : FVec F S128x256 .f32) (hb : Vec F S1x128x256 .bf16) (p : Vec F S8x16x256 .i8) (s m : Vec F S1x8x2x256 .bf16) :
    k0_pay743 acc (k0_pay734 p) (k0_pay735 s) (k0_pay736 m) (k0_pay737 (k0_pay734 p) s m) (k0_pay738 (k0_pay734 p) s m) (k0_pay739 (k0_pay734 p) s m) (k0_pay740 (k0_pay734 p) s m) (k0_pay741 (k0_pay734 p) s m) (k0_pay742 s) hb
      = step acc hb p s m := rfl

theorem pay_v5 (acc : FVec F S128x256 .f32) (hb : Vec F S1x128x256 .bf16) (p : Vec F S8x16x256 .i8) (s m : Vec F S1x8x2x256 .bf16) :
    k0_pay762 acc (k0_pay751 p s m) (k0_pay753 (k0_pay748 p) (k0_pay750 m) (k0_pay752 s)) (k0_pay754 (k0_pay748 p) (k0_pay749 s) (k0_pay750 m)) (k0_pay755 (k0_pay748 p) (k0_pay749 s) (k0_pay750 m)) (k0_pay756 (k0_pay748 p) (k0_pay749 s) (k0_pay750 m)) (k0_pay757 (k0_pay748 p) (k0_pay749 s) (k0_pay750 m)) (k0_pay758 (k0_pay748 p) (k0_pay749 s) (k0_pay750 m)) (k0_pay759 (k0_pay749 s)) (k0_pay760 (k0_pay750 m)) (k0_pay761 (k0_pay748 p)) hb
      = step acc hb p s m := rfl

theorem pay_v6 (acc : FVec F S128x256 .f32) (hb : Vec F S1x128x256 .bf16) (p : Vec F S8x16x256 .i8) (s m : Vec F S1x8x2x256 .bf16) :
    k0_pay776 acc (k0_pay767 (k0_pay765 p) (k0_pay766 p) 4#32) (k0_pay768 s) (k0_pay769 m) (k0_pay770 (k0_pay765 p) (k0_pay766 p) 4#32 s m) (k0_pay771 (k0_pay765 p) (k0_pay766 p) 4#32 s m) (k0_pay772 (k0_pay765 p) (k0_pay766 p) 4#32 s m) (k0_pay773 s) (k0_pay774 m) (k0_pay775 (k0_pay765 p) (k0_pay766 p) 4#32) hb
      = step acc hb p s m := rfl

theorem pay_v7 (acc : FVec F S128x256 .f32) (hb : Vec F S1x128x256 .bf16) (p : Vec F S8x16x256 .i8) (s m : Vec F S1x8x2x256 .bf16) :
    k0_pay797 acc (k0_pay784 p) (k0_pay785 s) (k0_pay788 (k0_pay786 m) (k0_pay787 m)) (k0_pay789 (k0_pay784 p) (k0_pay785 s) (k0_pay786 m) (k0_pay787 m)) (k0_pay790 (k0_pay784 p) (k0_pay785 s) (k0_pay786 m) (k0_pay787 m)) (k0_pay791 (k0_pay784 p) (k0_pay785 s) (k0_pay786 m) (k0_pay787 m)) (k0_pay792 (k0_pay784 p) (k0_pay785 s) (k0_pay786 m) (k0_pay787 m)) (k0_pay793 (k0_pay784 p) (k0_pay785 s) (k0_pay786 m) (k0_pay787 m)) (k0_pay794 (k0_pay784 p) (k0_pay785 s) (k0_pay786 m) (k0_pay787 m)) (k0_pay795 (k0_pay785 s)) (k0_pay796 (k0_pay786 m) (k0_pay787 m)) hb
      = step acc hb p s m := rfl

theorem pay_v8 (acc : FVec F S128x256 .f32) (hb : Vec F S1x128x256 .bf16) (p : Vec F S8x16x256 .i8) (s m : Vec F S1x8x2x256 .bf16) :
    k0_pay807 acc (k0_pay800 p) (k0_pay801 s) (k0_pay802 m) (k0_pay803 p s m) (k0_pay804 p s m) (k0_pay805 s) (k0_pay806 m) hb
      = step acc hb p s m := rfl

theorem pay_v9 (acc : FVec F S128x256 .f32) (hb : Vec F S1x128x256 .bf16) (p : Vec F S8x16x256 .i8) (s m : Vec F S1x8x2x256 .bf16) :
    k0_pay819 acc (k0_pay810 p) (k0_pay811 s) (k0_pay812 m) (k0_pay813 (k0_pay810 p) s m) (k0_pay814 (k0_pay810 p) s m) (k0_pay815 (k0_pay810 p) s m) (k0_pay816 (k0_pay810 p) s m) (k0_pay817 (k0_pay810 p) s m) (k0_pay818 s) hb
      = step acc hb p s m := rfl

theorem pay_v10 (acc : FVec F S128x256 .f32) (hb : Vec F S1x128x256 .bf16) (p : Vec F S8x16x256 .i8) (s m : Vec F S1x8x2x256 .bf16) :
    k0_pay838 acc (k0_pay827 p s m) (k0_pay829 (k0_pay824 p) (k0_pay826 m) (k0_pay828 s)) (k0_pay830 (k0_pay824 p) (k0_pay825 s) (k0_pay826 m)) (k0_pay831 (k0_pay824 p) (k0_pay825 s) (k0_pay826 m)) (k0_pay832 (k0_pay824 p) (k0_pay825 s) (k0_pay826 m)) (k0_pay833 (k0_pay824 p) (k0_pay825 s) (k0_pay826 m)) (k0_pay834 (k0_pay824 p) (k0_pay825 s) (k0_pay826 m)) (k0_pay835 (k0_pay825 s)) (k0_pay836 (k0_pay826 m)) (k0_pay837 (k0_pay824 p)) hb
      = step acc hb p s m := rfl

theorem pay_v11 (acc : FVec F S128x256 .f32) (hb : Vec F S1x128x256 .bf16) (p : Vec F S8x16x256 .i8) (s m : Vec F S1x8x2x256 .bf16) :
    k0_pay852 acc (k0_pay843 (k0_pay841 p) (k0_pay842 p) 4#32) (k0_pay844 s) (k0_pay845 m) (k0_pay846 (k0_pay841 p) (k0_pay842 p) 4#32 s m) (k0_pay847 (k0_pay841 p) (k0_pay842 p) 4#32 s m) (k0_pay848 (k0_pay841 p) (k0_pay842 p) 4#32 s m) (k0_pay849 s) (k0_pay850 m) (k0_pay851 (k0_pay841 p) (k0_pay842 p) 4#32) hb
      = step acc hb p s m := rfl

theorem pay_v12 (acc : FVec F S128x256 .f32) (hb : Vec F S1x128x256 .bf16) (p : Vec F S8x16x256 .i8) (s m : Vec F S1x8x2x256 .bf16) :
    k0_pay873 acc (k0_pay860 p) (k0_pay861 s) (k0_pay864 (k0_pay862 m) (k0_pay863 m)) (k0_pay865 (k0_pay860 p) (k0_pay861 s) (k0_pay862 m) (k0_pay863 m)) (k0_pay866 (k0_pay860 p) (k0_pay861 s) (k0_pay862 m) (k0_pay863 m)) (k0_pay867 (k0_pay860 p) (k0_pay861 s) (k0_pay862 m) (k0_pay863 m)) (k0_pay868 (k0_pay860 p) (k0_pay861 s) (k0_pay862 m) (k0_pay863 m)) (k0_pay869 (k0_pay860 p) (k0_pay861 s) (k0_pay862 m) (k0_pay863 m)) (k0_pay870 (k0_pay860 p) (k0_pay861 s) (k0_pay862 m) (k0_pay863 m)) (k0_pay871 (k0_pay861 s)) (k0_pay872 (k0_pay862 m) (k0_pay863 m)) hb
      = step acc hb p s m := rfl

theorem pay_v13 (acc : FVec F S128x256 .f32) (hb : Vec F S1x128x256 .bf16) (p : Vec F S8x16x256 .i8) (s m : Vec F S1x8x2x256 .bf16) :
    k0_pay883 acc (k0_pay876 p) (k0_pay877 s) (k0_pay878 m) (k0_pay879 p s m) (k0_pay880 p s m) (k0_pay881 s) (k0_pay882 m) hb
      = step acc hb p s m := rfl

theorem pay_v14 (acc : FVec F S128x256 .f32) (hb : Vec F S1x128x256 .bf16) (p : Vec F S8x16x256 .i8) (s m : Vec F S1x8x2x256 .bf16) :
    k0_pay895 acc (k0_pay886 p) (k0_pay887 s) (k0_pay888 m) (k0_pay889 (k0_pay886 p) s m) (k0_pay890 (k0_pay886 p) s m) (k0_pay891 (k0_pay886 p) s m) (k0_pay892 (k0_pay886 p) s m) (k0_pay893 (k0_pay886 p) s m) (k0_pay894 s) hb
      = step acc hb p s m := rfl

theorem pay_v15 (acc : FVec F S128x256 .f32) (hb : Vec F S1x128x256 .bf16) (p : Vec F S8x16x256 .i8) (s m : Vec F S1x8x2x256 .bf16) :
    k0_pay914 acc (k0_pay903 p s m) (k0_pay905 (k0_pay900 p) (k0_pay902 m) (k0_pay904 s)) (k0_pay906 (k0_pay900 p) (k0_pay901 s) (k0_pay902 m)) (k0_pay907 (k0_pay900 p) (k0_pay901 s) (k0_pay902 m)) (k0_pay908 (k0_pay900 p) (k0_pay901 s) (k0_pay902 m)) (k0_pay909 (k0_pay900 p) (k0_pay901 s) (k0_pay902 m)) (k0_pay910 (k0_pay900 p) (k0_pay901 s) (k0_pay902 m)) (k0_pay911 (k0_pay901 s)) (k0_pay912 (k0_pay902 m)) (k0_pay913 (k0_pay900 p)) hb
      = step acc hb p s m := rfl

theorem pay_v16 (acc : FVec F S128x256 .f32) (hb : Vec F S1x128x256 .bf16) (p : Vec F S8x16x256 .i8) (s m : Vec F S1x8x2x256 .bf16) :
    k0_pay928 acc (k0_pay919 (k0_pay917 p) (k0_pay918 p) 4#32) (k0_pay920 s) (k0_pay921 m) (k0_pay922 (k0_pay917 p) (k0_pay918 p) 4#32 s m) (k0_pay923 (k0_pay917 p) (k0_pay918 p) 4#32 s m) (k0_pay924 (k0_pay917 p) (k0_pay918 p) 4#32 s m) (k0_pay925 s) (k0_pay926 m) (k0_pay927 (k0_pay917 p) (k0_pay918 p) 4#32) hb
      = step acc hb p s m := rfl

theorem pay_v17 (acc : FVec F S128x256 .f32) (hb : Vec F S1x128x256 .bf16) (p : Vec F S8x16x256 .i8) (s m : Vec F S1x8x2x256 .bf16) :
    k0_pay949 acc (k0_pay936 p) (k0_pay937 s) (k0_pay940 (k0_pay938 m) (k0_pay939 m)) (k0_pay941 (k0_pay936 p) (k0_pay937 s) (k0_pay938 m) (k0_pay939 m)) (k0_pay942 (k0_pay936 p) (k0_pay937 s) (k0_pay938 m) (k0_pay939 m)) (k0_pay943 (k0_pay936 p) (k0_pay937 s) (k0_pay938 m) (k0_pay939 m)) (k0_pay944 (k0_pay936 p) (k0_pay937 s) (k0_pay938 m) (k0_pay939 m)) (k0_pay945 (k0_pay936 p) (k0_pay937 s) (k0_pay938 m) (k0_pay939 m)) (k0_pay946 (k0_pay936 p) (k0_pay937 s) (k0_pay938 m) (k0_pay939 m)) (k0_pay947 (k0_pay937 s)) (k0_pay948 (k0_pay938 m) (k0_pay939 m)) hb
      = step acc hb p s m := rfl

theorem pay_v18 (acc : FVec F S128x256 .f32) (hb : Vec F S1x128x256 .bf16) (p : Vec F S8x16x256 .i8) (s m : Vec F S1x8x2x256 .bf16) :
    k0_pay959 acc (k0_pay952 p) (k0_pay953 s) (k0_pay954 m) (k0_pay955 p s m) (k0_pay956 p s m) (k0_pay957 s) (k0_pay958 m) hb
      = step acc hb p s m := rfl

theorem pay_v19 (acc : FVec F S128x256 .f32) (hb : Vec F S1x128x256 .bf16) (p : Vec F S8x16x256 .i8) (s m : Vec F S1x8x2x256 .bf16) :
    k0_pay1 acc (k0_pay962 p) (k0_pay965 (k0_pay962 p) s m) (k0_pay966 (k0_pay962 p) s m) (k0_pay967 (k0_pay962 p) s m) (k0_pay968 (k0_pay962 p) s m) (k0_pay969 (k0_pay962 p) s m) (k0_pay971 (k0_pay962 p) (k0_pay964 m) (k0_pay970 s)) (k0_pay972 (k0_pay962 p) (k0_pay963 s) (k0_pay964 m)) (k0_pay973 (k0_pay963 s)) (k0_pay974 (k0_pay964 m)) hb
      = step acc hb p s m := rfl

end Cert.KernelIdeal.Val

end
-- ==== Proof.TilesAq.lean ====
/- Case A: the accumulator after each tile, at an index, is the one before plus what the tile adds. -/
module

public import proofs.«01_k».proof.Proof.Tiles
public import proofs.«01_k».proof.Proof.Gen.KernelIdeal.Frame.RunB
import all proofs.«01_k».proof.Proof.Gen.KernelIdeal.Frame.RunB
import all proofs.«01_k».proof.Proof.Gen.KernelIdeal.Frame.RunA

@[expose] public section

set_option maxRecDepth 65536
set_option maxHeartbeats 4000000

noncomputable section

namespace Cert.KernelIdeal.Val

open Cert.KernelIdeal Cert.KernelIdeal.Gen.kernelRun0_A.sl Cert.KernelIdeal.Gen Idealize.ShloMosaic Cert.Spec

variable (c : Dev nD)
variable (a1 : Memref sig .tc .vmem S128x5120 .bf16) (h1 : a1.IsWhole) (a2 : Memref sig .tc .vmem S1x5120 .bf16) (h2 : a2.IsWhole) (a3 : Memref sig .tc .vmem S1x128 .i32) (h3 : a3.IsWhole)
variable (a4 : Memref sig .tc .vmem S160x16x256 .i8) (h4 : a4.IsWhole) (a5 : Memref sig .tc .vmem S160x256 .bf16) (h5 : a5.IsWhole) (a6 : Memref sig .tc .vmem S160x256 .bf16) (h6 : a6.IsWhole)
variable (a7 : Memref sig .tc .vmem S160x16x256 .i8) (h7 : a7.IsWhole) (a8 : Memref sig .tc .vmem S160x256 .bf16) (h8 : a8.IsWhole) (a9 : Memref sig .tc .vmem S160x256 .bf16) (h9 : a9.IsWhole)
variable (a10 : Memref sig .tc .vmem S160x16x256 .i8) (h10 : a10.IsWhole) (a11 : Memref sig .tc .vmem S160x256 .bf16) (h11 : a11.IsWhole) (a12 : Memref sig .tc .vmem S160x256 .bf16) (h12 : a12.IsWhole)
variable (a16 : Memref sig .tc .vmem S20x128x256 .bf16) (h16 : a16.IsWhole) (a17 : Memref sig .tc .vmem S128x128 .f32) (h17 : a17.IsWhole) (a18 : Memref sig .tc .vmem S128x128 .f32) (h18 : a18.IsWhole)
  (a19 : Memref sig .tc .vmem S20x8x2x256 .bf16) (a20 : Memref sig .tc .vmem S20x8x2x256 .bf16)
variable (x0 : Vec Ideal S128x5120 .bf16) (x1 : Vec Ideal S1x5120 .bf16) (x2 : Vec Ideal S1x128 .i32)
  (x3 x6 x9 : Vec Ideal S160x16x256 .i8) (x4 x5 x7 x8 x10 x11 : Vec Ideal S160x256 .bf16)
  (xs0 : Vec Ideal S20x128x256 .bf16) (xs1 xs2 : Vec Ideal S128x128 .f32)

theorem A_q0 (t : Fin 128) (n : Fin 256) :
    (r_48 c a1 h1 a2 h2 a4 h4 a5 h5 a6 h6 a16 a19 a20 x0 x1 x3 x4 x5) (ValueIdx.ix2 t n)
      = (k0_pay95) (ValueIdx.ix2 t n) + T (View.canon (HS0_40 c a1 h1 a2 h2 x0 x1)) x3 x4 x5 ⟨0, by omega⟩ t n :=
  (congrFun (pay_q0 (k0_pay95) (v133 c a1 h1 a2 h2 a16 x0 x1)
    (View.readAt (Elt Ideal) a4.view (Rect.unit (s := S160x16x256) ![0, 0, 0] S8x16x256.size inb_S160x16x256_S8x16x256_0_0_0).toLoadRect (h4.unread x3)) (v54_raw c a5 h5 a19 x4) (v57_raw c a6 h6 a20 x5)) (ValueIdx.ix2 t n)).trans
  (step_apply ⟨0, by omega⟩ (View.canon (HS0_40 c a1 h1 a2 h2 x0 x1)) x3 x4 x5 _ _ _ _ _ (h_readCov a16 _ 0 (by omega) _) (w_read a4 h4 x3 _ 0 rfl (by omega) _)
    (rows_read a19 a5 h5 x4 _ _ 0 rfl (by omega) _ _ _)
    (rows_read a20 a6 h6 x5 _ _ 0 rfl (by omega) _ _ _) t n)

theorem A_q1 (t : Fin 128) (n : Fin 256) :
    (r_57 c a1 h1 a2 h2 a4 h4 a5 h5 a6 h6 a16 a19 a20 x0 x1 x3 x4 x5) (ValueIdx.ix2 t n)
      = (r_48 c a1 h1 a2 h2 a4 h4 a5 h5 a6 h6 a16 a19 a20 x0 x1 x3 x4 x5) (ValueIdx.ix2 t n) + T (View.canon (HS0_40 c a1 h1 a2 h2 x0 x1)) x3 x4 x5 ⟨1, by omega⟩ t n :=
  (congrFun (pay_q1 (r_48 c a1 h1 a2 h2 a4 h4 a5 h5 a6 h6 a16 a19 a20 x0 x1 x3 x4 x5) (v244 c a1 h1 a2 h2 a16 x0 x1)
    (View.readAt (Elt Ideal) a4.view (Rect.unit (s := S160x16x256) ![8, 0, 0] S8x16x256.size inb_S160x16x256_S8x16x256_8_0_0).toLoadRect (h4.unread x3)) (v165_raw c a5 h5 a19 x4) (v168_raw c a6 h6 a20 x5)) (ValueIdx.ix2 t n)).trans
  (step_apply ⟨1, by omega⟩ (View.canon (HS0_40 c a1 h1 a2 h2 x0 x1)) x3 x4 x5 _ _ _ _ _ (h_readCov a16 _ 1 (by omega) _) (w_read a4 h4 x3 _ 1 rfl (by omega) _)
    (rows_read a19 a5 h5 x4 _ _ 1 rfl (by omega) _ _ _)
    (rows_read a20 a6 h6 x5 _ _ 1 rfl (by omega) _ _ _) t n)

theorem A_q2 (t : Fin 128) (n : Fin 256) :
    (r_69 c a1 h1 a2 h2 a4 h4 a5 h5 a6 h6 a16 a19 a20 x0 x1 x3 x4 x5) (ValueIdx.ix2 t n)
      = (r_57 c a1 h1 a2 h2 a4 h4 a5 h5 a6 h6 a16 a19 a20 x0 x1 x3 x4 x5) (ValueIdx.ix2 t n) + T (View.canon (HS0_40 c a1 h1 a2 h2 x0 x1)) x3 x4 x5 ⟨2, by omega⟩ t n :=
  (congrFun (pay_q2 (r_57 c a1 h1 a2 h2 a4 h4 a5 h5 a6 h6 a16 a19 a20 x0 x1 x3 x4 x5) (v355 c a1 h1 a2 h2 a16 x0 x1)
    (View.readAt (Elt Ideal) a4.view (Rect.unit (s := S160x16x256) ![16, 0, 0] S8x16x256.size inb_S160x16x256_S8x16x256_16_0_0).toLoadRect (h4.unread x3)) (v276_raw c a5 h5 a19 x4) (v279_raw c a6 h6 a20 x5)) (ValueIdx.ix2 t n)).trans
  (step_apply ⟨2, by omega⟩ (View.canon (HS0_40 c a1 h1 a2 h2 x0 x1)) x3 x4 x5 _ _ _ _ _ (h_readCov a16 _ 2 (by omega) _) (w_read a4 h4 x3 _ 2 rfl (by omega) _)
    (rows_read a19 a5 h5 x4 _ _ 2 rfl (by omega) _ _ _)
    (rows_read a20 a6 h6 x5 _ _ 2 rfl (by omega) _ _ _) t n)

theorem A_q3 (t : Fin 128) (n : Fin 256) :
    (r_80 c a1 h1 a2 h2 a4 h4 a5 h5 a6 h6 a16 a19 a20 x0 x1 x3 x4 x5) (ValueIdx.ix2 t n)
      = (r_69 c a1 h1 a2 h2 a4 h4 a5 h5 a6 h6 a16 a19 a20 x0 x1 x3 x4 x5) (ValueIdx.ix2 t n) + T (View.canon (HS0_40 c a1 h1 a2 h2 x0 x1)) x3 x4 x5 ⟨3, by omega⟩ t n :=
  (congrFun (pay_q3 (r_69 c a1 h1 a2 h2 a4 h4 a5 h5 a6 h6 a16 a19 a20 x0 x1 x3 x4 x5) (v466 c a1 h1 a2 h2 a16 x0 x1)
    (View.readAt (Elt Ideal) a4.view (Rect.unit (s := S160x16x256) ![24, 0, 0] S8x16x256.size inb_S160x16x256_S8x16x256_24_0_0).toLoadRect (h4.unread x3)) (v387_raw c a5 h5 a19 x4) (v390_raw c a6 h6 a20 x5)) (ValueIdx.ix2 t n)).trans
  (step_apply ⟨3, by omega⟩ (View.canon (HS0_40 c a1 h1 a2 h2 x0 x1)) x3 x4 x5 _ _ _ _ _ (h_readCov a16 _ 3 (by omega) _) (w_read a4 h4 x3 _ 3 rfl (by omega) _)
    (rows_read a19 a5 h5 x4 _ _ 3 rfl (by omega) _ _ _)
    (rows_read a20 a6 h6 x5 _ _ 3 rfl (by omega) _ _ _) t n)

theorem A_q4 (t : Fin 128) (n : Fin 256) :
    (r_90 c a1 h1 a2 h2 a4 h4 a5 h5 a6 h6 a16 a19 a20 x0 x1 x3 x4 x5) (ValueIdx.ix2 t n)
      = (r_80 c a1 h1 a2 h2 a4 h4 a5 h5 a6 h6 a16 a19 a20 x0 x1 x3 x4 x5) (ValueIdx.ix2 t n) + T (View.canon (HS0_40 c a1 h1 a2 h2 x0 x1)) x3 x4 x5 ⟨4, by omega⟩ t n :=
  (congrFun (pay_q4 (r_80 c a1 h1 a2 h2 a4 h4 a5 h5 a6 h6 a16 a19 a20 x0 x1 x3 x4 x5) (v577 c a1 h1 a2 h2 a16 x0 x1)
    (View.readAt (Elt Ideal) a4.view (Rect.unit (s := S160x16x256) ![32, 0, 0] S8x16x256.size inb_S160x16x256_S8x16x256_32_0_0).toLoadRect (h4.unread x3)) (v498_raw c a5 h5 a19 x4) (v501_raw c a6 h6 a20 x5)) (ValueIdx.ix2 t n)).trans
  (step_apply ⟨4, by omega⟩ (View.canon (HS0_40 c a1 h1 a2 h2 x0 x1)) x3 x4 x5 _ _ _ _ _ (h_readCov a16 _ 4 (by omega) _) (w_read a4 h4 x3 _ 4 rfl (by omega) _)
    (rows_read a19 a5 h5 x4 _ _ 4 rfl (by omega) _ _ _)
    (rows_read a20 a6 h6 x5 _ _ 4 rfl (by omega) _ _ _) t n)

theorem A_q5 (t : Fin 128) (n : Fin 256) :
    (r_104 c a1 h1 a2 h2 a4 h4 a5 h5 a6 h6 a16 a19 a20 x0 x1 x3 x4 x5) (ValueIdx.ix2 t n)
      = (r_90 c a1 h1 a2 h2 a4 h4 a5 h5 a6 h6 a16 a19 a20 x0 x1 x3 x4 x5) (ValueIdx.ix2 t n) + T (View.canon (HS0_40 c a1 h1 a2 h2 x0 x1)) x3 x4 x5 ⟨5, by omega⟩ t n :=
  (congrFun (pay_q5 (r_90 c a1 h1 a2 h2 a4 h4 a5 h5 a6 h6 a16 a19 a20 x0 x1 x3 x4 x5) (v688 c a1 h1 a2 h2 a16 x0 x1)
    (View.readAt (Elt Ideal) a4.view (Rect.unit (s := S160x16x256) ![40, 0, 0] S8x16x256.size inb_S160x16x256_S8x16x256_40_0_0).toLoadRect (h4.unread x3)) (v609_raw c a5 h5 a19 x4) (v612_raw c a6 h6 a20 x5)) (ValueIdx.ix2 t n)).trans
  (step_apply ⟨5, by omega⟩ (View.canon (HS0_40 c a1 h1 a2 h2 x0 x1)) x3 x4 x5 _ _ _ _ _ (h_readCov a16 _ 5 (by omega) _) (w_read a4 h4 x3 _ 5 rfl (by omega) _)
    (rows_read a19 a5 h5 x4 _ _ 5 rfl (by omega) _ _ _)
    (rows_read a20 a6 h6 x5 _ _ 5 rfl (by omega) _ _ _) t n)

theorem A_q6 (t : Fin 128) (n : Fin 256) :
    (r_113 c a1 h1 a2 h2 a4 h4 a5 h5 a6 h6 a16 a19 a20 x0 x1 x3 x4 x5) (ValueIdx.ix2 t n)
      = (r_104 c a1 h1 a2 h2 a4 h4 a5 h5 a6 h6 a16 a19 a20 x0 x1 x3 x4 x5) (ValueIdx.ix2 t n) + T (View.canon (HS0_40 c a1 h1 a2 h2 x0 x1)) x3 x4 x5 ⟨6, by omega⟩ t n :=
  (congrFun (pay_q6 (r_104 c a1 h1 a2 h2 a4 h4 a5 h5 a6 h6 a16 a19 a20 x0 x1 x3 x4 x5) (v799 c a1 h1 a2 h2 a16 x0 x1)
    (View.readAt (Elt Ideal) a4.view (Rect.unit (s := S160x16x256) ![48, 0, 0] S8x16x256.size inb_S160x16x256_S8x16x256_48_0_0).toLoadRect (h4.unread x3)) (v720_raw c a5 h5 a19 x4) (v723_raw c a6 h6 a20 x5)) (ValueIdx.ix2 t n)).trans
  (step_apply ⟨6, by omega⟩ (View.canon (HS0_40 c a1 h1 a2 h2 x0 x1)) x3 x4 x5 _ _ _ _ _ (h_readCov a16 _ 6 (by omega) _) (w_read a4 h4 x3 _ 6 rfl (by omega) _)
    (rows_read a19 a5 h5 x4 _ _ 6 rfl (by omega) _ _ _)
    (rows_read a20 a6 h6 x5 _ _ 6 rfl (by omega) _ _ _) t n)

theorem A_q7 (t : Fin 128) (n : Fin 256) :
    (r_125 c a1 h1 a2 h2 a4 h4 a5 h5 a6 h6 a16 a19 a20 x0 x1 x3 x4 x5) (ValueIdx.ix2 t n)
      = (r_113 c a1 h1 a2 h2 a4 h4 a5 h5 a6 h6 a16 a19 a20 x0 x1 x3 x4 x5) (ValueIdx.ix2 t n) + T (View.canon (HS0_40 c a1 h1 a2 h2 x0 x1)) x3 x4 x5 ⟨7, by omega⟩ t n :=
  (congrFun (pay_q7 (r_113 c a1 h1 a2 h2 a4 h4 a5 h5 a6 h6 a16 a19 a20 x0 x1 x3 x4 x5) (v910 c a1 h1 a2 h2 a16 x0 x1)
    (View.readAt (Elt Ideal) a4.view (Rect.unit (s := S160x16x256) ![56, 0, 0] S8x16x256.size inb_S160x16x256_S8x16x256_56_0_0).toLoadRect (h4.unread x3)) (v831_raw c a5 h5 a19 x4) (v834_raw c a6 h6 a20 x5)) (ValueIdx.ix2 t n)).trans
  (step_apply ⟨7, by omega⟩ (View.canon (HS0_40 c a1 h1 a2 h2 x0 x1)) x3 x4 x5 _ _ _ _ _ (h_readCov a16 _ 7 (by omega) _) (w_read a4 h4 x3 _ 7 rfl (by omega) _)
    (rows_read a19 a5 h5 x4 _ _ 7 rfl (by omega) _ _ _)
    (rows_read a20 a6 h6 x5 _ _ 7 rfl (by omega) _ _ _) t n)

theorem A_q8 (t : Fin 128) (n : Fin 256) :
    (r_136 c a1 h1 a2 h2 a4 h4 a5 h5 a6 h6 a16 a19 a20 x0 x1 x3 x4 x5) (ValueIdx.ix2 t n)
      = (r_125 c a1 h1 a2 h2 a4 h4 a5 h5 a6 h6 a16 a19 a20 x0 x1 x3 x4 x5) (ValueIdx.ix2 t n) + T (View.canon (HS0_40 c a1 h1 a2 h2 x0 x1)) x3 x4 x5 ⟨8, by omega⟩ t n :=
  (congrFun (pay_q8 (r_125 c a1 h1 a2 h2 a4 h4 a5 h5 a6 h6 a16 a19 a20 x0 x1 x3 x4 x5) (v1021 c a1 h1 a2 h2 a16 x0 x1)
    (View.readAt (Elt Ideal) a4.view (Rect.unit (s := S160x16x256) ![64, 0, 0] S8x16x256.size inb_S160x16x256_S8x16x256_64_0_0).toLoadRect (h4.unread x3)) (v942_raw c a5 h5 a19 x4) (v945_raw c a6 h6 a20 x5)) (ValueIdx.ix2 t n)).trans
  (step_apply ⟨8, by omega⟩ (View.canon (HS0_40 c a1 h1 a2 h2 x0 x1)) x3 x4 x5 _ _ _ _ _ (h_readCov a16 _ 8 (by omega) _) (w_read a4 h4 x3 _ 8 rfl (by omega) _)
    (rows_read a19 a5 h5 x4 _ _ 8 rfl (by omega) _ _ _)
    (rows_read a20 a6 h6 x5 _ _ 8 rfl (by omega) _ _ _) t n)

theorem A_q9 (t : Fin 128) (n : Fin 256) :
    (r_146 c a1 h1 a2 h2 a4 h4 a5 h5 a6 h6 a16 a19 a20 x0 x1 x3 x4 x5) (ValueIdx.ix2 t n)
      = (r_136 c a1 h1 a2 h2 a4 h4 a5 h5 a6 h6 a16 a19 a20 x0 x1 x3 x4 x5) (ValueIdx.ix2 t n) + T (View.canon (HS0_40 c a1 h1 a2 h2 x0 x1)) x3 x4 x5 ⟨9, by omega⟩ t n :=
  (congrFun (pay_q9 (r_136 c a1 h1 a2 h2 a4 h4 a5 h5 a6 h6 a16 a19 a20 x0 x1 x3 x4 x5) (v1132 c a1 h1 a2 h2 a16 x0 x1)
    (View.readAt (Elt Ideal) a4.view (Rect.unit (s := S160x16x256) ![72, 0, 0] S8x16x256.size inb_S160x16x256_S8x16x256_72_0_0).toLoadRect (h4.unread x3)) (v1053_raw c a5 h5 a19 x4) (v1056_raw c a6 h6 a20 x5)) (ValueIdx.ix2 t n)).trans
  (step_apply ⟨9, by omega⟩ (View.canon (HS0_40 c a1 h1 a2 h2 x0 x1)) x3 x4 x5 _ _ _ _ _ (h_readCov a16 _ 9 (by omega) _) (w_read a4 h4 x3 _ 9 rfl (by omega) _)
    (rows_read a19 a5 h5 x4 _ _ 9 rfl (by omega) _ _ _)
    (rows_read a20 a6 h6 x5 _ _ 9 rfl (by omega) _ _ _) t n)

theorem A_q10 (t : Fin 128) (n : Fin 256) :
    (r_160 c a1 h1 a2 h2 a4 h4 a5 h5 a6 h6 a16 a19 a20 x0 x1 x3 x4 x5) (ValueIdx.ix2 t n)
      = (r_146 c a1 h1 a2 h2 a4 h4 a5 h5 a6 h6 a16 a19 a20 x0 x1 x3 x4 x5) (ValueIdx.ix2 t n) + T (View.canon (HS0_40 c a1 h1 a2 h2 x0 x1)) x3 x4 x5 ⟨10, by omega⟩ t n :=
  (congrFun (pay_q10 (r_146 c a1 h1 a2 h2 a4 h4 a5 h5 a6 h6 a16 a19 a20 x0 x1 x3 x4 x5) (v1243 c a1 h1 a2 h2 a16 x0 x1)
    (View.readAt (Elt Ideal) a4.view (Rect.unit (s := S160x16x256) ![80, 0, 0] S8x16x256.size inb_S160x16x256_S8x16x256_80_0_0).toLoadRect (h4.unread x3)) (v1164_raw c a5 h5 a19 x4) (v1167_raw c a6 h6 a20 x5)) (ValueIdx.ix2 t n)).trans
  (step_apply ⟨10, by omega⟩ (View.canon (HS0_40 c a1 h1 a2 h2 x0 x1)) x3 x4 x5 _ _ _ _ _ (h_readCov a16 _ 10 (by omega) _) (w_read a4 h4 x3 _ 10 rfl (by omega) _)
    (rows_read a19 a5 h5 x4 _ _ 10 rfl (by omega) _ _ _)
    (rows_read a20 a6 h6 x5 _ _ 10 rfl (by omega) _ _ _) t n)

theorem A_q11 (t : Fin 128) (n : Fin 256) :
    (r_169 c a1 h1 a2 h2 a4 h4 a5 h5 a6 h6 a16 a19 a20 x0 x1 x3 x4 x5) (ValueIdx.ix2 t n)
      = (r_160 c a1 h1 a2 h2 a4 h4 a5 h5 a6 h6 a16 a19 a20 x0 x1 x3 x4 x5) (ValueIdx.ix2 t n) + T (View.canon (HS0_40 c a1 h1 a2 h2 x0 x1)) x3 x4 x5 ⟨11, by omega⟩ t n :=
  (congrFun (pay_q11 (r_160 c a1 h1 a2 h2 a4 h4 a5 h5 a6 h6 a16 a19 a20 x0 x1 x3 x4 x5) (v1354 c a1 h1 a2 h2 a16 x0 x1)
    (View.readAt (Elt Ideal) a4.view (Rect.unit (s := S160x16x256) ![88, 0, 0] S8x16x256.size inb_S160x16x256_S8x16x256_88_0_0).toLoadRect (h4.unread x3)) (v1275_raw c a5 h5 a19 x4) (v1278_raw c a6 h6 a20 x5)) (ValueIdx.ix2 t n)).trans
  (step_apply ⟨11, by omega⟩ (View.canon (HS0_40 c a1 h1 a2 h2 x0 x1)) x3 x4 x5 _ _ _ _ _ (h_readCov a16 _ 11 (by omega) _) (w_read a4 h4 x3 _ 11 rfl (by omega) _)
    (rows_read a19 a5 h5 x4 _ _ 11 rfl (by omega) _ _ _)
    (rows_read a20 a6 h6 x5 _ _ 11 rfl (by omega) _ _ _) t n)

theorem A_q12 (t : Fin 128) (n : Fin 256) :
    (r_181 c a1 h1 a2 h2 a4 h4 a5 h5 a6 h6 a16 a19 a20 x0 x1 x3 x4 x5) (ValueIdx.ix2 t n)
      = (r_169 c a1 h1 a2 h2 a4 h4 a5 h5 a6 h6 a16 a19 a20 x0 x1 x3 x4 x5) (ValueIdx.ix2 t n) + T (View.canon (HS0_40 c a1 h1 a2 h2 x0 x1)) x3 x4 x5 ⟨12, by omega⟩ t n :=
  (congrFun (pay_q12 (r_169 c a1 h1 a2 h2 a4 h4 a5 h5 a6 h6 a16 a19 a20 x0 x1 x3 x4 x5) (v1465 c a1 h1 a2 h2 a16 x0 x1)
    (View.readAt (Elt Ideal) a4.view (Rect.unit (s := S160x16x256) ![96, 0, 0] S8x16x256.size inb_S160x16x256_S8x16x256_96_0_0).toLoadRect (h4.unread x3)) (v1386_raw c a5 h5 a19 x4) (v1389_raw c a6 h6 a20 x5)) (ValueIdx.ix2 t n)).trans
  (step_apply ⟨12, by omega⟩ (View.canon (HS0_40 c a1 h1 a2 h2 x0 x1)) x3 x4 x5 _ _ _ _ _ (h_readCov a16 _ 12 (by omega) _) (w_read a4 h4 x3 _ 12 rfl (by omega) _)
    (rows_read a19 a5 h5 x4 _ _ 12 rfl (by omega) _ _ _)
    (rows_read a20 a6 h6 x5 _ _ 12 rfl (by omega) _ _ _) t n)

theorem A_q13 (t : Fin 128) (n : Fin 256) :
    (r_192 c a1 h1 a2 h2 a4 h4 a5 h5 a6 h6 a16 a19 a20 x0 x1 x3 x4 x5) (ValueIdx.ix2 t n)
      = (r_181 c a1 h1 a2 h2 a4 h4 a5 h5 a6 h6 a16 a19 a20 x0 x1 x3 x4 x5) (ValueIdx.ix2 t n) + T (View.canon (HS0_40 c a1 h1 a2 h2 x0 x1)) x3 x4 x5 ⟨13, by omega⟩ t n :=
  (congrFun (pay_q13 (r_181 c a1 h1 a2 h2 a4 h4 a5 h5 a6 h6 a16 a19 a20 x0 x1 x3 x4 x5) (v1576 c a1 h1 a2 h2 a16 x0 x1)
    (View.readAt (Elt Ideal) a4.view (Rect.unit (s := S160x16x256) ![104, 0, 0] S8x16x256.size inb_S160x16x256_S8x16x256_104_0_0).toLoadRect (h4.unread x3)) (v1497_raw c a5 h5 a19 x4) (v1500_raw c a6 h6 a20 x5)) (ValueIdx.ix2 t n)).trans
  (step_apply ⟨13, by omega⟩ (View.canon (HS0_40 c a1 h1 a2 h2 x0 x1)) x3 x4 x5 _ _ _ _ _ (h_readCov a16 _ 13 (by omega) _) (w_read a4 h4 x3 _ 13 rfl (by omega) _)
    (rows_read a19 a5 h5 x4 _ _ 13 rfl (by omega) _ _ _)
    (rows_read a20 a6 h6 x5 _ _ 13 rfl (by omega) _ _ _) t n)

theorem A_q14 (t : Fin 128) (n : Fin 256) :
    (r_202 c a1 h1 a2 h2 a4 h4 a5 h5 a6 h6 a16 a19 a20 x0 x1 x3 x4 x5) (ValueIdx.ix2 t n)
      = (r_192 c a1 h1 a2 h2 a4 h4 a5 h5 a6 h6 a16 a19 a20 x0 x1 x3 x4 x5) (ValueIdx.ix2 t n) + T (View.canon (HS0_40 c a1 h1 a2 h2 x0 x1)) x3 x4 x5 ⟨14, by omega⟩ t n :=
  (congrFun (pay_q14 (r_192 c a1 h1 a2 h2 a4 h4 a5 h5 a6 h6 a16 a19 a20 x0 x1 x3 x4 x5) (v1687 c a1 h1 a2 h2 a16 x0 x1)
    (View.readAt (Elt Ideal) a4.view (Rect.unit (s := S160x16x256) ![112, 0, 0] S8x16x256.size inb_S160x16x256_S8x16x256_112_0_0).toLoadRect (h4.unread x3)) (v1608_raw c a5 h5 a19 x4) (v1611_raw c a6 h6 a20 x5)) (ValueIdx.ix2 t n)).trans
  (step_apply ⟨14, by omega⟩ (View.canon (HS0_40 c a1 h1 a2 h2 x0 x1)) x3 x4 x5 _ _ _ _ _ (h_readCov a16 _ 14 (by omega) _) (w_read a4 h4 x3 _ 14 rfl (by omega) _)
    (rows_read a19 a5 h5 x4 _ _ 14 rfl (by omega) _ _ _)
    (rows_read a20 a6 h6 x5 _ _ 14 rfl (by omega) _ _ _) t n)

theorem A_q15 (t : Fin 128) (n : Fin 256) :
    (r_216 c a1 h1 a2 h2 a4 h4 a5 h5 a6 h6 a16 a19 a20 x0 x1 x3 x4 x5) (ValueIdx.ix2 t n)
      = (r_202 c a1 h1 a2 h2 a4 h4 a5 h5 a6 h6 a16 a19 a20 x0 x1 x3 x4 x5) (ValueIdx.ix2 t n) + T (View.canon (HS0_40 c a1 h1 a2 h2 x0 x1)) x3 x4 x5 ⟨15, by omega⟩ t n :=
  (congrFun (pay_q15 (r_202 c a1 h1 a2 h2 a4 h4 a5 h5 a6 h6 a16 a19 a20 x0 x1 x3 x4 x5) (v1798 c a1 h1 a2 h2 a16 x0 x1)
    (View.readAt (Elt Ideal) a4.view (Rect.unit (s := S160x16x256) ![120, 0, 0] S8x16x256.size inb_S160x16x256_S8x16x256_120_0_0).toLoadRect (h4.unread x3)) (v1719_raw c a5 h5 a19 x4) (v1722_raw c a6 h6 a20 x5)) (ValueIdx.ix2 t n)).trans
  (step_apply ⟨15, by omega⟩ (View.canon (HS0_40 c a1 h1 a2 h2 x0 x1)) x3 x4 x5 _ _ _ _ _ (h_readCov a16 _ 15 (by omega) _) (w_read a4 h4 x3 _ 15 rfl (by omega) _)
    (rows_read a19 a5 h5 x4 _ _ 15 rfl (by omega) _ _ _)
    (rows_read a20 a6 h6 x5 _ _ 15 rfl (by omega) _ _ _) t n)

theorem A_q16 (t : Fin 128) (n : Fin 256) :
    (r_225 c a1 h1 a2 h2 a4 h4 a5 h5 a6 h6 a16 a19 a20 x0 x1 x3 x4 x5) (ValueIdx.ix2 t n)
      = (r_216 c a1 h1 a2 h2 a4 h4 a5 h5 a6 h6 a16 a19 a20 x0 x1 x3 x4 x5) (ValueIdx.ix2 t n) + T (View.canon (HS0_40 c a1 h1 a2 h2 x0 x1)) x3 x4 x5 ⟨16, by omega⟩ t n :=
  (congrFun (pay_q16 (r_216 c a1 h1 a2 h2 a4 h4 a5 h5 a6 h6 a16 a19 a20 x0 x1 x3 x4 x5) (v1909 c a1 h1 a2 h2 a16 x0 x1)
    (View.readAt (Elt Ideal) a4.view (Rect.unit (s := S160x16x256) ![128, 0, 0] S8x16x256.size inb_S160x16x256_S8x16x256_128_0_0).toLoadRect (h4.unread x3)) (v1830_raw c a5 h5 a19 x4) (v1833_raw c a6 h6 a20 x5)) (ValueIdx.ix2 t n)).trans
  (step_apply ⟨16, by omega⟩ (View.canon (HS0_40 c a1 h1 a2 h2 x0 x1)) x3 x4 x5 _ _ _ _ _ (h_readCov a16 _ 16 (by omega) _) (w_read a4 h4 x3 _ 16 rfl (by omega) _)
    (rows_read a19 a5 h5 x4 _ _ 16 rfl (by omega) _ _ _)
    (rows_read a20 a6 h6 x5 _ _ 16 rfl (by omega) _ _ _) t n)

theorem A_q17 (t : Fin 128) (n : Fin 256) :
    (r_237 c a1 h1 a2 h2 a4 h4 a5 h5 a6 h6 a16 a19 a20 x0 x1 x3 x4 x5) (ValueIdx.ix2 t n)
      = (r_225 c a1 h1 a2 h2 a4 h4 a5 h5 a6 h6 a16 a19 a20 x0 x1 x3 x4 x5) (ValueIdx.ix2 t n) + T (View.canon (HS0_40 c a1 h1 a2 h2 x0 x1)) x3 x4 x5 ⟨17, by omega⟩ t n :=
  (congrFun (pay_q17 (r_225 c a1 h1 a2 h2 a4 h4 a5 h5 a6 h6 a16 a19 a20 x0 x1 x3 x4 x5) (v2020 c a1 h1 a2 h2 a16 x0 x1)
    (View.readAt (Elt Ideal) a4.view (Rect.unit (s := S160x16x256) ![136, 0, 0] S8x16x256.size inb_S160x16x256_S8x16x256_136_0_0).toLoadRect (h4.unread x3)) (v1941_raw c a5 h5 a19 x4) (v1944_raw c a6 h6 a20 x5)) (ValueIdx.ix2 t n)).trans
  (step_apply ⟨17, by omega⟩ (View.canon (HS0_40 c a1 h1 a2 h2 x0 x1)) x3 x4 x5 _ _ _ _ _ (h_readCov a16 _ 17 (by omega) _) (w_read a4 h4 x3 _ 17 rfl (by omega) _)
    (rows_read a19 a5 h5 x4 _ _ 17 rfl (by omega) _ _ _)
    (rows_read a20 a6 h6 x5 _ _ 17 rfl (by omega) _ _ _) t n)

theorem A_q18 (t : Fin 128) (n : Fin 256) :
    (r_248 c a1 h1 a2 h2 a4 h4 a5 h5 a6 h6 a16 a19 a20 x0 x1 x3 x4 x5) (ValueIdx.ix2 t n)
      = (r_237 c a1 h1 a2 h2 a4 h4 a5 h5 a6 h6 a16 a19 a20 x0 x1 x3 x4 x5) (ValueIdx.ix2 t n) + T (View.canon (HS0_40 c a1 h1 a2 h2 x0 x1)) x3 x4 x5 ⟨18, by omega⟩ t n :=
  (congrFun (pay_q18 (r_237 c a1 h1 a2 h2 a4 h4 a5 h5 a6 h6 a16 a19 a20 x0 x1 x3 x4 x5) (v2131 c a1 h1 a2 h2 a16 x0 x1)
    (View.readAt (Elt Ideal) a4.view (Rect.unit (s := S160x16x256) ![144, 0, 0] S8x16x256.size inb_S160x16x256_S8x16x256_144_0_0).toLoadRect (h4.unread x3)) (v2052_raw c a5 h5 a19 x4) (v2055_raw c a6 h6 a20 x5)) (ValueIdx.ix2 t n)).trans
  (step_apply ⟨18, by omega⟩ (View.canon (HS0_40 c a1 h1 a2 h2 x0 x1)) x3 x4 x5 _ _ _ _ _ (h_readCov a16 _ 18 (by omega) _) (w_read a4 h4 x3 _ 18 rfl (by omega) _)
    (rows_read a19 a5 h5 x4 _ _ 18 rfl (by omega) _ _ _)
    (rows_read a20 a6 h6 x5 _ _ 18 rfl (by omega) _ _ _) t n)

theorem A_q19 (t : Fin 128) (n : Fin 256) :
    (r_258 c a1 h1 a2 h2 a4 h4 a5 h5 a6 h6 a16 a19 a20 x0 x1 x3 x4 x5) (ValueIdx.ix2 t n)
      = (r_248 c a1 h1 a2 h2 a4 h4 a5 h5 a6 h6 a16 a19 a20 x0 x1 x3 x4 x5) (ValueIdx.ix2 t n) + T (View.canon (HS0_40 c a1 h1 a2 h2 x0 x1)) x3 x4 x5 ⟨19, by omega⟩ t n :=
  (congrFun (pay_q19 (r_248 c a1 h1 a2 h2 a4 h4 a5 h5 a6 h6 a16 a19 a20 x0 x1 x3 x4 x5) (v2242 c a1 h1 a2 h2 a16 x0 x1)
    (View.readAt (Elt Ideal) a4.view (Rect.unit (s := S160x16x256) ![152, 0, 0] S8x16x256.size inb_S160x16x256_S8x16x256_152_0_0).toLoadRect (h4.unread x3)) (v2163_raw c a5 h5 a19 x4) (v2166_raw c a6 h6 a20 x5)) (ValueIdx.ix2 t n)).trans
  (step_apply ⟨19, by omega⟩ (View.canon (HS0_40 c a1 h1 a2 h2 x0 x1)) x3 x4 x5 _ _ _ _ _ (h_readCov a16 _ 19 (by omega) _) (w_read a4 h4 x3 _ 19 rfl (by omega) _)
    (rows_read a19 a5 h5 x4 _ _ 19 rfl (by omega) _ _ _)
    (rows_read a20 a6 h6 x5 _ _ 19 rfl (by omega) _ _ _) t n)

end Cert.KernelIdeal.Val

end
-- ==== Proof.TilesAk.lean ====
/- Case A: the accumulator after each tile, at an index, is the one before plus what the tile adds. -/
module

public import proofs.«01_k».proof.Proof.Tiles
public import proofs.«01_k».proof.Proof.Gen.KernelIdeal.Frame.RunB
import all proofs.«01_k».proof.Proof.Gen.KernelIdeal.Frame.RunB
import all proofs.«01_k».proof.Proof.Gen.KernelIdeal.Frame.RunA

@[expose] public section

set_option maxRecDepth 65536
set_option maxHeartbeats 4000000

noncomputable section

namespace Cert.KernelIdeal.Val

open Cert.KernelIdeal Cert.KernelIdeal.Gen.kernelRun0_A.sl Cert.KernelIdeal.Gen Idealize.ShloMosaic Cert.Spec

variable (c : Dev nD)
variable (a1 : Memref sig .tc .vmem S128x5120 .bf16) (h1 : a1.IsWhole) (a2 : Memref sig .tc .vmem S1x5120 .bf16) (h2 : a2.IsWhole) (a3 : Memref sig .tc .vmem S1x128 .i32) (h3 : a3.IsWhole)
variable (a4 : Memref sig .tc .vmem S160x16x256 .i8) (h4 : a4.IsWhole) (a5 : Memref sig .tc .vmem S160x256 .bf16) (h5 : a5.IsWhole) (a6 : Memref sig .tc .vmem S160x256 .bf16) (h6 : a6.IsWhole)
variable (a7 : Memref sig .tc .vmem S160x16x256 .i8) (h7 : a7.IsWhole) (a8 : Memref sig .tc .vmem S160x256 .bf16) (h8 : a8.IsWhole) (a9 : Memref sig .tc .vmem S160x256 .bf16) (h9 : a9.IsWhole)
variable (a10 : Memref sig .tc .vmem S160x16x256 .i8) (h10 : a10.IsWhole) (a11 : Memref sig .tc .vmem S160x256 .bf16) (h11 : a11.IsWhole) (a12 : Memref sig .tc .vmem S160x256 .bf16) (h12 : a12.IsWhole)
variable (a16 : Memref sig .tc .vmem S20x128x256 .bf16) (h16 : a16.IsWhole) (a17 : Memref sig .tc .vmem S128x128 .f32) (h17 : a17.IsWhole) (a18 : Memref sig .tc .vmem S128x128 .f32) (h18 : a18.IsWhole)
  (a19 : Memref sig .tc .vmem S20x8x2x256 .bf16) (a20 : Memref sig .tc .vmem S20x8x2x256 .bf16)
variable (x0 : Vec Ideal S128x5120 .bf16) (x1 : Vec Ideal S1x5120 .bf16) (x2 : Vec Ideal S1x128 .i32)
  (x3 x6 x9 : Vec Ideal S160x16x256 .i8) (x4 x5 x7 x8 x10 x11 : Vec Ideal S160x256 .bf16)
  (xs0 : Vec Ideal S20x128x256 .bf16) (xs1 xs2 : Vec Ideal S128x128 .f32)

theorem A_k0 (t : Fin 128) (n : Fin 256) :
    (r_275 c a1 h1 a2 h2 a5 h5 a6 h6 a7 h7 a8 h8 a9 h9 a16 a19 a20 x0 x1 x4 x5 x6 x7 x8) (ValueIdx.ix2 t n)
      = (k0_pay371) (ValueIdx.ix2 t n) + T (View.canon (HS0_40 c a1 h1 a2 h2 x0 x1)) x6 x7 x8 ⟨0, by omega⟩ t n :=
  (congrFun (pay_k0 (k0_pay371) (v133 c a1 h1 a2 h2 a16 x0 x1)
    (View.readAt (Elt Ideal) a7.view (Rect.unit (s := S160x16x256) ![0, 0, 0] S8x16x256.size inb_S160x16x256_S8x16x256_0_0_0).toLoadRect (h7.unread x6)) (v2311_raw c a5 h5 a8 h8 a19 x4 x7) (v2314_raw c a6 h6 a9 h9 a20 x5 x8)) (ValueIdx.ix2 t n)).trans
  (step_apply ⟨0, by omega⟩ (View.canon (HS0_40 c a1 h1 a2 h2 x0 x1)) x6 x7 x8 _ _ _ _ _ (h_readCov a16 _ 0 (by omega) _) (w_read a7 h7 x6 _ 0 rfl (by omega) _)
    (rows_read a19 a8 h8 x7 _ _ 0 rfl (by omega) _ _ _)
    (rows_read a20 a9 h9 x8 _ _ 0 rfl (by omega) _ _ _) t n)

theorem A_k1 (t : Fin 128) (n : Fin 256) :
    (r_285 c a1 h1 a2 h2 a5 h5 a6 h6 a7 h7 a8 h8 a9 h9 a16 a19 a20 x0 x1 x4 x5 x6 x7 x8) (ValueIdx.ix2 t n)
      = (r_275 c a1 h1 a2 h2 a5 h5 a6 h6 a7 h7 a8 h8 a9 h9 a16 a19 a20 x0 x1 x4 x5 x6 x7 x8) (ValueIdx.ix2 t n) + T (View.canon (HS0_40 c a1 h1 a2 h2 x0 x1)) x6 x7 x8 ⟨1, by omega⟩ t n :=
  (congrFun (pay_k1 (r_275 c a1 h1 a2 h2 a5 h5 a6 h6 a7 h7 a8 h8 a9 h9 a16 a19 a20 x0 x1 x4 x5 x6 x7 x8) (v244 c a1 h1 a2 h2 a16 x0 x1)
    (View.readAt (Elt Ideal) a7.view (Rect.unit (s := S160x16x256) ![8, 0, 0] S8x16x256.size inb_S160x16x256_S8x16x256_8_0_0).toLoadRect (h7.unread x6)) (v2422_raw c a5 h5 a8 h8 a19 x4 x7) (v2425_raw c a6 h6 a9 h9 a20 x5 x8)) (ValueIdx.ix2 t n)).trans
  (step_apply ⟨1, by omega⟩ (View.canon (HS0_40 c a1 h1 a2 h2 x0 x1)) x6 x7 x8 _ _ _ _ _ (h_readCov a16 _ 1 (by omega) _) (w_read a7 h7 x6 _ 1 rfl (by omega) _)
    (rows_read a19 a8 h8 x7 _ _ 1 rfl (by omega) _ _ _)
    (rows_read a20 a9 h9 x8 _ _ 1 rfl (by omega) _ _ _) t n)

theorem A_k2 (t : Fin 128) (n : Fin 256) :
    (r_299 c a1 h1 a2 h2 a5 h5 a6 h6 a7 h7 a8 h8 a9 h9 a16 a19 a20 x0 x1 x4 x5 x6 x7 x8) (ValueIdx.ix2 t n)
      = (r_285 c a1 h1 a2 h2 a5 h5 a6 h6 a7 h7 a8 h8 a9 h9 a16 a19 a20 x0 x1 x4 x5 x6 x7 x8) (ValueIdx.ix2 t n) + T (View.canon (HS0_40 c a1 h1 a2 h2 x0 x1)) x6 x7 x8 ⟨2, by omega⟩ t n :=
  (congrFun (pay_k2 (r_285 c a1 h1 a2 h2 a5 h5 a6 h6 a7 h7 a8 h8 a9 h9 a16 a19 a20 x0 x1 x4 x5 x6 x7 x8) (v355 c a1 h1 a2 h2 a16 x0 x1)
    (View.readAt (Elt Ideal) a7.view (Rect.unit (s := S160x16x256) ![16, 0, 0] S8x16x256.size inb_S160x16x256_S8x16x256_16_0_0).toLoadRect (h7.unread x6)) (v2533_raw c a5 h5 a8 h8 a19 x4 x7) (v2536_raw c a6 h6 a9 h9 a20 x5 x8)) (ValueIdx.ix2 t n)).trans
  (step_apply ⟨2, by omega⟩ (View.canon (HS0_40 c a1 h1 a2 h2 x0 x1)) x6 x7 x8 _ _ _ _ _ (h_readCov a16 _ 2 (by omega) _) (w_read a7 h7 x6 _ 2 rfl (by omega) _)
    (rows_read a19 a8 h8 x7 _ _ 2 rfl (by omega) _ _ _)
    (rows_read a20 a9 h9 x8 _ _ 2 rfl (by omega) _ _ _) t n)

theorem A_k3 (t : Fin 128) (n : Fin 256) :
    (r_309 c a1 h1 a2 h2 a5 h5 a6 h6 a7 h7 a8 h8 a9 h9 a16 a19 a20 x0 x1 x4 x5 x6 x7 x8) (ValueIdx.ix2 t n)
      = (r_299 c a1 h1 a2 h2 a5 h5 a6 h6 a7 h7 a8 h8 a9 h9 a16 a19 a20 x0 x1 x4 x5 x6 x7 x8) (ValueIdx.ix2 t n) + T (View.canon (HS0_40 c a1 h1 a2 h2 x0 x1)) x6 x7 x8 ⟨3, by omega⟩ t n :=
  (congrFun (pay_k3 (r_299 c a1 h1 a2 h2 a5 h5 a6 h6 a7 h7 a8 h8 a9 h9 a16 a19 a20 x0 x1 x4 x5 x6 x7 x8) (v466 c a1 h1 a2 h2 a16 x0 x1)
    (View.readAt (Elt Ideal) a7.view (Rect.unit (s := S160x16x256) ![24, 0, 0] S8x16x256.size inb_S160x16x256_S8x16x256_24_0_0).toLoadRect (h7.unread x6)) (v2644_raw c a5 h5 a8 h8 a19 x4 x7) (v2647_raw c a6 h6 a9 h9 a20 x5 x8)) (ValueIdx.ix2 t n)).trans
  (step_apply ⟨3, by omega⟩ (View.canon (HS0_40 c a1 h1 a2 h2 x0 x1)) x6 x7 x8 _ _ _ _ _ (h_readCov a16 _ 3 (by omega) _) (w_read a7 h7 x6 _ 3 rfl (by omega) _)
    (rows_read a19 a8 h8 x7 _ _ 3 rfl (by omega) _ _ _)
    (rows_read a20 a9 h9 x8 _ _ 3 rfl (by omega) _ _ _) t n)

theorem A_k4 (t : Fin 128) (n : Fin 256) :
    (r_319 c a1 h1 a2 h2 a5 h5 a6 h6 a7 h7 a8 h8 a9 h9 a16 a19 a20 x0 x1 x4 x5 x6 x7 x8) (ValueIdx.ix2 t n)
      = (r_309 c a1 h1 a2 h2 a5 h5 a6 h6 a7 h7 a8 h8 a9 h9 a16 a19 a20 x0 x1 x4 x5 x6 x7 x8) (ValueIdx.ix2 t n) + T (View.canon (HS0_40 c a1 h1 a2 h2 x0 x1)) x6 x7 x8 ⟨4, by omega⟩ t n :=
  (congrFun (pay_k4 (r_309 c a1 h1 a2 h2 a5 h5 a6 h6 a7 h7 a8 h8 a9 h9 a16 a19 a20 x0 x1 x4 x5 x6 x7 x8) (v577 c a1 h1 a2 h2 a16 x0 x1)
    (View.readAt (Elt Ideal) a7.view (Rect.unit (s := S160x16x256) ![32, 0, 0] S8x16x256.size inb_S160x16x256_S8x16x256_32_0_0).toLoadRect (h7.unread x6)) (v2755_raw c a5 h5 a8 h8 a19 x4 x7) (v2758_raw c a6 h6 a9 h9 a20 x5 x8)) (ValueIdx.ix2 t n)).trans
  (step_apply ⟨4, by omega⟩ (View.canon (HS0_40 c a1 h1 a2 h2 x0 x1)) x6 x7 x8 _ _ _ _ _ (h_readCov a16 _ 4 (by omega) _) (w_read a7 h7 x6 _ 4 rfl (by omega) _)
    (rows_read a19 a8 h8 x7 _ _ 4 rfl (by omega) _ _ _)
    (rows_read a20 a9 h9 x8 _ _ 4 rfl (by omega) _ _ _) t n)

theorem A_k5 (t : Fin 128) (n : Fin 256) :
    (r_335 c a1 h1 a2 h2 a5 h5 a6 h6 a7 h7 a8 h8 a9 h9 a16 a19 a20 x0 x1 x4 x5 x6 x7 x8) (ValueIdx.ix2 t n)
      = (r_319 c a1 h1 a2 h2 a5 h5 a6 h6 a7 h7 a8 h8 a9 h9 a16 a19 a20 x0 x1 x4 x5 x6 x7 x8) (ValueIdx.ix2 t n) + T (View.canon (HS0_40 c a1 h1 a2 h2 x0 x1)) x6 x7 x8 ⟨5, by omega⟩ t n :=
  (congrFun (pay_k5 (r_319 c a1 h1 a2 h2 a5 h5 a6 h6 a7 h7 a8 h8 a9 h9 a16 a19 a20 x0 x1 x4 x5 x6 x7 x8) (v688 c a1 h1 a2 h2 a16 x0 x1)
    (View.readAt (Elt Ideal) a7.view (Rect.unit (s := S160x16x256) ![40, 0, 0] S8x16x256.size inb_S160x16x256_S8x16x256_40_0_0).toLoadRect (h7.unread x6)) (v2866_raw c a5 h5 a8 h8 a19 x4 x7) (v2869_raw c a6 h6 a9 h9 a20 x5 x8)) (ValueIdx.ix2 t n)).trans
  (step_apply ⟨5, by omega⟩ (View.canon (HS0_40 c a1 h1 a2 h2 x0 x1)) x6 x7 x8 _ _ _ _ _ (h_readCov a16 _ 5 (by omega) _) (w_read a7 h7 x6 _ 5 rfl (by omega) _)
    (rows_read a19 a8 h8 x7 _ _ 5 rfl (by omega) _ _ _)
    (rows_read a20 a9 h9 x8 _ _ 5 rfl (by omega) _ _ _) t n)

theorem A_k6 (t : Fin 128) (n : Fin 256) :
    (r_345 c a1 h1 a2 h2 a5 h5 a6 h6 a7 h7 a8 h8 a9 h9 a16 a19 a20 x0 x1 x4 x5 x6 x7 x8) (ValueIdx.ix2 t n)
      = (r_335 c a1 h1 a2 h2 a5 h5 a6 h6 a7 h7 a8 h8 a9 h9 a16 a19 a20 x0 x1 x4 x5 x6 x7 x8) (ValueIdx.ix2 t n) + T (View.canon (HS0_40 c a1 h1 a2 h2 x0 x1)) x6 x7 x8 ⟨6, by omega⟩ t n :=
  (congrFun (pay_k6 (r_335 c a1 h1 a2 h2 a5 h5 a6 h6 a7 h7 a8 h8 a9 h9 a16 a19 a20 x0 x1 x4 x5 x6 x7 x8) (v799 c a1 h1 a2 h2 a16 x0 x1)
    (View.readAt (Elt Ideal) a7.view (Rect.unit (s := S160x16x256) ![48, 0, 0] S8x16x256.size inb_S160x16x256_S8x16x256_48_0_0).toLoadRect (h7.unread x6)) (v2977_raw c a5 h5 a8 h8 a19 x4 x7) (v2980_raw c a6 h6 a9 h9 a20 x5 x8)) (ValueIdx.ix2 t n)).trans
  (step_apply ⟨6, by omega⟩ (View.canon (HS0_40 c a1 h1 a2 h2 x0 x1)) x6 x7 x8 _ _ _ _ _ (h_readCov a16 _ 6 (by omega) _) (w_read a7 h7 x6 _ 6 rfl (by omega) _)
    (rows_read a19 a8 h8 x7 _ _ 6 rfl (by omega) _ _ _)
    (rows_read a20 a9 h9 x8 _ _ 6 rfl (by omega) _ _ _) t n)

theorem A_k7 (t : Fin 128) (n : Fin 256) :
    (r_359 c a1 h1 a2 h2 a5 h5 a6 h6 a7 h7 a8 h8 a9 h9 a16 a19 a20 x0 x1 x4 x5 x6 x7 x8) (ValueIdx.ix2 t n)
      = (r_345 c a1 h1 a2 h2 a5 h5 a6 h6 a7 h7 a8 h8 a9 h9 a16 a19 a20 x0 x1 x4 x5 x6 x7 x8) (ValueIdx.ix2 t n) + T (View.canon (HS0_40 c a1 h1 a2 h2 x0 x1)) x6 x7 x8 ⟨7, by omega⟩ t n :=
  (congrFun (pay_k7 (r_345 c a1 h1 a2 h2 a5 h5 a6 h6 a7 h7 a8 h8 a9 h9 a16 a19 a20 x0 x1 x4 x5 x6 x7 x8) (v910 c a1 h1 a2 h2 a16 x0 x1)
    (View.readAt (Elt Ideal) a7.view (Rect.unit (s := S160x16x256) ![56, 0, 0] S8x16x256.size inb_S160x16x256_S8x16x256_56_0_0).toLoadRect (h7.unread x6)) (v3088_raw c a5 h5 a8 h8 a19 x4 x7) (v3091_raw c a6 h6 a9 h9 a20 x5 x8)) (ValueIdx.ix2 t n)).trans
  (step_apply ⟨7, by omega⟩ (View.canon (HS0_40 c a1 h1 a2 h2 x0 x1)) x6 x7 x8 _ _ _ _ _ (h_readCov a16 _ 7 (by omega) _) (w_read a7 h7 x6 _ 7 rfl (by omega) _)
    (rows_read a19 a8 h8 x7 _ _ 7 rfl (by omega) _ _ _)
    (rows_read a20 a9 h9 x8 _ _ 7 rfl (by omega) _ _ _) t n)

theorem A_k8 (t : Fin 128) (n : Fin 256) :
    (r_369 c a1 h1 a2 h2 a5 h5 a6 h6 a7 h7 a8 h8 a9 h9 a16 a19 a20 x0 x1 x4 x5 x6 x7 x8) (ValueIdx.ix2 t n)
      = (r_359 c a1 h1 a2 h2 a5 h5 a6 h6 a7 h7 a8 h8 a9 h9 a16 a19 a20 x0 x1 x4 x5 x6 x7 x8) (ValueIdx.ix2 t n) + T (View.canon (HS0_40 c a1 h1 a2 h2 x0 x1)) x6 x7 x8 ⟨8, by omega⟩ t n :=
  (congrFun (pay_k8 (r_359 c a1 h1 a2 h2 a5 h5 a6 h6 a7 h7 a8 h8 a9 h9 a16 a19 a20 x0 x1 x4 x5 x6 x7 x8) (v1021 c a1 h1 a2 h2 a16 x0 x1)
    (View.readAt (Elt Ideal) a7.view (Rect.unit (s := S160x16x256) ![64, 0, 0] S8x16x256.size inb_S160x16x256_S8x16x256_64_0_0).toLoadRect (h7.unread x6)) (v3199_raw c a5 h5 a8 h8 a19 x4 x7) (v3202_raw c a6 h6 a9 h9 a20 x5 x8)) (ValueIdx.ix2 t n)).trans
  (step_apply ⟨8, by omega⟩ (View.canon (HS0_40 c a1 h1 a2 h2 x0 x1)) x6 x7 x8 _ _ _ _ _ (h_readCov a16 _ 8 (by omega) _) (w_read a7 h7 x6 _ 8 rfl (by omega) _)
    (rows_read a19 a8 h8 x7 _ _ 8 rfl (by omega) _ _ _)
    (rows_read a20 a9 h9 x8 _ _ 8 rfl (by omega) _ _ _) t n)

theorem A_k9 (t : Fin 128) (n : Fin 256) :
    (r_379 c a1 h1 a2 h2 a5 h5 a6 h6 a7 h7 a8 h8 a9 h9 a16 a19 a20 x0 x1 x4 x5 x6 x7 x8) (ValueIdx.ix2 t n)
      = (r_369 c a1 h1 a2 h2 a5 h5 a6 h6 a7 h7 a8 h8 a9 h9 a16 a19 a20 x0 x1 x4 x5 x6 x7 x8) (ValueIdx.ix2 t n) + T (View.canon (HS0_40 c a1 h1 a2 h2 x0 x1)) x6 x7 x8 ⟨9, by omega⟩ t n :=
  (congrFun (pay_k9 (r_369 c a1 h1 a2 h2 a5 h5 a6 h6 a7 h7 a8 h8 a9 h9 a16 a19 a20 x0 x1 x4 x5 x6 x7 x8) (v1132 c a1 h1 a2 h2 a16 x0 x1)
    (View.readAt (Elt Ideal) a7.view (Rect.unit (s := S160x16x256) ![72, 0, 0] S8x16x256.size inb_S160x16x256_S8x16x256_72_0_0).toLoadRect (h7.unread x6)) (v3310_raw c a5 h5 a8 h8 a19 x4 x7) (v3313_raw c a6 h6 a9 h9 a20 x5 x8)) (ValueIdx.ix2 t n)).trans
  (step_apply ⟨9, by omega⟩ (View.canon (HS0_40 c a1 h1 a2 h2 x0 x1)) x6 x7 x8 _ _ _ _ _ (h_readCov a16 _ 9 (by omega) _) (w_read a7 h7 x6 _ 9 rfl (by omega) _)
    (rows_read a19 a8 h8 x7 _ _ 9 rfl (by omega) _ _ _)
    (rows_read a20 a9 h9 x8 _ _ 9 rfl (by omega) _ _ _) t n)

theorem A_k10 (t : Fin 128) (n : Fin 256) :
    (r_395 c a1 h1 a2 h2 a5 h5 a6 h6 a7 h7 a8 h8 a9 h9 a16 a19 a20 x0 x1 x4 x5 x6 x7 x8) (ValueIdx.ix2 t n)
      = (r_379 c a1 h1 a2 h2 a5 h5 a6 h6 a7 h7 a8 h8 a9 h9 a16 a19 a20 x0 x1 x4 x5 x6 x7 x8) (ValueIdx.ix2 t n) + T (View.canon (HS0_40 c a1 h1 a2 h2 x0 x1)) x6 x7 x8 ⟨10, by omega⟩ t n :=
  (congrFun (pay_k10 (r_379 c a1 h1 a2 h2 a5 h5 a6 h6 a7 h7 a8 h8 a9 h9 a16 a19 a20 x0 x1 x4 x5 x6 x7 x8) (v1243 c a1 h1 a2 h2 a16 x0 x1)
    (View.readAt (Elt Ideal) a7.view (Rect.unit (s := S160x16x256) ![80, 0, 0] S8x16x256.size inb_S160x16x256_S8x16x256_80_0_0).toLoadRect (h7.unread x6)) (v3421_raw c a5 h5 a8 h8 a19 x4 x7) (v3424_raw c a6 h6 a9 h9 a20 x5 x8)) (ValueIdx.ix2 t n)).trans
  (step_apply ⟨10, by omega⟩ (View.canon (HS0_40 c a1 h1 a2 h2 x0 x1)) x6 x7 x8 _ _ _ _ _ (h_readCov a16 _ 10 (by omega) _) (w_read a7 h7 x6 _ 10 rfl (by omega) _)
    (rows_read a19 a8 h8 x7 _ _ 10 rfl (by omega) _ _ _)
    (rows_read a20 a9 h9 x8 _ _ 10 rfl (by omega) _ _ _) t n)

theorem A_k11 (t : Fin 128) (n : Fin 256) :
    (r_405 c a1 h1 a2 h2 a5 h5 a6 h6 a7 h7 a8 h8 a9 h9 a16 a19 a20 x0 x1 x4 x5 x6 x7 x8) (ValueIdx.ix2 t n)
      = (r_395 c a1 h1 a2 h2 a5 h5 a6 h6 a7 h7 a8 h8 a9 h9 a16 a19 a20 x0 x1 x4 x5 x6 x7 x8) (ValueIdx.ix2 t n) + T (View.canon (HS0_40 c a1 h1 a2 h2 x0 x1)) x6 x7 x8 ⟨11, by omega⟩ t n :=
  (congrFun (pay_k11 (r_395 c a1 h1 a2 h2 a5 h5 a6 h6 a7 h7 a8 h8 a9 h9 a16 a19 a20 x0 x1 x4 x5 x6 x7 x8) (v1354 c a1 h1 a2 h2 a16 x0 x1)
    (View.readAt (Elt Ideal) a7.view (Rect.unit (s := S160x16x256) ![88, 0, 0] S8x16x256.size inb_S160x16x256_S8x16x256_88_0_0).toLoadRect (h7.unread x6)) (v3532_raw c a5 h5 a8 h8 a19 x4 x7) (v3535_raw c a6 h6 a9 h9 a20 x5 x8)) (ValueIdx.ix2 t n)).trans
  (step_apply ⟨11, by omega⟩ (View.canon (HS0_40 c a1 h1 a2 h2 x0 x1)) x6 x7 x8 _ _ _ _ _ (h_readCov a16 _ 11 (by omega) _) (w_read a7 h7 x6 _ 11 rfl (by omega) _)
    (rows_read a19 a8 h8 x7 _ _ 11 rfl (by omega) _ _ _)
    (rows_read a20 a9 h9 x8 _ _ 11 rfl (by omega) _ _ _) t n)

theorem A_k12 (t : Fin 128) (n : Fin 256) :
    (r_419 c a1 h1 a2 h2 a5 h5 a6 h6 a7 h7 a8 h8 a9 h9 a16 a19 a20 x0 x1 x4 x5 x6 x7 x8) (ValueIdx.ix2 t n)
      = (r_405 c a1 h1 a2 h2 a5 h5 a6 h6 a7 h7 a8 h8 a9 h9 a16 a19 a20 x0 x1 x4 x5 x6 x7 x8) (ValueIdx.ix2 t n) + T (View.canon (HS0_40 c a1 h1 a2 h2 x0 x1)) x6 x7 x8 ⟨12, by omega⟩ t n :=
  (congrFun (pay_k12 (r_405 c a1 h1 a2 h2 a5 h5 a6 h6 a7 h7 a8 h8 a9 h9 a16 a19 a20 x0 x1 x4 x5 x6 x7 x8) (v1465 c a1 h1 a2 h2 a16 x0 x1)
    (View.readAt (Elt Ideal) a7.view (Rect.unit (s := S160x16x256) ![96, 0, 0] S8x16x256.size inb_S160x16x256_S8x16x256_96_0_0).toLoadRect (h7.unread x6)) (v3643_raw c a5 h5 a8 h8 a19 x4 x7) (v3646_raw c a6 h6 a9 h9 a20 x5 x8)) (ValueIdx.ix2 t n)).trans
  (step_apply ⟨12, by omega⟩ (View.canon (HS0_40 c a1 h1 a2 h2 x0 x1)) x6 x7 x8 _ _ _ _ _ (h_readCov a16 _ 12 (by omega) _) (w_read a7 h7 x6 _ 12 rfl (by omega) _)
    (rows_read a19 a8 h8 x7 _ _ 12 rfl (by omega) _ _ _)
    (rows_read a20 a9 h9 x8 _ _ 12 rfl (by omega) _ _ _) t n)

theorem A_k13 (t : Fin 128) (n : Fin 256) :
    (r_429 c a1 h1 a2 h2 a5 h5 a6 h6 a7 h7 a8 h8 a9 h9 a16 a19 a20 x0 x1 x4 x5 x6 x7 x8) (ValueIdx.ix2 t n)
      = (r_419 c a1 h1 a2 h2 a5 h5 a6 h6 a7 h7 a8 h8 a9 h9 a16 a19 a20 x0 x1 x4 x5 x6 x7 x8) (ValueIdx.ix2 t n) + T (View.canon (HS0_40 c a1 h1 a2 h2 x0 x1)) x6 x7 x8 ⟨13, by omega⟩ t n :=
  (congrFun (pay_k13 (r_419 c a1 h1 a2 h2 a5 h5 a6 h6 a7 h7 a8 h8 a9 h9 a16 a19 a20 x0 x1 x4 x5 x6 x7 x8) (v1576 c a1 h1 a2 h2 a16 x0 x1)
    (View.readAt (Elt Ideal) a7.view (Rect.unit (s := S160x16x256) ![104, 0, 0] S8x16x256.size inb_S160x16x256_S8x16x256_104_0_0).toLoadRect (h7.unread x6)) (v3754_raw c a5 h5 a8 h8 a19 x4 x7) (v3757_raw c a6 h6 a9 h9 a20 x5 x8)) (ValueIdx.ix2 t n)).trans
  (step_apply ⟨13, by omega⟩ (View.canon (HS0_40 c a1 h1 a2 h2 x0 x1)) x6 x7 x8 _ _ _ _ _ (h_readCov a16 _ 13 (by omega) _) (w_read a7 h7 x6 _ 13 rfl (by omega) _)
    (rows_read a19 a8 h8 x7 _ _ 13 rfl (by omega) _ _ _)
    (rows_read a20 a9 h9 x8 _ _ 13 rfl (by omega) _ _ _) t n)

theorem A_k14 (t : Fin 128) (n : Fin 256) :
    (r_439 c a1 h1 a2 h2 a5 h5 a6 h6 a7 h7 a8 h8 a9 h9 a16 a19 a20 x0 x1 x4 x5 x6 x7 x8) (ValueIdx.ix2 t n)
      = (r_429 c a1 h1 a2 h2 a5 h5 a6 h6 a7 h7 a8 h8 a9 h9 a16 a19 a20 x0 x1 x4 x5 x6 x7 x8) (ValueIdx.ix2 t n) + T (View.canon (HS0_40 c a1 h1 a2 h2 x0 x1)) x6 x7 x8 ⟨14, by omega⟩ t n :=
  (congrFun (pay_k14 (r_429 c a1 h1 a2 h2 a5 h5 a6 h6 a7 h7 a8 h8 a9 h9 a16 a19 a20 x0 x1 x4 x5 x6 x7 x8) (v1687 c a1 h1 a2 h2 a16 x0 x1)
    (View.readAt (Elt Ideal) a7.view (Rect.unit (s := S160x16x256) ![112, 0, 0] S8x16x256.size inb_S160x16x256_S8x16x256_112_0_0).toLoadRect (h7.unread x6)) (v3865_raw c a5 h5 a8 h8 a19 x4 x7) (v3868_raw c a6 h6 a9 h9 a20 x5 x8)) (ValueIdx.ix2 t n)).trans
  (step_apply ⟨14, by omega⟩ (View.canon (HS0_40 c a1 h1 a2 h2 x0 x1)) x6 x7 x8 _ _ _ _ _ (h_readCov a16 _ 14 (by omega) _) (w_read a7 h7 x6 _ 14 rfl (by omega) _)
    (rows_read a19 a8 h8 x7 _ _ 14 rfl (by omega) _ _ _)
    (rows_read a20 a9 h9 x8 _ _ 14 rfl (by omega) _ _ _) t n)

theorem A_k15 (t : Fin 128) (n : Fin 256) :
    (r_455 c a1 h1 a2 h2 a5 h5 a6 h6 a7 h7 a8 h8 a9 h9 a16 a19 a20 x0 x1 x4 x5 x6 x7 x8) (ValueIdx.ix2 t n)
      = (r_439 c a1 h1 a2 h2 a5 h5 a6 h6 a7 h7 a8 h8 a9 h9 a16 a19 a20 x0 x1 x4 x5 x6 x7 x8) (ValueIdx.ix2 t n) + T (View.canon (HS0_40 c a1 h1 a2 h2 x0 x1)) x6 x7 x8 ⟨15, by omega⟩ t n :=
  (congrFun (pay_k15 (r_439 c a1 h1 a2 h2 a5 h5 a6 h6 a7 h7 a8 h8 a9 h9 a16 a19 a20 x0 x1 x4 x5 x6 x7 x8) (v1798 c a1 h1 a2 h2 a16 x0 x1)
    (View.readAt (Elt Ideal) a7.view (Rect.unit (s := S160x16x256) ![120, 0, 0] S8x16x256.size inb_S160x16x256_S8x16x256_120_0_0).toLoadRect (h7.unread x6)) (v3976_raw c a5 h5 a8 h8 a19 x4 x7) (v3979_raw c a6 h6 a9 h9 a20 x5 x8)) (ValueIdx.ix2 t n)).trans
  (step_apply ⟨15, by omega⟩ (View.canon (HS0_40 c a1 h1 a2 h2 x0 x1)) x6 x7 x8 _ _ _ _ _ (h_readCov a16 _ 15 (by omega) _) (w_read a7 h7 x6 _ 15 rfl (by omega) _)
    (rows_read a19 a8 h8 x7 _ _ 15 rfl (by omega) _ _ _)
    (rows_read a20 a9 h9 x8 _ _ 15 rfl (by omega) _ _ _) t n)

theorem A_k16 (t : Fin 128) (n : Fin 256) :
    (r_465 c a1 h1 a2 h2 a5 h5 a6 h6 a7 h7 a8 h8 a9 h9 a16 a19 a20 x0 x1 x4 x5 x6 x7 x8) (ValueIdx.ix2 t n)
      = (r_455 c a1 h1 a2 h2 a5 h5 a6 h6 a7 h7 a8 h8 a9 h9 a16 a19 a20 x0 x1 x4 x5 x6 x7 x8) (ValueIdx.ix2 t n) + T (View.canon (HS0_40 c a1 h1 a2 h2 x0 x1)) x6 x7 x8 ⟨16, by omega⟩ t n :=
  (congrFun (pay_k16 (r_455 c a1 h1 a2 h2 a5 h5 a6 h6 a7 h7 a8 h8 a9 h9 a16 a19 a20 x0 x1 x4 x5 x6 x7 x8) (v1909 c a1 h1 a2 h2 a16 x0 x1)
    (View.readAt (Elt Ideal) a7.view (Rect.unit (s := S160x16x256) ![128, 0, 0] S8x16x256.size inb_S160x16x256_S8x16x256_128_0_0).toLoadRect (h7.unread x6)) (v4087_raw c a5 h5 a8 h8 a19 x4 x7) (v4090_raw c a6 h6 a9 h9 a20 x5 x8)) (ValueIdx.ix2 t n)).trans
  (step_apply ⟨16, by omega⟩ (View.canon (HS0_40 c a1 h1 a2 h2 x0 x1)) x6 x7 x8 _ _ _ _ _ (h_readCov a16 _ 16 (by omega) _) (w_read a7 h7 x6 _ 16 rfl (by omega) _)
    (rows_read a19 a8 h8 x7 _ _ 16 rfl (by omega) _ _ _)
    (rows_read a20 a9 h9 x8 _ _ 16 rfl (by omega) _ _ _) t n)

theorem A_k17 (t : Fin 128) (n : Fin 256) :
    (r_479 c a1 h1 a2 h2 a5 h5 a6 h6 a7 h7 a8 h8 a9 h9 a16 a19 a20 x0 x1 x4 x5 x6 x7 x8) (ValueIdx.ix2 t n)
      = (r_465 c a1 h1 a2 h2 a5 h5 a6 h6 a7 h7 a8 h8 a9 h9 a16 a19 a20 x0 x1 x4 x5 x6 x7 x8) (ValueIdx.ix2 t n) + T (View.canon (HS0_40 c a1 h1 a2 h2 x0 x1)) x6 x7 x8 ⟨17, by omega⟩ t n :=
  (congrFun (pay_k17 (r_465 c a1 h1 a2 h2 a5 h5 a6 h6 a7 h7 a8 h8 a9 h9 a16 a19 a20 x0 x1 x4 x5 x6 x7 x8) (v2020 c a1 h1 a2 h2 a16 x0 x1)
    (View.readAt (Elt Ideal) a7.view (Rect.unit (s := S160x16x256) ![136, 0, 0] S8x16x256.size inb_S160x16x256_S8x16x256_136_0_0).toLoadRect (h7.unread x6)) (v4198_raw c a5 h5 a8 h8 a19 x4 x7) (v4201_raw c a6 h6 a9 h9 a20 x5 x8)) (ValueIdx.ix2 t n)).trans
  (step_apply ⟨17, by omega⟩ (View.canon (HS0_40 c a1 h1 a2 h2 x0 x1)) x6 x7 x8 _ _ _ _ _ (h_readCov a16 _ 17 (by omega) _) (w_read a7 h7 x6 _ 17 rfl (by omega) _)
    (rows_read a19 a8 h8 x7 _ _ 17 rfl (by omega) _ _ _)
    (rows_read a20 a9 h9 x8 _ _ 17 rfl (by omega) _ _ _) t n)

theorem A_k18 (t : Fin 128) (n : Fin 256) :
    (r_489 c a1 h1 a2 h2 a5 h5 a6 h6 a7 h7 a8 h8 a9 h9 a16 a19 a20 x0 x1 x4 x5 x6 x7 x8) (ValueIdx.ix2 t n)
      = (r_479 c a1 h1 a2 h2 a5 h5 a6 h6 a7 h7 a8 h8 a9 h9 a16 a19 a20 x0 x1 x4 x5 x6 x7 x8) (ValueIdx.ix2 t n) + T (View.canon (HS0_40 c a1 h1 a2 h2 x0 x1)) x6 x7 x8 ⟨18, by omega⟩ t n :=
  (congrFun (pay_k18 (r_479 c a1 h1 a2 h2 a5 h5 a6 h6 a7 h7 a8 h8 a9 h9 a16 a19 a20 x0 x1 x4 x5 x6 x7 x8) (v2131 c a1 h1 a2 h2 a16 x0 x1)
    (View.readAt (Elt Ideal) a7.view (Rect.unit (s := S160x16x256) ![144, 0, 0] S8x16x256.size inb_S160x16x256_S8x16x256_144_0_0).toLoadRect (h7.unread x6)) (v4309_raw c a5 h5 a8 h8 a19 x4 x7) (v4312_raw c a6 h6 a9 h9 a20 x5 x8)) (ValueIdx.ix2 t n)).trans
  (step_apply ⟨18, by omega⟩ (View.canon (HS0_40 c a1 h1 a2 h2 x0 x1)) x6 x7 x8 _ _ _ _ _ (h_readCov a16 _ 18 (by omega) _) (w_read a7 h7 x6 _ 18 rfl (by omega) _)
    (rows_read a19 a8 h8 x7 _ _ 18 rfl (by omega) _ _ _)
    (rows_read a20 a9 h9 x8 _ _ 18 rfl (by omega) _ _ _) t n)

theorem A_k19 (t : Fin 128) (n : Fin 256) :
    (r_499 c a1 h1 a2 h2 a5 h5 a6 h6 a7 h7 a8 h8 a9 h9 a16 a19 a20 x0 x1 x4 x5 x6 x7 x8) (ValueIdx.ix2 t n)
      = (r_489 c a1 h1 a2 h2 a5 h5 a6 h6 a7 h7 a8 h8 a9 h9 a16 a19 a20 x0 x1 x4 x5 x6 x7 x8) (ValueIdx.ix2 t n) + T (View.canon (HS0_40 c a1 h1 a2 h2 x0 x1)) x6 x7 x8 ⟨19, by omega⟩ t n :=
  (congrFun (pay_k19 (r_489 c a1 h1 a2 h2 a5 h5 a6 h6 a7 h7 a8 h8 a9 h9 a16 a19 a20 x0 x1 x4 x5 x6 x7 x8) (v2242 c a1 h1 a2 h2 a16 x0 x1)
    (View.readAt (Elt Ideal) a7.view (Rect.unit (s := S160x16x256) ![152, 0, 0] S8x16x256.size inb_S160x16x256_S8x16x256_152_0_0).toLoadRect (h7.unread x6)) (v4420_raw c a5 h5 a8 h8 a19 x4 x7) (v4423_raw c a6 h6 a9 h9 a20 x5 x8)) (ValueIdx.ix2 t n)).trans
  (step_apply ⟨19, by omega⟩ (View.canon (HS0_40 c a1 h1 a2 h2 x0 x1)) x6 x7 x8 _ _ _ _ _ (h_readCov a16 _ 19 (by omega) _) (w_read a7 h7 x6 _ 19 rfl (by omega) _)
    (rows_read a19 a8 h8 x7 _ _ 19 rfl (by omega) _ _ _)
    (rows_read a20 a9 h9 x8 _ _ 19 rfl (by omega) _ _ _) t n)

end Cert.KernelIdeal.Val

end
-- ==== Proof.TilesAv.lean ====
/- Case A: the accumulator after each tile, at an index, is the one before plus what the tile adds. -/
module

public import proofs.«01_k».proof.Proof.Tiles
public import proofs.«01_k».proof.Proof.Gen.KernelIdeal.Frame.RunB
import all proofs.«01_k».proof.Proof.Gen.KernelIdeal.Frame.RunB
import all proofs.«01_k».proof.Proof.Gen.KernelIdeal.Frame.RunA

@[expose] public section

set_option maxRecDepth 65536
set_option maxHeartbeats 4000000

noncomputable section

namespace Cert.KernelIdeal.Val

open Cert.KernelIdeal Cert.KernelIdeal.Gen.kernelRun0_A.sl Cert.KernelIdeal.Gen Idealize.ShloMosaic Cert.Spec

variable (c : Dev nD)
variable (a1 : Memref sig .tc .vmem S128x5120 .bf16) (h1 : a1.IsWhole) (a2 : Memref sig .tc .vmem S1x5120 .bf16) (h2 : a2.IsWhole) (a3 : Memref sig .tc .vmem S1x128 .i32) (h3 : a3.IsWhole)
variable (a4 : Memref sig .tc .vmem S160x16x256 .i8) (h4 : a4.IsWhole) (a5 : Memref sig .tc .vmem S160x256 .bf16) (h5 : a5.IsWhole) (a6 : Memref sig .tc .vmem S160x256 .bf16) (h6 : a6.IsWhole)
variable (a7 : Memref sig .tc .vmem S160x16x256 .i8) (h7 : a7.IsWhole) (a8 : Memref sig .tc .vmem S160x256 .bf16) (h8 : a8.IsWhole) (a9 : Memref sig .tc .vmem S160x256 .bf16) (h9 : a9.IsWhole)
variable (a10 : Memref sig .tc .vmem S160x16x256 .i8) (h10 : a10.IsWhole) (a11 : Memref sig .tc .vmem S160x256 .bf16) (h11 : a11.IsWhole) (a12 : Memref sig .tc .vmem S160x256 .bf16) (h12 : a12.IsWhole)
variable (a16 : Memref sig .tc .vmem S20x128x256 .bf16) (h16 : a16.IsWhole) (a17 : Memref sig .tc .vmem S128x128 .f32) (h17 : a17.IsWhole) (a18 : Memref sig .tc .vmem S128x128 .f32) (h18 : a18.IsWhole)
  (a19 : Memref sig .tc .vmem S20x8x2x256 .bf16) (a20 : Memref sig .tc .vmem S20x8x2x256 .bf16)
variable (x0 : Vec Ideal S128x5120 .bf16) (x1 : Vec Ideal S1x5120 .bf16) (x2 : Vec Ideal S1x128 .i32)
  (x3 x6 x9 : Vec Ideal S160x16x256 .i8) (x4 x5 x7 x8 x10 x11 : Vec Ideal S160x256 .bf16)
  (xs0 : Vec Ideal S20x128x256 .bf16) (xs1 xs2 : Vec Ideal S128x128 .f32)

theorem A_v0 (t : Fin 128) (n : Fin 256) :
    (r_517 c a1 h1 a2 h2 a5 h5 a6 h6 a8 h8 a9 h9 a10 h10 a11 h11 a12 h12 a16 a19 a20 x0 x1 x4 x5 x7 x8 x9 x10 x11) (ValueIdx.ix2 t n)
      = (k0_pay667) (ValueIdx.ix2 t n) + T (View.canon (HS0_40 c a1 h1 a2 h2 x0 x1)) x9 x10 x11 ⟨0, by omega⟩ t n :=
  (congrFun (pay_v0 (k0_pay667) (v133 c a1 h1 a2 h2 a16 x0 x1)
    (View.readAt (Elt Ideal) a10.view (Rect.unit (s := S160x16x256) ![0, 0, 0] S8x16x256.size inb_S160x16x256_S8x16x256_0_0_0).toLoadRect (h10.unread x9)) (v4568_raw c a5 h5 a8 h8 a11 h11 a19 x4 x7 x10) (v4571_raw c a6 h6 a9 h9 a12 h12 a20 x5 x8 x11)) (ValueIdx.ix2 t n)).trans
  (step_apply ⟨0, by omega⟩ (View.canon (HS0_40 c a1 h1 a2 h2 x0 x1)) x9 x10 x11 _ _ _ _ _ (h_readCov a16 _ 0 (by omega) _) (w_read a10 h10 x9 _ 0 rfl (by omega) _)
    (rows_read a19 a11 h11 x10 _ _ 0 rfl (by omega) _ _ _)
    (rows_read a20 a12 h12 x11 _ _ 0 rfl (by omega) _ _ _) t n)

theorem A_v1 (t : Fin 128) (n : Fin 256) :
    (r_529 c a1 h1 a2 h2 a5 h5 a6 h6 a8 h8 a9 h9 a10 h10 a11 h11 a12 h12 a16 a19 a20 x0 x1 x4 x5 x7 x8 x9 x10 x11) (ValueIdx.ix2 t n)
      = (r_517 c a1 h1 a2 h2 a5 h5 a6 h6 a8 h8 a9 h9 a10 h10 a11 h11 a12 h12 a16 a19 a20 x0 x1 x4 x5 x7 x8 x9 x10 x11) (ValueIdx.ix2 t n) + T (View.canon (HS0_40 c a1 h1 a2 h2 x0 x1)) x9 x10 x11 ⟨1, by omega⟩ t n :=
  (congrFun (pay_v1 (r_517 c a1 h1 a2 h2 a5 h5 a6 h6 a8 h8 a9 h9 a10 h10 a11 h11 a12 h12 a16 a19 a20 x0 x1 x4 x5 x7 x8 x9 x10 x11) (v244 c a1 h1 a2 h2 a16 x0 x1)
    (View.readAt (Elt Ideal) a10.view (Rect.unit (s := S160x16x256) ![8, 0, 0] S8x16x256.size inb_S160x16x256_S8x16x256_8_0_0).toLoadRect (h10.unread x9)) (v4679_raw c a5 h5 a8 h8 a11 h11 a19 x4 x7 x10) (v4682_raw c a6 h6 a9 h9 a12 h12 a20 x5 x8 x11)) (ValueIdx.ix2 t n)).trans
  (step_apply ⟨1, by omega⟩ (View.canon (HS0_40 c a1 h1 a2 h2 x0 x1)) x9 x10 x11 _ _ _ _ _ (h_readCov a16 _ 1 (by omega) _) (w_read a10 h10 x9 _ 1 rfl (by omega) _)
    (rows_read a19 a11 h11 x10 _ _ 1 rfl (by omega) _ _ _)
    (rows_read a20 a12 h12 x11 _ _ 1 rfl (by omega) _ _ _) t n)

theorem A_v2 (t : Fin 128) (n : Fin 256) :
    (r_547 c a1 h1 a2 h2 a5 h5 a6 h6 a8 h8 a9 h9 a10 h10 a11 h11 a12 h12 a16 a19 a20 x0 x1 x4 x5 x7 x8 x9 x10 x11) (ValueIdx.ix2 t n)
      = (r_529 c a1 h1 a2 h2 a5 h5 a6 h6 a8 h8 a9 h9 a10 h10 a11 h11 a12 h12 a16 a19 a20 x0 x1 x4 x5 x7 x8 x9 x10 x11) (ValueIdx.ix2 t n) + T (View.canon (HS0_40 c a1 h1 a2 h2 x0 x1)) x9 x10 x11 ⟨2, by omega⟩ t n :=
  (congrFun (pay_v2 (r_529 c a1 h1 a2 h2 a5 h5 a6 h6 a8 h8 a9 h9 a10 h10 a11 h11 a12 h12 a16 a19 a20 x0 x1 x4 x5 x7 x8 x9 x10 x11) (v355 c a1 h1 a2 h2 a16 x0 x1)
    (View.readAt (Elt Ideal) a10.view (Rect.unit (s := S160x16x256) ![16, 0, 0] S8x16x256.size inb_S160x16x256_S8x16x256_16_0_0).toLoadRect (h10.unread x9)) (v4790_raw c a5 h5 a8 h8 a11 h11 a19 x4 x7 x10) (v4793_raw c a6 h6 a9 h9 a12 h12 a20 x5 x8 x11)) (ValueIdx.ix2 t n)).trans
  (step_apply ⟨2, by omega⟩ (View.canon (HS0_40 c a1 h1 a2 h2 x0 x1)) x9 x10 x11 _ _ _ _ _ (h_readCov a16 _ 2 (by omega) _) (w_read a10 h10 x9 _ 2 rfl (by omega) _)
    (rows_read a19 a11 h11 x10 _ _ 2 rfl (by omega) _ _ _)
    (rows_read a20 a12 h12 x11 _ _ 2 rfl (by omega) _ _ _) t n)

theorem A_v3 (t : Fin 128) (n : Fin 256) :
    (r_556 c a1 h1 a2 h2 a5 h5 a6 h6 a8 h8 a9 h9 a10 h10 a11 h11 a12 h12 a16 a19 a20 x0 x1 x4 x5 x7 x8 x9 x10 x11) (ValueIdx.ix2 t n)
      = (r_547 c a1 h1 a2 h2 a5 h5 a6 h6 a8 h8 a9 h9 a10 h10 a11 h11 a12 h12 a16 a19 a20 x0 x1 x4 x5 x7 x8 x9 x10 x11) (ValueIdx.ix2 t n) + T (View.canon (HS0_40 c a1 h1 a2 h2 x0 x1)) x9 x10 x11 ⟨3, by omega⟩ t n :=
  (congrFun (pay_v3 (r_547 c a1 h1 a2 h2 a5 h5 a6 h6 a8 h8 a9 h9 a10 h10 a11 h11 a12 h12 a16 a19 a20 x0 x1 x4 x5 x7 x8 x9 x10 x11) (v466 c a1 h1 a2 h2 a16 x0 x1)
    (View.readAt (Elt Ideal) a10.view (Rect.unit (s := S160x16x256) ![24, 0, 0] S8x16x256.size inb_S160x16x256_S8x16x256_24_0_0).toLoadRect (h10.unread x9)) (v4901_raw c a5 h5 a8 h8 a11 h11 a19 x4 x7 x10) (v4904_raw c a6 h6 a9 h9 a12 h12 a20 x5 x8 x11)) (ValueIdx.ix2 t n)).trans
  (step_apply ⟨3, by omega⟩ (View.canon (HS0_40 c a1 h1 a2 h2 x0 x1)) x9 x10 x11 _ _ _ _ _ (h_readCov a16 _ 3 (by omega) _) (w_read a10 h10 x9 _ 3 rfl (by omega) _)
    (rows_read a19 a11 h11 x10 _ _ 3 rfl (by omega) _ _ _)
    (rows_read a20 a12 h12 x11 _ _ 3 rfl (by omega) _ _ _) t n)

theorem A_v4 (t : Fin 128) (n : Fin 256) :
    (r_566 c a1 h1 a2 h2 a5 h5 a6 h6 a8 h8 a9 h9 a10 h10 a11 h11 a12 h12 a16 a19 a20 x0 x1 x4 x5 x7 x8 x9 x10 x11) (ValueIdx.ix2 t n)
      = (r_556 c a1 h1 a2 h2 a5 h5 a6 h6 a8 h8 a9 h9 a10 h10 a11 h11 a12 h12 a16 a19 a20 x0 x1 x4 x5 x7 x8 x9 x10 x11) (ValueIdx.ix2 t n) + T (View.canon (HS0_40 c a1 h1 a2 h2 x0 x1)) x9 x10 x11 ⟨4, by omega⟩ t n :=
  (congrFun (pay_v4 (r_556 c a1 h1 a2 h2 a5 h5 a6 h6 a8 h8 a9 h9 a10 h10 a11 h11 a12 h12 a16 a19 a20 x0 x1 x4 x5 x7 x8 x9 x10 x11) (v577 c a1 h1 a2 h2 a16 x0 x1)
    (View.readAt (Elt Ideal) a10.view (Rect.unit (s := S160x16x256) ![32, 0, 0] S8x16x256.size inb_S160x16x256_S8x16x256_32_0_0).toLoadRect (h10.unread x9)) (v5012_raw c a5 h5 a8 h8 a11 h11 a19 x4 x7 x10) (v5015_raw c a6 h6 a9 h9 a12 h12 a20 x5 x8 x11)) (ValueIdx.ix2 t n)).trans
  (step_apply ⟨4, by omega⟩ (View.canon (HS0_40 c a1 h1 a2 h2 x0 x1)) x9 x10 x11 _ _ _ _ _ (h_readCov a16 _ 4 (by omega) _) (w_read a10 h10 x9 _ 4 rfl (by omega) _)
    (rows_read a19 a11 h11 x10 _ _ 4 rfl (by omega) _ _ _)
    (rows_read a20 a12 h12 x11 _ _ 4 rfl (by omega) _ _ _) t n)

theorem A_v5 (t : Fin 128) (n : Fin 256) :
    (r_583 c a1 h1 a2 h2 a5 h5 a6 h6 a8 h8 a9 h9 a10 h10 a11 h11 a12 h12 a16 a19 a20 x0 x1 x4 x5 x7 x8 x9 x10 x11) (ValueIdx.ix2 t n)
      = (r_566 c a1 h1 a2 h2 a5 h5 a6 h6 a8 h8 a9 h9 a10 h10 a11 h11 a12 h12 a16 a19 a20 x0 x1 x4 x5 x7 x8 x9 x10 x11) (ValueIdx.ix2 t n) + T (View.canon (HS0_40 c a1 h1 a2 h2 x0 x1)) x9 x10 x11 ⟨5, by omega⟩ t n :=
  (congrFun (pay_v5 (r_566 c a1 h1 a2 h2 a5 h5 a6 h6 a8 h8 a9 h9 a10 h10 a11 h11 a12 h12 a16 a19 a20 x0 x1 x4 x5 x7 x8 x9 x10 x11) (v688 c a1 h1 a2 h2 a16 x0 x1)
    (View.readAt (Elt Ideal) a10.view (Rect.unit (s := S160x16x256) ![40, 0, 0] S8x16x256.size inb_S160x16x256_S8x16x256_40_0_0).toLoadRect (h10.unread x9)) (v5123_raw c a5 h5 a8 h8 a11 h11 a19 x4 x7 x10) (v5126_raw c a6 h6 a9 h9 a12 h12 a20 x5 x8 x11)) (ValueIdx.ix2 t n)).trans
  (step_apply ⟨5, by omega⟩ (View.canon (HS0_40 c a1 h1 a2 h2 x0 x1)) x9 x10 x11 _ _ _ _ _ (h_readCov a16 _ 5 (by omega) _) (w_read a10 h10 x9 _ 5 rfl (by omega) _)
    (rows_read a19 a11 h11 x10 _ _ 5 rfl (by omega) _ _ _)
    (rows_read a20 a12 h12 x11 _ _ 5 rfl (by omega) _ _ _) t n)

theorem A_v6 (t : Fin 128) (n : Fin 256) :
    (r_595 c a1 h1 a2 h2 a5 h5 a6 h6 a8 h8 a9 h9 a10 h10 a11 h11 a12 h12 a16 a19 a20 x0 x1 x4 x5 x7 x8 x9 x10 x11) (ValueIdx.ix2 t n)
      = (r_583 c a1 h1 a2 h2 a5 h5 a6 h6 a8 h8 a9 h9 a10 h10 a11 h11 a12 h12 a16 a19 a20 x0 x1 x4 x5 x7 x8 x9 x10 x11) (ValueIdx.ix2 t n) + T (View.canon (HS0_40 c a1 h1 a2 h2 x0 x1)) x9 x10 x11 ⟨6, by omega⟩ t n :=
  (congrFun (pay_v6 (r_583 c a1 h1 a2 h2 a5 h5 a6 h6 a8 h8 a9 h9 a10 h10 a11 h11 a12 h12 a16 a19 a20 x0 x1 x4 x5 x7 x8 x9 x10 x11) (v799 c a1 h1 a2 h2 a16 x0 x1)
    (View.readAt (Elt Ideal) a10.view (Rect.unit (s := S160x16x256) ![48, 0, 0] S8x16x256.size inb_S160x16x256_S8x16x256_48_0_0).toLoadRect (h10.unread x9)) (v5234_raw c a5 h5 a8 h8 a11 h11 a19 x4 x7 x10) (v5237_raw c a6 h6 a9 h9 a12 h12 a20 x5 x8 x11)) (ValueIdx.ix2 t n)).trans
  (step_apply ⟨6, by omega⟩ (View.canon (HS0_40 c a1 h1 a2 h2 x0 x1)) x9 x10 x11 _ _ _ _ _ (h_readCov a16 _ 6 (by omega) _) (w_read a10 h10 x9 _ 6 rfl (by omega) _)
    (rows_read a19 a11 h11 x10 _ _ 6 rfl (by omega) _ _ _)
    (rows_read a20 a12 h12 x11 _ _ 6 rfl (by omega) _ _ _) t n)

theorem A_v7 (t : Fin 128) (n : Fin 256) :
    (r_613 c a1 h1 a2 h2 a5 h5 a6 h6 a8 h8 a9 h9 a10 h10 a11 h11 a12 h12 a16 a19 a20 x0 x1 x4 x5 x7 x8 x9 x10 x11) (ValueIdx.ix2 t n)
      = (r_595 c a1 h1 a2 h2 a5 h5 a6 h6 a8 h8 a9 h9 a10 h10 a11 h11 a12 h12 a16 a19 a20 x0 x1 x4 x5 x7 x8 x9 x10 x11) (ValueIdx.ix2 t n) + T (View.canon (HS0_40 c a1 h1 a2 h2 x0 x1)) x9 x10 x11 ⟨7, by omega⟩ t n :=
  (congrFun (pay_v7 (r_595 c a1 h1 a2 h2 a5 h5 a6 h6 a8 h8 a9 h9 a10 h10 a11 h11 a12 h12 a16 a19 a20 x0 x1 x4 x5 x7 x8 x9 x10 x11) (v910 c a1 h1 a2 h2 a16 x0 x1)
    (View.readAt (Elt Ideal) a10.view (Rect.unit (s := S160x16x256) ![56, 0, 0] S8x16x256.size inb_S160x16x256_S8x16x256_56_0_0).toLoadRect (h10.unread x9)) (v5345_raw c a5 h5 a8 h8 a11 h11 a19 x4 x7 x10) (v5348_raw c a6 h6 a9 h9 a12 h12 a20 x5 x8 x11)) (ValueIdx.ix2 t n)).trans
  (step_apply ⟨7, by omega⟩ (View.canon (HS0_40 c a1 h1 a2 h2 x0 x1)) x9 x10 x11 _ _ _ _ _ (h_readCov a16 _ 7 (by omega) _) (w_read a10 h10 x9 _ 7 rfl (by omega) _)
    (rows_read a19 a11 h11 x10 _ _ 7 rfl (by omega) _ _ _)
    (rows_read a20 a12 h12 x11 _ _ 7 rfl (by omega) _ _ _) t n)

theorem A_v8 (t : Fin 128) (n : Fin 256) :
    (r_622 c a1 h1 a2 h2 a5 h5 a6 h6 a8 h8 a9 h9 a10 h10 a11 h11 a12 h12 a16 a19 a20 x0 x1 x4 x5 x7 x8 x9 x10 x11) (ValueIdx.ix2 t n)
      = (r_613 c a1 h1 a2 h2 a5 h5 a6 h6 a8 h8 a9 h9 a10 h10 a11 h11 a12 h12 a16 a19 a20 x0 x1 x4 x5 x7 x8 x9 x10 x11) (ValueIdx.ix2 t n) + T (View.canon (HS0_40 c a1 h1 a2 h2 x0 x1)) x9 x10 x11 ⟨8, by omega⟩ t n :=
  (congrFun (pay_v8 (r_613 c a1 h1 a2 h2 a5 h5 a6 h6 a8 h8 a9 h9 a10 h10 a11 h11 a12 h12 a16 a19 a20 x0 x1 x4 x5 x7 x8 x9 x10 x11) (v1021 c a1 h1 a2 h2 a16 x0 x1)
    (View.readAt (Elt Ideal) a10.view (Rect.unit (s := S160x16x256) ![64, 0, 0] S8x16x256.size inb_S160x16x256_S8x16x256_64_0_0).toLoadRect (h10.unread x9)) (v5456_raw c a5 h5 a8 h8 a11 h11 a19 x4 x7 x10) (v5459_raw c a6 h6 a9 h9 a12 h12 a20 x5 x8 x11)) (ValueIdx.ix2 t n)).trans
  (step_apply ⟨8, by omega⟩ (View.canon (HS0_40 c a1 h1 a2 h2 x0 x1)) x9 x10 x11 _ _ _ _ _ (h_readCov a16 _ 8 (by omega) _) (w_read a10 h10 x9 _ 8 rfl (by omega) _)
    (rows_read a19 a11 h11 x10 _ _ 8 rfl (by omega) _ _ _)
    (rows_read a20 a12 h12 x11 _ _ 8 rfl (by omega) _ _ _) t n)

theorem A_v9 (t : Fin 128) (n : Fin 256) :
    (r_632 c a1 h1 a2 h2 a5 h5 a6 h6 a8 h8 a9 h9 a10 h10 a11 h11 a12 h12 a16 a19 a20 x0 x1 x4 x5 x7 x8 x9 x10 x11) (ValueIdx.ix2 t n)
      = (r_622 c a1 h1 a2 h2 a5 h5 a6 h6 a8 h8 a9 h9 a10 h10 a11 h11 a12 h12 a16 a19 a20 x0 x1 x4 x5 x7 x8 x9 x10 x11) (ValueIdx.ix2 t n) + T (View.canon (HS0_40 c a1 h1 a2 h2 x0 x1)) x9 x10 x11 ⟨9, by omega⟩ t n :=
  (congrFun (pay_v9 (r_622 c a1 h1 a2 h2 a5 h5 a6 h6 a8 h8 a9 h9 a10 h10 a11 h11 a12 h12 a16 a19 a20 x0 x1 x4 x5 x7 x8 x9 x10 x11) (v1132 c a1 h1 a2 h2 a16 x0 x1)
    (View.readAt (Elt Ideal) a10.view (Rect.unit (s := S160x16x256) ![72, 0, 0] S8x16x256.size inb_S160x16x256_S8x16x256_72_0_0).toLoadRect (h10.unread x9)) (v5567_raw c a5 h5 a8 h8 a11 h11 a19 x4 x7 x10) (v5570_raw c a6 h6 a9 h9 a12 h12 a20 x5 x8 x11)) (ValueIdx.ix2 t n)).trans
  (step_apply ⟨9, by omega⟩ (View.canon (HS0_40 c a1 h1 a2 h2 x0 x1)) x9 x10 x11 _ _ _ _ _ (h_readCov a16 _ 9 (by omega) _) (w_read a10 h10 x9 _ 9 rfl (by omega) _)
    (rows_read a19 a11 h11 x10 _ _ 9 rfl (by omega) _ _ _)
    (rows_read a20 a12 h12 x11 _ _ 9 rfl (by omega) _ _ _) t n)

theorem A_v10 (t : Fin 128) (n : Fin 256) :
    (r_649 c a1 h1 a2 h2 a5 h5 a6 h6 a8 h8 a9 h9 a10 h10 a11 h11 a12 h12 a16 a19 a20 x0 x1 x4 x5 x7 x8 x9 x10 x11) (ValueIdx.ix2 t n)
      = (r_632 c a1 h1 a2 h2 a5 h5 a6 h6 a8 h8 a9 h9 a10 h10 a11 h11 a12 h12 a16 a19 a20 x0 x1 x4 x5 x7 x8 x9 x10 x11) (ValueIdx.ix2 t n) + T (View.canon (HS0_40 c a1 h1 a2 h2 x0 x1)) x9 x10 x11 ⟨10, by omega⟩ t n :=
  (congrFun (pay_v10 (r_632 c a1 h1 a2 h2 a5 h5 a6 h6 a8 h8 a9 h9 a10 h10 a11 h11 a12 h12 a16 a19 a20 x0 x1 x4 x5 x7 x8 x9 x10 x11) (v1243 c a1 h1 a2 h2 a16 x0 x1)
    (View.readAt (Elt Ideal) a10.view (Rect.unit (s := S160x16x256) ![80, 0, 0] S8x16x256.size inb_S160x16x256_S8x16x256_80_0_0).toLoadRect (h10.unread x9)) (v5678_raw c a5 h5 a8 h8 a11 h11 a19 x4 x7 x10) (v5681_raw c a6 h6 a9 h9 a12 h12 a20 x5 x8 x11)) (ValueIdx.ix2 t n)).trans
  (step_apply ⟨10, by omega⟩ (View.canon (HS0_40 c a1 h1 a2 h2 x0 x1)) x9 x10 x11 _ _ _ _ _ (h_readCov a16 _ 10 (by omega) _) (w_read a10 h10 x9 _ 10 rfl (by omega) _)
    (rows_read a19 a11 h11 x10 _ _ 10 rfl (by omega) _ _ _)
    (rows_read a20 a12 h12 x11 _ _ 10 rfl (by omega) _ _ _) t n)

theorem A_v11 (t : Fin 128) (n : Fin 256) :
    (r_661 c a1 h1 a2 h2 a5 h5 a6 h6 a8 h8 a9 h9 a10 h10 a11 h11 a12 h12 a16 a19 a20 x0 x1 x4 x5 x7 x8 x9 x10 x11) (ValueIdx.ix2 t n)
      = (r_649 c a1 h1 a2 h2 a5 h5 a6 h6 a8 h8 a9 h9 a10 h10 a11 h11 a12 h12 a16 a19 a20 x0 x1 x4 x5 x7 x8 x9 x10 x11) (ValueIdx.ix2 t n) + T (View.canon (HS0_40 c a1 h1 a2 h2 x0 x1)) x9 x10 x11 ⟨11, by omega⟩ t n :=
  (congrFun (pay_v11 (r_649 c a1 h1 a2 h2 a5 h5 a6 h6 a8 h8 a9 h9 a10 h10 a11 h11 a12 h12 a16 a19 a20 x0 x1 x4 x5 x7 x8 x9 x10 x11) (v1354 c a1 h1 a2 h2 a16 x0 x1)
    (View.readAt (Elt Ideal) a10.view (Rect.unit (s := S160x16x256) ![88, 0, 0] S8x16x256.size inb_S160x16x256_S8x16x256_88_0_0).toLoadRect (h10.unread x9)) (v5789_raw c a5 h5 a8 h8 a11 h11 a19 x4 x7 x10) (v5792_raw c a6 h6 a9 h9 a12 h12 a20 x5 x8 x11)) (ValueIdx.ix2 t n)).trans
  (step_apply ⟨11, by omega⟩ (View.canon (HS0_40 c a1 h1 a2 h2 x0 x1)) x9 x10 x11 _ _ _ _ _ (h_readCov a16 _ 11 (by omega) _) (w_read a10 h10 x9 _ 11 rfl (by omega) _)
    (rows_read a19 a11 h11 x10 _ _ 11 rfl (by omega) _ _ _)
    (rows_read a20 a12 h12 x11 _ _ 11 rfl (by omega) _ _ _) t n)

theorem A_v12 (t : Fin 128) (n : Fin 256) :
    (r_679 c a1 h1 a2 h2 a5 h5 a6 h6 a8 h8 a9 h9 a10 h10 a11 h11 a12 h12 a16 a19 a20 x0 x1 x4 x5 x7 x8 x9 x10 x11) (ValueIdx.ix2 t n)
      = (r_661 c a1 h1 a2 h2 a5 h5 a6 h6 a8 h8 a9 h9 a10 h10 a11 h11 a12 h12 a16 a19 a20 x0 x1 x4 x5 x7 x8 x9 x10 x11) (ValueIdx.ix2 t n) + T (View.canon (HS0_40 c a1 h1 a2 h2 x0 x1)) x9 x10 x11 ⟨12, by omega⟩ t n :=
  (congrFun (pay_v12 (r_661 c a1 h1 a2 h2 a5 h5 a6 h6 a8 h8 a9 h9 a10 h10 a11 h11 a12 h12 a16 a19 a20 x0 x1 x4 x5 x7 x8 x9 x10 x11) (v1465 c a1 h1 a2 h2 a16 x0 x1)
    (View.readAt (Elt Ideal) a10.view (Rect.unit (s := S160x16x256) ![96, 0, 0] S8x16x256.size inb_S160x16x256_S8x16x256_96_0_0).toLoadRect (h10.unread x9)) (v5900_raw c a5 h5 a8 h8 a11 h11 a19 x4 x7 x10) (v5903_raw c a6 h6 a9 h9 a12 h12 a20 x5 x8 x11)) (ValueIdx.ix2 t n)).trans
  (step_apply ⟨12, by omega⟩ (View.canon (HS0_40 c a1 h1 a2 h2 x0 x1)) x9 x10 x11 _ _ _ _ _ (h_readCov a16 _ 12 (by omega) _) (w_read a10 h10 x9 _ 12 rfl (by omega) _)
    (rows_read a19 a11 h11 x10 _ _ 12 rfl (by omega) _ _ _)
    (rows_read a20 a12 h12 x11 _ _ 12 rfl (by omega) _ _ _) t n)

theorem A_v13 (t : Fin 128) (n : Fin 256) :
    (r_688 c a1 h1 a2 h2 a5 h5 a6 h6 a8 h8 a9 h9 a10 h10 a11 h11 a12 h12 a16 a19 a20 x0 x1 x4 x5 x7 x8 x9 x10 x11) (ValueIdx.ix2 t n)
      = (r_679 c a1 h1 a2 h2 a5 h5 a6 h6 a8 h8 a9 h9 a10 h10 a11 h11 a12 h12 a16 a19 a20 x0 x1 x4 x5 x7 x8 x9 x10 x11) (ValueIdx.ix2 t n) + T (View.canon (HS0_40 c a1 h1 a2 h2 x0 x1)) x9 x10 x11 ⟨13, by omega⟩ t n :=
  (congrFun (pay_v13 (r_679 c a1 h1 a2 h2 a5 h5 a6 h6 a8 h8 a9 h9 a10 h10 a11 h11 a12 h12 a16 a19 a20 x0 x1 x4 x5 x7 x8 x9 x10 x11) (v1576 c a1 h1 a2 h2 a16 x0 x1)
    (View.readAt (Elt Ideal) a10.view (Rect.unit (s := S160x16x256) ![104, 0, 0] S8x16x256.size inb_S160x16x256_S8x16x256_104_0_0).toLoadRect (h10.unread x9)) (v6011_raw c a5 h5 a8 h8 a11 h11 a19 x4 x7 x10) (v6014_raw c a6 h6 a9 h9 a12 h12 a20 x5 x8 x11)) (ValueIdx.ix2 t n)).trans
  (step_apply ⟨13, by omega⟩ (View.canon (HS0_40 c a1 h1 a2 h2 x0 x1)) x9 x10 x11 _ _ _ _ _ (h_readCov a16 _ 13 (by omega) _) (w_read a10 h10 x9 _ 13 rfl (by omega) _)
    (rows_read a19 a11 h11 x10 _ _ 13 rfl (by omega) _ _ _)
    (rows_read a20 a12 h12 x11 _ _ 13 rfl (by omega) _ _ _) t n)

theorem A_v14 (t : Fin 128) (n : Fin 256) :
    (r_698 c a1 h1 a2 h2 a5 h5 a6 h6 a8 h8 a9 h9 a10 h10 a11 h11 a12 h12 a16 a19 a20 x0 x1 x4 x5 x7 x8 x9 x10 x11) (ValueIdx.ix2 t n)
      = (r_688 c a1 h1 a2 h2 a5 h5 a6 h6 a8 h8 a9 h9 a10 h10 a11 h11 a12 h12 a16 a19 a20 x0 x1 x4 x5 x7 x8 x9 x10 x11) (ValueIdx.ix2 t n) + T (View.canon (HS0_40 c a1 h1 a2 h2 x0 x1)) x9 x10 x11 ⟨14, by omega⟩ t n :=
  (congrFun (pay_v14 (r_688 c a1 h1 a2 h2 a5 h5 a6 h6 a8 h8 a9 h9 a10 h10 a11 h11 a12 h12 a16 a19 a20 x0 x1 x4 x5 x7 x8 x9 x10 x11) (v1687 c a1 h1 a2 h2 a16 x0 x1)
    (View.readAt (Elt Ideal) a10.view (Rect.unit (s := S160x16x256) ![112, 0, 0] S8x16x256.size inb_S160x16x256_S8x16x256_112_0_0).toLoadRect (h10.unread x9)) (v6122_raw c a5 h5 a8 h8 a11 h11 a19 x4 x7 x10) (v6125_raw c a6 h6 a9 h9 a12 h12 a20 x5 x8 x11)) (ValueIdx.ix2 t n)).trans
  (step_apply ⟨14, by omega⟩ (View.canon (HS0_40 c a1 h1 a2 h2 x0 x1)) x9 x10 x11 _ _ _ _ _ (h_readCov a16 _ 14 (by omega) _) (w_read a10 h10 x9 _ 14 rfl (by omega) _)
    (rows_read a19 a11 h11 x10 _ _ 14 rfl (by omega) _ _ _)
    (rows_read a20 a12 h12 x11 _ _ 14 rfl (by omega) _ _ _) t n)

theorem A_v15 (t : Fin 128) (n : Fin 256) :
    (r_715 c a1 h1 a2 h2 a5 h5 a6 h6 a8 h8 a9 h9 a10 h10 a11 h11 a12 h12 a16 a19 a20 x0 x1 x4 x5 x7 x8 x9 x10 x11) (ValueIdx.ix2 t n)
      = (r_698 c a1 h1 a2 h2 a5 h5 a6 h6 a8 h8 a9 h9 a10 h10 a11 h11 a12 h12 a16 a19 a20 x0 x1 x4 x5 x7 x8 x9 x10 x11) (ValueIdx.ix2 t n) + T (View.canon (HS0_40 c a1 h1 a2 h2 x0 x1)) x9 x10 x11 ⟨15, by omega⟩ t n :=
  (congrFun (pay_v15 (r_698 c a1 h1 a2 h2 a5 h5 a6 h6 a8 h8 a9 h9 a10 h10 a11 h11 a12 h12 a16 a19 a20 x0 x1 x4 x5 x7 x8 x9 x10 x11) (v1798 c a1 h1 a2 h2 a16 x0 x1)
    (View.readAt (Elt Ideal) a10.view (Rect.unit (s := S160x16x256) ![120, 0, 0] S8x16x256.size inb_S160x16x256_S8x16x256_120_0_0).toLoadRect (h10.unread x9)) (v6233_raw c a5 h5 a8 h8 a11 h11 a19 x4 x7 x10) (v6236_raw c a6 h6 a9 h9 a12 h12 a20 x5 x8 x11)) (ValueIdx.ix2 t n)).trans
  (step_apply ⟨15, by omega⟩ (View.canon (HS0_40 c a1 h1 a2 h2 x0 x1)) x9 x10 x11 _ _ _ _ _ (h_readCov a16 _ 15 (by omega) _) (w_read a10 h10 x9 _ 15 rfl (by omega) _)
    (rows_read a19 a11 h11 x10 _ _ 15 rfl (by omega) _ _ _)
    (rows_read a20 a12 h12 x11 _ _ 15 rfl (by omega) _ _ _) t n)

theorem A_v16 (t : Fin 128) (n : Fin 256) :
    (r_727 c a1 h1 a2 h2 a5 h5 a6 h6 a8 h8 a9 h9 a10 h10 a11 h11 a12 h12 a16 a19 a20 x0 x1 x4 x5 x7 x8 x9 x10 x11) (ValueIdx.ix2 t n)
      = (r_715 c a1 h1 a2 h2 a5 h5 a6 h6 a8 h8 a9 h9 a10 h10 a11 h11 a12 h12 a16 a19 a20 x0 x1 x4 x5 x7 x8 x9 x10 x11) (ValueIdx.ix2 t n) + T (View.canon (HS0_40 c a1 h1 a2 h2 x0 x1)) x9 x10 x11 ⟨16, by omega⟩ t n :=
  (congrFun (pay_v16 (r_715 c a1 h1 a2 h2 a5 h5 a6 h6 a8 h8 a9 h9 a10 h10 a11 h11 a12 h12 a16 a19 a20 x0 x1 x4 x5 x7 x8 x9 x10 x11) (v1909 c a1 h1 a2 h2 a16 x0 x1)
    (View.readAt (Elt Ideal) a10.view (Rect.unit (s := S160x16x256) ![128, 0, 0] S8x16x256.size inb_S160x16x256_S8x16x256_128_0_0).toLoadRect (h10.unread x9)) (v6344_raw c a5 h5 a8 h8 a11 h11 a19 x4 x7 x10) (v6347_raw c a6 h6 a9 h9 a12 h12 a20 x5 x8 x11)) (ValueIdx.ix2 t n)).trans
  (step_apply ⟨16, by omega⟩ (View.canon (HS0_40 c a1 h1 a2 h2 x0 x1)) x9 x10 x11 _ _ _ _ _ (h_readCov a16 _ 16 (by omega) _) (w_read a10 h10 x9 _ 16 rfl (by omega) _)
    (rows_read a19 a11 h11 x10 _ _ 16 rfl (by omega) _ _ _)
    (rows_read a20 a12 h12 x11 _ _ 16 rfl (by omega) _ _ _) t n)

theorem A_v17 (t : Fin 128) (n : Fin 256) :
    (r_745 c a1 h1 a2 h2 a5 h5 a6 h6 a8 h8 a9 h9 a10 h10 a11 h11 a12 h12 a16 a19 a20 x0 x1 x4 x5 x7 x8 x9 x10 x11) (ValueIdx.ix2 t n)
      = (r_727 c a1 h1 a2 h2 a5 h5 a6 h6 a8 h8 a9 h9 a10 h10 a11 h11 a12 h12 a16 a19 a20 x0 x1 x4 x5 x7 x8 x9 x10 x11) (ValueIdx.ix2 t n) + T (View.canon (HS0_40 c a1 h1 a2 h2 x0 x1)) x9 x10 x11 ⟨17, by omega⟩ t n :=
  (congrFun (pay_v17 (r_727 c a1 h1 a2 h2 a5 h5 a6 h6 a8 h8 a9 h9 a10 h10 a11 h11 a12 h12 a16 a19 a20 x0 x1 x4 x5 x7 x8 x9 x10 x11) (v2020 c a1 h1 a2 h2 a16 x0 x1)
    (View.readAt (Elt Ideal) a10.view (Rect.unit (s := S160x16x256) ![136, 0, 0] S8x16x256.size inb_S160x16x256_S8x16x256_136_0_0).toLoadRect (h10.unread x9)) (v6455_raw c a5 h5 a8 h8 a11 h11 a19 x4 x7 x10) (v6458_raw c a6 h6 a9 h9 a12 h12 a20 x5 x8 x11)) (ValueIdx.ix2 t n)).trans
  (step_apply ⟨17, by omega⟩ (View.canon (HS0_40 c a1 h1 a2 h2 x0 x1)) x9 x10 x11 _ _ _ _ _ (h_readCov a16 _ 17 (by omega) _) (w_read a10 h10 x9 _ 17 rfl (by omega) _)
    (rows_read a19 a11 h11 x10 _ _ 17 rfl (by omega) _ _ _)
    (rows_read a20 a12 h12 x11 _ _ 17 rfl (by omega) _ _ _) t n)

theorem A_v18 (t : Fin 128) (n : Fin 256) :
    (r_754 c a1 h1 a2 h2 a5 h5 a6 h6 a8 h8 a9 h9 a10 h10 a11 h11 a12 h12 a16 a19 a20 x0 x1 x4 x5 x7 x8 x9 x10 x11) (ValueIdx.ix2 t n)
      = (r_745 c a1 h1 a2 h2 a5 h5 a6 h6 a8 h8 a9 h9 a10 h10 a11 h11 a12 h12 a16 a19 a20 x0 x1 x4 x5 x7 x8 x9 x10 x11) (ValueIdx.ix2 t n) + T (View.canon (HS0_40 c a1 h1 a2 h2 x0 x1)) x9 x10 x11 ⟨18, by omega⟩ t n :=
  (congrFun (pay_v18 (r_745 c a1 h1 a2 h2 a5 h5 a6 h6 a8 h8 a9 h9 a10 h10 a11 h11 a12 h12 a16 a19 a20 x0 x1 x4 x5 x7 x8 x9 x10 x11) (v2131 c a1 h1 a2 h2 a16 x0 x1)
    (View.readAt (Elt Ideal) a10.view (Rect.unit (s := S160x16x256) ![144, 0, 0] S8x16x256.size inb_S160x16x256_S8x16x256_144_0_0).toLoadRect (h10.unread x9)) (v6566_raw c a5 h5 a8 h8 a11 h11 a19 x4 x7 x10) (v6569_raw c a6 h6 a9 h9 a12 h12 a20 x5 x8 x11)) (ValueIdx.ix2 t n)).trans
  (step_apply ⟨18, by omega⟩ (View.canon (HS0_40 c a1 h1 a2 h2 x0 x1)) x9 x10 x11 _ _ _ _ _ (h_readCov a16 _ 18 (by omega) _) (w_read a10 h10 x9 _ 18 rfl (by omega) _)
    (rows_read a19 a11 h11 x10 _ _ 18 rfl (by omega) _ _ _)
    (rows_read a20 a12 h12 x11 _ _ 18 rfl (by omega) _ _ _) t n)

theorem A_v19 (t : Fin 128) (n : Fin 256) :
    (k0_pay1 (r_754 c a1 h1 a2 h2 a5 h5 a6 h6 a8 h8 a9 h9 a10 h10 a11 h11 a12 h12 a16 a19 a20 x0 x1 x4 x5 x7 x8 x9 x10 x11) (r_755 c a10 h10 x9) (r_758 c a5 h5 a6 h6 a8 h8 a9 h9 a10 h10 a11 h11 a12 h12 a19 a20 x4 x5 x7 x8 x9 x10 x11) (r_759 c a5 h5 a6 h6 a8 h8 a9 h9 a10 h10 a11 h11 a12 h12 a19 a20 x4 x5 x7 x8 x9 x10 x11) (r_760 c a5 h5 a6 h6 a8 h8 a9 h9 a10 h10 a11 h11 a12 h12 a19 a20 x4 x5 x7 x8 x9 x10 x11) (r_761 c a5 h5 a6 h6 a8 h8 a9 h9 a10 h10 a11 h11 a12 h12 a19 a20 x4 x5 x7 x8 x9 x10 x11) (r_762 c a5 h5 a6 h6 a8 h8 a9 h9 a10 h10 a11 h11 a12 h12 a19 a20 x4 x5 x7 x8 x9 x10 x11) (r_764 c a5 h5 a6 h6 a8 h8 a9 h9 a10 h10 a11 h11 a12 h12 a19 a20 x4 x5 x7 x8 x9 x10 x11) (r_765 c a5 h5 a6 h6 a8 h8 a9 h9 a10 h10 a11 h11 a12 h12 a19 a20 x4 x5 x7 x8 x9 x10 x11) (r_766 c a5 h5 a8 h8 a11 h11 a19 x4 x7 x10) (r_767 c a6 h6 a9 h9 a12 h12 a20 x5 x8 x11) (v6756 c a1 h1 a2 h2 a16 x0 x1)) (ValueIdx.ix2 t n)
      = (r_754 c a1 h1 a2 h2 a5 h5 a6 h6 a8 h8 a9 h9 a10 h10 a11 h11 a12 h12 a16 a19 a20 x0 x1 x4 x5 x7 x8 x9 x10 x11) (ValueIdx.ix2 t n) + T (View.canon (HS0_40 c a1 h1 a2 h2 x0 x1)) x9 x10 x11 ⟨19, by omega⟩ t n :=
  (congrFun (pay_v19 (r_754 c a1 h1 a2 h2 a5 h5 a6 h6 a8 h8 a9 h9 a10 h10 a11 h11 a12 h12 a16 a19 a20 x0 x1 x4 x5 x7 x8 x9 x10 x11) (v6756 c a1 h1 a2 h2 a16 x0 x1)
    (View.readAt (Elt Ideal) a10.view (Rect.unit (s := S160x16x256) ![152, 0, 0] S8x16x256.size inb_S160x16x256_S8x16x256_152_0_0).toLoadRect (h10.unread x9)) (v6677_raw c a5 h5 a8 h8 a11 h11 a19 x4 x7 x10) (v6680_raw c a6 h6 a9 h9 a12 h12 a20 x5 x8 x11)) (ValueIdx.ix2 t n)).trans
  (step_apply ⟨19, by omega⟩ (View.canon (HS0_40 c a1 h1 a2 h2 x0 x1)) x9 x10 x11 _ _ _ _ _ (h_readCov a16 _ 19 (by omega) _) (w_read a10 h10 x9 _ 19 rfl (by omega) _)
    (rows_read a19 a11 h11 x10 _ _ 19 rfl (by omega) _ _ _)
    (rows_read a20 a12 h12 x11 _ _ 19 rfl (by omega) _ _ _) t n)

end Cert.KernelIdeal.Val

end
-- ==== Proof.Rope.lean ====
/- The rotation of the kernel's projections, read at an index: the two heads of a tile of columns, each lane combined with
   its partner lane by the cosine and the signed sine of the position's angle. -/
module

public import proofs.«01_k».proof.Proof.Spec
public import proofs.«01_k».proof.Proof.Gen.KernelIdeal.Skeleton

@[expose] public section

set_option maxRecDepth 16384

noncomputable section

namespace Cert.KernelIdeal.Val

open Cert.KernelIdeal Cert.KernelIdeal.Gen Idealize.ShloMosaic Cert.Spec

variable {F : FTy → Type} [FloatOps F]

/-- A lane index with negative values wrapped, sent through a trailing unit axis and back. -/
def wrapIdx (v : IVec S128x128 32) : IVec S128x128 32 :=
  shapeCast S128x128 (shapeCast S128x128x1 (select (cmpi .slt v (broadcast S128x128 0#32)) (addi v (broadcast S128x128 128#32)) v)
    shapeCasts_S128x128_S128x128x1) shapeCasts_S128x128x1_S128x128

theorem wrap_word : ∀ p : Fin 128,
    (Scalar.select (IntOp.cmpi .slt (BitVec.ofNat 32 p.val) 0#32) (BitVec.ofNat 32 p.val + 128#32) (BitVec.ofNat 32 p.val)).toNat % 128 = p.val := by
  decide +kernel

/-- A gather along the lanes reads the lane the index names. -/
theorem gather_apply {α : Type} (x : S128x128.Idx → α) (v : IVec S128x128 32) (t l p : Fin 128) (hv : v (ValueIdx.ix2 t l) = BitVec.ofNat 32 p.val) :
    dynamicGather (s := S128x128) 1 x (wrapIdx v) (ValueIdx.ix2 t l) = x (ValueIdx.ix2 t p) := by
  have h : (wrapIdx v (ValueIdx.ix2 t l)).toNat % 128 = p.val := by
    unfold wrapIdx
    rw [shapeCast_apply _ _ _ (ValueIdx.ix3 t l (0 : Fin 1) : S128x128x1.Idx)
        (by rw [Shape.rowMajor_val_two, Shape.rowMajor_val_three]; show (t.val * 128 + l.val) * 1 + 0 = t.val * 128 + l.val; omega),
      shapeCast_apply _ _ _ (ValueIdx.ix2 t l : S128x128.Idx)
        (by rw [Shape.rowMajor_val_two, Shape.rowMajor_val_three]; show t.val * 128 + l.val = (t.val * 128 + l.val) * 1 + 0; omega)]
    show (Scalar.select (IntOp.cmpi .slt (v (ValueIdx.ix2 t l)) 0#32) (v (ValueIdx.ix2 t l) + 128#32) (v (ValueIdx.ix2 t l))).toNat % 128 = p.val
    rw [hv]
    exact wrap_word p
  unfold dynamicGather
  refine congrArg x (funext fun b => ?_)
  match b with
  | ⟨0, _⟩ => rfl
  | ⟨1, _⟩ => exact Fin.ext h

/-- The partner of a lane. -/
def swp (l : Fin 128) : Fin 128 := ⟨l.val + 1 - 2 * (l.val % 2), by have := l.isLt; omega⟩

theorem swp_word (t l : Fin 128) : k0_pay94 (ValueIdx.ix2 t l) = BitVec.ofNat 32 (swp l).val := by
  have h : ∀ l : Fin 128, k0_pay94 (ValueIdx.ix2 (0 : Fin 128) l) = BitVec.ofNat 32 (swp l).val := by decide +kernel
  exact h l

/-- One head of the tile, rotated. -/
def ropeOut (off : Fin 2 → ℕ) (h : S128x256.Slices off S128x128) (v24 : IVec S128x128 32) (acc : FVec F S128x256 .f32) (cs sn : Vec F S128x128 .f32) : FVec F S1x128x128 .bf16 :=
  shapeCast S1x128x128 (truncf .bf16 (addf (mulf (extractStridedSlice S128x128 off acc h) cs)
    (mulf (dynamicGather (s := S128x128) 1 (extractStridedSlice S128x128 off acc h) (wrapIdx v24)) sn)) bitsLt_bf16_f32) shapeCasts_S128x128_S1x128x128

theorem ropeOut_apply (o : ℕ) (h : S128x256.Slices ![0, o] S128x128) (acc : FVec Ideal S128x256 .f32) (cs sn : Vec Ideal S128x128 .f32) (t l : Fin 128) (ho : o + 128 ≤ 256) :
    ropeOut (F := Ideal) ![0, o] h k0_pay94 acc cs sn (ValueIdx.ix3 (0 : Fin 1) t l)
      = acc (ValueIdx.ix2 t (⟨o + l.val, by have := l.isLt; omega⟩ : Fin 256)) * cs (ValueIdx.ix2 t l)
        + acc (ValueIdx.ix2 t (⟨o + (swp l).val, by have := (swp l).isLt; omega⟩ : Fin 256)) * sn (ValueIdx.ix2 t l) := by
  have hs : ∀ l : Fin 128, extractStridedSlice S128x128 ![0, o] acc h (ValueIdx.ix2 t l) = acc (ValueIdx.ix2 t (⟨o + l.val, by have := l.isLt; omega⟩ : Fin 256)) := fun l =>
    extractStridedSlice_apply _ _ _ _ (ValueIdx.ix2 t (⟨o + l.val, by have := l.isLt; omega⟩ : Fin 256) : S128x256.Idx)
      (by intro a; match a with | ⟨0, _⟩ => exact (Nat.zero_add _).symm | ⟨1, _⟩ => rfl)
  unfold ropeOut
  rw [shapeCast_apply _ _ _ (ValueIdx.ix2 t l : S128x128.Idx)
    (by rw [Shape.rowMajor_val_two, Shape.rowMajor_val_three]; show t.val * 128 + l.val = (0 * 128 + t.val) * 128 + l.val; omega)]
  show extractStridedSlice S128x128 ![0, o] acc h (ValueIdx.ix2 t l) * cs (ValueIdx.ix2 t l)
    + dynamicGather (s := S128x128) 1 (extractStridedSlice S128x128 ![0, o] acc h) (wrapIdx k0_pay94) (ValueIdx.ix2 t l) * sn (ValueIdx.ix2 t l) = _
  rw [gather_apply _ _ t l (swp l) (swp_word t l), hs, hs]

/-- The lane numbers of a row. -/
def lane : IVec S1x128 32 := iota .tc S1x128 32 [1] iota_S1x128_d1_w32

/-- The lane number less its remainder by two, as the kernel computes it. -/
def evenLane : IVec S1x128 32 :=
  subi lane (select (andi (xori (cmpi .slt (remsi lane (broadcast S1x128 2#32)) (broadcast S1x128 0#32))
      (broadcastTo S1x128 (broadcast S1x128 (Scalar.cmpi .slt 2#32 0#32)) broadcasts_S1x128_S1x128)) (cmpi .ne (remsi lane (broadcast S1x128 2#32)) (broadcast S1x128 0#32)))
      (addi (remsi lane (broadcast S1x128 2#32)) (broadcast S1x128 2#32)) (remsi lane (broadcast S1x128 2#32)))

theorem evenLane_toInt (l : Fin 128) : (evenLane (ValueIdx.ix2 (0 : Fin 1) l)).toInt = ((2 * (l.val / 2) : ℕ) : ℤ) := by
  have h : ∀ l : Fin 128, (evenLane (ValueIdx.ix2 (0 : Fin 1) l)).toInt = ((2 * (l.val / 2) : ℕ) : ℤ) := by decide +kernel
  exact h l

theorem ang_apply (p : Vec Ideal S1x128 .i32) (t l : Fin 128) :
    k0_pay88 (F := Ideal) lane 2#32 p (ValueIdx.ix2 t l) = ang (p (ValueIdx.ix2 (0 : Fin 1) t)) (l.val / 2) := by
  unfold k0_pay88
  rw [show ∀ (x y : FVec Ideal S128x128 .f32) (i : S128x128.Idx), mulf x y i = x i * y i from fun _ _ _ => rfl]
  rw [transpose_apply _ _ _ _ (ValueIdx.ix2 l t : S128x128.Idx) (by intro b; match b with | ⟨0, _⟩ => rfl | ⟨1, _⟩ => rfl),
    broadcastTo_apply _ _ (ValueIdx.ix2 l t : S128x128.Idx) (ValueIdx.ix2 (0 : Fin 1) t : S1x128.Idx) (by intro a; match a with | ⟨0, _⟩ => rfl | ⟨1, _⟩ => rfl),
    broadcastTo_apply _ _ (ValueIdx.ix2 t l : S128x128.Idx) (ValueIdx.ix2 (0 : Fin 1) l : S1x128.Idx) (by intro a; match a with | ⟨0, _⟩ => rfl | ⟨1, _⟩ => rfl),
    shapeCast_self, shapeCast_self]
  show (((p (ValueIdx.ix2 (0 : Fin 1) t)).toInt : ℝ) : EReal) * Ideal.pow (Ideal.ofBits .f32 0x461C4000#32)
    (Ideal.div (Ideal.ofBits .f32 0x00000000#32 - (((evenLane (ValueIdx.ix2 (0 : Fin 1) l)).toInt : ℝ) : EReal)) (Ideal.ofBits .f32 0x43000000#32)) = _
  rw [Ideal.ofBits_zero_f32, evenLane_toInt, sub_eq_add_neg, zero_add]
  unfold ang
  rw [Int.cast_natCast]

theorem cos_apply (p : Vec Ideal S1x128 .i32) (t l : Fin 128) :
    k0_pay89 (F := Ideal) lane 2#32 p (ValueIdx.ix2 t l) = Ideal.cos (ang (p (ValueIdx.ix2 (0 : Fin 1) t)) (l.val / 2)) := by
  unfold k0_pay89
  rw [shapeCast_self]
  show Ideal.cos (k0_pay88 (F := Ideal) lane 2#32 p (ValueIdx.ix2 t l)) = _
  rw [ang_apply]

/-- Whether a lane is even, as the kernel computes it. -/
def isEven : IVec S1x128 1 :=
  cmpi .eq (select (andi (xori (k0_pay92 lane) (broadcastTo S1x128 (broadcast S1x128 0#1) broadcasts_S1x128_S1x128)) (k0_pay91 lane))
    (addi (k0_pay90 lane) (broadcast S1x128 2#32)) (k0_pay90 lane)) (broadcast S1x128 0#32)

theorem isEven_eq (l : Fin 128) : isEven (ValueIdx.ix2 (0 : Fin 1) l) = if l.val % 2 = 0 then 1#1 else 0#1 := by
  have h : ∀ l : Fin 128, isEven (ValueIdx.ix2 (0 : Fin 1) l) = if l.val % 2 = 0 then 1#1 else 0#1 := by decide +kernel
  exact h l

theorem sin_apply (p : Vec Ideal S1x128 .i32) (t l : Fin 128) :
    k0_pay93 (F := Ideal) (k0_pay88 lane 2#32 p) 2#32 (k0_pay90 lane) (k0_pay91 lane) (k0_pay92 lane) 0#1 (ValueIdx.ix2 t l)
      = if l.val % 2 = 0 then -Ideal.sin (ang (p (ValueIdx.ix2 (0 : Fin 1) t)) (l.val / 2)) else Ideal.sin (ang (p (ValueIdx.ix2 (0 : Fin 1) t)) (l.val / 2)) := by
  unfold k0_pay93
  rw [shapeCast_self]
  show Scalar.select (broadcastTo S128x128 (shapeCast S1x128 isEven shapeCasts_S1x128_S1x128) broadcasts_S1x128_S128x128 (ValueIdx.ix2 t l))
    (Ideal.ofBits .f32 0x00000000#32 - Ideal.sin (k0_pay88 (F := Ideal) lane 2#32 p (ValueIdx.ix2 t l))) (Ideal.sin (k0_pay88 (F := Ideal) lane 2#32 p (ValueIdx.ix2 t l))) = _
  rw [broadcastTo_apply _ _ (ValueIdx.ix2 t l : S128x128.Idx) (ValueIdx.ix2 (0 : Fin 1) l : S1x128.Idx) (by intro a; match a with | ⟨0, _⟩ => rfl | ⟨1, _⟩ => rfl),
    shapeCast_self, isEven_eq, ang_apply, Ideal.ofBits_zero_f32, sub_eq_add_neg, zero_add]
  by_cases h : l.val % 2 = 0
  · rw [if_pos h, if_pos h]; rfl
  · rw [if_neg h, if_neg h]; rfl

/-- A lane's own value times the cosine plus its partner's times the signed sine is the rotation of its pair. -/
theorem rot_eq (pos : BitVec 32) (l : Fin 128) (f : Fin 128 → EReal) :
    f l * Ideal.cos (ang pos (l.val / 2)) + f (swp l) * (if l.val % 2 = 0 then -Ideal.sin (ang pos (l.val / 2)) else Ideal.sin (ang pos (l.val / 2)))
      = rot pos l.val (f ⟨l.val / 2 * 2, by have := l.isLt; omega⟩) (f ⟨l.val / 2 * 2 + 1, by have := l.isLt; omega⟩) := by
  have hl := l.isLt
  unfold rot
  by_cases h : l.val % 2 = 0
  · rw [if_pos h, if_pos h, mul_neg, ← sub_eq_add_neg,
      show swp l = ⟨l.val / 2 * 2 + 1, by omega⟩ from Fin.ext (by show l.val + 1 - 2 * (l.val % 2) = l.val / 2 * 2 + 1; omega),
      show (⟨l.val / 2 * 2, by omega⟩ : Fin 128) = l from Fin.ext (by show l.val / 2 * 2 = l.val; omega)]
  · rw [if_neg h, if_neg h, show (⟨l.val / 2 * 2 + 1, by omega⟩ : Fin 128) = l from Fin.ext (by show l.val / 2 * 2 + 1 = l.val; omega),
      show swp l = ⟨l.val / 2 * 2, by omega⟩ from Fin.ext (by show l.val + 1 - 2 * (l.val % 2) = l.val / 2 * 2; omega), add_comm]

end Cert.KernelIdeal.Val

end
-- ==== Proof.OutBase.lean ====
/- The accumulated projections and the output blocks' building pieces, at an index, in either case of the kernel. -/
module

public import proofs.«01_k».proof.Proof.Step
public import proofs.«01_k».proof.Proof.Rope
public import Idealize.ShloMosaic.Lib.Pipeline.ValueKit.Tiles

@[expose] public section

set_option maxRecDepth 16384

noncomputable section

namespace Cert.KernelIdeal.Val

open Cert.KernelIdeal Cert.KernelIdeal.Gen Idealize.ShloMosaic Cert.Spec

theorem sum20 (f : Fin 20 → EReal) : ∑ b : Fin 20, f b = ((((((((((((((((((((0 + f ⟨0, by omega⟩) + f ⟨1, by omega⟩) + f ⟨2, by omega⟩) + f ⟨3, by omega⟩) + f ⟨4, by omega⟩) + f ⟨5, by omega⟩) + f ⟨6, by omega⟩) + f ⟨7, by omega⟩) + f ⟨8, by omega⟩) + f ⟨9, by omega⟩) + f ⟨10, by omega⟩) + f ⟨11, by omega⟩) + f ⟨12, by omega⟩) + f ⟨13, by omega⟩) + f ⟨14, by omega⟩) + f ⟨15, by omega⟩) + f ⟨16, by omega⟩) + f ⟨17, by omega⟩) + f ⟨18, by omega⟩) + f ⟨19, by omega⟩) := by
  simp only [Fin.sum_univ_castSucc, Fin.sum_univ_zero]
  rfl

/-- A whole projection at token `t` and column `n`: the sum of the tiles. -/
def S (h : S20x128x256.Idx → EReal) (w : S160x16x256.Idx → BitVec 8) (s m : S160x256.Idx → EReal) (t : Fin 128) (n : Fin 256) : EReal :=
  ∑ b : Fin 20, T h w s m b t n

theorem S_eq (h : S20x128x256.Idx → EReal) (w : S160x16x256.Idx → BitVec 8) (s m : S160x256.Idx → EReal) (t : Fin 128) (n : Fin 256) :
    S h w s m t n = ((((((((((((((((((((0 + T h w s m ⟨0, by omega⟩ t n) + T h w s m ⟨1, by omega⟩ t n) + T h w s m ⟨2, by omega⟩ t n) + T h w s m ⟨3, by omega⟩ t n) + T h w s m ⟨4, by omega⟩ t n) + T h w s m ⟨5, by omega⟩ t n) + T h w s m ⟨6, by omega⟩ t n) + T h w s m ⟨7, by omega⟩ t n) + T h w s m ⟨8, by omega⟩ t n) + T h w s m ⟨9, by omega⟩ t n) + T h w s m ⟨10, by omega⟩ t n) + T h w s m ⟨11, by omega⟩ t n) + T h w s m ⟨12, by omega⟩ t n) + T h w s m ⟨13, by omega⟩ t n) + T h w s m ⟨14, by omega⟩ t n) + T h w s m ⟨15, by omega⟩ t n) + T h w s m ⟨16, by omega⟩ t n) + T h w s m ⟨17, by omega⟩ t n) + T h w s m ⟨18, by omega⟩ t n) + T h w s m ⟨19, by omega⟩ t n) := sum20 _

/-- A head and lane of a block of two heads, as a column of the tile. -/
def hcol (u : Fin 2) (l : Fin 128) : Fin 256 := ⟨128 * u.val + l.val, by have := u.isLt; have := l.isLt; omega⟩

/-- A rotated output block. -/
def Rp (h : S20x128x256.Idx → EReal) (w : S160x16x256.Idx → BitVec 8) (s m : S160x256.Idx → EReal) (C D : S128x128.Idx → EReal) (y : S2x128x128.Idx) : EReal :=
  S h w s m (y 1) (hcol (y 0) (y 2)) * C (ValueIdx.ix2 (y 1) (y 2)) + S h w s m (y 1) (hcol (y 0) (swp (y 2))) * D (ValueIdx.ix2 (y 1) (y 2))

/-- An output block that is not rotated. -/
def Vp (h : S20x128x256.Idx → EReal) (w : S160x16x256.Idx → BitVec 8) (s m : S160x256.Idx → EReal) (y : S2x128x128.Idx) : EReal :=
  S h w s m (y 1) (hcol (y 0) (y 2))

theorem rope_piece (h : S20x128x256.Idx → EReal) (w : S160x16x256.Idx → BitVec 8) (s m : S160x256.Idx → EReal) (C D : S128x128.Idx → EReal)
    (acc : FVec Ideal S128x256 .f32) (cs sn : Vec Ideal S128x128 .f32) (v : FVec Ideal S1x128x128 .bf16) (u o : ℕ) (ho : o = 128 * u) (hu : u < 2)
    (hsl : S128x256.Slices ![0, o] S128x128) (hv : v = ropeOut (F := Ideal) ![0, o] hsl k0_pay94 acc cs sn)
    (hacc : ∀ t n, acc (ValueIdx.ix2 t n) = S h w s m t n) (hcs : ∀ t l : Fin 128, cs (ValueIdx.ix2 t l) = C (ValueIdx.ix2 t l)) (hsn : ∀ t l : Fin 128, sn (ValueIdx.ix2 t l) = D (ValueIdx.ix2 t l))
    (y : S2x128x128.Idx) (x : S1x128x128.Idx) (e0 : (y 0).val = u + (x 0).val) (e1 : (y 1).val = (x 1).val) (e2 : (y 2).val = (x 2).val) :
    v x = Rp h w s m C D y := by
  obtain ⟨t, l, rfl⟩ : ∃ t l : Fin 128, x = ValueIdx.ix3 (0 : Fin 1) t l :=
    ⟨x 1, x 2, funext fun a => by match a with | ⟨0, _⟩ => exact Fin.ext (by have : (x 0).val < 1 := (x 0).isLt; show (x 0).val = 0; omega) | ⟨1, _⟩ => rfl | ⟨2, _⟩ => rfl⟩
  have e0' : y 0 = ⟨u, hu⟩ := Fin.ext e0
  have e1' : y 1 = t := Fin.ext e1
  have e2' : y 2 = l := Fin.ext e2
  subst ho
  rw [hv, ropeOut_apply _ _ _ _ _ _ _ (by omega), hacc, hacc, hcs, hsn]
  unfold Rp
  rw [e0', e1', e2']
  rfl

theorem v_piece (h : S20x128x256.Idx → EReal) (w : S160x16x256.Idx → BitVec 8) (s m : S160x256.Idx → EReal)
    (acc : FVec Ideal S128x256 .f32) (v : FVec Ideal S1x128x128 .bf16) (u o : ℕ) (ho : o = 128 * u) (hu : u < 2)
    (hsl : S128x256.Slices ![0, o] S128x128)
    (hv : v = shapeCast S1x128x128 (truncf .bf16 (extractStridedSlice S128x128 ![0, o] acc hsl) bitsLt_bf16_f32) shapeCasts_S128x128_S1x128x128)
    (hacc : ∀ t n, acc (ValueIdx.ix2 t n) = S h w s m t n)
    (y : S2x128x128.Idx) (x : S1x128x128.Idx) (e0 : (y 0).val = u + (x 0).val) (e1 : (y 1).val = (x 1).val) (e2 : (y 2).val = (x 2).val) :
    v x = Vp h w s m y := by
  obtain ⟨t, l, rfl⟩ : ∃ t l : Fin 128, x = ValueIdx.ix3 (0 : Fin 1) t l :=
    ⟨x 1, x 2, funext fun a => by match a with | ⟨0, _⟩ => exact Fin.ext (by have : (x 0).val < 1 := (x 0).isLt; show (x 0).val = 0; omega) | ⟨1, _⟩ => rfl | ⟨2, _⟩ => rfl⟩
  have e0' : y 0 = ⟨u, hu⟩ := Fin.ext e0
  have e1' : y 1 = t := Fin.ext e1
  have e2' : y 2 = l := Fin.ext e2
  subst ho
  rw [hv, shapeCast_apply _ _ _ (ValueIdx.ix2 t l : S128x128.Idx)
    (by rw [Shape.rowMajor_val_two, Shape.rowMajor_val_three]; show t.val * 128 + l.val = (0 * 128 + t.val) * 128 + l.val; omega)]
  refine Eq.trans (extractStridedSlice_apply _ acc hsl _ (ValueIdx.ix2 t (⟨128 * u + l.val, by have := l.isLt; omega⟩ : Fin 256) : S128x256.Idx)
      (by intro a; match a with | ⟨0, _⟩ => exact (Nat.zero_add _).symm | ⟨1, _⟩ => rfl)) ?_
  rw [hacc]
  unfold Vp
  rw [e0', e1', e2']
  rfl

/-- A load of a whole 128 × 128 buffer. -/
theorem sq_whole (a : Memref sig .tc .vmem S128x128 .f32) (ha : a.IsWhole) (X : S128x128.Idx → EReal)
    (inb : ∀ x, (![0, 0] : Fin 2 → ℕ) x + S128x128.size x ≤ S128x128.size x) (t l : Fin 128) :
    View.readAt (Elt Ideal) a.view (Rect.unit (s := S128x128) ![0, 0] S128x128.size inb).toLoadRect (ha.unread X) (ValueIdx.ix2 t l) = X (ValueIdx.ix2 t l) := by
  refine (readAt_box (F := Ideal) (e := .f32) a ha X (Rect.unit (s := S128x128) ![0, 0] S128x128.size inb) (ValueIdx.ix2 t l : S128x128.Idx)).trans (congrArg X (funext fun x => ?_))
  match x with
  | ⟨0, _⟩ => exact Fin.ext (by show 0 + 1 * t.val = t.val; omega)
  | ⟨1, _⟩ => exact Fin.ext (by show 0 + 1 * l.val = l.val; omega)

theorem sq_readCov (a : Memref sig .tc .vmem S128x128 .f32) (L : List (View.Piece (Elt Ideal) S128x128 .f32))
    (inb : ∀ x, (![0, 0] : Fin 2 → ℕ) x + S128x128.size x ≤ S128x128.size x) (t l : Fin 128) :
    a.view.readCov L (Rect.unit (s := S128x128) ![0, 0] S128x128.size inb).toLoadRect (ValueIdx.ix2 t l) = View.canon L (ValueIdx.ix2 t l) := by
  rw [View.readCov_eq_canon']
  refine congrArg (View.canon L) (funext fun x => ?_)
  match x with
  | ⟨0, _⟩ => exact Fin.ext (by show 0 + 1 * t.val = t.val; omega)
  | ⟨1, _⟩ => exact Fin.ext (by show 0 + 1 * l.val = l.val; omega)

end Cert.KernelIdeal.Val

end
-- ==== Proof.H.lean ====
/- The scratch that holds the normalised rows, as the first grid point fills it: tile `b`, row position `r` of token `t`
   is the normalised column that the unpacked code row `r` of tile `b` meets. -/
module

public import proofs.«01_k».proof.Proof.Step
public import proofs.«01_k».proof.Proof.Rope
public import proofs.«01_k».proof.Proof.Gen.KernelIdeal.Frame.RunA
import all proofs.«01_k».proof.Proof.Gen.KernelIdeal.Frame.RunA

@[expose] public section

set_option maxRecDepth 65536
set_option maxHeartbeats 4000000

noncomputable section

namespace Cert.KernelIdeal.Val

open Cert.KernelIdeal Cert.KernelIdeal.Gen.kernelRun0_A.sl Cert.KernelIdeal.Gen Idealize.ShloMosaic Cert.Spec

/-- The column, inside its block of 128, that lane `l` of a permuted block holds. -/
def prm (l : Fin 128) : Fin 128 := ⟨l.val / 32 * 32 + l.val % 2 * 16 + l.val % 32 / 2, by have := l.isLt; omega⟩

theorem prm_word (t l : Fin 128) : r (ValueIdx.ix2 t l) = BitVec.ofNat 32 (prm l).val := by
  have h : ∀ l : Fin 128, r (ValueIdx.ix2 (0 : Fin 128) l) = BitVec.ofNat 32 (prm l).val := by decide +kernel
  exact h l

/-- One permuted block of normalised columns. -/
def hblk {F : FTy → Type} [FloatOps F] (v : IVec S128x128 32) (rr : FVec F S128x1 .f32) (xb : Vec F S128x128 .bf16) (nb : Vec F S1x128 .bf16) : FVec F S1x128x128 .bf16 :=
  k0_pay87 v rr xb nb

theorem hblk_apply (rr : FVec Ideal S128x1 .f32) (xb : Vec Ideal S128x128 .bf16) (nb : Vec Ideal S1x128 .bf16) (t l : Fin 128) :
    hblk (F := Ideal) r rr xb nb (ValueIdx.ix3 (0 : Fin 1) t l)
      = xb (ValueIdx.ix2 t (prm l)) * rr (ValueIdx.ix2 t (0 : Fin 1)) * nb (ValueIdx.ix2 (0 : Fin 1) (prm l)) := by
  unfold hblk k0_pay87
  rw [shapeCast_apply _ _ _ (ValueIdx.ix2 t l : S128x128.Idx)
    (by rw [Shape.rowMajor_val_two, Shape.rowMajor_val_three]; show t.val * 128 + l.val = (0 * 128 + t.val) * 128 + l.val; omega)]
  refine Eq.trans (gather_apply (α := EReal) (mulf (mulf (extf .f32 (shapeCast S128x128 xb shapeCasts_S128x128_S128x128) bitsLt_bf16_f32)
    (broadcastTo S128x128 rr broadcasts_S128x1_S128x128)) (broadcastTo S128x128 (extf .f32 (shapeCast S1x128 nb shapeCasts_S1x128_S1x128) bitsLt_bf16_f32) broadcasts_S1x128_S128x128) : FVec Ideal S128x128 .f32)
    r t l (prm l) (prm_word t l)) ?_
  show shapeCast S128x128 xb shapeCasts_S128x128_S128x128 (ValueIdx.ix2 t (prm l)) * broadcastTo S128x128 rr broadcasts_S128x1_S128x128 (ValueIdx.ix2 t (prm l))
    * broadcastTo S128x128 (shapeCast S1x128 nb shapeCasts_S1x128_S1x128 : S1x128.Idx → EReal) broadcasts_S1x128_S128x128 (ValueIdx.ix2 t (prm l)) = _
  rw [shapeCast_self, shapeCast_self,
    broadcastTo_apply _ _ (ValueIdx.ix2 t (prm l) : S128x128.Idx) (ValueIdx.ix2 t (0 : Fin 1) : S128x1.Idx) (by intro a; match a with | ⟨0, _⟩ => rfl | ⟨1, _⟩ => rfl),
    broadcastTo_apply _ _ (ValueIdx.ix2 t (prm l) : S128x128.Idx) (ValueIdx.ix2 (0 : Fin 1) (prm l) : S1x128.Idx) (by intro a; match a with | ⟨0, _⟩ => rfl | ⟨1, _⟩ => rfl)]

/-- A block of 128 columns of the activations. -/
theorem x_read (a : Memref sig .tc .vmem S128x5120 .bf16) (ha : a.IsWhole) (x : S128x5120.Idx → EReal) (o : ℕ) (ho : o + 128 ≤ 5120)
    (inb : ∀ x, (![0, o] : Fin 2 → ℕ) x + S128x128.size x ≤ S128x5120.size x) (t l : Fin 128) :
    View.readAt (Elt Ideal) a.view (Rect.unit (s := S128x5120) ![0, o] S128x128.size inb).toLoadRect (ha.unread x) (ValueIdx.ix2 t l)
      = x (ValueIdx.ix2 t (⟨o + l.val, by have := l.isLt; omega⟩ : Fin 5120)) := by
  refine (readAt_box (F := Ideal) (e := .bf16) a ha x (Rect.unit (s := S128x5120) ![0, o] S128x128.size inb) (ValueIdx.ix2 t l : S128x128.Idx)).trans (congrArg x (funext fun x => ?_))
  match x with
  | ⟨0, _⟩ => exact Fin.ext (by show 0 + 1 * t.val = t.val; omega)
  | ⟨1, _⟩ => exact Fin.ext (by show o + 1 * l.val = o + l.val; omega)

/-- A block of 128 columns of the norm's weight. -/
theorem n_read (a : Memref sig .tc .vmem S1x5120 .bf16) (ha : a.IsWhole) (x : S1x5120.Idx → EReal) (o : ℕ) (ho : o + 128 ≤ 5120)
    (inb : ∀ x, (![0, o] : Fin 2 → ℕ) x + S1x128.size x ≤ S1x5120.size x) (l : Fin 128) :
    View.readAt (Elt Ideal) a.view (Rect.unit (s := S1x5120) ![0, o] S1x128.size inb).toLoadRect (ha.unread x) (ValueIdx.ix2 (0 : Fin 1) l)
      = x (ValueIdx.ix2 (0 : Fin 1) (⟨o + l.val, by have := l.isLt; omega⟩ : Fin 5120)) := by
  refine (readAt_box (F := Ideal) (e := .bf16) a ha x (Rect.unit (s := S1x5120) ![0, o] S1x128.size inb) (ValueIdx.ix2 (0 : Fin 1) l : S1x128.Idx)).trans (congrArg x (funext fun x => ?_))
  match x with
  | ⟨0, _⟩ => rfl
  | ⟨1, _⟩ => exact Fin.ext (by show o + 1 * l.val = o + l.val; omega)

variable (c : Dev nD)
variable (a1 : Memref sig .tc .vmem S128x5120 .bf16) (h1 : a1.IsWhole) (a2 : Memref sig .tc .vmem S1x5120 .bf16) (h2 : a2.IsWhole) (a3 : Memref sig .tc .vmem S1x128 .i32) (h3 : a3.IsWhole)
variable (x0 : Vec Ideal S128x5120 .bf16) (x1 : Vec Ideal S1x5120 .bf16) (x2 : Vec Ideal S1x128 .i32)

/-- The squares of the columns `o + l`. -/
def sq (x0 : S128x5120.Idx → EReal) (t l : Fin 128) (o : Fin 40) : EReal :=
  x0 (ValueIdx.ix2 t (⟨o.val * 128 + l.val, by have := l.isLt; have := o.isLt; omega⟩ : Fin 5120)) * x0 (ValueIdx.ix2 t (⟨o.val * 128 + l.val, by have := l.isLt; have := o.isLt; omega⟩ : Fin 5120))

theorem sum40 (f : Fin 40 → EReal) : ∑ c : Fin 40, f c = ((((((((((((((((((((((((((((((((((((((((0 + f 0) + f 1) + f 2) + f 3) + f 4) + f 5) + f 6) + f 7) + f 8) + f 9) + f 10) + f 11) + f 12) + f 13) + f 14) + f 15) + f 16) + f 17) + f 18) + f 19) + f 20) + f 21) + f 22) + f 23) + f 24) + f 25) + f 26) + f 27) + f 28) + f 29) + f 30) + f 31) + f 32) + f 33) + f 34) + f 35) + f 36) + f 37) + f 38) + f 39) := by
  simp only [Fin.sum_univ_castSucc, Fin.sum_univ_zero]
  rfl

/-- A lane's square, read from the block of columns at `n`. -/
theorem sq_read (o : Fin 40) (n : ℕ) (hn : n = o.val * 128) (inb : ∀ x, (![0, n] : Fin 2 → ℕ) x + S128x128.size x ≤ S128x5120.size x) (t l : Fin 128) :
    sq x0 t l o = View.readAt (Elt Ideal) a1.view (Rect.unit (s := S128x5120) ![0, n] S128x128.size inb).toLoadRect (h1.unread x0) (ValueIdx.ix2 t l)
      * View.readAt (Elt Ideal) a1.view (Rect.unit (s := S128x5120) ![0, n] S128x128.size inb).toLoadRect (h1.unread x0) (ValueIdx.ix2 t l) := by
  subst hn
  rw [x_read a1 h1 x0 _ (by have := o.isLt; omega)]
  rfl

theorem madd_apply (acc : FVec Ideal S128x128 .f32) (v : Vec Ideal S128x128 .bf16) (i : S128x128.Idx) :
    (addf acc (mulf (extf .f32 (shapeCast S128x128 v shapeCasts_S128x128_S128x128) bitsLt_bf16_f32) (extf .f32 (shapeCast S128x128 v shapeCasts_S128x128_S128x128) bitsLt_bf16_f32)) : FVec Ideal S128x128 .f32) i
      = acc i + v i * v i := by
  rw [shapeCast_self]
  rfl

theorem pay10_apply (v8273 : Vec Ideal S128x128 .bf16) (v8278 : Vec Ideal S128x128 .bf16) (v8283 : Vec Ideal S128x128 .bf16) (v8288 : Vec Ideal S128x128 .bf16) (v8293 : Vec Ideal S128x128 .bf16) (i : S128x128.Idx) :
    k0_pay10 (F := Ideal) v8273 v8278 v8283 v8288 v8293 i = (((((0) + v8273 i * v8273 i) + v8278 i * v8278 i) + v8283 i * v8283 i) + v8288 i * v8288 i) + v8293 i * v8293 i := by
  unfold k0_pay10
  rw [madd_apply, madd_apply, madd_apply, madd_apply, madd_apply]
  rw [show ∀ i, broadcast S128x128 (Scalar.ofBits (F := Ideal) .f32 0x00000000#32) i = 0 from fun _ => Ideal.ofBits_zero_f32]

theorem pay11_apply (v8297 : FVec Ideal S128x128 .f32) (v8298 : Vec Ideal S128x128 .bf16) (v8303 : Vec Ideal S128x128 .bf16) (v8308 : Vec Ideal S128x128 .bf16) (v8313 : Vec Ideal S128x128 .bf16) (v8318 : Vec Ideal S128x128 .bf16) (v8323 : Vec Ideal S128x128 .bf16) (v8328 : Vec Ideal S128x128 .bf16) (v8333 : Vec Ideal S128x128 .bf16) (i : S128x128.Idx) :
    k0_pay11 (F := Ideal) v8297 v8298 v8303 v8308 v8313 v8318 v8323 v8328 v8333 i = ((((((((v8297 i) + v8298 i * v8298 i) + v8303 i * v8303 i) + v8308 i * v8308 i) + v8313 i * v8313 i) + v8318 i * v8318 i) + v8323 i * v8323 i) + v8328 i * v8328 i) + v8333 i * v8333 i := by
  unfold k0_pay11
  rw [madd_apply, madd_apply, madd_apply, madd_apply, madd_apply, madd_apply, madd_apply, madd_apply]

theorem pay12_apply (v8338 : Vec Ideal S128x128 .bf16) (i : S128x128.Idx) :
    k0_pay12 (F := Ideal) v8338 i = v8338 i := by
  unfold k0_pay12
  rw [shapeCast_self]
  rfl

theorem pay13_apply (v8337 : FVec Ideal S128x128 .f32) (v8340 : FVec Ideal S128x128 .f32) (v8343 : Vec Ideal S128x128 .bf16) (v8348 : Vec Ideal S128x128 .bf16) (v8353 : Vec Ideal S128x128 .bf16) (v8358 : Vec Ideal S128x128 .bf16) (v8363 : Vec Ideal S128x128 .bf16) (v8368 : Vec Ideal S128x128 .bf16) (v8373 : Vec Ideal S128x128 .bf16) (v8378 : Vec Ideal S128x128 .bf16) (i : S128x128.Idx) :
    k0_pay13 (F := Ideal) v8337 v8340 v8343 v8348 v8353 v8358 v8363 v8368 v8373 v8378 i = ((((((((v8337 i + v8340 i * v8340 i) + v8343 i * v8343 i) + v8348 i * v8348 i) + v8353 i * v8353 i) + v8358 i * v8358 i) + v8363 i * v8363 i) + v8368 i * v8368 i) + v8373 i * v8373 i) + v8378 i * v8378 i := by
  unfold k0_pay13
  rw [madd_apply, madd_apply, madd_apply, madd_apply, madd_apply, madd_apply, madd_apply, madd_apply]
  rfl

theorem pay14_apply (v8382 : FVec Ideal S128x128 .f32) (v8383 : Vec Ideal S128x128 .bf16) (v8388 : Vec Ideal S128x128 .bf16) (v8393 : Vec Ideal S128x128 .bf16) (v8398 : Vec Ideal S128x128 .bf16) (v8403 : Vec Ideal S128x128 .bf16) (v8408 : Vec Ideal S128x128 .bf16) (v8413 : Vec Ideal S128x128 .bf16) (v8418 : Vec Ideal S128x128 .bf16) (i : S128x128.Idx) :
    k0_pay14 (F := Ideal) v8382 v8383 v8388 v8393 v8398 v8403 v8408 v8413 v8418 i = ((((((((v8382 i) + v8383 i * v8383 i) + v8388 i * v8388 i) + v8393 i * v8393 i) + v8398 i * v8398 i) + v8403 i * v8403 i) + v8408 i * v8408 i) + v8413 i * v8413 i) + v8418 i * v8418 i := by
  unfold k0_pay14
  rw [madd_apply, madd_apply, madd_apply, madd_apply, madd_apply, madd_apply, madd_apply, madd_apply]

theorem pay15_apply (v8423 : Vec Ideal S128x128 .bf16) (i : S128x128.Idx) :
    k0_pay15 (F := Ideal) v8423 i = v8423 i * v8423 i := by
  unfold k0_pay15
  rw [shapeCast_self]
  rfl

theorem pay16_apply (v8422 : FVec Ideal S128x128 .f32) (v8426 : FVec Ideal S128x128 .f32) (v8428 : Vec Ideal S128x128 .bf16) (v8433 : Vec Ideal S128x128 .bf16) (v8438 : Vec Ideal S128x128 .bf16) (v8443 : Vec Ideal S128x128 .bf16) (v8448 : Vec Ideal S128x128 .bf16) (v8453 : Vec Ideal S128x128 .bf16) (v8458 : Vec Ideal S128x128 .bf16) (v8463 : Vec Ideal S128x128 .bf16) (i : S128x128.Idx) :
    k0_pay16 (F := Ideal) v8422 v8426 v8428 v8433 v8438 v8443 v8448 v8453 v8458 v8463 i = ((((((((v8422 i + v8426 i) + v8428 i * v8428 i) + v8433 i * v8433 i) + v8438 i * v8438 i) + v8443 i * v8443 i) + v8448 i * v8448 i) + v8453 i * v8453 i) + v8458 i * v8458 i) + v8463 i * v8463 i := by
  unfold k0_pay16
  rw [madd_apply, madd_apply, madd_apply, madd_apply, madd_apply, madd_apply, madd_apply, madd_apply]
  rfl

/-- The sum of a lane's squares over the 40 blocks of columns. -/
theorem sumsq_apply (t l : Fin 128) :
    (addf (r_7 (F := Ideal) c a1 h1 x0) (mulf (extf .f32 (shapeCast S128x128 (r_8 (F := Ideal) c a1 h1 x0) shapeCasts_S128x128_S128x128) bitsLt_bf16_f32)
      (extf .f32 (shapeCast S128x128 (r_8 (F := Ideal) c a1 h1 x0) shapeCasts_S128x128_S128x128) bitsLt_bf16_f32)) : FVec Ideal S128x128 .f32) (ValueIdx.ix2 t l)
      = ∑ o : Fin 40, sq x0 t l o := by
  rw [sum40]
  rw [sq_read a1 h1 x0 0 0 rfl inb_S128x5120_S128x128_0_0 t l]
  rw [sq_read a1 h1 x0 1 128 rfl inb_S128x5120_S128x128_0_128 t l]
  rw [sq_read a1 h1 x0 2 256 rfl inb_S128x5120_S128x128_0_256 t l]
  rw [sq_read a1 h1 x0 3 384 rfl inb_S128x5120_S128x128_0_384 t l]
  rw [sq_read a1 h1 x0 4 512 rfl inb_S128x5120_S128x128_0_512 t l]
  rw [sq_read a1 h1 x0 5 640 rfl inb_S128x5120_S128x128_0_640 t l]
  rw [sq_read a1 h1 x0 6 768 rfl inb_S128x5120_S128x128_0_768 t l]
  rw [sq_read a1 h1 x0 7 896 rfl inb_S128x5120_S128x128_0_896 t l]
  rw [sq_read a1 h1 x0 8 1024 rfl inb_S128x5120_S128x128_0_1024 t l]
  rw [sq_read a1 h1 x0 9 1152 rfl inb_S128x5120_S128x128_0_1152 t l]
  rw [sq_read a1 h1 x0 10 1280 rfl inb_S128x5120_S128x128_0_1280 t l]
  rw [sq_read a1 h1 x0 11 1408 rfl inb_S128x5120_S128x128_0_1408 t l]
  rw [sq_read a1 h1 x0 12 1536 rfl inb_S128x5120_S128x128_0_1536 t l]
  rw [sq_read a1 h1 x0 13 1664 rfl inb_S128x5120_S128x128_0_1664 t l]
  rw [sq_read a1 h1 x0 14 1792 rfl inb_S128x5120_S128x128_0_1792 t l]
  rw [sq_read a1 h1 x0 15 1920 rfl inb_S128x5120_S128x128_0_1920 t l]
  rw [sq_read a1 h1 x0 16 2048 rfl inb_S128x5120_S128x128_0_2048 t l]
  rw [sq_read a1 h1 x0 17 2176 rfl inb_S128x5120_S128x128_0_2176 t l]
  rw [sq_read a1 h1 x0 18 2304 rfl inb_S128x5120_S128x128_0_2304 t l]
  rw [sq_read a1 h1 x0 19 2432 rfl inb_S128x5120_S128x128_0_2432 t l]
  rw [sq_read a1 h1 x0 20 2560 rfl inb_S128x5120_S128x128_0_2560 t l]
  rw [sq_read a1 h1 x0 21 2688 rfl inb_S128x5120_S128x128_0_2688 t l]
  rw [sq_read a1 h1 x0 22 2816 rfl inb_S128x5120_S128x128_0_2816 t l]
  rw [sq_read a1 h1 x0 23 2944 rfl inb_S128x5120_S128x128_0_2944 t l]
  rw [sq_read a1 h1 x0 24 3072 rfl inb_S128x5120_S128x128_0_3072 t l]
  rw [sq_read a1 h1 x0 25 3200 rfl inb_S128x5120_S128x128_0_3200 t l]
  rw [sq_read a1 h1 x0 26 3328 rfl inb_S128x5120_S128x128_0_3328 t l]
  rw [sq_read a1 h1 x0 27 3456 rfl inb_S128x5120_S128x128_0_3456 t l]
  rw [sq_read a1 h1 x0 28 3584 rfl inb_S128x5120_S128x128_0_3584 t l]
  rw [sq_read a1 h1 x0 29 3712 rfl inb_S128x5120_S128x128_0_3712 t l]
  rw [sq_read a1 h1 x0 30 3840 rfl inb_S128x5120_S128x128_0_3840 t l]
  rw [sq_read a1 h1 x0 31 3968 rfl inb_S128x5120_S128x128_0_3968 t l]
  rw [sq_read a1 h1 x0 32 4096 rfl inb_S128x5120_S128x128_0_4096 t l]
  rw [sq_read a1 h1 x0 33 4224 rfl inb_S128x5120_S128x128_0_4224 t l]
  rw [sq_read a1 h1 x0 34 4352 rfl inb_S128x5120_S128x128_0_4352 t l]
  rw [sq_read a1 h1 x0 35 4480 rfl inb_S128x5120_S128x128_0_4480 t l]
  rw [sq_read a1 h1 x0 36 4608 rfl inb_S128x5120_S128x128_0_4608 t l]
  rw [sq_read a1 h1 x0 37 4736 rfl inb_S128x5120_S128x128_0_4736 t l]
  rw [sq_read a1 h1 x0 38 4864 rfl inb_S128x5120_S128x128_0_4864 t l]
  rw [sq_read a1 h1 x0 39 4992 rfl inb_S128x5120_S128x128_0_4992 t l]
  rw [madd_apply]
  unfold r_7 r_5 r_4 r_2 r_1 r_3 r_6 r_8
  rw [pay16_apply, pay15_apply, pay14_apply, pay13_apply, pay12_apply, pay11_apply, pay10_apply]

end Cert.KernelIdeal.Val

end
-- ==== Proof.H2.lean ====
/- The scratch that holds the normalised rows, after the first grid point: tile `b`, row position `r` of token `t`
   is the normalised column that the unpacked code row `r` of tile `b` meets. -/
module

public import proofs.«01_k».proof.Proof.H
public import Idealize.ShloMosaic.Lib.Pipeline.ValueKit.Tiles
public import proofs.«01_k».proof.Proof.Gen.KernelIdeal.Frame.RunA
import all proofs.«01_k».proof.Proof.Gen.KernelIdeal.Frame.RunA

@[expose] public section

set_option maxRecDepth 65536
set_option maxHeartbeats 4000000

noncomputable section

namespace Cert.KernelIdeal.Val

open Cert.KernelIdeal Cert.KernelIdeal.Gen.kernelRun0_A.sl Cert.KernelIdeal.Gen Idealize.ShloMosaic Cert.Spec

variable (c : Dev nD)
variable (a1 : Memref sig .tc .vmem S128x5120 .bf16) (h1 : a1.IsWhole) (a2 : Memref sig .tc .vmem S1x5120 .bf16) (h2 : a2.IsWhole) (a3 : Memref sig .tc .vmem S1x128 .i32) (h3 : a3.IsWhole)
variable (x0 : Vec Ideal S128x5120 .bf16) (x1 : Vec Ideal S1x5120 .bf16) (x2 : Vec Ideal S1x128 .i32)

/-- One over the root of the mean square of token `t`'s row. -/
theorem rinv_apply (t : Fin 128) :
    r_9 (F := Ideal) c a1 h1 x0 (ValueIdx.ix2 t (0 : Fin 1)) = rinv (fun k => x0 (ValueIdx.ix2 t k)) := by
  unfold r_9 k0_pay17 rinv
  show Ideal.rsqrt (Ideal.div (shapeCast S128x1 (multiReduction .add [1] S128 (addf (r_7 (F := Ideal) c a1 h1 x0) (mulf (extf .f32 (shapeCast S128x128 (r_8 (F := Ideal) c a1 h1 x0) shapeCasts_S128x128_S128x128) bitsLt_bf16_f32)
      (extf .f32 (shapeCast S128x128 (r_8 (F := Ideal) c a1 h1 x0) shapeCasts_S128x128_S128x128) bitsLt_bf16_f32)) : FVec Ideal S128x128 .f32) 0x00000000#32 reduces_S128x128_S128 (.inl rfl) rfl) shapeCasts_S128_S128x1 (ValueIdx.ix2 t (0 : Fin 1)))
    (Ideal.ofBits .f32 0x45A00000#32) + Ideal.ofBits .f32 0x358637BD#32) = _
  congr 3
  rw [shapeCast_apply _ _ _ (ValueIdx.ix1 t : S128.Idx)
    (by rw [Shape.rowMajor_val_two, Shape.rowMajor_val_one]; show t.val = t.val * 1 + 0; omega)]
  refine (Ideal.multiReduction_add_single _ _ _ _ _ _).trans ?_
  show _ = ∑ k : Fin 5120, x0 (ValueIdx.ix2 t k) * x0 (ValueIdx.ix2 t k)
  rw [show (∑ k : Fin 5120, x0 (ValueIdx.ix2 t k) * x0 (ValueIdx.ix2 t k)) = ∑ l : Fin 128, ∑ o : Fin 40, sq x0 t l o from by
    rw [Finset.sum_comm, ← Fintype.sum_prod_type' (f := fun (o : Fin 40) (l : Fin 128) => sq x0 t l o), ← Equiv.sum_comp (finProdFinEquiv (m := 40) (n := 128))]
    refine Finset.sum_congr rfl fun p _ => ?_
    have e : (finProdFinEquiv p : Fin 5120) = ⟨p.1.val * 128 + p.2.val, by have := p.1.isLt; have := p.2.isLt; omega⟩ := Fin.ext (by rw [finProdFinEquiv_apply_val]; show p.2.val + 128 * p.1.val = p.1.val * 128 + p.2.val; omega)
    rw [e]
    rfl]
  refine Finset.sum_congr rfl fun l _ => ?_
  rw [← sumsq_apply c a1 h1 x0 t l]
  congr 1
  funext a
  match a with
  | ⟨0, _⟩ => rfl
  | ⟨1, _⟩ => rfl

/-- What the scratch of normalised rows holds. -/
def hval (x0 : S128x5120.Idx → EReal) (x1 : S1x5120.Idx → EReal) (i : S20x128x256.Idx) : EReal :=
  hn (fun k => x0 (ValueIdx.ix2 (i 1) k)) (fun k => x1 (ValueIdx.ix2 (0 : Fin 1) k))
    ⟨(i 0).val * 256 + ((i 2).val / 32 * 32 + (i 2).val % 2 * 16 + (i 2).val % 32 / 2), by
      have h0 : (i 0).val < 20 := (i 0).isLt
      have h2 : (i 2).val < 256 := (i 2).isLt
      omega⟩

/-- One block's payload at an index. -/
theorem piece_apply (y : S20x128x256.Idx) (w : FVec Ideal S1x128x128 .bf16) (o b q : ℕ) (hw : o = b * 256 + q) (hq : q = 0 ∨ q = 128) (hb : b < 20)
    (inb : ∀ x, (![0, o] : Fin 2 → ℕ) x + S128x128.size x ≤ S128x5120.size x) (inb' : ∀ x, (![0, o] : Fin 2 → ℕ) x + S1x128.size x ≤ S1x5120.size x)
    (hpay : w = hblk (F := Ideal) r (r_9 (F := Ideal) c a1 h1 x0) (View.readAt (Elt Ideal) a1.view (Rect.unit (s := S128x5120) ![0, o] S128x128.size inb).toLoadRect (h1.unread x0))
      (View.readAt (Elt Ideal) a2.view (Rect.unit (s := S1x5120) ![0, o] S1x128.size inb').toLoadRect (h2.unread x1)))
    (x : S1x128x128.Idx) (e0 : (y 0).val = b + (x 0).val) (e1 : (y 1).val = (x 1).val) (e2 : (y 2).val = q + (x 2).val) :
    w x = hval x0 x1 y := by
  obtain ⟨t, l, rfl⟩ : ∃ t l : Fin 128, x = ValueIdx.ix3 (0 : Fin 1) t l :=
    ⟨x 1, x 2, funext fun a => by match a with | ⟨0, _⟩ => exact Fin.ext (by have : (x 0).val < 1 := (x 0).isLt; show (x 0).val = 0; omega) | ⟨1, _⟩ => rfl | ⟨2, _⟩ => rfl⟩
  have e0' : (y 0).val = b := e0
  have e1' : y 1 = t := Fin.ext e1
  have e2' : (y 2).val = q + l.val := e2
  have hl := l.isLt
  rw [hpay, hblk_apply, rinv_apply, x_read a1 h1 x0 o (by omega), n_read a2 h2 x1 o (by omega)]
  unfold hval hn
  rw [e1']
  have hc : (⟨o + (prm l).val, by have := (prm l).isLt; omega⟩ : Fin 5120) = ⟨(y 0).val * 256 + ((y 2).val / 32 * 32 + (y 2).val % 2 * 16 + (y 2).val % 32 / 2), by omega⟩ :=
    Fin.ext (by
      show o + (l.val / 32 * 32 + l.val % 2 * 16 + l.val % 32 / 2) = (y 0).val * 256 + ((y 2).val / 32 * 32 + (y 2).val % 2 * 16 + (y 2).val % 32 / 2)
      rw [e0', e2', hw]
      rcases hq with rfl | rfl <;> omega)
  rw [hc]

theorem blk_19_128 : (k0_pay87 (F := Ideal) r (r_9 (F := Ideal) c a1 h1 x0) (View.readAt (Elt Ideal) a1.view (Rect.unit (s := S128x5120) ![0, 4992] S128x128.size inb_S128x5120_S128x128_0_4992).toLoadRect (h1.unread x0)) (View.readAt (Elt Ideal) a2.view (Rect.unit (s := S1x5120) ![0, 4992] S1x128.size inb_S1x5120_S1x128_0_4992).toLoadRect (h2.unread x1)))
    = hblk (F := Ideal) r (r_9 (F := Ideal) c a1 h1 x0) (View.readAt (Elt Ideal) a1.view (Rect.unit (s := S128x5120) ![0, 4992] S128x128.size inb_S128x5120_S128x128_0_4992).toLoadRect (h1.unread x0))
      (View.readAt (Elt Ideal) a2.view (Rect.unit (s := S1x5120) ![0, 4992] S1x128.size inb_S1x5120_S1x128_0_4992).toLoadRect (h2.unread x1)) := rfl

theorem blk_19_0 : (k0_pay86 (F := Ideal) r (r_33 (F := Ideal) c a1 h1 a2 h2 x0 x1))
    = hblk (F := Ideal) r (r_9 (F := Ideal) c a1 h1 x0) (View.readAt (Elt Ideal) a1.view (Rect.unit (s := S128x5120) ![0, 4864] S128x128.size inb_S128x5120_S128x128_0_4864).toLoadRect (h1.unread x0))
      (View.readAt (Elt Ideal) a2.view (Rect.unit (s := S1x5120) ![0, 4864] S1x128.size inb_S1x5120_S1x128_0_4864).toLoadRect (h2.unread x1)) := rfl

theorem blk_18_128 : (k0_pay84 (F := Ideal) r (r_9 (F := Ideal) c a1 h1 x0) (View.readAt (Elt Ideal) a1.view (Rect.unit (s := S128x5120) ![0, 4736] S128x128.size inb_S128x5120_S128x128_0_4736).toLoadRect (h1.unread x0)) (View.readAt (Elt Ideal) a2.view (Rect.unit (s := S1x5120) ![0, 4736] S1x128.size inb_S1x5120_S1x128_0_4736).toLoadRect (h2.unread x1)))
    = hblk (F := Ideal) r (r_9 (F := Ideal) c a1 h1 x0) (View.readAt (Elt Ideal) a1.view (Rect.unit (s := S128x5120) ![0, 4736] S128x128.size inb_S128x5120_S128x128_0_4736).toLoadRect (h1.unread x0))
      (View.readAt (Elt Ideal) a2.view (Rect.unit (s := S1x5120) ![0, 4736] S1x128.size inb_S1x5120_S1x128_0_4736).toLoadRect (h2.unread x1)) := rfl

theorem blk_18_0 : (k0_pay83 (F := Ideal) r (r_32 (F := Ideal) c a1 h1 a2 h2 x0 x1) (k0_pay81 r) (k0_pay82 r))
    = hblk (F := Ideal) r (r_9 (F := Ideal) c a1 h1 x0) (View.readAt (Elt Ideal) a1.view (Rect.unit (s := S128x5120) ![0, 4608] S128x128.size inb_S128x5120_S128x128_0_4608).toLoadRect (h1.unread x0))
      (View.readAt (Elt Ideal) a2.view (Rect.unit (s := S1x5120) ![0, 4608] S1x128.size inb_S1x5120_S1x128_0_4608).toLoadRect (h2.unread x1)) := rfl

theorem blk_17_128 : (k0_pay79 (F := Ideal) r (r_9 (F := Ideal) c a1 h1 x0) (View.readAt (Elt Ideal) a1.view (Rect.unit (s := S128x5120) ![0, 4480] S128x128.size inb_S128x5120_S128x128_0_4480).toLoadRect (h1.unread x0)) (View.readAt (Elt Ideal) a2.view (Rect.unit (s := S1x5120) ![0, 4480] S1x128.size inb_S1x5120_S1x128_0_4480).toLoadRect (h2.unread x1)))
    = hblk (F := Ideal) r (r_9 (F := Ideal) c a1 h1 x0) (View.readAt (Elt Ideal) a1.view (Rect.unit (s := S128x5120) ![0, 4480] S128x128.size inb_S128x5120_S128x128_0_4480).toLoadRect (h1.unread x0))
      (View.readAt (Elt Ideal) a2.view (Rect.unit (s := S1x5120) ![0, 4480] S1x128.size inb_S1x5120_S1x128_0_4480).toLoadRect (h2.unread x1)) := rfl

theorem blk_17_0 : (k0_pay78 (F := Ideal) (r_31 (F := Ideal) c a1 h1 a2 h2 x0 x1))
    = hblk (F := Ideal) r (r_9 (F := Ideal) c a1 h1 x0) (View.readAt (Elt Ideal) a1.view (Rect.unit (s := S128x5120) ![0, 4352] S128x128.size inb_S128x5120_S128x128_0_4352).toLoadRect (h1.unread x0))
      (View.readAt (Elt Ideal) a2.view (Rect.unit (s := S1x5120) ![0, 4352] S1x128.size inb_S1x5120_S1x128_0_4352).toLoadRect (h2.unread x1)) := rfl

theorem blk_16_128 : (k0_pay76 (F := Ideal) r (r_9 (F := Ideal) c a1 h1 x0) (r_30 (F := Ideal) c a1 h1 x0) (View.readAt (Elt Ideal) a2.view (Rect.unit (s := S1x5120) ![0, 4224] S1x128.size inb_S1x5120_S1x128_0_4224).toLoadRect (h2.unread x1)))
    = hblk (F := Ideal) r (r_9 (F := Ideal) c a1 h1 x0) (View.readAt (Elt Ideal) a1.view (Rect.unit (s := S128x5120) ![0, 4224] S128x128.size inb_S128x5120_S128x128_0_4224).toLoadRect (h1.unread x0))
      (View.readAt (Elt Ideal) a2.view (Rect.unit (s := S1x5120) ![0, 4224] S1x128.size inb_S1x5120_S1x128_0_4224).toLoadRect (h2.unread x1)) := rfl

theorem blk_16_0 : (k0_pay74 (F := Ideal) r (r_9 (F := Ideal) c a1 h1 x0) (View.readAt (Elt Ideal) a1.view (Rect.unit (s := S128x5120) ![0, 4096] S128x128.size inb_S128x5120_S128x128_0_4096).toLoadRect (h1.unread x0)) (View.readAt (Elt Ideal) a2.view (Rect.unit (s := S1x5120) ![0, 4096] S1x128.size inb_S1x5120_S1x128_0_4096).toLoadRect (h2.unread x1)))
    = hblk (F := Ideal) r (r_9 (F := Ideal) c a1 h1 x0) (View.readAt (Elt Ideal) a1.view (Rect.unit (s := S128x5120) ![0, 4096] S128x128.size inb_S128x5120_S128x128_0_4096).toLoadRect (h1.unread x0))
      (View.readAt (Elt Ideal) a2.view (Rect.unit (s := S1x5120) ![0, 4096] S1x128.size inb_S1x5120_S1x128_0_4096).toLoadRect (h2.unread x1)) := rfl

theorem blk_15_128 : (k0_pay73 (F := Ideal) r (r_28 (F := Ideal) c a1 h1 x0) (r_29 (F := Ideal) c a2 h2 x1))
    = hblk (F := Ideal) r (r_9 (F := Ideal) c a1 h1 x0) (View.readAt (Elt Ideal) a1.view (Rect.unit (s := S128x5120) ![0, 3968] S128x128.size inb_S128x5120_S128x128_0_3968).toLoadRect (h1.unread x0))
      (View.readAt (Elt Ideal) a2.view (Rect.unit (s := S1x5120) ![0, 3968] S1x128.size inb_S1x5120_S1x128_0_3968).toLoadRect (h2.unread x1)) := rfl

theorem blk_15_0 : (k0_pay70 (F := Ideal) r (r_9 (F := Ideal) c a1 h1 x0) (View.readAt (Elt Ideal) a1.view (Rect.unit (s := S128x5120) ![0, 3840] S128x128.size inb_S128x5120_S128x128_0_3840).toLoadRect (h1.unread x0)) (View.readAt (Elt Ideal) a2.view (Rect.unit (s := S1x5120) ![0, 3840] S1x128.size inb_S1x5120_S1x128_0_3840).toLoadRect (h2.unread x1)))
    = hblk (F := Ideal) r (r_9 (F := Ideal) c a1 h1 x0) (View.readAt (Elt Ideal) a1.view (Rect.unit (s := S128x5120) ![0, 3840] S128x128.size inb_S128x5120_S128x128_0_3840).toLoadRect (h1.unread x0))
      (View.readAt (Elt Ideal) a2.view (Rect.unit (s := S1x5120) ![0, 3840] S1x128.size inb_S1x5120_S1x128_0_3840).toLoadRect (h2.unread x1)) := rfl

theorem blk_14_128 : (k0_pay69 (F := Ideal) r (r_27 (F := Ideal) c a1 h1 a2 h2 x0 x1) (k0_pay68 r) 128#32)
    = hblk (F := Ideal) r (r_9 (F := Ideal) c a1 h1 x0) (View.readAt (Elt Ideal) a1.view (Rect.unit (s := S128x5120) ![0, 3712] S128x128.size inb_S128x5120_S128x128_0_3712).toLoadRect (h1.unread x0))
      (View.readAt (Elt Ideal) a2.view (Rect.unit (s := S1x5120) ![0, 3712] S1x128.size inb_S1x5120_S1x128_0_3712).toLoadRect (h2.unread x1)) := rfl

theorem blk_14_0 : (k0_pay66 (F := Ideal) r (r_9 (F := Ideal) c a1 h1 x0) (View.readAt (Elt Ideal) a1.view (Rect.unit (s := S128x5120) ![0, 3584] S128x128.size inb_S128x5120_S128x128_0_3584).toLoadRect (h1.unread x0)) (View.readAt (Elt Ideal) a2.view (Rect.unit (s := S1x5120) ![0, 3584] S1x128.size inb_S1x5120_S1x128_0_3584).toLoadRect (h2.unread x1)))
    = hblk (F := Ideal) r (r_9 (F := Ideal) c a1 h1 x0) (View.readAt (Elt Ideal) a1.view (Rect.unit (s := S128x5120) ![0, 3584] S128x128.size inb_S128x5120_S128x128_0_3584).toLoadRect (h1.unread x0))
      (View.readAt (Elt Ideal) a2.view (Rect.unit (s := S1x5120) ![0, 3584] S1x128.size inb_S1x5120_S1x128_0_3584).toLoadRect (h2.unread x1)) := rfl

theorem blk_13_128 : (k0_pay65 (F := Ideal) (r_26 (F := Ideal) c a1 h1 a2 h2 x0 x1))
    = hblk (F := Ideal) r (r_9 (F := Ideal) c a1 h1 x0) (View.readAt (Elt Ideal) a1.view (Rect.unit (s := S128x5120) ![0, 3456] S128x128.size inb_S128x5120_S128x128_0_3456).toLoadRect (h1.unread x0))
      (View.readAt (Elt Ideal) a2.view (Rect.unit (s := S1x5120) ![0, 3456] S1x128.size inb_S1x5120_S1x128_0_3456).toLoadRect (h2.unread x1)) := rfl

theorem blk_13_0 : (k0_pay63 (F := Ideal) r (r_9 (F := Ideal) c a1 h1 x0) (View.readAt (Elt Ideal) a1.view (Rect.unit (s := S128x5120) ![0, 3328] S128x128.size inb_S128x5120_S128x128_0_3328).toLoadRect (h1.unread x0)) (View.readAt (Elt Ideal) a2.view (Rect.unit (s := S1x5120) ![0, 3328] S1x128.size inb_S1x5120_S1x128_0_3328).toLoadRect (h2.unread x1)))
    = hblk (F := Ideal) r (r_9 (F := Ideal) c a1 h1 x0) (View.readAt (Elt Ideal) a1.view (Rect.unit (s := S128x5120) ![0, 3328] S128x128.size inb_S128x5120_S128x128_0_3328).toLoadRect (h1.unread x0))
      (View.readAt (Elt Ideal) a2.view (Rect.unit (s := S1x5120) ![0, 3328] S1x128.size inb_S1x5120_S1x128_0_3328).toLoadRect (h2.unread x1)) := rfl

theorem blk_12_128 : (k0_pay62 (F := Ideal) r (r_9 (F := Ideal) c a1 h1 x0) (View.readAt (Elt Ideal) a1.view (Rect.unit (s := S128x5120) ![0, 3200] S128x128.size inb_S128x5120_S128x128_0_3200).toLoadRect (h1.unread x0)) (View.readAt (Elt Ideal) a2.view (Rect.unit (s := S1x5120) ![0, 3200] S1x128.size inb_S1x5120_S1x128_0_3200).toLoadRect (h2.unread x1)))
    = hblk (F := Ideal) r (r_9 (F := Ideal) c a1 h1 x0) (View.readAt (Elt Ideal) a1.view (Rect.unit (s := S128x5120) ![0, 3200] S128x128.size inb_S128x5120_S128x128_0_3200).toLoadRect (h1.unread x0))
      (View.readAt (Elt Ideal) a2.view (Rect.unit (s := S1x5120) ![0, 3200] S1x128.size inb_S1x5120_S1x128_0_3200).toLoadRect (h2.unread x1)) := rfl

theorem blk_12_0 : (k0_pay61 (F := Ideal) r (r_24 (F := Ideal) c a1 h1 x0) (r_25 (F := Ideal) c a2 h2 x1))
    = hblk (F := Ideal) r (r_9 (F := Ideal) c a1 h1 x0) (View.readAt (Elt Ideal) a1.view (Rect.unit (s := S128x5120) ![0, 3072] S128x128.size inb_S128x5120_S128x128_0_3072).toLoadRect (h1.unread x0))
      (View.readAt (Elt Ideal) a2.view (Rect.unit (s := S1x5120) ![0, 3072] S1x128.size inb_S1x5120_S1x128_0_3072).toLoadRect (h2.unread x1)) := rfl

theorem blk_11_128 : (k0_pay59 (F := Ideal) r (r_9 (F := Ideal) c a1 h1 x0) (View.readAt (Elt Ideal) a1.view (Rect.unit (s := S128x5120) ![0, 2944] S128x128.size inb_S128x5120_S128x128_0_2944).toLoadRect (h1.unread x0)) (View.readAt (Elt Ideal) a2.view (Rect.unit (s := S1x5120) ![0, 2944] S1x128.size inb_S1x5120_S1x128_0_2944).toLoadRect (h2.unread x1)))
    = hblk (F := Ideal) r (r_9 (F := Ideal) c a1 h1 x0) (View.readAt (Elt Ideal) a1.view (Rect.unit (s := S128x5120) ![0, 2944] S128x128.size inb_S128x5120_S128x128_0_2944).toLoadRect (h1.unread x0))
      (View.readAt (Elt Ideal) a2.view (Rect.unit (s := S1x5120) ![0, 2944] S1x128.size inb_S1x5120_S1x128_0_2944).toLoadRect (h2.unread x1)) := rfl

theorem blk_11_0 : (k0_pay58 (F := Ideal) r (r_23 (F := Ideal) c a1 h1 a2 h2 x0 x1) k0_pay57)
    = hblk (F := Ideal) r (r_9 (F := Ideal) c a1 h1 x0) (View.readAt (Elt Ideal) a1.view (Rect.unit (s := S128x5120) ![0, 2816] S128x128.size inb_S128x5120_S128x128_0_2816).toLoadRect (h1.unread x0))
      (View.readAt (Elt Ideal) a2.view (Rect.unit (s := S1x5120) ![0, 2816] S1x128.size inb_S1x5120_S1x128_0_2816).toLoadRect (h2.unread x1)) := rfl

theorem blk_10_128 : (k0_pay55 (F := Ideal) r (r_9 (F := Ideal) c a1 h1 x0) (View.readAt (Elt Ideal) a1.view (Rect.unit (s := S128x5120) ![0, 2688] S128x128.size inb_S128x5120_S128x128_0_2688).toLoadRect (h1.unread x0)) (View.readAt (Elt Ideal) a2.view (Rect.unit (s := S1x5120) ![0, 2688] S1x128.size inb_S1x5120_S1x128_0_2688).toLoadRect (h2.unread x1)))
    = hblk (F := Ideal) r (r_9 (F := Ideal) c a1 h1 x0) (View.readAt (Elt Ideal) a1.view (Rect.unit (s := S128x5120) ![0, 2688] S128x128.size inb_S128x5120_S128x128_0_2688).toLoadRect (h1.unread x0))
      (View.readAt (Elt Ideal) a2.view (Rect.unit (s := S1x5120) ![0, 2688] S1x128.size inb_S1x5120_S1x128_0_2688).toLoadRect (h2.unread x1)) := rfl

theorem blk_10_0 : (k0_pay54 (F := Ideal) (r_22 (F := Ideal) c a1 h1 a2 h2 x0 x1))
    = hblk (F := Ideal) r (r_9 (F := Ideal) c a1 h1 x0) (View.readAt (Elt Ideal) a1.view (Rect.unit (s := S128x5120) ![0, 2560] S128x128.size inb_S128x5120_S128x128_0_2560).toLoadRect (h1.unread x0))
      (View.readAt (Elt Ideal) a2.view (Rect.unit (s := S1x5120) ![0, 2560] S1x128.size inb_S1x5120_S1x128_0_2560).toLoadRect (h2.unread x1)) := rfl

theorem blk_9_128 : (k0_pay52 (F := Ideal) r (r_9 (F := Ideal) c a1 h1 x0) (View.readAt (Elt Ideal) a1.view (Rect.unit (s := S128x5120) ![0, 2432] S128x128.size inb_S128x5120_S128x128_0_2432).toLoadRect (h1.unread x0)) (View.readAt (Elt Ideal) a2.view (Rect.unit (s := S1x5120) ![0, 2432] S1x128.size inb_S1x5120_S1x128_0_2432).toLoadRect (h2.unread x1)))
    = hblk (F := Ideal) r (r_9 (F := Ideal) c a1 h1 x0) (View.readAt (Elt Ideal) a1.view (Rect.unit (s := S128x5120) ![0, 2432] S128x128.size inb_S128x5120_S128x128_0_2432).toLoadRect (h1.unread x0))
      (View.readAt (Elt Ideal) a2.view (Rect.unit (s := S1x5120) ![0, 2432] S1x128.size inb_S1x5120_S1x128_0_2432).toLoadRect (h2.unread x1)) := rfl

theorem blk_9_0 : (k0_pay51 (F := Ideal) r (r_9 (F := Ideal) c a1 h1 x0) (View.readAt (Elt Ideal) a1.view (Rect.unit (s := S128x5120) ![0, 2304] S128x128.size inb_S128x5120_S128x128_0_2304).toLoadRect (h1.unread x0)) (View.readAt (Elt Ideal) a2.view (Rect.unit (s := S1x5120) ![0, 2304] S1x128.size inb_S1x5120_S1x128_0_2304).toLoadRect (h2.unread x1)))
    = hblk (F := Ideal) r (r_9 (F := Ideal) c a1 h1 x0) (View.readAt (Elt Ideal) a1.view (Rect.unit (s := S128x5120) ![0, 2304] S128x128.size inb_S128x5120_S128x128_0_2304).toLoadRect (h1.unread x0))
      (View.readAt (Elt Ideal) a2.view (Rect.unit (s := S1x5120) ![0, 2304] S1x128.size inb_S1x5120_S1x128_0_2304).toLoadRect (h2.unread x1)) := rfl

theorem blk_8_128 : (k0_pay50 (F := Ideal) r (r_21 (F := Ideal) c a1 h1 x0) (View.readAt (Elt Ideal) a2.view (Rect.unit (s := S1x5120) ![0, 2176] S1x128.size inb_S1x5120_S1x128_0_2176).toLoadRect (h2.unread x1)))
    = hblk (F := Ideal) r (r_9 (F := Ideal) c a1 h1 x0) (View.readAt (Elt Ideal) a1.view (Rect.unit (s := S128x5120) ![0, 2176] S128x128.size inb_S128x5120_S128x128_0_2176).toLoadRect (h1.unread x0))
      (View.readAt (Elt Ideal) a2.view (Rect.unit (s := S1x5120) ![0, 2176] S1x128.size inb_S1x5120_S1x128_0_2176).toLoadRect (h2.unread x1)) := rfl

theorem blk_8_0 : (k0_pay48 (F := Ideal) r (r_9 (F := Ideal) c a1 h1 x0) (View.readAt (Elt Ideal) a1.view (Rect.unit (s := S128x5120) ![0, 2048] S128x128.size inb_S128x5120_S128x128_0_2048).toLoadRect (h1.unread x0)) (View.readAt (Elt Ideal) a2.view (Rect.unit (s := S1x5120) ![0, 2048] S1x128.size inb_S1x5120_S1x128_0_2048).toLoadRect (h2.unread x1)))
    = hblk (F := Ideal) r (r_9 (F := Ideal) c a1 h1 x0) (View.readAt (Elt Ideal) a1.view (Rect.unit (s := S128x5120) ![0, 2048] S128x128.size inb_S128x5120_S128x128_0_2048).toLoadRect (h1.unread x0))
      (View.readAt (Elt Ideal) a2.view (Rect.unit (s := S1x5120) ![0, 2048] S1x128.size inb_S1x5120_S1x128_0_2048).toLoadRect (h2.unread x1)) := rfl

theorem blk_7_128 : (k0_pay47 (F := Ideal) r (r_20 (F := Ideal) c a1 h1 a2 h2 x0 x1))
    = hblk (F := Ideal) r (r_9 (F := Ideal) c a1 h1 x0) (View.readAt (Elt Ideal) a1.view (Rect.unit (s := S128x5120) ![0, 1920] S128x128.size inb_S128x5120_S128x128_0_1920).toLoadRect (h1.unread x0))
      (View.readAt (Elt Ideal) a2.view (Rect.unit (s := S1x5120) ![0, 1920] S1x128.size inb_S1x5120_S1x128_0_1920).toLoadRect (h2.unread x1)) := rfl

theorem blk_7_0 : (k0_pay45 (F := Ideal) r (r_9 (F := Ideal) c a1 h1 x0) (View.readAt (Elt Ideal) a1.view (Rect.unit (s := S128x5120) ![0, 1792] S128x128.size inb_S128x5120_S128x128_0_1792).toLoadRect (h1.unread x0)) (View.readAt (Elt Ideal) a2.view (Rect.unit (s := S1x5120) ![0, 1792] S1x128.size inb_S1x5120_S1x128_0_1792).toLoadRect (h2.unread x1)))
    = hblk (F := Ideal) r (r_9 (F := Ideal) c a1 h1 x0) (View.readAt (Elt Ideal) a1.view (Rect.unit (s := S128x5120) ![0, 1792] S128x128.size inb_S128x5120_S128x128_0_1792).toLoadRect (h1.unread x0))
      (View.readAt (Elt Ideal) a2.view (Rect.unit (s := S1x5120) ![0, 1792] S1x128.size inb_S1x5120_S1x128_0_1792).toLoadRect (h2.unread x1)) := rfl

theorem blk_6_128 : (k0_pay44 (F := Ideal) (r_19 (F := Ideal) c a1 h1 a2 h2 x0 x1) (k0_pay43 r))
    = hblk (F := Ideal) r (r_9 (F := Ideal) c a1 h1 x0) (View.readAt (Elt Ideal) a1.view (Rect.unit (s := S128x5120) ![0, 1664] S128x128.size inb_S128x5120_S128x128_0_1664).toLoadRect (h1.unread x0))
      (View.readAt (Elt Ideal) a2.view (Rect.unit (s := S1x5120) ![0, 1664] S1x128.size inb_S1x5120_S1x128_0_1664).toLoadRect (h2.unread x1)) := rfl

theorem blk_6_0 : (k0_pay41 (F := Ideal) r (r_9 (F := Ideal) c a1 h1 x0) (View.readAt (Elt Ideal) a1.view (Rect.unit (s := S128x5120) ![0, 1536] S128x128.size inb_S128x5120_S128x128_0_1536).toLoadRect (h1.unread x0)) (View.readAt (Elt Ideal) a2.view (Rect.unit (s := S1x5120) ![0, 1536] S1x128.size inb_S1x5120_S1x128_0_1536).toLoadRect (h2.unread x1)))
    = hblk (F := Ideal) r (r_9 (F := Ideal) c a1 h1 x0) (View.readAt (Elt Ideal) a1.view (Rect.unit (s := S128x5120) ![0, 1536] S128x128.size inb_S128x5120_S128x128_0_1536).toLoadRect (h1.unread x0))
      (View.readAt (Elt Ideal) a2.view (Rect.unit (s := S1x5120) ![0, 1536] S1x128.size inb_S1x5120_S1x128_0_1536).toLoadRect (h2.unread x1)) := rfl

theorem blk_5_128 : (k0_pay40 (F := Ideal) (r_18 (F := Ideal) c a1 h1 a2 h2 x0 x1))
    = hblk (F := Ideal) r (r_9 (F := Ideal) c a1 h1 x0) (View.readAt (Elt Ideal) a1.view (Rect.unit (s := S128x5120) ![0, 1408] S128x128.size inb_S128x5120_S128x128_0_1408).toLoadRect (h1.unread x0))
      (View.readAt (Elt Ideal) a2.view (Rect.unit (s := S1x5120) ![0, 1408] S1x128.size inb_S1x5120_S1x128_0_1408).toLoadRect (h2.unread x1)) := rfl

theorem blk_5_0 : (k0_pay38 (F := Ideal) r (r_16 (F := Ideal) c a1 h1 x0) (r_17 (F := Ideal) c a1 h1 x0) (View.readAt (Elt Ideal) a2.view (Rect.unit (s := S1x5120) ![0, 1280] S1x128.size inb_S1x5120_S1x128_0_1280).toLoadRect (h2.unread x1)))
    = hblk (F := Ideal) r (r_9 (F := Ideal) c a1 h1 x0) (View.readAt (Elt Ideal) a1.view (Rect.unit (s := S128x5120) ![0, 1280] S128x128.size inb_S128x5120_S128x128_0_1280).toLoadRect (h1.unread x0))
      (View.readAt (Elt Ideal) a2.view (Rect.unit (s := S1x5120) ![0, 1280] S1x128.size inb_S1x5120_S1x128_0_1280).toLoadRect (h2.unread x1)) := rfl

theorem blk_4_128 : (k0_pay35 (F := Ideal) r (r_9 (F := Ideal) c a1 h1 x0) (View.readAt (Elt Ideal) a1.view (Rect.unit (s := S128x5120) ![0, 1152] S128x128.size inb_S128x5120_S128x128_0_1152).toLoadRect (h1.unread x0)) (View.readAt (Elt Ideal) a2.view (Rect.unit (s := S1x5120) ![0, 1152] S1x128.size inb_S1x5120_S1x128_0_1152).toLoadRect (h2.unread x1)))
    = hblk (F := Ideal) r (r_9 (F := Ideal) c a1 h1 x0) (View.readAt (Elt Ideal) a1.view (Rect.unit (s := S128x5120) ![0, 1152] S128x128.size inb_S128x5120_S128x128_0_1152).toLoadRect (h1.unread x0))
      (View.readAt (Elt Ideal) a2.view (Rect.unit (s := S1x5120) ![0, 1152] S1x128.size inb_S1x5120_S1x128_0_1152).toLoadRect (h2.unread x1)) := rfl

theorem blk_4_0 : (k0_pay34 (F := Ideal) r (r_15 (F := Ideal) c a1 h1 a2 h2 x0 x1))
    = hblk (F := Ideal) r (r_9 (F := Ideal) c a1 h1 x0) (View.readAt (Elt Ideal) a1.view (Rect.unit (s := S128x5120) ![0, 1024] S128x128.size inb_S128x5120_S128x128_0_1024).toLoadRect (h1.unread x0))
      (View.readAt (Elt Ideal) a2.view (Rect.unit (s := S1x5120) ![0, 1024] S1x128.size inb_S1x5120_S1x128_0_1024).toLoadRect (h2.unread x1)) := rfl

theorem blk_3_128 : (k0_pay32 (F := Ideal) r (r_9 (F := Ideal) c a1 h1 x0) (View.readAt (Elt Ideal) a1.view (Rect.unit (s := S128x5120) ![0, 896] S128x128.size inb_S128x5120_S128x128_0_896).toLoadRect (h1.unread x0)) (View.readAt (Elt Ideal) a2.view (Rect.unit (s := S1x5120) ![0, 896] S1x128.size inb_S1x5120_S1x128_0_896).toLoadRect (h2.unread x1)))
    = hblk (F := Ideal) r (r_9 (F := Ideal) c a1 h1 x0) (View.readAt (Elt Ideal) a1.view (Rect.unit (s := S128x5120) ![0, 896] S128x128.size inb_S128x5120_S128x128_0_896).toLoadRect (h1.unread x0))
      (View.readAt (Elt Ideal) a2.view (Rect.unit (s := S1x5120) ![0, 896] S1x128.size inb_S1x5120_S1x128_0_896).toLoadRect (h2.unread x1)) := rfl

theorem blk_3_0 : (k0_pay31 (F := Ideal) r (r_14 (F := Ideal) c a1 h1 a2 h2 x0 x1) (k0_pay29 r) (k0_pay30 r))
    = hblk (F := Ideal) r (r_9 (F := Ideal) c a1 h1 x0) (View.readAt (Elt Ideal) a1.view (Rect.unit (s := S128x5120) ![0, 768] S128x128.size inb_S128x5120_S128x128_0_768).toLoadRect (h1.unread x0))
      (View.readAt (Elt Ideal) a2.view (Rect.unit (s := S1x5120) ![0, 768] S1x128.size inb_S1x5120_S1x128_0_768).toLoadRect (h2.unread x1)) := rfl

theorem blk_2_128 : (k0_pay27 (F := Ideal) r (r_9 (F := Ideal) c a1 h1 x0) (View.readAt (Elt Ideal) a1.view (Rect.unit (s := S128x5120) ![0, 640] S128x128.size inb_S128x5120_S128x128_0_640).toLoadRect (h1.unread x0)) (View.readAt (Elt Ideal) a2.view (Rect.unit (s := S1x5120) ![0, 640] S1x128.size inb_S1x5120_S1x128_0_640).toLoadRect (h2.unread x1)))
    = hblk (F := Ideal) r (r_9 (F := Ideal) c a1 h1 x0) (View.readAt (Elt Ideal) a1.view (Rect.unit (s := S128x5120) ![0, 640] S128x128.size inb_S128x5120_S128x128_0_640).toLoadRect (h1.unread x0))
      (View.readAt (Elt Ideal) a2.view (Rect.unit (s := S1x5120) ![0, 640] S1x128.size inb_S1x5120_S1x128_0_640).toLoadRect (h2.unread x1)) := rfl

theorem blk_2_0 : (k0_pay26 (F := Ideal) (r_13 (F := Ideal) c a1 h1 a2 h2 x0 x1))
    = hblk (F := Ideal) r (r_9 (F := Ideal) c a1 h1 x0) (View.readAt (Elt Ideal) a1.view (Rect.unit (s := S128x5120) ![0, 512] S128x128.size inb_S128x5120_S128x128_0_512).toLoadRect (h1.unread x0))
      (View.readAt (Elt Ideal) a2.view (Rect.unit (s := S1x5120) ![0, 512] S1x128.size inb_S1x5120_S1x128_0_512).toLoadRect (h2.unread x1)) := rfl

theorem blk_1_128 : (k0_pay24 (F := Ideal) r (r_9 (F := Ideal) c a1 h1 x0) (r_12 (F := Ideal) c a1 h1 x0) (View.readAt (Elt Ideal) a2.view (Rect.unit (s := S1x5120) ![0, 384] S1x128.size inb_S1x5120_S1x128_0_384).toLoadRect (h2.unread x1)))
    = hblk (F := Ideal) r (r_9 (F := Ideal) c a1 h1 x0) (View.readAt (Elt Ideal) a1.view (Rect.unit (s := S128x5120) ![0, 384] S128x128.size inb_S128x5120_S128x128_0_384).toLoadRect (h1.unread x0))
      (View.readAt (Elt Ideal) a2.view (Rect.unit (s := S1x5120) ![0, 384] S1x128.size inb_S1x5120_S1x128_0_384).toLoadRect (h2.unread x1)) := rfl

theorem blk_1_0 : (k0_pay22 (F := Ideal) r (r_9 (F := Ideal) c a1 h1 x0) (View.readAt (Elt Ideal) a1.view (Rect.unit (s := S128x5120) ![0, 256] S128x128.size inb_S128x5120_S128x128_0_256).toLoadRect (h1.unread x0)) (View.readAt (Elt Ideal) a2.view (Rect.unit (s := S1x5120) ![0, 256] S1x128.size inb_S1x5120_S1x128_0_256).toLoadRect (h2.unread x1)))
    = hblk (F := Ideal) r (r_9 (F := Ideal) c a1 h1 x0) (View.readAt (Elt Ideal) a1.view (Rect.unit (s := S128x5120) ![0, 256] S128x128.size inb_S128x5120_S128x128_0_256).toLoadRect (h1.unread x0))
      (View.readAt (Elt Ideal) a2.view (Rect.unit (s := S1x5120) ![0, 256] S1x128.size inb_S1x5120_S1x128_0_256).toLoadRect (h2.unread x1)) := rfl

theorem blk_0_128 : (k0_pay21 (F := Ideal) r (r_10 (F := Ideal) c a1 h1 x0) (r_11 (F := Ideal) c a2 h2 x1))
    = hblk (F := Ideal) r (r_9 (F := Ideal) c a1 h1 x0) (View.readAt (Elt Ideal) a1.view (Rect.unit (s := S128x5120) ![0, 128] S128x128.size inb_S128x5120_S128x128_0_128).toLoadRect (h1.unread x0))
      (View.readAt (Elt Ideal) a2.view (Rect.unit (s := S1x5120) ![0, 128] S1x128.size inb_S1x5120_S1x128_0_128).toLoadRect (h2.unread x1)) := rfl

theorem blk_0_0 : (k0_pay18 (F := Ideal) r (r_7 (F := Ideal) c a1 h1 x0) (r_8 (F := Ideal) c a1 h1 x0) (View.readAt (Elt Ideal) a1.view (Rect.unit (s := S128x5120) ![0, 0] S128x128.size inb_S128x5120_S128x128_0_0).toLoadRect (h1.unread x0)) (View.readAt (Elt Ideal) a2.view (Rect.unit (s := S1x5120) ![0, 0] S1x128.size inb_S1x5120_S1x128_0_0).toLoadRect (h2.unread x1)))
    = hblk (F := Ideal) r (r_9 (F := Ideal) c a1 h1 x0) (View.readAt (Elt Ideal) a1.view (Rect.unit (s := S128x5120) ![0, 0] S128x128.size inb_S128x5120_S128x128_0_0).toLoadRect (h1.unread x0))
      (View.readAt (Elt Ideal) a2.view (Rect.unit (s := S1x5120) ![0, 0] S1x128.size inb_S1x5120_S1x128_0_0).toLoadRect (h2.unread x1)) := rfl

/-- The scratch of normalised rows after the first grid point. -/
theorem h_canon (y : S20x128x256.Idx) : View.canon (HS0_40 (F := Ideal) c a1 h1 a2 h2 x0 x1) y = hval x0 x1 y := by
  refine View.canon_eq_of_allAt _ y _ (View.cover_of_tiled_head _ _ _ (by rfl) y) ?_
  refine View.allAt_cons_unit _ _ _ _ _ (fun x hx => piece_apply c a1 h1 a2 h2 x0 x1 y _ 4992 19 128 rfl (by omega) (by omega) _ _ (blk_19_128 c a1 h1 a2 h2 x0 x1) x (hx 0) ((hx 1).trans (Nat.zero_add _)) (hx 2)) ?_
  refine View.allAt_cons_unit _ _ _ _ _ (fun x hx => piece_apply c a1 h1 a2 h2 x0 x1 y _ 4864 19 0 rfl (by omega) (by omega) _ _ (blk_19_0 c a1 h1 a2 h2 x0 x1) x (hx 0) ((hx 1).trans (Nat.zero_add _)) (hx 2)) ?_
  refine View.allAt_cons_unit _ _ _ _ _ (fun x hx => piece_apply c a1 h1 a2 h2 x0 x1 y _ 4736 18 128 rfl (by omega) (by omega) _ _ (blk_18_128 c a1 h1 a2 h2 x0 x1) x (hx 0) ((hx 1).trans (Nat.zero_add _)) (hx 2)) ?_
  refine View.allAt_cons_unit _ _ _ _ _ (fun x hx => piece_apply c a1 h1 a2 h2 x0 x1 y _ 4608 18 0 rfl (by omega) (by omega) _ _ (blk_18_0 c a1 h1 a2 h2 x0 x1) x (hx 0) ((hx 1).trans (Nat.zero_add _)) (hx 2)) ?_
  refine View.allAt_cons_unit _ _ _ _ _ (fun x hx => piece_apply c a1 h1 a2 h2 x0 x1 y _ 4480 17 128 rfl (by omega) (by omega) _ _ (blk_17_128 c a1 h1 a2 h2 x0 x1) x (hx 0) ((hx 1).trans (Nat.zero_add _)) (hx 2)) ?_
  refine View.allAt_cons_unit _ _ _ _ _ (fun x hx => piece_apply c a1 h1 a2 h2 x0 x1 y _ 4352 17 0 rfl (by omega) (by omega) _ _ (blk_17_0 c a1 h1 a2 h2 x0 x1) x (hx 0) ((hx 1).trans (Nat.zero_add _)) (hx 2)) ?_
  refine View.allAt_cons_unit _ _ _ _ _ (fun x hx => piece_apply c a1 h1 a2 h2 x0 x1 y _ 4224 16 128 rfl (by omega) (by omega) _ _ (blk_16_128 c a1 h1 a2 h2 x0 x1) x (hx 0) ((hx 1).trans (Nat.zero_add _)) (hx 2)) ?_
  refine View.allAt_cons_unit _ _ _ _ _ (fun x hx => piece_apply c a1 h1 a2 h2 x0 x1 y _ 4096 16 0 rfl (by omega) (by omega) _ _ (blk_16_0 c a1 h1 a2 h2 x0 x1) x (hx 0) ((hx 1).trans (Nat.zero_add _)) (hx 2)) ?_
  refine View.allAt_cons_unit _ _ _ _ _ (fun x hx => piece_apply c a1 h1 a2 h2 x0 x1 y _ 3968 15 128 rfl (by omega) (by omega) _ _ (blk_15_128 c a1 h1 a2 h2 x0 x1) x (hx 0) ((hx 1).trans (Nat.zero_add _)) (hx 2)) ?_
  refine View.allAt_cons_unit _ _ _ _ _ (fun x hx => piece_apply c a1 h1 a2 h2 x0 x1 y _ 3840 15 0 rfl (by omega) (by omega) _ _ (blk_15_0 c a1 h1 a2 h2 x0 x1) x (hx 0) ((hx 1).trans (Nat.zero_add _)) (hx 2)) ?_
  refine View.allAt_cons_unit _ _ _ _ _ (fun x hx => piece_apply c a1 h1 a2 h2 x0 x1 y _ 3712 14 128 rfl (by omega) (by omega) _ _ (blk_14_128 c a1 h1 a2 h2 x0 x1) x (hx 0) ((hx 1).trans (Nat.zero_add _)) (hx 2)) ?_
  refine View.allAt_cons_unit _ _ _ _ _ (fun x hx => piece_apply c a1 h1 a2 h2 x0 x1 y _ 3584 14 0 rfl (by omega) (by omega) _ _ (blk_14_0 c a1 h1 a2 h2 x0 x1) x (hx 0) ((hx 1).trans (Nat.zero_add _)) (hx 2)) ?_
  refine View.allAt_cons_unit _ _ _ _ _ (fun x hx => piece_apply c a1 h1 a2 h2 x0 x1 y _ 3456 13 128 rfl (by omega) (by omega) _ _ (blk_13_128 c a1 h1 a2 h2 x0 x1) x (hx 0) ((hx 1).trans (Nat.zero_add _)) (hx 2)) ?_
  refine View.allAt_cons_unit _ _ _ _ _ (fun x hx => piece_apply c a1 h1 a2 h2 x0 x1 y _ 3328 13 0 rfl (by omega) (by omega) _ _ (blk_13_0 c a1 h1 a2 h2 x0 x1) x (hx 0) ((hx 1).trans (Nat.zero_add _)) (hx 2)) ?_
  refine View.allAt_cons_unit _ _ _ _ _ (fun x hx => piece_apply c a1 h1 a2 h2 x0 x1 y _ 3200 12 128 rfl (by omega) (by omega) _ _ (blk_12_128 c a1 h1 a2 h2 x0 x1) x (hx 0) ((hx 1).trans (Nat.zero_add _)) (hx 2)) ?_
  refine View.allAt_cons_unit _ _ _ _ _ (fun x hx => piece_apply c a1 h1 a2 h2 x0 x1 y _ 3072 12 0 rfl (by omega) (by omega) _ _ (blk_12_0 c a1 h1 a2 h2 x0 x1) x (hx 0) ((hx 1).trans (Nat.zero_add _)) (hx 2)) ?_
  refine View.allAt_cons_unit _ _ _ _ _ (fun x hx => piece_apply c a1 h1 a2 h2 x0 x1 y _ 2944 11 128 rfl (by omega) (by omega) _ _ (blk_11_128 c a1 h1 a2 h2 x0 x1) x (hx 0) ((hx 1).trans (Nat.zero_add _)) (hx 2)) ?_
  refine View.allAt_cons_unit _ _ _ _ _ (fun x hx => piece_apply c a1 h1 a2 h2 x0 x1 y _ 2816 11 0 rfl (by omega) (by omega) _ _ (blk_11_0 c a1 h1 a2 h2 x0 x1) x (hx 0) ((hx 1).trans (Nat.zero_add _)) (hx 2)) ?_
  refine View.allAt_cons_unit _ _ _ _ _ (fun x hx => piece_apply c a1 h1 a2 h2 x0 x1 y _ 2688 10 128 rfl (by omega) (by omega) _ _ (blk_10_128 c a1 h1 a2 h2 x0 x1) x (hx 0) ((hx 1).trans (Nat.zero_add _)) (hx 2)) ?_
  refine View.allAt_cons_unit _ _ _ _ _ (fun x hx => piece_apply c a1 h1 a2 h2 x0 x1 y _ 2560 10 0 rfl (by omega) (by omega) _ _ (blk_10_0 c a1 h1 a2 h2 x0 x1) x (hx 0) ((hx 1).trans (Nat.zero_add _)) (hx 2)) ?_
  refine View.allAt_cons_unit _ _ _ _ _ (fun x hx => piece_apply c a1 h1 a2 h2 x0 x1 y _ 2432 9 128 rfl (by omega) (by omega) _ _ (blk_9_128 c a1 h1 a2 h2 x0 x1) x (hx 0) ((hx 1).trans (Nat.zero_add _)) (hx 2)) ?_
  refine View.allAt_cons_unit _ _ _ _ _ (fun x hx => piece_apply c a1 h1 a2 h2 x0 x1 y _ 2304 9 0 rfl (by omega) (by omega) _ _ (blk_9_0 c a1 h1 a2 h2 x0 x1) x (hx 0) ((hx 1).trans (Nat.zero_add _)) (hx 2)) ?_
  refine View.allAt_cons_unit _ _ _ _ _ (fun x hx => piece_apply c a1 h1 a2 h2 x0 x1 y _ 2176 8 128 rfl (by omega) (by omega) _ _ (blk_8_128 c a1 h1 a2 h2 x0 x1) x (hx 0) ((hx 1).trans (Nat.zero_add _)) (hx 2)) ?_
  refine View.allAt_cons_unit _ _ _ _ _ (fun x hx => piece_apply c a1 h1 a2 h2 x0 x1 y _ 2048 8 0 rfl (by omega) (by omega) _ _ (blk_8_0 c a1 h1 a2 h2 x0 x1) x (hx 0) ((hx 1).trans (Nat.zero_add _)) (hx 2)) ?_
  refine View.allAt_cons_unit _ _ _ _ _ (fun x hx => piece_apply c a1 h1 a2 h2 x0 x1 y _ 1920 7 128 rfl (by omega) (by omega) _ _ (blk_7_128 c a1 h1 a2 h2 x0 x1) x (hx 0) ((hx 1).trans (Nat.zero_add _)) (hx 2)) ?_
  refine View.allAt_cons_unit _ _ _ _ _ (fun x hx => piece_apply c a1 h1 a2 h2 x0 x1 y _ 1792 7 0 rfl (by omega) (by omega) _ _ (blk_7_0 c a1 h1 a2 h2 x0 x1) x (hx 0) ((hx 1).trans (Nat.zero_add _)) (hx 2)) ?_
  refine View.allAt_cons_unit _ _ _ _ _ (fun x hx => piece_apply c a1 h1 a2 h2 x0 x1 y _ 1664 6 128 rfl (by omega) (by omega) _ _ (blk_6_128 c a1 h1 a2 h2 x0 x1) x (hx 0) ((hx 1).trans (Nat.zero_add _)) (hx 2)) ?_
  refine View.allAt_cons_unit _ _ _ _ _ (fun x hx => piece_apply c a1 h1 a2 h2 x0 x1 y _ 1536 6 0 rfl (by omega) (by omega) _ _ (blk_6_0 c a1 h1 a2 h2 x0 x1) x (hx 0) ((hx 1).trans (Nat.zero_add _)) (hx 2)) ?_
  refine View.allAt_cons_unit _ _ _ _ _ (fun x hx => piece_apply c a1 h1 a2 h2 x0 x1 y _ 1408 5 128 rfl (by omega) (by omega) _ _ (blk_5_128 c a1 h1 a2 h2 x0 x1) x (hx 0) ((hx 1).trans (Nat.zero_add _)) (hx 2)) ?_
  refine View.allAt_cons_unit _ _ _ _ _ (fun x hx => piece_apply c a1 h1 a2 h2 x0 x1 y _ 1280 5 0 rfl (by omega) (by omega) _ _ (blk_5_0 c a1 h1 a2 h2 x0 x1) x (hx 0) ((hx 1).trans (Nat.zero_add _)) (hx 2)) ?_
  refine View.allAt_cons_unit _ _ _ _ _ (fun x hx => piece_apply c a1 h1 a2 h2 x0 x1 y _ 1152 4 128 rfl (by omega) (by omega) _ _ (blk_4_128 c a1 h1 a2 h2 x0 x1) x (hx 0) ((hx 1).trans (Nat.zero_add _)) (hx 2)) ?_
  refine View.allAt_cons_unit _ _ _ _ _ (fun x hx => piece_apply c a1 h1 a2 h2 x0 x1 y _ 1024 4 0 rfl (by omega) (by omega) _ _ (blk_4_0 c a1 h1 a2 h2 x0 x1) x (hx 0) ((hx 1).trans (Nat.zero_add _)) (hx 2)) ?_
  refine View.allAt_cons_unit _ _ _ _ _ (fun x hx => piece_apply c a1 h1 a2 h2 x0 x1 y _ 896 3 128 rfl (by omega) (by omega) _ _ (blk_3_128 c a1 h1 a2 h2 x0 x1) x (hx 0) ((hx 1).trans (Nat.zero_add _)) (hx 2)) ?_
  refine View.allAt_cons_unit _ _ _ _ _ (fun x hx => piece_apply c a1 h1 a2 h2 x0 x1 y _ 768 3 0 rfl (by omega) (by omega) _ _ (blk_3_0 c a1 h1 a2 h2 x0 x1) x (hx 0) ((hx 1).trans (Nat.zero_add _)) (hx 2)) ?_
  refine View.allAt_cons_unit _ _ _ _ _ (fun x hx => piece_apply c a1 h1 a2 h2 x0 x1 y _ 640 2 128 rfl (by omega) (by omega) _ _ (blk_2_128 c a1 h1 a2 h2 x0 x1) x (hx 0) ((hx 1).trans (Nat.zero_add _)) (hx 2)) ?_
  refine View.allAt_cons_unit _ _ _ _ _ (fun x hx => piece_apply c a1 h1 a2 h2 x0 x1 y _ 512 2 0 rfl (by omega) (by omega) _ _ (blk_2_0 c a1 h1 a2 h2 x0 x1) x (hx 0) ((hx 1).trans (Nat.zero_add _)) (hx 2)) ?_
  refine View.allAt_cons_unit _ _ _ _ _ (fun x hx => piece_apply c a1 h1 a2 h2 x0 x1 y _ 384 1 128 rfl (by omega) (by omega) _ _ (blk_1_128 c a1 h1 a2 h2 x0 x1) x (hx 0) ((hx 1).trans (Nat.zero_add _)) (hx 2)) ?_
  refine View.allAt_cons_unit _ _ _ _ _ (fun x hx => piece_apply c a1 h1 a2 h2 x0 x1 y _ 256 1 0 rfl (by omega) (by omega) _ _ (blk_1_0 c a1 h1 a2 h2 x0 x1) x (hx 0) ((hx 1).trans (Nat.zero_add _)) (hx 2)) ?_
  refine View.allAt_cons_unit _ _ _ _ _ (fun x hx => piece_apply c a1 h1 a2 h2 x0 x1 y _ 128 0 128 rfl (by omega) (by omega) _ _ (blk_0_128 c a1 h1 a2 h2 x0 x1) x (hx 0) ((hx 1).trans (Nat.zero_add _)) (hx 2)) ?_
  refine View.allAt_cons_unit _ _ _ _ _ (fun x hx => piece_apply c a1 h1 a2 h2 x0 x1 y _ 0 0 0 rfl (by omega) (by omega) _ _ (blk_0_0 c a1 h1 a2 h2 x0 x1) x (hx 0) ((hx 1).trans (Nat.zero_add _)) (hx 2)) ?_
  exact View.allAt_nil y _

end Cert.KernelIdeal.Val

end
-- ==== Proof.OutA.lean ====
/- Case A: the output blocks at an index. -/
module

public import proofs.«01_k».proof.Proof.TilesAq
public import proofs.«01_k».proof.Proof.TilesAk
public import proofs.«01_k».proof.Proof.TilesAv
public import proofs.«01_k».proof.Proof.OutBase
public import proofs.«01_k».proof.Proof.H2
import all proofs.«01_k».proof.Proof.Gen.KernelIdeal.Frame.RunB
import all proofs.«01_k».proof.Proof.Gen.KernelIdeal.Frame.RunA

@[expose] public section

set_option maxRecDepth 65536
set_option maxHeartbeats 4000000

noncomputable section

namespace Cert.KernelIdeal.Val

open Cert.KernelIdeal Cert.KernelIdeal.Gen.kernelRun0_A.sl Cert.KernelIdeal.Gen Idealize.ShloMosaic Cert.Spec

variable (c : Dev nD)
variable (a1 : Memref sig .tc .vmem S128x5120 .bf16) (h1 : a1.IsWhole) (a2 : Memref sig .tc .vmem S1x5120 .bf16) (h2 : a2.IsWhole) (a3 : Memref sig .tc .vmem S1x128 .i32) (h3 : a3.IsWhole)
variable (a4 : Memref sig .tc .vmem S160x16x256 .i8) (h4 : a4.IsWhole) (a5 : Memref sig .tc .vmem S160x256 .bf16) (h5 : a5.IsWhole) (a6 : Memref sig .tc .vmem S160x256 .bf16) (h6 : a6.IsWhole)
variable (a7 : Memref sig .tc .vmem S160x16x256 .i8) (h7 : a7.IsWhole) (a8 : Memref sig .tc .vmem S160x256 .bf16) (h8 : a8.IsWhole) (a9 : Memref sig .tc .vmem S160x256 .bf16) (h9 : a9.IsWhole)
variable (a10 : Memref sig .tc .vmem S160x16x256 .i8) (h10 : a10.IsWhole) (a11 : Memref sig .tc .vmem S160x256 .bf16) (h11 : a11.IsWhole) (a12 : Memref sig .tc .vmem S160x256 .bf16) (h12 : a12.IsWhole)
variable (a16 : Memref sig .tc .vmem S20x128x256 .bf16) (h16 : a16.IsWhole) (a17 : Memref sig .tc .vmem S128x128 .f32) (h17 : a17.IsWhole) (a18 : Memref sig .tc .vmem S128x128 .f32) (h18 : a18.IsWhole)
  (a19 : Memref sig .tc .vmem S20x8x2x256 .bf16) (a20 : Memref sig .tc .vmem S20x8x2x256 .bf16)
variable (x0 : Vec Ideal S128x5120 .bf16) (x1 : Vec Ideal S1x5120 .bf16) (x2 : Vec Ideal S1x128 .i32)
  (x3 x6 x9 : Vec Ideal S160x16x256 .i8) (x4 x5 x7 x8 x10 x11 : Vec Ideal S160x256 .bf16)
  (xs0 : Vec Ideal S20x128x256 .bf16) (xs1 xs2 : Vec Ideal S128x128 .f32)

/-- The positions, read whole. -/
theorem p_read (a : Memref sig .tc .vmem S1x128 .i32) (ha : a.IsWhole) (x : S1x128.Idx → BitVec 32)
    (inb : ∀ x, (![0, 0] : Fin 2 → ℕ) x + S1x128.size x ≤ S1x128.size x) (t : Fin 128) :
    View.readAt (Elt Ideal) a.view (Rect.unit (s := S1x128) ![0, 0] S1x128.size inb).toLoadRect (ha.unread x) (ValueIdx.ix2 (0 : Fin 1) t) = x (ValueIdx.ix2 (0 : Fin 1) t) := by
  refine (readAt_box (F := Ideal) (e := .i32) a ha x (Rect.unit (s := S1x128) ![0, 0] S1x128.size inb) (ValueIdx.ix2 (0 : Fin 1) t : S1x128.Idx)).trans (congrArg x (funext fun x => ?_))
  match x with
  | ⟨0, _⟩ => rfl
  | ⟨1, _⟩ => exact Fin.ext (by show 0 + 1 * t.val = t.val; omega)

theorem A_q (t : Fin 128) (n : Fin 256) :
    (r_258 c a1 h1 a2 h2 a4 h4 a5 h5 a6 h6 a16 a19 a20 x0 x1 x3 x4 x5) (ValueIdx.ix2 t n) = S (View.canon (HS0_40 c a1 h1 a2 h2 x0 x1)) x3 x4 x5 t n := by
  rw [S_eq, A_q19, A_q18, A_q17, A_q16, A_q15, A_q14, A_q13, A_q12, A_q11, A_q10, A_q9, A_q8, A_q7, A_q6, A_q5, A_q4, A_q3, A_q2, A_q1, A_q0]
  rw [show ∀ i, (k0_pay95 (F := Ideal)) i = 0 from fun _ => Ideal.ofBits_zero_f32]

theorem A_k (t : Fin 128) (n : Fin 256) :
    (r_499 c a1 h1 a2 h2 a5 h5 a6 h6 a7 h7 a8 h8 a9 h9 a16 a19 a20 x0 x1 x4 x5 x6 x7 x8) (ValueIdx.ix2 t n) = S (View.canon (HS0_40 c a1 h1 a2 h2 x0 x1)) x6 x7 x8 t n := by
  rw [S_eq, A_k19, A_k18, A_k17, A_k16, A_k15, A_k14, A_k13, A_k12, A_k11, A_k10, A_k9, A_k8, A_k7, A_k6, A_k5, A_k4, A_k3, A_k2, A_k1, A_k0]
  rw [show ∀ i, (k0_pay371 (F := Ideal)) i = 0 from fun _ => Ideal.ofBits_zero_f32]

theorem A_v (t : Fin 128) (n : Fin 256) :
    (k0_pay1 (r_754 c a1 h1 a2 h2 a5 h5 a6 h6 a8 h8 a9 h9 a10 h10 a11 h11 a12 h12 a16 a19 a20 x0 x1 x4 x5 x7 x8 x9 x10 x11) (r_755 c a10 h10 x9) (r_758 c a5 h5 a6 h6 a8 h8 a9 h9 a10 h10 a11 h11 a12 h12 a19 a20 x4 x5 x7 x8 x9 x10 x11) (r_759 c a5 h5 a6 h6 a8 h8 a9 h9 a10 h10 a11 h11 a12 h12 a19 a20 x4 x5 x7 x8 x9 x10 x11) (r_760 c a5 h5 a6 h6 a8 h8 a9 h9 a10 h10 a11 h11 a12 h12 a19 a20 x4 x5 x7 x8 x9 x10 x11) (r_761 c a5 h5 a6 h6 a8 h8 a9 h9 a10 h10 a11 h11 a12 h12 a19 a20 x4 x5 x7 x8 x9 x10 x11) (r_762 c a5 h5 a6 h6 a8 h8 a9 h9 a10 h10 a11 h11 a12 h12 a19 a20 x4 x5 x7 x8 x9 x10 x11) (r_764 c a5 h5 a6 h6 a8 h8 a9 h9 a10 h10 a11 h11 a12 h12 a19 a20 x4 x5 x7 x8 x9 x10 x11) (r_765 c a5 h5 a6 h6 a8 h8 a9 h9 a10 h10 a11 h11 a12 h12 a19 a20 x4 x5 x7 x8 x9 x10 x11) (r_766 c a5 h5 a8 h8 a11 h11 a19 x4 x7 x10) (r_767 c a6 h6 a9 h9 a12 h12 a20 x5 x8 x11) (v6756 c a1 h1 a2 h2 a16 x0 x1)) (ValueIdx.ix2 t n) = S (View.canon (HS0_40 c a1 h1 a2 h2 x0 x1)) x9 x10 x11 t n := by
  rw [S_eq, A_v19, A_v18, A_v17, A_v16, A_v15, A_v14, A_v13, A_v12, A_v11, A_v10, A_v9, A_v8, A_v7, A_v6, A_v5, A_v4, A_v3, A_v2, A_v1, A_v0]
  rw [show ∀ i, (k0_pay667 (F := Ideal)) i = 0 from fun _ => Ideal.ofBits_zero_f32]

theorem cos_canon (i : S128x128.Idx) : View.canon (HS1_1 (F := Ideal) c a3 h3 x2) i = Ideal.cos (ang (x2 (ValueIdx.ix2 (0 : Fin 1) (i 0))) ((i 1).val / 2)) := by
  obtain ⟨t, l, rfl⟩ : ∃ t l : Fin 128, i = ValueIdx.ix2 t l := ⟨i 0, i 1, funext fun a => by match a with | ⟨0, _⟩ => rfl | ⟨1, _⟩ => rfl⟩
  refine (View.canon_eq_of_allAt _ _ _ (View.cover_of_tiled_head _ _ _ (by rfl) _) (View.allAt_cons_unit _ _ _ _ _ (fun x hx => ?_) (View.allAt_nil _ _)))
  have hx' : x = ValueIdx.ix2 t l := funext fun a => by
    match a with
    | ⟨0, _⟩ => exact Fin.ext (((hx 0).trans (Nat.zero_add _)).symm)
    | ⟨1, _⟩ => exact Fin.ext (((hx 1).trans (Nat.zero_add _)).symm)
  rw [hx']
  refine (cos_apply _ t l).trans ?_
  rw [p_read]

theorem sin_canon (i : S128x128.Idx) : View.canon (HS2_1 (F := Ideal) c a3 h3 x2) i
    = if (i 1).val % 2 = 0 then -Ideal.sin (ang (x2 (ValueIdx.ix2 (0 : Fin 1) (i 0))) ((i 1).val / 2)) else Ideal.sin (ang (x2 (ValueIdx.ix2 (0 : Fin 1) (i 0))) ((i 1).val / 2)) := by
  obtain ⟨t, l, rfl⟩ : ∃ t l : Fin 128, i = ValueIdx.ix2 t l := ⟨i 0, i 1, funext fun a => by match a with | ⟨0, _⟩ => rfl | ⟨1, _⟩ => rfl⟩
  refine (View.canon_eq_of_allAt _ _ _ (View.cover_of_tiled_head _ _ _ (by rfl) _) (View.allAt_cons_unit _ _ _ _ _ (fun x hx => ?_) (View.allAt_nil _ _)))
  have hx' : x = ValueIdx.ix2 t l := funext fun a => by
    match a with
    | ⟨0, _⟩ => exact Fin.ext (((hx 0).trans (Nat.zero_add _)).symm)
    | ⟨1, _⟩ => exact Fin.ext (((hx 1).trans (Nat.zero_add _)).symm)
  rw [hx']
  refine (sin_apply _ t l).trans ?_
  rw [p_read]

theorem A_L12 (y : S2x128x128.Idx) :
    View.canon ([⟨Rect.unit (s := S2x128x128) ![1, 0, 0] S1x128x128.size inb_S2x128x128_S1x128x128_1_0_0, k0_pay370 (F := Ideal) k0_pay94 (r_258 c a1 h1 a2 h2 a4 h4 a5 h5 a6 h6 a16 a19 a20 x0 x1 x3 x4 x5) (v2247 c a3 h3 a17 x2) (v2257 c a3 h3 a18 x2)⟩, ⟨Rect.unit (s := S2x128x128) ![0, 0, 0] S1x128x128.size inb_S2x128x128_S1x128x128_0_0_0, k0_pay369 (F := Ideal) (r_259 c a1 h1 a2 h2 a3 h3 a4 h4 a5 h5 a6 h6 a16 a17 a18 a19 a20 x0 x1 x2 x3 x4 x5)⟩] : List (View.Piece (Elt Ideal) S2x128x128 .bf16)) y
      = Rp (View.canon (HS0_40 c a1 h1 a2 h2 x0 x1)) x3 x4 x5 (View.canon (HS1_1 c a3 h3 x2)) (View.canon (HS2_1 c a3 h3 x2)) y := by
  refine View.canon_eq_of_allAt _ y _ (View.cover_of_tiled_head _ _ _ (by rfl) y) ?_
  refine View.allAt_cons_unit _ _ _ _ _ (fun x hx => rope_piece (View.canon (HS0_40 c a1 h1 a2 h2 x0 x1)) x3 x4 x5 (View.canon (HS1_1 c a3 h3 x2)) (View.canon (HS2_1 c a3 h3 x2)) (r_258 c a1 h1 a2 h2 a4 h4 a5 h5 a6 h6 a16 a19 a20 x0 x1 x3 x4 x5) _ _ _ 1 128 rfl (by omega) slices_S128x256_o0_128_S128x128 rfl (fun t n => A_q (t := t) (n := n) ..) (sq_readCov a17 _ _) (sq_readCov a18 _ _) y x (hx 0) ((hx 1).trans (Nat.zero_add _)) ((hx 2).trans (Nat.zero_add _))) ?_
  refine View.allAt_cons_unit _ _ _ _ _ (fun x hx => rope_piece (View.canon (HS0_40 c a1 h1 a2 h2 x0 x1)) x3 x4 x5 (View.canon (HS1_1 c a3 h3 x2)) (View.canon (HS2_1 c a3 h3 x2)) (r_258 c a1 h1 a2 h2 a4 h4 a5 h5 a6 h6 a16 a19 a20 x0 x1 x3 x4 x5) _ _ _ 0 0 rfl (by omega) slices_S128x256_o0_0_S128x128 rfl (fun t n => A_q (t := t) (n := n) ..) (sq_readCov a17 _ _) (sq_readCov a18 _ _) y x (hx 0) ((hx 1).trans (Nat.zero_add _)) ((hx 2).trans (Nat.zero_add _))) ?_
  exact View.allAt_nil y _

theorem A_L13 (y : S2x128x128.Idx) :
    View.canon ([⟨Rect.unit (s := S2x128x128) ![1, 0, 0] S1x128x128.size inb_S2x128x128_S1x128x128_1_0_0, k0_pay666 (F := Ideal) k0_pay94 (r_499 c a1 h1 a2 h2 a5 h5 a6 h6 a7 h7 a8 h8 a9 h9 a16 a19 a20 x0 x1 x4 x5 x6 x7 x8) (v2247 c a3 h3 a17 x2) (v2257 c a3 h3 a18 x2)⟩, ⟨Rect.unit (s := S2x128x128) ![0, 0, 0] S1x128x128.size inb_S2x128x128_S1x128x128_0_0_0, k0_pay665 (F := Ideal) (r_500 c a1 h1 a2 h2 a3 h3 a5 h5 a6 h6 a7 h7 a8 h8 a9 h9 a16 a17 a18 a19 a20 x0 x1 x2 x4 x5 x6 x7 x8)⟩] : List (View.Piece (Elt Ideal) S2x128x128 .bf16)) y
      = Rp (View.canon (HS0_40 c a1 h1 a2 h2 x0 x1)) x6 x7 x8 (View.canon (HS1_1 c a3 h3 x2)) (View.canon (HS2_1 c a3 h3 x2)) y := by
  refine View.canon_eq_of_allAt _ y _ (View.cover_of_tiled_head _ _ _ (by rfl) y) ?_
  refine View.allAt_cons_unit _ _ _ _ _ (fun x hx => rope_piece (View.canon (HS0_40 c a1 h1 a2 h2 x0 x1)) x6 x7 x8 (View.canon (HS1_1 c a3 h3 x2)) (View.canon (HS2_1 c a3 h3 x2)) (r_499 c a1 h1 a2 h2 a5 h5 a6 h6 a7 h7 a8 h8 a9 h9 a16 a19 a20 x0 x1 x4 x5 x6 x7 x8) _ _ _ 1 128 rfl (by omega) slices_S128x256_o0_128_S128x128 rfl (fun t n => A_k (t := t) (n := n) ..) (sq_readCov a17 _ _) (sq_readCov a18 _ _) y x (hx 0) ((hx 1).trans (Nat.zero_add _)) ((hx 2).trans (Nat.zero_add _))) ?_
  refine View.allAt_cons_unit _ _ _ _ _ (fun x hx => rope_piece (View.canon (HS0_40 c a1 h1 a2 h2 x0 x1)) x6 x7 x8 (View.canon (HS1_1 c a3 h3 x2)) (View.canon (HS2_1 c a3 h3 x2)) (r_499 c a1 h1 a2 h2 a5 h5 a6 h6 a7 h7 a8 h8 a9 h9 a16 a19 a20 x0 x1 x4 x5 x6 x7 x8) _ _ _ 0 0 rfl (by omega) slices_S128x256_o0_0_S128x128 rfl (fun t n => A_k (t := t) (n := n) ..) (sq_readCov a17 _ _) (sq_readCov a18 _ _) y x (hx 0) ((hx 1).trans (Nat.zero_add _)) ((hx 2).trans (Nat.zero_add _))) ?_
  exact View.allAt_nil y _

theorem A_L14 (y : S2x128x128.Idx) :
    View.canon ([⟨Rect.unit (s := S2x128x128) ![1, 0, 0] ![1, 128, 128] inb_S2x128x128_S1x128x128_1_0_0, k0_pay3 (F := Ideal) (r_754 c a1 h1 a2 h2 a5 h5 a6 h6 a8 h8 a9 h9 a10 h10 a11 h11 a12 h12 a16 a19 a20 x0 x1 x4 x5 x7 x8 x9 x10 x11) (r_755 c a10 h10 x9) (r_758 c a5 h5 a6 h6 a8 h8 a9 h9 a10 h10 a11 h11 a12 h12 a19 a20 x4 x5 x7 x8 x9 x10 x11) (r_759 c a5 h5 a6 h6 a8 h8 a9 h9 a10 h10 a11 h11 a12 h12 a19 a20 x4 x5 x7 x8 x9 x10 x11) (r_760 c a5 h5 a6 h6 a8 h8 a9 h9 a10 h10 a11 h11 a12 h12 a19 a20 x4 x5 x7 x8 x9 x10 x11) (r_761 c a5 h5 a6 h6 a8 h8 a9 h9 a10 h10 a11 h11 a12 h12 a19 a20 x4 x5 x7 x8 x9 x10 x11) (r_762 c a5 h5 a6 h6 a8 h8 a9 h9 a10 h10 a11 h11 a12 h12 a19 a20 x4 x5 x7 x8 x9 x10 x11) (r_764 c a5 h5 a6 h6 a8 h8 a9 h9 a10 h10 a11 h11 a12 h12 a19 a20 x4 x5 x7 x8 x9 x10 x11) (r_765 c a5 h5 a6 h6 a8 h8 a9 h9 a10 h10 a11 h11 a12 h12 a19 a20 x4 x5 x7 x8 x9 x10 x11) (r_766 c a5 h5 a8 h8 a11 h11 a19 x4 x7 x10) (r_767 c a6 h6 a9 h9 a12 h12 a20 x5 x8 x11) (v6756 c a1 h1 a2 h2 a16 x0 x1)⟩, ⟨Rect.unit (s := S2x128x128) ![0, 0, 0] ![1, 128, 128] inb_S2x128x128_S1x128x128_0_0_0, k0_pay2 (F := Ideal) (r_754 c a1 h1 a2 h2 a5 h5 a6 h6 a8 h8 a9 h9 a10 h10 a11 h11 a12 h12 a16 a19 a20 x0 x1 x4 x5 x7 x8 x9 x10 x11) (r_755 c a10 h10 x9) (r_758 c a5 h5 a6 h6 a8 h8 a9 h9 a10 h10 a11 h11 a12 h12 a19 a20 x4 x5 x7 x8 x9 x10 x11) (r_759 c a5 h5 a6 h6 a8 h8 a9 h9 a10 h10 a11 h11 a12 h12 a19 a20 x4 x5 x7 x8 x9 x10 x11) (r_760 c a5 h5 a6 h6 a8 h8 a9 h9 a10 h10 a11 h11 a12 h12 a19 a20 x4 x5 x7 x8 x9 x10 x11) (r_761 c a5 h5 a6 h6 a8 h8 a9 h9 a10 h10 a11 h11 a12 h12 a19 a20 x4 x5 x7 x8 x9 x10 x11) (r_762 c a5 h5 a6 h6 a8 h8 a9 h9 a10 h10 a11 h11 a12 h12 a19 a20 x4 x5 x7 x8 x9 x10 x11) (r_764 c a5 h5 a6 h6 a8 h8 a9 h9 a10 h10 a11 h11 a12 h12 a19 a20 x4 x5 x7 x8 x9 x10 x11) (r_765 c a5 h5 a6 h6 a8 h8 a9 h9 a10 h10 a11 h11 a12 h12 a19 a20 x4 x5 x7 x8 x9 x10 x11) (r_766 c a5 h5 a8 h8 a11 h11 a19 x4 x7 x10) (r_767 c a6 h6 a9 h9 a12 h12 a20 x5 x8 x11) (v6756 c a1 h1 a2 h2 a16 x0 x1)⟩] : List (View.Piece (Elt Ideal) S2x128x128 .bf16)) y
      = Vp (View.canon (HS0_40 c a1 h1 a2 h2 x0 x1)) x9 x10 x11 y := by
  refine View.canon_eq_of_allAt _ y _ (View.cover_of_tiled_head _ _ _ (by rfl) y) ?_
  refine View.allAt_cons_unit _ _ _ _ _ (fun x hx => v_piece (View.canon (HS0_40 c a1 h1 a2 h2 x0 x1)) x9 x10 x11 (k0_pay1 (r_754 c a1 h1 a2 h2 a5 h5 a6 h6 a8 h8 a9 h9 a10 h10 a11 h11 a12 h12 a16 a19 a20 x0 x1 x4 x5 x7 x8 x9 x10 x11) (r_755 c a10 h10 x9) (r_758 c a5 h5 a6 h6 a8 h8 a9 h9 a10 h10 a11 h11 a12 h12 a19 a20 x4 x5 x7 x8 x9 x10 x11) (r_759 c a5 h5 a6 h6 a8 h8 a9 h9 a10 h10 a11 h11 a12 h12 a19 a20 x4 x5 x7 x8 x9 x10 x11) (r_760 c a5 h5 a6 h6 a8 h8 a9 h9 a10 h10 a11 h11 a12 h12 a19 a20 x4 x5 x7 x8 x9 x10 x11) (r_761 c a5 h5 a6 h6 a8 h8 a9 h9 a10 h10 a11 h11 a12 h12 a19 a20 x4 x5 x7 x8 x9 x10 x11) (r_762 c a5 h5 a6 h6 a8 h8 a9 h9 a10 h10 a11 h11 a12 h12 a19 a20 x4 x5 x7 x8 x9 x10 x11) (r_764 c a5 h5 a6 h6 a8 h8 a9 h9 a10 h10 a11 h11 a12 h12 a19 a20 x4 x5 x7 x8 x9 x10 x11) (r_765 c a5 h5 a6 h6 a8 h8 a9 h9 a10 h10 a11 h11 a12 h12 a19 a20 x4 x5 x7 x8 x9 x10 x11) (r_766 c a5 h5 a8 h8 a11 h11 a19 x4 x7 x10) (r_767 c a6 h6 a9 h9 a12 h12 a20 x5 x8 x11) (v6756 c a1 h1 a2 h2 a16 x0 x1)) _ 1 128 rfl (by omega) slices_S128x256_o0_128_S128x128 rfl (fun t n => A_v (t := t) (n := n) ..) y x (hx 0) ((hx 1).trans (Nat.zero_add _)) ((hx 2).trans (Nat.zero_add _))) ?_
  refine View.allAt_cons_unit _ _ _ _ _ (fun x hx => v_piece (View.canon (HS0_40 c a1 h1 a2 h2 x0 x1)) x9 x10 x11 (k0_pay1 (r_754 c a1 h1 a2 h2 a5 h5 a6 h6 a8 h8 a9 h9 a10 h10 a11 h11 a12 h12 a16 a19 a20 x0 x1 x4 x5 x7 x8 x9 x10 x11) (r_755 c a10 h10 x9) (r_758 c a5 h5 a6 h6 a8 h8 a9 h9 a10 h10 a11 h11 a12 h12 a19 a20 x4 x5 x7 x8 x9 x10 x11) (r_759 c a5 h5 a6 h6 a8 h8 a9 h9 a10 h10 a11 h11 a12 h12 a19 a20 x4 x5 x7 x8 x9 x10 x11) (r_760 c a5 h5 a6 h6 a8 h8 a9 h9 a10 h10 a11 h11 a12 h12 a19 a20 x4 x5 x7 x8 x9 x10 x11) (r_761 c a5 h5 a6 h6 a8 h8 a9 h9 a10 h10 a11 h11 a12 h12 a19 a20 x4 x5 x7 x8 x9 x10 x11) (r_762 c a5 h5 a6 h6 a8 h8 a9 h9 a10 h10 a11 h11 a12 h12 a19 a20 x4 x5 x7 x8 x9 x10 x11) (r_764 c a5 h5 a6 h6 a8 h8 a9 h9 a10 h10 a11 h11 a12 h12 a19 a20 x4 x5 x7 x8 x9 x10 x11) (r_765 c a5 h5 a6 h6 a8 h8 a9 h9 a10 h10 a11 h11 a12 h12 a19 a20 x4 x5 x7 x8 x9 x10 x11) (r_766 c a5 h5 a8 h8 a11 h11 a19 x4 x7 x10) (r_767 c a6 h6 a9 h9 a12 h12 a20 x5 x8 x11) (v6756 c a1 h1 a2 h2 a16 x0 x1)) _ 0 0 rfl (by omega) slices_S128x256_o0_0_S128x128 rfl (fun t n => A_v (t := t) (n := n) ..) y x (hx 0) ((hx 1).trans (Nat.zero_add _)) ((hx 2).trans (Nat.zero_add _))) ?_
  exact View.allAt_nil y _

end Cert.KernelIdeal.Val

end
-- ==== Proof.TilesBq.lean ====
/- Case B: the accumulator after each tile, at an index, is the one before plus what the tile adds. -/
module

public import proofs.«01_k».proof.Proof.Tiles
public import proofs.«01_k».proof.Proof.Gen.KernelIdeal.Frame.RunB
import all proofs.«01_k».proof.Proof.Gen.KernelIdeal.Frame.RunB
import all proofs.«01_k».proof.Proof.Gen.KernelIdeal.Frame.RunA

@[expose] public section

set_option maxRecDepth 65536
set_option maxHeartbeats 4000000

noncomputable section

namespace Cert.KernelIdeal.Val

open Cert.KernelIdeal Cert.KernelIdeal.Gen.kernelRun0_B.sl Cert.KernelIdeal.Gen Idealize.ShloMosaic Cert.Spec

variable (c : Dev nD)
variable (a1 : Memref sig .tc .vmem S128x5120 .bf16) (h1 : a1.IsWhole) (a2 : Memref sig .tc .vmem S1x5120 .bf16) (h2 : a2.IsWhole) (a3 : Memref sig .tc .vmem S1x128 .i32) (h3 : a3.IsWhole)
variable (a4 : Memref sig .tc .vmem S160x16x256 .i8) (h4 : a4.IsWhole) (a5 : Memref sig .tc .vmem S160x256 .bf16) (h5 : a5.IsWhole) (a6 : Memref sig .tc .vmem S160x256 .bf16) (h6 : a6.IsWhole)
variable (a7 : Memref sig .tc .vmem S160x16x256 .i8) (h7 : a7.IsWhole) (a8 : Memref sig .tc .vmem S160x256 .bf16) (h8 : a8.IsWhole) (a9 : Memref sig .tc .vmem S160x256 .bf16) (h9 : a9.IsWhole)
variable (a10 : Memref sig .tc .vmem S160x16x256 .i8) (h10 : a10.IsWhole) (a11 : Memref sig .tc .vmem S160x256 .bf16) (h11 : a11.IsWhole) (a12 : Memref sig .tc .vmem S160x256 .bf16) (h12 : a12.IsWhole)
variable (a16 : Memref sig .tc .vmem S20x128x256 .bf16) (h16 : a16.IsWhole) (a17 : Memref sig .tc .vmem S128x128 .f32) (h17 : a17.IsWhole) (a18 : Memref sig .tc .vmem S128x128 .f32) (h18 : a18.IsWhole)
  (a19 : Memref sig .tc .vmem S20x8x2x256 .bf16) (a20 : Memref sig .tc .vmem S20x8x2x256 .bf16)
variable (x0 : Vec Ideal S128x5120 .bf16) (x1 : Vec Ideal S1x5120 .bf16) (x2 : Vec Ideal S1x128 .i32)
  (x3 x6 x9 : Vec Ideal S160x16x256 .i8) (x4 x5 x7 x8 x10 x11 : Vec Ideal S160x256 .bf16)
  (xs0 : Vec Ideal S20x128x256 .bf16) (xs1 xs2 : Vec Ideal S128x128 .f32)

theorem B_q0 (t : Fin 128) (n : Fin 256) :
    (r_13 c a4 h4 a5 h5 a6 h6 a16 h16 a19 a20 x3 x4 x5 xs0) (ValueIdx.ix2 t n)
      = (k0_pay95) (ValueIdx.ix2 t n) + T xs0 x3 x4 x5 ⟨0, by omega⟩ t n :=
  (congrFun (pay_q0 (k0_pay95) (View.readAt (Elt Ideal) a16.view (Rect.unit (s := S20x128x256) ![0, 0, 0] S1x128x256.size inb_S20x128x256_S1x128x256_0_0_0).toLoadRect (h16.unread xs0))
    (View.readAt (Elt Ideal) a4.view (Rect.unit (s := S160x16x256) ![0, 0, 0] S8x16x256.size inb_S160x16x256_S8x16x256_0_0_0).toLoadRect (h4.unread x3)) (v54_raw c a5 h5 a19 x4) (v57_raw c a6 h6 a20 x5)) (ValueIdx.ix2 t n)).trans
  (step_apply ⟨0, by omega⟩ xs0 x3 x4 x5 _ _ _ _ _ (h_read a16 h16 xs0 0 (by omega) _) (w_read a4 h4 x3 _ 0 rfl (by omega) _)
    (rows_read a19 a5 h5 x4 _ _ 0 rfl (by omega) _ _ _)
    (rows_read a20 a6 h6 x5 _ _ 0 rfl (by omega) _ _ _) t n)

theorem B_q1 (t : Fin 128) (n : Fin 256) :
    (r_22 c a4 h4 a5 h5 a6 h6 a16 h16 a19 a20 x3 x4 x5 xs0) (ValueIdx.ix2 t n)
      = (r_13 c a4 h4 a5 h5 a6 h6 a16 h16 a19 a20 x3 x4 x5 xs0) (ValueIdx.ix2 t n) + T xs0 x3 x4 x5 ⟨1, by omega⟩ t n :=
  (congrFun (pay_q1 (r_13 c a4 h4 a5 h5 a6 h6 a16 h16 a19 a20 x3 x4 x5 xs0) (View.readAt (Elt Ideal) a16.view (Rect.unit (s := S20x128x256) ![1, 0, 0] S1x128x256.size inb_S20x128x256_S1x128x256_1_0_0).toLoadRect (h16.unread xs0))
    (View.readAt (Elt Ideal) a4.view (Rect.unit (s := S160x16x256) ![8, 0, 0] S8x16x256.size inb_S160x16x256_S8x16x256_8_0_0).toLoadRect (h4.unread x3)) (v165_raw c a5 h5 a19 x4) (v168_raw c a6 h6 a20 x5)) (ValueIdx.ix2 t n)).trans
  (step_apply ⟨1, by omega⟩ xs0 x3 x4 x5 _ _ _ _ _ (h_read a16 h16 xs0 1 (by omega) _) (w_read a4 h4 x3 _ 1 rfl (by omega) _)
    (rows_read a19 a5 h5 x4 _ _ 1 rfl (by omega) _ _ _)
    (rows_read a20 a6 h6 x5 _ _ 1 rfl (by omega) _ _ _) t n)

theorem B_q2 (t : Fin 128) (n : Fin 256) :
    (r_34 c a4 h4 a5 h5 a6 h6 a16 h16 a19 a20 x3 x4 x5 xs0) (ValueIdx.ix2 t n)
      = (r_22 c a4 h4 a5 h5 a6 h6 a16 h16 a19 a20 x3 x4 x5 xs0) (ValueIdx.ix2 t n) + T xs0 x3 x4 x5 ⟨2, by omega⟩ t n :=
  (congrFun (pay_q2 (r_22 c a4 h4 a5 h5 a6 h6 a16 h16 a19 a20 x3 x4 x5 xs0) (View.readAt (Elt Ideal) a16.view (Rect.unit (s := S20x128x256) ![2, 0, 0] S1x128x256.size inb_S20x128x256_S1x128x256_2_0_0).toLoadRect (h16.unread xs0))
    (View.readAt (Elt Ideal) a4.view (Rect.unit (s := S160x16x256) ![16, 0, 0] S8x16x256.size inb_S160x16x256_S8x16x256_16_0_0).toLoadRect (h4.unread x3)) (v276_raw c a5 h5 a19 x4) (v279_raw c a6 h6 a20 x5)) (ValueIdx.ix2 t n)).trans
  (step_apply ⟨2, by omega⟩ xs0 x3 x4 x5 _ _ _ _ _ (h_read a16 h16 xs0 2 (by omega) _) (w_read a4 h4 x3 _ 2 rfl (by omega) _)
    (rows_read a19 a5 h5 x4 _ _ 2 rfl (by omega) _ _ _)
    (rows_read a20 a6 h6 x5 _ _ 2 rfl (by omega) _ _ _) t n)

theorem B_q3 (t : Fin 128) (n : Fin 256) :
    (r_45 c a4 h4 a5 h5 a6 h6 a16 h16 a19 a20 x3 x4 x5 xs0) (ValueIdx.ix2 t n)
      = (r_34 c a4 h4 a5 h5 a6 h6 a16 h16 a19 a20 x3 x4 x5 xs0) (ValueIdx.ix2 t n) + T xs0 x3 x4 x5 ⟨3, by omega⟩ t n :=
  (congrFun (pay_q3 (r_34 c a4 h4 a5 h5 a6 h6 a16 h16 a19 a20 x3 x4 x5 xs0) (View.readAt (Elt Ideal) a16.view (Rect.unit (s := S20x128x256) ![3, 0, 0] S1x128x256.size inb_S20x128x256_S1x128x256_3_0_0).toLoadRect (h16.unread xs0))
    (View.readAt (Elt Ideal) a4.view (Rect.unit (s := S160x16x256) ![24, 0, 0] S8x16x256.size inb_S160x16x256_S8x16x256_24_0_0).toLoadRect (h4.unread x3)) (v387_raw c a5 h5 a19 x4) (v390_raw c a6 h6 a20 x5)) (ValueIdx.ix2 t n)).trans
  (step_apply ⟨3, by omega⟩ xs0 x3 x4 x5 _ _ _ _ _ (h_read a16 h16 xs0 3 (by omega) _) (w_read a4 h4 x3 _ 3 rfl (by omega) _)
    (rows_read a19 a5 h5 x4 _ _ 3 rfl (by omega) _ _ _)
    (rows_read a20 a6 h6 x5 _ _ 3 rfl (by omega) _ _ _) t n)

theorem B_q4 (t : Fin 128) (n : Fin 256) :
    (r_55 c a4 h4 a5 h5 a6 h6 a16 h16 a19 a20 x3 x4 x5 xs0) (ValueIdx.ix2 t n)
      = (r_45 c a4 h4 a5 h5 a6 h6 a16 h16 a19 a20 x3 x4 x5 xs0) (ValueIdx.ix2 t n) + T xs0 x3 x4 x5 ⟨4, by omega⟩ t n :=
  (congrFun (pay_q4 (r_45 c a4 h4 a5 h5 a6 h6 a16 h16 a19 a20 x3 x4 x5 xs0) (View.readAt (Elt Ideal) a16.view (Rect.unit (s := S20x128x256) ![4, 0, 0] S1x128x256.size inb_S20x128x256_S1x128x256_4_0_0).toLoadRect (h16.unread xs0))
    (View.readAt (Elt Ideal) a4.view (Rect.unit (s := S160x16x256) ![32, 0, 0] S8x16x256.size inb_S160x16x256_S8x16x256_32_0_0).toLoadRect (h4.unread x3)) (v498_raw c a5 h5 a19 x4) (v501_raw c a6 h6 a20 x5)) (ValueIdx.ix2 t n)).trans
  (step_apply ⟨4, by omega⟩ xs0 x3 x4 x5 _ _ _ _ _ (h_read a16 h16 xs0 4 (by omega) _) (w_read a4 h4 x3 _ 4 rfl (by omega) _)
    (rows_read a19 a5 h5 x4 _ _ 4 rfl (by omega) _ _ _)
    (rows_read a20 a6 h6 x5 _ _ 4 rfl (by omega) _ _ _) t n)

theorem B_q5 (t : Fin 128) (n : Fin 256) :
    (r_69 c a4 h4 a5 h5 a6 h6 a16 h16 a19 a20 x3 x4 x5 xs0) (ValueIdx.ix2 t n)
      = (r_55 c a4 h4 a5 h5 a6 h6 a16 h16 a19 a20 x3 x4 x5 xs0) (ValueIdx.ix2 t n) + T xs0 x3 x4 x5 ⟨5, by omega⟩ t n :=
  (congrFun (pay_q5 (r_55 c a4 h4 a5 h5 a6 h6 a16 h16 a19 a20 x3 x4 x5 xs0) (View.readAt (Elt Ideal) a16.view (Rect.unit (s := S20x128x256) ![5, 0, 0] S1x128x256.size inb_S20x128x256_S1x128x256_5_0_0).toLoadRect (h16.unread xs0))
    (View.readAt (Elt Ideal) a4.view (Rect.unit (s := S160x16x256) ![40, 0, 0] S8x16x256.size inb_S160x16x256_S8x16x256_40_0_0).toLoadRect (h4.unread x3)) (v609_raw c a5 h5 a19 x4) (v612_raw c a6 h6 a20 x5)) (ValueIdx.ix2 t n)).trans
  (step_apply ⟨5, by omega⟩ xs0 x3 x4 x5 _ _ _ _ _ (h_read a16 h16 xs0 5 (by omega) _) (w_read a4 h4 x3 _ 5 rfl (by omega) _)
    (rows_read a19 a5 h5 x4 _ _ 5 rfl (by omega) _ _ _)
    (rows_read a20 a6 h6 x5 _ _ 5 rfl (by omega) _ _ _) t n)

theorem B_q6 (t : Fin 128) (n : Fin 256) :
    (r_78 c a4 h4 a5 h5 a6 h6 a16 h16 a19 a20 x3 x4 x5 xs0) (ValueIdx.ix2 t n)
      = (r_69 c a4 h4 a5 h5 a6 h6 a16 h16 a19 a20 x3 x4 x5 xs0) (ValueIdx.ix2 t n) + T xs0 x3 x4 x5 ⟨6, by omega⟩ t n :=
  (congrFun (pay_q6 (r_69 c a4 h4 a5 h5 a6 h6 a16 h16 a19 a20 x3 x4 x5 xs0) (View.readAt (Elt Ideal) a16.view (Rect.unit (s := S20x128x256) ![6, 0, 0] S1x128x256.size inb_S20x128x256_S1x128x256_6_0_0).toLoadRect (h16.unread xs0))
    (View.readAt (Elt Ideal) a4.view (Rect.unit (s := S160x16x256) ![48, 0, 0] S8x16x256.size inb_S160x16x256_S8x16x256_48_0_0).toLoadRect (h4.unread x3)) (v720_raw c a5 h5 a19 x4) (v723_raw c a6 h6 a20 x5)) (ValueIdx.ix2 t n)).trans
  (step_apply ⟨6, by omega⟩ xs0 x3 x4 x5 _ _ _ _ _ (h_read a16 h16 xs0 6 (by omega) _) (w_read a4 h4 x3 _ 6 rfl (by omega) _)
    (rows_read a19 a5 h5 x4 _ _ 6 rfl (by omega) _ _ _)
    (rows_read a20 a6 h6 x5 _ _ 6 rfl (by omega) _ _ _) t n)

theorem B_q7 (t : Fin 128) (n : Fin 256) :
    (r_90 c a4 h4 a5 h5 a6 h6 a16 h16 a19 a20 x3 x4 x5 xs0) (ValueIdx.ix2 t n)
      = (r_78 c a4 h4 a5 h5 a6 h6 a16 h16 a19 a20 x3 x4 x5 xs0) (ValueIdx.ix2 t n) + T xs0 x3 x4 x5 ⟨7, by omega⟩ t n :=
  (congrFun (pay_q7 (r_78 c a4 h4 a5 h5 a6 h6 a16 h16 a19 a20 x3 x4 x5 xs0) (View.readAt (Elt Ideal) a16.view (Rect.unit (s := S20x128x256) ![7, 0, 0] S1x128x256.size inb_S20x128x256_S1x128x256_7_0_0).toLoadRect (h16.unread xs0))
    (View.readAt (Elt Ideal) a4.view (Rect.unit (s := S160x16x256) ![56, 0, 0] S8x16x256.size inb_S160x16x256_S8x16x256_56_0_0).toLoadRect (h4.unread x3)) (v831_raw c a5 h5 a19 x4) (v834_raw c a6 h6 a20 x5)) (ValueIdx.ix2 t n)).trans
  (step_apply ⟨7, by omega⟩ xs0 x3 x4 x5 _ _ _ _ _ (h_read a16 h16 xs0 7 (by omega) _) (w_read a4 h4 x3 _ 7 rfl (by omega) _)
    (rows_read a19 a5 h5 x4 _ _ 7 rfl (by omega) _ _ _)
    (rows_read a20 a6 h6 x5 _ _ 7 rfl (by omega) _ _ _) t n)

theorem B_q8 (t : Fin 128) (n : Fin 256) :
    (r_101 c a4 h4 a5 h5 a6 h6 a16 h16 a19 a20 x3 x4 x5 xs0) (ValueIdx.ix2 t n)
      = (r_90 c a4 h4 a5 h5 a6 h6 a16 h16 a19 a20 x3 x4 x5 xs0) (ValueIdx.ix2 t n) + T xs0 x3 x4 x5 ⟨8, by omega⟩ t n :=
  (congrFun (pay_q8 (r_90 c a4 h4 a5 h5 a6 h6 a16 h16 a19 a20 x3 x4 x5 xs0) (View.readAt (Elt Ideal) a16.view (Rect.unit (s := S20x128x256) ![8, 0, 0] S1x128x256.size inb_S20x128x256_S1x128x256_8_0_0).toLoadRect (h16.unread xs0))
    (View.readAt (Elt Ideal) a4.view (Rect.unit (s := S160x16x256) ![64, 0, 0] S8x16x256.size inb_S160x16x256_S8x16x256_64_0_0).toLoadRect (h4.unread x3)) (v942_raw c a5 h5 a19 x4) (v945_raw c a6 h6 a20 x5)) (ValueIdx.ix2 t n)).trans
  (step_apply ⟨8, by omega⟩ xs0 x3 x4 x5 _ _ _ _ _ (h_read a16 h16 xs0 8 (by omega) _) (w_read a4 h4 x3 _ 8 rfl (by omega) _)
    (rows_read a19 a5 h5 x4 _ _ 8 rfl (by omega) _ _ _)
    (rows_read a20 a6 h6 x5 _ _ 8 rfl (by omega) _ _ _) t n)

theorem B_q9 (t : Fin 128) (n : Fin 256) :
    (r_111 c a4 h4 a5 h5 a6 h6 a16 h16 a19 a20 x3 x4 x5 xs0) (ValueIdx.ix2 t n)
      = (r_101 c a4 h4 a5 h5 a6 h6 a16 h16 a19 a20 x3 x4 x5 xs0) (ValueIdx.ix2 t n) + T xs0 x3 x4 x5 ⟨9, by omega⟩ t n :=
  (congrFun (pay_q9 (r_101 c a4 h4 a5 h5 a6 h6 a16 h16 a19 a20 x3 x4 x5 xs0) (View.readAt (Elt Ideal) a16.view (Rect.unit (s := S20x128x256) ![9, 0, 0] S1x128x256.size inb_S20x128x256_S1x128x256_9_0_0).toLoadRect (h16.unread xs0))
    (View.readAt (Elt Ideal) a4.view (Rect.unit (s := S160x16x256) ![72, 0, 0] S8x16x256.size inb_S160x16x256_S8x16x256_72_0_0).toLoadRect (h4.unread x3)) (v1053_raw c a5 h5 a19 x4) (v1056_raw c a6 h6 a20 x5)) (ValueIdx.ix2 t n)).trans
  (step_apply ⟨9, by omega⟩ xs0 x3 x4 x5 _ _ _ _ _ (h_read a16 h16 xs0 9 (by omega) _) (w_read a4 h4 x3 _ 9 rfl (by omega) _)
    (rows_read a19 a5 h5 x4 _ _ 9 rfl (by omega) _ _ _)
    (rows_read a20 a6 h6 x5 _ _ 9 rfl (by omega) _ _ _) t n)

theorem B_q10 (t : Fin 128) (n : Fin 256) :
    (r_125 c a4 h4 a5 h5 a6 h6 a16 h16 a19 a20 x3 x4 x5 xs0) (ValueIdx.ix2 t n)
      = (r_111 c a4 h4 a5 h5 a6 h6 a16 h16 a19 a20 x3 x4 x5 xs0) (ValueIdx.ix2 t n) + T xs0 x3 x4 x5 ⟨10, by omega⟩ t n :=
  (congrFun (pay_q10 (r_111 c a4 h4 a5 h5 a6 h6 a16 h16 a19 a20 x3 x4 x5 xs0) (View.readAt (Elt Ideal) a16.view (Rect.unit (s := S20x128x256) ![10, 0, 0] S1x128x256.size inb_S20x128x256_S1x128x256_10_0_0).toLoadRect (h16.unread xs0))
    (View.readAt (Elt Ideal) a4.view (Rect.unit (s := S160x16x256) ![80, 0, 0] S8x16x256.size inb_S160x16x256_S8x16x256_80_0_0).toLoadRect (h4.unread x3)) (v1164_raw c a5 h5 a19 x4) (v1167_raw c a6 h6 a20 x5)) (ValueIdx.ix2 t n)).trans
  (step_apply ⟨10, by omega⟩ xs0 x3 x4 x5 _ _ _ _ _ (h_read a16 h16 xs0 10 (by omega) _) (w_read a4 h4 x3 _ 10 rfl (by omega) _)
    (rows_read a19 a5 h5 x4 _ _ 10 rfl (by omega) _ _ _)
    (rows_read a20 a6 h6 x5 _ _ 10 rfl (by omega) _ _ _) t n)

theorem B_q11 (t : Fin 128) (n : Fin 256) :
    (r_134 c a4 h4 a5 h5 a6 h6 a16 h16 a19 a20 x3 x4 x5 xs0) (ValueIdx.ix2 t n)
      = (r_125 c a4 h4 a5 h5 a6 h6 a16 h16 a19 a20 x3 x4 x5 xs0) (ValueIdx.ix2 t n) + T xs0 x3 x4 x5 ⟨11, by omega⟩ t n :=
  (congrFun (pay_q11 (r_125 c a4 h4 a5 h5 a6 h6 a16 h16 a19 a20 x3 x4 x5 xs0) (View.readAt (Elt Ideal) a16.view (Rect.unit (s := S20x128x256) ![11, 0, 0] S1x128x256.size inb_S20x128x256_S1x128x256_11_0_0).toLoadRect (h16.unread xs0))
    (View.readAt (Elt Ideal) a4.view (Rect.unit (s := S160x16x256) ![88, 0, 0] S8x16x256.size inb_S160x16x256_S8x16x256_88_0_0).toLoadRect (h4.unread x3)) (v1275_raw c a5 h5 a19 x4) (v1278_raw c a6 h6 a20 x5)) (ValueIdx.ix2 t n)).trans
  (step_apply ⟨11, by omega⟩ xs0 x3 x4 x5 _ _ _ _ _ (h_read a16 h16 xs0 11 (by omega) _) (w_read a4 h4 x3 _ 11 rfl (by omega) _)
    (rows_read a19 a5 h5 x4 _ _ 11 rfl (by omega) _ _ _)
    (rows_read a20 a6 h6 x5 _ _ 11 rfl (by omega) _ _ _) t n)

theorem B_q12 (t : Fin 128) (n : Fin 256) :
    (r_146 c a4 h4 a5 h5 a6 h6 a16 h16 a19 a20 x3 x4 x5 xs0) (ValueIdx.ix2 t n)
      = (r_134 c a4 h4 a5 h5 a6 h6 a16 h16 a19 a20 x3 x4 x5 xs0) (ValueIdx.ix2 t n) + T xs0 x3 x4 x5 ⟨12, by omega⟩ t n :=
  (congrFun (pay_q12 (r_134 c a4 h4 a5 h5 a6 h6 a16 h16 a19 a20 x3 x4 x5 xs0) (View.readAt (Elt Ideal) a16.view (Rect.unit (s := S20x128x256) ![12, 0, 0] S1x128x256.size inb_S20x128x256_S1x128x256_12_0_0).toLoadRect (h16.unread xs0))
    (View.readAt (Elt Ideal) a4.view (Rect.unit (s := S160x16x256) ![96, 0, 0] S8x16x256.size inb_S160x16x256_S8x16x256_96_0_0).toLoadRect (h4.unread x3)) (v1386_raw c a5 h5 a19 x4) (v1389_raw c a6 h6 a20 x5)) (ValueIdx.ix2 t n)).trans
  (step_apply ⟨12, by omega⟩ xs0 x3 x4 x5 _ _ _ _ _ (h_read a16 h16 xs0 12 (by omega) _) (w_read a4 h4 x3 _ 12 rfl (by omega) _)
    (rows_read a19 a5 h5 x4 _ _ 12 rfl (by omega) _ _ _)
    (rows_read a20 a6 h6 x5 _ _ 12 rfl (by omega) _ _ _) t n)

theorem B_q13 (t : Fin 128) (n : Fin 256) :
    (r_157 c a4 h4 a5 h5 a6 h6 a16 h16 a19 a20 x3 x4 x5 xs0) (ValueIdx.ix2 t n)
      = (r_146 c a4 h4 a5 h5 a6 h6 a16 h16 a19 a20 x3 x4 x5 xs0) (ValueIdx.ix2 t n) + T xs0 x3 x4 x5 ⟨13, by omega⟩ t n :=
  (congrFun (pay_q13 (r_146 c a4 h4 a5 h5 a6 h6 a16 h16 a19 a20 x3 x4 x5 xs0) (View.readAt (Elt Ideal) a16.view (Rect.unit (s := S20x128x256) ![13, 0, 0] S1x128x256.size inb_S20x128x256_S1x128x256_13_0_0).toLoadRect (h16.unread xs0))
    (View.readAt (Elt Ideal) a4.view (Rect.unit (s := S160x16x256) ![104, 0, 0] S8x16x256.size inb_S160x16x256_S8x16x256_104_0_0).toLoadRect (h4.unread x3)) (v1497_raw c a5 h5 a19 x4) (v1500_raw c a6 h6 a20 x5)) (ValueIdx.ix2 t n)).trans
  (step_apply ⟨13, by omega⟩ xs0 x3 x4 x5 _ _ _ _ _ (h_read a16 h16 xs0 13 (by omega) _) (w_read a4 h4 x3 _ 13 rfl (by omega) _)
    (rows_read a19 a5 h5 x4 _ _ 13 rfl (by omega) _ _ _)
    (rows_read a20 a6 h6 x5 _ _ 13 rfl (by omega) _ _ _) t n)

theorem B_q14 (t : Fin 128) (n : Fin 256) :
    (r_167 c a4 h4 a5 h5 a6 h6 a16 h16 a19 a20 x3 x4 x5 xs0) (ValueIdx.ix2 t n)
      = (r_157 c a4 h4 a5 h5 a6 h6 a16 h16 a19 a20 x3 x4 x5 xs0) (ValueIdx.ix2 t n) + T xs0 x3 x4 x5 ⟨14, by omega⟩ t n :=
  (congrFun (pay_q14 (r_157 c a4 h4 a5 h5 a6 h6 a16 h16 a19 a20 x3 x4 x5 xs0) (View.readAt (Elt Ideal) a16.view (Rect.unit (s := S20x128x256) ![14, 0, 0] S1x128x256.size inb_S20x128x256_S1x128x256_14_0_0).toLoadRect (h16.unread xs0))
    (View.readAt (Elt Ideal) a4.view (Rect.unit (s := S160x16x256) ![112, 0, 0] S8x16x256.size inb_S160x16x256_S8x16x256_112_0_0).toLoadRect (h4.unread x3)) (v1608_raw c a5 h5 a19 x4) (v1611_raw c a6 h6 a20 x5)) (ValueIdx.ix2 t n)).trans
  (step_apply ⟨14, by omega⟩ xs0 x3 x4 x5 _ _ _ _ _ (h_read a16 h16 xs0 14 (by omega) _) (w_read a4 h4 x3 _ 14 rfl (by omega) _)
    (rows_read a19 a5 h5 x4 _ _ 14 rfl (by omega) _ _ _)
    (rows_read a20 a6 h6 x5 _ _ 14 rfl (by omega) _ _ _) t n)

theorem B_q15 (t : Fin 128) (n : Fin 256) :
    (r_181 c a4 h4 a5 h5 a6 h6 a16 h16 a19 a20 x3 x4 x5 xs0) (ValueIdx.ix2 t n)
      = (r_167 c a4 h4 a5 h5 a6 h6 a16 h16 a19 a20 x3 x4 x5 xs0) (ValueIdx.ix2 t n) + T xs0 x3 x4 x5 ⟨15, by omega⟩ t n :=
  (congrFun (pay_q15 (r_167 c a4 h4 a5 h5 a6 h6 a16 h16 a19 a20 x3 x4 x5 xs0) (View.readAt (Elt Ideal) a16.view (Rect.unit (s := S20x128x256) ![15, 0, 0] S1x128x256.size inb_S20x128x256_S1x128x256_15_0_0).toLoadRect (h16.unread xs0))
    (View.readAt (Elt Ideal) a4.view (Rect.unit (s := S160x16x256) ![120, 0, 0] S8x16x256.size inb_S160x16x256_S8x16x256_120_0_0).toLoadRect (h4.unread x3)) (v1719_raw c a5 h5 a19 x4) (v1722_raw c a6 h6 a20 x5)) (ValueIdx.ix2 t n)).trans
  (step_apply ⟨15, by omega⟩ xs0 x3 x4 x5 _ _ _ _ _ (h_read a16 h16 xs0 15 (by omega) _) (w_read a4 h4 x3 _ 15 rfl (by omega) _)
    (rows_read a19 a5 h5 x4 _ _ 15 rfl (by omega) _ _ _)
    (rows_read a20 a6 h6 x5 _ _ 15 rfl (by omega) _ _ _) t n)

theorem B_q16 (t : Fin 128) (n : Fin 256) :
    (r_190 c a4 h4 a5 h5 a6 h6 a16 h16 a19 a20 x3 x4 x5 xs0) (ValueIdx.ix2 t n)
      = (r_181 c a4 h4 a5 h5 a6 h6 a16 h16 a19 a20 x3 x4 x5 xs0) (ValueIdx.ix2 t n) + T xs0 x3 x4 x5 ⟨16, by omega⟩ t n :=
  (congrFun (pay_q16 (r_181 c a4 h4 a5 h5 a6 h6 a16 h16 a19 a20 x3 x4 x5 xs0) (View.readAt (Elt Ideal) a16.view (Rect.unit (s := S20x128x256) ![16, 0, 0] S1x128x256.size inb_S20x128x256_S1x128x256_16_0_0).toLoadRect (h16.unread xs0))
    (View.readAt (Elt Ideal) a4.view (Rect.unit (s := S160x16x256) ![128, 0, 0] S8x16x256.size inb_S160x16x256_S8x16x256_128_0_0).toLoadRect (h4.unread x3)) (v1830_raw c a5 h5 a19 x4) (v1833_raw c a6 h6 a20 x5)) (ValueIdx.ix2 t n)).trans
  (step_apply ⟨16, by omega⟩ xs0 x3 x4 x5 _ _ _ _ _ (h_read a16 h16 xs0 16 (by omega) _) (w_read a4 h4 x3 _ 16 rfl (by omega) _)
    (rows_read a19 a5 h5 x4 _ _ 16 rfl (by omega) _ _ _)
    (rows_read a20 a6 h6 x5 _ _ 16 rfl (by omega) _ _ _) t n)

theorem B_q17 (t : Fin 128) (n : Fin 256) :
    (r_202 c a4 h4 a5 h5 a6 h6 a16 h16 a19 a20 x3 x4 x5 xs0) (ValueIdx.ix2 t n)
      = (r_190 c a4 h4 a5 h5 a6 h6 a16 h16 a19 a20 x3 x4 x5 xs0) (ValueIdx.ix2 t n) + T xs0 x3 x4 x5 ⟨17, by omega⟩ t n :=
  (congrFun (pay_q17 (r_190 c a4 h4 a5 h5 a6 h6 a16 h16 a19 a20 x3 x4 x5 xs0) (View.readAt (Elt Ideal) a16.view (Rect.unit (s := S20x128x256) ![17, 0, 0] S1x128x256.size inb_S20x128x256_S1x128x256_17_0_0).toLoadRect (h16.unread xs0))
    (View.readAt (Elt Ideal) a4.view (Rect.unit (s := S160x16x256) ![136, 0, 0] S8x16x256.size inb_S160x16x256_S8x16x256_136_0_0).toLoadRect (h4.unread x3)) (v1941_raw c a5 h5 a19 x4) (v1944_raw c a6 h6 a20 x5)) (ValueIdx.ix2 t n)).trans
  (step_apply ⟨17, by omega⟩ xs0 x3 x4 x5 _ _ _ _ _ (h_read a16 h16 xs0 17 (by omega) _) (w_read a4 h4 x3 _ 17 rfl (by omega) _)
    (rows_read a19 a5 h5 x4 _ _ 17 rfl (by omega) _ _ _)
    (rows_read a20 a6 h6 x5 _ _ 17 rfl (by omega) _ _ _) t n)

theorem B_q18 (t : Fin 128) (n : Fin 256) :
    (r_213 c a4 h4 a5 h5 a6 h6 a16 h16 a19 a20 x3 x4 x5 xs0) (ValueIdx.ix2 t n)
      = (r_202 c a4 h4 a5 h5 a6 h6 a16 h16 a19 a20 x3 x4 x5 xs0) (ValueIdx.ix2 t n) + T xs0 x3 x4 x5 ⟨18, by omega⟩ t n :=
  (congrFun (pay_q18 (r_202 c a4 h4 a5 h5 a6 h6 a16 h16 a19 a20 x3 x4 x5 xs0) (View.readAt (Elt Ideal) a16.view (Rect.unit (s := S20x128x256) ![18, 0, 0] S1x128x256.size inb_S20x128x256_S1x128x256_18_0_0).toLoadRect (h16.unread xs0))
    (View.readAt (Elt Ideal) a4.view (Rect.unit (s := S160x16x256) ![144, 0, 0] S8x16x256.size inb_S160x16x256_S8x16x256_144_0_0).toLoadRect (h4.unread x3)) (v2052_raw c a5 h5 a19 x4) (v2055_raw c a6 h6 a20 x5)) (ValueIdx.ix2 t n)).trans
  (step_apply ⟨18, by omega⟩ xs0 x3 x4 x5 _ _ _ _ _ (h_read a16 h16 xs0 18 (by omega) _) (w_read a4 h4 x3 _ 18 rfl (by omega) _)
    (rows_read a19 a5 h5 x4 _ _ 18 rfl (by omega) _ _ _)
    (rows_read a20 a6 h6 x5 _ _ 18 rfl (by omega) _ _ _) t n)

theorem B_q19 (t : Fin 128) (n : Fin 256) :
    (r_223 c a4 h4 a5 h5 a6 h6 a16 h16 a19 a20 x3 x4 x5 xs0) (ValueIdx.ix2 t n)
      = (r_213 c a4 h4 a5 h5 a6 h6 a16 h16 a19 a20 x3 x4 x5 xs0) (ValueIdx.ix2 t n) + T xs0 x3 x4 x5 ⟨19, by omega⟩ t n :=
  (congrFun (pay_q19 (r_213 c a4 h4 a5 h5 a6 h6 a16 h16 a19 a20 x3 x4 x5 xs0) (View.readAt (Elt Ideal) a16.view (Rect.unit (s := S20x128x256) ![19, 0, 0] S1x128x256.size inb_S20x128x256_S1x128x256_19_0_0).toLoadRect (h16.unread xs0))
    (View.readAt (Elt Ideal) a4.view (Rect.unit (s := S160x16x256) ![152, 0, 0] S8x16x256.size inb_S160x16x256_S8x16x256_152_0_0).toLoadRect (h4.unread x3)) (v2163_raw c a5 h5 a19 x4) (v2166_raw c a6 h6 a20 x5)) (ValueIdx.ix2 t n)).trans
  (step_apply ⟨19, by omega⟩ xs0 x3 x4 x5 _ _ _ _ _ (h_read a16 h16 xs0 19 (by omega) _) (w_read a4 h4 x3 _ 19 rfl (by omega) _)
    (rows_read a19 a5 h5 x4 _ _ 19 rfl (by omega) _ _ _)
    (rows_read a20 a6 h6 x5 _ _ 19 rfl (by omega) _ _ _) t n)

end Cert.KernelIdeal.Val

end
-- ==== Proof.TilesBk.lean ====
/- Case B: the accumulator after each tile, at an index, is the one before plus what the tile adds. -/
module

public import proofs.«01_k».proof.Proof.Tiles
public import proofs.«01_k».proof.Proof.Gen.KernelIdeal.Frame.RunB
import all proofs.«01_k».proof.Proof.Gen.KernelIdeal.Frame.RunB
import all proofs.«01_k».proof.Proof.Gen.KernelIdeal.Frame.RunA

@[expose] public section

set_option maxRecDepth 65536
set_option maxHeartbeats 4000000

noncomputable section

namespace Cert.KernelIdeal.Val

open Cert.KernelIdeal Cert.KernelIdeal.Gen.kernelRun0_B.sl Cert.KernelIdeal.Gen Idealize.ShloMosaic Cert.Spec

variable (c : Dev nD)
variable (a1 : Memref sig .tc .vmem S128x5120 .bf16) (h1 : a1.IsWhole) (a2 : Memref sig .tc .vmem S1x5120 .bf16) (h2 : a2.IsWhole) (a3 : Memref sig .tc .vmem S1x128 .i32) (h3 : a3.IsWhole)
variable (a4 : Memref sig .tc .vmem S160x16x256 .i8) (h4 : a4.IsWhole) (a5 : Memref sig .tc .vmem S160x256 .bf16) (h5 : a5.IsWhole) (a6 : Memref sig .tc .vmem S160x256 .bf16) (h6 : a6.IsWhole)
variable (a7 : Memref sig .tc .vmem S160x16x256 .i8) (h7 : a7.IsWhole) (a8 : Memref sig .tc .vmem S160x256 .bf16) (h8 : a8.IsWhole) (a9 : Memref sig .tc .vmem S160x256 .bf16) (h9 : a9.IsWhole)
variable (a10 : Memref sig .tc .vmem S160x16x256 .i8) (h10 : a10.IsWhole) (a11 : Memref sig .tc .vmem S160x256 .bf16) (h11 : a11.IsWhole) (a12 : Memref sig .tc .vmem S160x256 .bf16) (h12 : a12.IsWhole)
variable (a16 : Memref sig .tc .vmem S20x128x256 .bf16) (h16 : a16.IsWhole) (a17 : Memref sig .tc .vmem S128x128 .f32) (h17 : a17.IsWhole) (a18 : Memref sig .tc .vmem S128x128 .f32) (h18 : a18.IsWhole)
  (a19 : Memref sig .tc .vmem S20x8x2x256 .bf16) (a20 : Memref sig .tc .vmem S20x8x2x256 .bf16)
variable (x0 : Vec Ideal S128x5120 .bf16) (x1 : Vec Ideal S1x5120 .bf16) (x2 : Vec Ideal S1x128 .i32)
  (x3 x6 x9 : Vec Ideal S160x16x256 .i8) (x4 x5 x7 x8 x10 x11 : Vec Ideal S160x256 .bf16)
  (xs0 : Vec Ideal S20x128x256 .bf16) (xs1 xs2 : Vec Ideal S128x128 .f32)

theorem B_k0 (t : Fin 128) (n : Fin 256) :
    (r_240 c a5 h5 a6 h6 a7 h7 a8 h8 a9 h9 a16 h16 a19 a20 x4 x5 x6 x7 x8 xs0) (ValueIdx.ix2 t n)
      = (k0_pay371) (ValueIdx.ix2 t n) + T xs0 x6 x7 x8 ⟨0, by omega⟩ t n :=
  (congrFun (pay_k0 (k0_pay371) (View.readAt (Elt Ideal) a16.view (Rect.unit (s := S20x128x256) ![0, 0, 0] S1x128x256.size inb_S20x128x256_S1x128x256_0_0_0).toLoadRect (h16.unread xs0))
    (View.readAt (Elt Ideal) a7.view (Rect.unit (s := S160x16x256) ![0, 0, 0] S8x16x256.size inb_S160x16x256_S8x16x256_0_0_0).toLoadRect (h7.unread x6)) (v2311_raw c a5 h5 a8 h8 a19 x4 x7) (v2314_raw c a6 h6 a9 h9 a20 x5 x8)) (ValueIdx.ix2 t n)).trans
  (step_apply ⟨0, by omega⟩ xs0 x6 x7 x8 _ _ _ _ _ (h_read a16 h16 xs0 0 (by omega) _) (w_read a7 h7 x6 _ 0 rfl (by omega) _)
    (rows_read a19 a8 h8 x7 _ _ 0 rfl (by omega) _ _ _)
    (rows_read a20 a9 h9 x8 _ _ 0 rfl (by omega) _ _ _) t n)

theorem B_k1 (t : Fin 128) (n : Fin 256) :
    (r_250 c a5 h5 a6 h6 a7 h7 a8 h8 a9 h9 a16 h16 a19 a20 x4 x5 x6 x7 x8 xs0) (ValueIdx.ix2 t n)
      = (r_240 c a5 h5 a6 h6 a7 h7 a8 h8 a9 h9 a16 h16 a19 a20 x4 x5 x6 x7 x8 xs0) (ValueIdx.ix2 t n) + T xs0 x6 x7 x8 ⟨1, by omega⟩ t n :=
  (congrFun (pay_k1 (r_240 c a5 h5 a6 h6 a7 h7 a8 h8 a9 h9 a16 h16 a19 a20 x4 x5 x6 x7 x8 xs0) (View.readAt (Elt Ideal) a16.view (Rect.unit (s := S20x128x256) ![1, 0, 0] S1x128x256.size inb_S20x128x256_S1x128x256_1_0_0).toLoadRect (h16.unread xs0))
    (View.readAt (Elt Ideal) a7.view (Rect.unit (s := S160x16x256) ![8, 0, 0] S8x16x256.size inb_S160x16x256_S8x16x256_8_0_0).toLoadRect (h7.unread x6)) (v2422_raw c a5 h5 a8 h8 a19 x4 x7) (v2425_raw c a6 h6 a9 h9 a20 x5 x8)) (ValueIdx.ix2 t n)).trans
  (step_apply ⟨1, by omega⟩ xs0 x6 x7 x8 _ _ _ _ _ (h_read a16 h16 xs0 1 (by omega) _) (w_read a7 h7 x6 _ 1 rfl (by omega) _)
    (rows_read a19 a8 h8 x7 _ _ 1 rfl (by omega) _ _ _)
    (rows_read a20 a9 h9 x8 _ _ 1 rfl (by omega) _ _ _) t n)

theorem B_k2 (t : Fin 128) (n : Fin 256) :
    (r_264 c a5 h5 a6 h6 a7 h7 a8 h8 a9 h9 a16 h16 a19 a20 x4 x5 x6 x7 x8 xs0) (ValueIdx.ix2 t n)
      = (r_250 c a5 h5 a6 h6 a7 h7 a8 h8 a9 h9 a16 h16 a19 a20 x4 x5 x6 x7 x8 xs0) (ValueIdx.ix2 t n) + T xs0 x6 x7 x8 ⟨2, by omega⟩ t n :=
  (congrFun (pay_k2 (r_250 c a5 h5 a6 h6 a7 h7 a8 h8 a9 h9 a16 h16 a19 a20 x4 x5 x6 x7 x8 xs0) (View.readAt (Elt Ideal) a16.view (Rect.unit (s := S20x128x256) ![2, 0, 0] S1x128x256.size inb_S20x128x256_S1x128x256_2_0_0).toLoadRect (h16.unread xs0))
    (View.readAt (Elt Ideal) a7.view (Rect.unit (s := S160x16x256) ![16, 0, 0] S8x16x256.size inb_S160x16x256_S8x16x256_16_0_0).toLoadRect (h7.unread x6)) (v2533_raw c a5 h5 a8 h8 a19 x4 x7) (v2536_raw c a6 h6 a9 h9 a20 x5 x8)) (ValueIdx.ix2 t n)).trans
  (step_apply ⟨2, by omega⟩ xs0 x6 x7 x8 _ _ _ _ _ (h_read a16 h16 xs0 2 (by omega) _) (w_read a7 h7 x6 _ 2 rfl (by omega) _)
    (rows_read a19 a8 h8 x7 _ _ 2 rfl (by omega) _ _ _)
    (rows_read a20 a9 h9 x8 _ _ 2 rfl (by omega) _ _ _) t n)

theorem B_k3 (t : Fin 128) (n : Fin 256) :
    (r_274 c a5 h5 a6 h6 a7 h7 a8 h8 a9 h9 a16 h16 a19 a20 x4 x5 x6 x7 x8 xs0) (ValueIdx.ix2 t n)
      = (r_264 c a5 h5 a6 h6 a7 h7 a8 h8 a9 h9 a16 h16 a19 a20 x4 x5 x6 x7 x8 xs0) (ValueIdx.ix2 t n) + T xs0 x6 x7 x8 ⟨3, by omega⟩ t n :=
  (congrFun (pay_k3 (r_264 c a5 h5 a6 h6 a7 h7 a8 h8 a9 h9 a16 h16 a19 a20 x4 x5 x6 x7 x8 xs0) (View.readAt (Elt Ideal) a16.view (Rect.unit (s := S20x128x256) ![3, 0, 0] S1x128x256.size inb_S20x128x256_S1x128x256_3_0_0).toLoadRect (h16.unread xs0))
    (View.readAt (Elt Ideal) a7.view (Rect.unit (s := S160x16x256) ![24, 0, 0] S8x16x256.size inb_S160x16x256_S8x16x256_24_0_0).toLoadRect (h7.unread x6)) (v2644_raw c a5 h5 a8 h8 a19 x4 x7) (v2647_raw c a6 h6 a9 h9 a20 x5 x8)) (ValueIdx.ix2 t n)).trans
  (step_apply ⟨3, by omega⟩ xs0 x6 x7 x8 _ _ _ _ _ (h_read a16 h16 xs0 3 (by omega) _) (w_read a7 h7 x6 _ 3 rfl (by omega) _)
    (rows_read a19 a8 h8 x7 _ _ 3 rfl (by omega) _ _ _)
    (rows_read a20 a9 h9 x8 _ _ 3 rfl (by omega) _ _ _) t n)

theorem B_k4 (t : Fin 128) (n : Fin 256) :
    (r_284 c a5 h5 a6 h6 a7 h7 a8 h8 a9 h9 a16 h16 a19 a20 x4 x5 x6 x7 x8 xs0) (ValueIdx.ix2 t n)
      = (r_274 c a5 h5 a6 h6 a7 h7 a8 h8 a9 h9 a16 h16 a19 a20 x4 x5 x6 x7 x8 xs0) (ValueIdx.ix2 t n) + T xs0 x6 x7 x8 ⟨4, by omega⟩ t n :=
  (congrFun (pay_k4 (r_274 c a5 h5 a6 h6 a7 h7 a8 h8 a9 h9 a16 h16 a19 a20 x4 x5 x6 x7 x8 xs0) (View.readAt (Elt Ideal) a16.view (Rect.unit (s := S20x128x256) ![4, 0, 0] S1x128x256.size inb_S20x128x256_S1x128x256_4_0_0).toLoadRect (h16.unread xs0))
    (View.readAt (Elt Ideal) a7.view (Rect.unit (s := S160x16x256) ![32, 0, 0] S8x16x256.size inb_S160x16x256_S8x16x256_32_0_0).toLoadRect (h7.unread x6)) (v2755_raw c a5 h5 a8 h8 a19 x4 x7) (v2758_raw c a6 h6 a9 h9 a20 x5 x8)) (ValueIdx.ix2 t n)).trans
  (step_apply ⟨4, by omega⟩ xs0 x6 x7 x8 _ _ _ _ _ (h_read a16 h16 xs0 4 (by omega) _) (w_read a7 h7 x6 _ 4 rfl (by omega) _)
    (rows_read a19 a8 h8 x7 _ _ 4 rfl (by omega) _ _ _)
    (rows_read a20 a9 h9 x8 _ _ 4 rfl (by omega) _ _ _) t n)

theorem B_k5 (t : Fin 128) (n : Fin 256) :
    (r_300 c a5 h5 a6 h6 a7 h7 a8 h8 a9 h9 a16 h16 a19 a20 x4 x5 x6 x7 x8 xs0) (ValueIdx.ix2 t n)
      = (r_284 c a5 h5 a6 h6 a7 h7 a8 h8 a9 h9 a16 h16 a19 a20 x4 x5 x6 x7 x8 xs0) (ValueIdx.ix2 t n) + T xs0 x6 x7 x8 ⟨5, by omega⟩ t n :=
  (congrFun (pay_k5 (r_284 c a5 h5 a6 h6 a7 h7 a8 h8 a9 h9 a16 h16 a19 a20 x4 x5 x6 x7 x8 xs0) (View.readAt (Elt Ideal) a16.view (Rect.unit (s := S20x128x256) ![5, 0, 0] S1x128x256.size inb_S20x128x256_S1x128x256_5_0_0).toLoadRect (h16.unread xs0))
    (View.readAt (Elt Ideal) a7.view (Rect.unit (s := S160x16x256) ![40, 0, 0] S8x16x256.size inb_S160x16x256_S8x16x256_40_0_0).toLoadRect (h7.unread x6)) (v2866_raw c a5 h5 a8 h8 a19 x4 x7) (v2869_raw c a6 h6 a9 h9 a20 x5 x8)) (ValueIdx.ix2 t n)).trans
  (step_apply ⟨5, by omega⟩ xs0 x6 x7 x8 _ _ _ _ _ (h_read a16 h16 xs0 5 (by omega) _) (w_read a7 h7 x6 _ 5 rfl (by omega) _)
    (rows_read a19 a8 h8 x7 _ _ 5 rfl (by omega) _ _ _)
    (rows_read a20 a9 h9 x8 _ _ 5 rfl (by omega) _ _ _) t n)

theorem B_k6 (t : Fin 128) (n : Fin 256) :
    (r_310 c a5 h5 a6 h6 a7 h7 a8 h8 a9 h9 a16 h16 a19 a20 x4 x5 x6 x7 x8 xs0) (ValueIdx.ix2 t n)
      = (r_300 c a5 h5 a6 h6 a7 h7 a8 h8 a9 h9 a16 h16 a19 a20 x4 x5 x6 x7 x8 xs0) (ValueIdx.ix2 t n) + T xs0 x6 x7 x8 ⟨6, by omega⟩ t n :=
  (congrFun (pay_k6 (r_300 c a5 h5 a6 h6 a7 h7 a8 h8 a9 h9 a16 h16 a19 a20 x4 x5 x6 x7 x8 xs0) (View.readAt (Elt Ideal) a16.view (Rect.unit (s := S20x128x256) ![6, 0, 0] S1x128x256.size inb_S20x128x256_S1x128x256_6_0_0).toLoadRect (h16.unread xs0))
    (View.readAt (Elt Ideal) a7.view (Rect.unit (s := S160x16x256) ![48, 0, 0] S8x16x256.size inb_S160x16x256_S8x16x256_48_0_0).toLoadRect (h7.unread x6)) (v2977_raw c a5 h5 a8 h8 a19 x4 x7) (v2980_raw c a6 h6 a9 h9 a20 x5 x8)) (ValueIdx.ix2 t n)).trans
  (step_apply ⟨6, by omega⟩ xs0 x6 x7 x8 _ _ _ _ _ (h_read a16 h16 xs0 6 (by omega) _) (w_read a7 h7 x6 _ 6 rfl (by omega) _)
    (rows_read a19 a8 h8 x7 _ _ 6 rfl (by omega) _ _ _)
    (rows_read a20 a9 h9 x8 _ _ 6 rfl (by omega) _ _ _) t n)

theorem B_k7 (t : Fin 128) (n : Fin 256) :
    (r_324 c a5 h5 a6 h6 a7 h7 a8 h8 a9 h9 a16 h16 a19 a20 x4 x5 x6 x7 x8 xs0) (ValueIdx.ix2 t n)
      = (r_310 c a5 h5 a6 h6 a7 h7 a8 h8 a9 h9 a16 h16 a19 a20 x4 x5 x6 x7 x8 xs0) (ValueIdx.ix2 t n) + T xs0 x6 x7 x8 ⟨7, by omega⟩ t n :=
  (congrFun (pay_k7 (r_310 c a5 h5 a6 h6 a7 h7 a8 h8 a9 h9 a16 h16 a19 a20 x4 x5 x6 x7 x8 xs0) (View.readAt (Elt Ideal) a16.view (Rect.unit (s := S20x128x256) ![7, 0, 0] S1x128x256.size inb_S20x128x256_S1x128x256_7_0_0).toLoadRect (h16.unread xs0))
    (View.readAt (Elt Ideal) a7.view (Rect.unit (s := S160x16x256) ![56, 0, 0] S8x16x256.size inb_S160x16x256_S8x16x256_56_0_0).toLoadRect (h7.unread x6)) (v3088_raw c a5 h5 a8 h8 a19 x4 x7) (v3091_raw c a6 h6 a9 h9 a20 x5 x8)) (ValueIdx.ix2 t n)).trans
  (step_apply ⟨7, by omega⟩ xs0 x6 x7 x8 _ _ _ _ _ (h_read a16 h16 xs0 7 (by omega) _) (w_read a7 h7 x6 _ 7 rfl (by omega) _)
    (rows_read a19 a8 h8 x7 _ _ 7 rfl (by omega) _ _ _)
    (rows_read a20 a9 h9 x8 _ _ 7 rfl (by omega) _ _ _) t n)

theorem B_k8 (t : Fin 128) (n : Fin 256) :
    (r_334 c a5 h5 a6 h6 a7 h7 a8 h8 a9 h9 a16 h16 a19 a20 x4 x5 x6 x7 x8 xs0) (ValueIdx.ix2 t n)
      = (r_324 c a5 h5 a6 h6 a7 h7 a8 h8 a9 h9 a16 h16 a19 a20 x4 x5 x6 x7 x8 xs0) (ValueIdx.ix2 t n) + T xs0 x6 x7 x8 ⟨8, by omega⟩ t n :=
  (congrFun (pay_k8 (r_324 c a5 h5 a6 h6 a7 h7 a8 h8 a9 h9 a16 h16 a19 a20 x4 x5 x6 x7 x8 xs0) (View.readAt (Elt Ideal) a16.view (Rect.unit (s := S20x128x256) ![8, 0, 0] S1x128x256.size inb_S20x128x256_S1x128x256_8_0_0).toLoadRect (h16.unread xs0))
    (View.readAt (Elt Ideal) a7.view (Rect.unit (s := S160x16x256) ![64, 0, 0] S8x16x256.size inb_S160x16x256_S8x16x256_64_0_0).toLoadRect (h7.unread x6)) (v3199_raw c a5 h5 a8 h8 a19 x4 x7) (v3202_raw c a6 h6 a9 h9 a20 x5 x8)) (ValueIdx.ix2 t n)).trans
  (step_apply ⟨8, by omega⟩ xs0 x6 x7 x8 _ _ _ _ _ (h_read a16 h16 xs0 8 (by omega) _) (w_read a7 h7 x6 _ 8 rfl (by omega) _)
    (rows_read a19 a8 h8 x7 _ _ 8 rfl (by omega) _ _ _)
    (rows_read a20 a9 h9 x8 _ _ 8 rfl (by omega) _ _ _) t n)

theorem B_k9 (t : Fin 128) (n : Fin 256) :
    (r_344 c a5 h5 a6 h6 a7 h7 a8 h8 a9 h9 a16 h16 a19 a20 x4 x5 x6 x7 x8 xs0) (ValueIdx.ix2 t n)
      = (r_334 c a5 h5 a6 h6 a7 h7 a8 h8 a9 h9 a16 h16 a19 a20 x4 x5 x6 x7 x8 xs0) (ValueIdx.ix2 t n) + T xs0 x6 x7 x8 ⟨9, by omega⟩ t n :=
  (congrFun (pay_k9 (r_334 c a5 h5 a6 h6 a7 h7 a8 h8 a9 h9 a16 h16 a19 a20 x4 x5 x6 x7 x8 xs0) (View.readAt (Elt Ideal) a16.view (Rect.unit (s := S20x128x256) ![9, 0, 0] S1x128x256.size inb_S20x128x256_S1x128x256_9_0_0).toLoadRect (h16.unread xs0))
    (View.readAt (Elt Ideal) a7.view (Rect.unit (s := S160x16x256) ![72, 0, 0] S8x16x256.size inb_S160x16x256_S8x16x256_72_0_0).toLoadRect (h7.unread x6)) (v3310_raw c a5 h5 a8 h8 a19 x4 x7) (v3313_raw c a6 h6 a9 h9 a20 x5 x8)) (ValueIdx.ix2 t n)).trans
  (step_apply ⟨9, by omega⟩ xs0 x6 x7 x8 _ _ _ _ _ (h_read a16 h16 xs0 9 (by omega) _) (w_read a7 h7 x6 _ 9 rfl (by omega) _)
    (rows_read a19 a8 h8 x7 _ _ 9 rfl (by omega) _ _ _)
    (rows_read a20 a9 h9 x8 _ _ 9 rfl (by omega) _ _ _) t n)

theorem B_k10 (t : Fin 128) (n : Fin 256) :
    (r_360 c a5 h5 a6 h6 a7 h7 a8 h8 a9 h9 a16 h16 a19 a20 x4 x5 x6 x7 x8 xs0) (ValueIdx.ix2 t n)
      = (r_344 c a5 h5 a6 h6 a7 h7 a8 h8 a9 h9 a16 h16 a19 a20 x4 x5 x6 x7 x8 xs0) (ValueIdx.ix2 t n) + T xs0 x6 x7 x8 ⟨10, by omega⟩ t n :=
  (congrFun (pay_k10 (r_344 c a5 h5 a6 h6 a7 h7 a8 h8 a9 h9 a16 h16 a19 a20 x4 x5 x6 x7 x8 xs0) (View.readAt (Elt Ideal) a16.view (Rect.unit (s := S20x128x256) ![10, 0, 0] S1x128x256.size inb_S20x128x256_S1x128x256_10_0_0).toLoadRect (h16.unread xs0))
    (View.readAt (Elt Ideal) a7.view (Rect.unit (s := S160x16x256) ![80, 0, 0] S8x16x256.size inb_S160x16x256_S8x16x256_80_0_0).toLoadRect (h7.unread x6)) (v3421_raw c a5 h5 a8 h8 a19 x4 x7) (v3424_raw c a6 h6 a9 h9 a20 x5 x8)) (ValueIdx.ix2 t n)).trans
  (step_apply ⟨10, by omega⟩ xs0 x6 x7 x8 _ _ _ _ _ (h_read a16 h16 xs0 10 (by omega) _) (w_read a7 h7 x6 _ 10 rfl (by omega) _)
    (rows_read a19 a8 h8 x7 _ _ 10 rfl (by omega) _ _ _)
    (rows_read a20 a9 h9 x8 _ _ 10 rfl (by omega) _ _ _) t n)

theorem B_k11 (t : Fin 128) (n : Fin 256) :
    (r_370 c a5 h5 a6 h6 a7 h7 a8 h8 a9 h9 a16 h16 a19 a20 x4 x5 x6 x7 x8 xs0) (ValueIdx.ix2 t n)
      = (r_360 c a5 h5 a6 h6 a7 h7 a8 h8 a9 h9 a16 h16 a19 a20 x4 x5 x6 x7 x8 xs0) (ValueIdx.ix2 t n) + T xs0 x6 x7 x8 ⟨11, by omega⟩ t n :=
  (congrFun (pay_k11 (r_360 c a5 h5 a6 h6 a7 h7 a8 h8 a9 h9 a16 h16 a19 a20 x4 x5 x6 x7 x8 xs0) (View.readAt (Elt Ideal) a16.view (Rect.unit (s := S20x128x256) ![11, 0, 0] S1x128x256.size inb_S20x128x256_S1x128x256_11_0_0).toLoadRect (h16.unread xs0))
    (View.readAt (Elt Ideal) a7.view (Rect.unit (s := S160x16x256) ![88, 0, 0] S8x16x256.size inb_S160x16x256_S8x16x256_88_0_0).toLoadRect (h7.unread x6)) (v3532_raw c a5 h5 a8 h8 a19 x4 x7) (v3535_raw c a6 h6 a9 h9 a20 x5 x8)) (ValueIdx.ix2 t n)).trans
  (step_apply ⟨11, by omega⟩ xs0 x6 x7 x8 _ _ _ _ _ (h_read a16 h16 xs0 11 (by omega) _) (w_read a7 h7 x6 _ 11 rfl (by omega) _)
    (rows_read a19 a8 h8 x7 _ _ 11 rfl (by omega) _ _ _)
    (rows_read a20 a9 h9 x8 _ _ 11 rfl (by omega) _ _ _) t n)

theorem B_k12 (t : Fin 128) (n : Fin 256) :
    (r_384 c a5 h5 a6 h6 a7 h7 a8 h8 a9 h9 a16 h16 a19 a20 x4 x5 x6 x7 x8 xs0) (ValueIdx.ix2 t n)
      = (r_370 c a5 h5 a6 h6 a7 h7 a8 h8 a9 h9 a16 h16 a19 a20 x4 x5 x6 x7 x8 xs0) (ValueIdx.ix2 t n) + T xs0 x6 x7 x8 ⟨12, by omega⟩ t n :=
  (congrFun (pay_k12 (r_370 c a5 h5 a6 h6 a7 h7 a8 h8 a9 h9 a16 h16 a19 a20 x4 x5 x6 x7 x8 xs0) (View.readAt (Elt Ideal) a16.view (Rect.unit (s := S20x128x256) ![12, 0, 0] S1x128x256.size inb_S20x128x256_S1x128x256_12_0_0).toLoadRect (h16.unread xs0))
    (View.readAt (Elt Ideal) a7.view (Rect.unit (s := S160x16x256) ![96, 0, 0] S8x16x256.size inb_S160x16x256_S8x16x256_96_0_0).toLoadRect (h7.unread x6)) (v3643_raw c a5 h5 a8 h8 a19 x4 x7) (v3646_raw c a6 h6 a9 h9 a20 x5 x8)) (ValueIdx.ix2 t n)).trans
  (step_apply ⟨12, by omega⟩ xs0 x6 x7 x8 _ _ _ _ _ (h_read a16 h16 xs0 12 (by omega) _) (w_read a7 h7 x6 _ 12 rfl (by omega) _)
    (rows_read a19 a8 h8 x7 _ _ 12 rfl (by omega) _ _ _)
    (rows_read a20 a9 h9 x8 _ _ 12 rfl (by omega) _ _ _) t n)

theorem B_k13 (t : Fin 128) (n : Fin 256) :
    (r_394 c a5 h5 a6 h6 a7 h7 a8 h8 a9 h9 a16 h16 a19 a20 x4 x5 x6 x7 x8 xs0) (ValueIdx.ix2 t n)
      = (r_384 c a5 h5 a6 h6 a7 h7 a8 h8 a9 h9 a16 h16 a19 a20 x4 x5 x6 x7 x8 xs0) (ValueIdx.ix2 t n) + T xs0 x6 x7 x8 ⟨13, by omega⟩ t n :=
  (congrFun (pay_k13 (r_384 c a5 h5 a6 h6 a7 h7 a8 h8 a9 h9 a16 h16 a19 a20 x4 x5 x6 x7 x8 xs0) (View.readAt (Elt Ideal) a16.view (Rect.unit (s := S20x128x256) ![13, 0, 0] S1x128x256.size inb_S20x128x256_S1x128x256_13_0_0).toLoadRect (h16.unread xs0))
    (View.readAt (Elt Ideal) a7.view (Rect.unit (s := S160x16x256) ![104, 0, 0] S8x16x256.size inb_S160x16x256_S8x16x256_104_0_0).toLoadRect (h7.unread x6)) (v3754_raw c a5 h5 a8 h8 a19 x4 x7) (v3757_raw c a6 h6 a9 h9 a20 x5 x8)) (ValueIdx.ix2 t n)).trans
  (step_apply ⟨13, by omega⟩ xs0 x6 x7 x8 _ _ _ _ _ (h_read a16 h16 xs0 13 (by omega) _) (w_read a7 h7 x6 _ 13 rfl (by omega) _)
    (rows_read a19 a8 h8 x7 _ _ 13 rfl (by omega) _ _ _)
    (rows_read a20 a9 h9 x8 _ _ 13 rfl (by omega) _ _ _) t n)

theorem B_k14 (t : Fin 128) (n : Fin 256) :
    (r_404 c a5 h5 a6 h6 a7 h7 a8 h8 a9 h9 a16 h16 a19 a20 x4 x5 x6 x7 x8 xs0) (ValueIdx.ix2 t n)
      = (r_394 c a5 h5 a6 h6 a7 h7 a8 h8 a9 h9 a16 h16 a19 a20 x4 x5 x6 x7 x8 xs0) (ValueIdx.ix2 t n) + T xs0 x6 x7 x8 ⟨14, by omega⟩ t n :=
  (congrFun (pay_k14 (r_394 c a5 h5 a6 h6 a7 h7 a8 h8 a9 h9 a16 h16 a19 a20 x4 x5 x6 x7 x8 xs0) (View.readAt (Elt Ideal) a16.view (Rect.unit (s := S20x128x256) ![14, 0, 0] S1x128x256.size inb_S20x128x256_S1x128x256_14_0_0).toLoadRect (h16.unread xs0))
    (View.readAt (Elt Ideal) a7.view (Rect.unit (s := S160x16x256) ![112, 0, 0] S8x16x256.size inb_S160x16x256_S8x16x256_112_0_0).toLoadRect (h7.unread x6)) (v3865_raw c a5 h5 a8 h8 a19 x4 x7) (v3868_raw c a6 h6 a9 h9 a20 x5 x8)) (ValueIdx.ix2 t n)).trans
  (step_apply ⟨14, by omega⟩ xs0 x6 x7 x8 _ _ _ _ _ (h_read a16 h16 xs0 14 (by omega) _) (w_read a7 h7 x6 _ 14 rfl (by omega) _)
    (rows_read a19 a8 h8 x7 _ _ 14 rfl (by omega) _ _ _)
    (rows_read a20 a9 h9 x8 _ _ 14 rfl (by omega) _ _ _) t n)

theorem B_k15 (t : Fin 128) (n : Fin 256) :
    (r_420 c a5 h5 a6 h6 a7 h7 a8 h8 a9 h9 a16 h16 a19 a20 x4 x5 x6 x7 x8 xs0) (ValueIdx.ix2 t n)
      = (r_404 c a5 h5 a6 h6 a7 h7 a8 h8 a9 h9 a16 h16 a19 a20 x4 x5 x6 x7 x8 xs0) (ValueIdx.ix2 t n) + T xs0 x6 x7 x8 ⟨15, by omega⟩ t n :=
  (congrFun (pay_k15 (r_404 c a5 h5 a6 h6 a7 h7 a8 h8 a9 h9 a16 h16 a19 a20 x4 x5 x6 x7 x8 xs0) (View.readAt (Elt Ideal) a16.view (Rect.unit (s := S20x128x256) ![15, 0, 0] S1x128x256.size inb_S20x128x256_S1x128x256_15_0_0).toLoadRect (h16.unread xs0))
    (View.readAt (Elt Ideal) a7.view (Rect.unit (s := S160x16x256) ![120, 0, 0] S8x16x256.size inb_S160x16x256_S8x16x256_120_0_0).toLoadRect (h7.unread x6)) (v3976_raw c a5 h5 a8 h8 a19 x4 x7) (v3979_raw c a6 h6 a9 h9 a20 x5 x8)) (ValueIdx.ix2 t n)).trans
  (step_apply ⟨15, by omega⟩ xs0 x6 x7 x8 _ _ _ _ _ (h_read a16 h16 xs0 15 (by omega) _) (w_read a7 h7 x6 _ 15 rfl (by omega) _)
    (rows_read a19 a8 h8 x7 _ _ 15 rfl (by omega) _ _ _)
    (rows_read a20 a9 h9 x8 _ _ 15 rfl (by omega) _ _ _) t n)

theorem B_k16 (t : Fin 128) (n : Fin 256) :
    (r_430 c a5 h5 a6 h6 a7 h7 a8 h8 a9 h9 a16 h16 a19 a20 x4 x5 x6 x7 x8 xs0) (ValueIdx.ix2 t n)
      = (r_420 c a5 h5 a6 h6 a7 h7 a8 h8 a9 h9 a16 h16 a19 a20 x4 x5 x6 x7 x8 xs0) (ValueIdx.ix2 t n) + T xs0 x6 x7 x8 ⟨16, by omega⟩ t n :=
  (congrFun (pay_k16 (r_420 c a5 h5 a6 h6 a7 h7 a8 h8 a9 h9 a16 h16 a19 a20 x4 x5 x6 x7 x8 xs0) (View.readAt (Elt Ideal) a16.view (Rect.unit (s := S20x128x256) ![16, 0, 0] S1x128x256.size inb_S20x128x256_S1x128x256_16_0_0).toLoadRect (h16.unread xs0))
    (View.readAt (Elt Ideal) a7.view (Rect.unit (s := S160x16x256) ![128, 0, 0] S8x16x256.size inb_S160x16x256_S8x16x256_128_0_0).toLoadRect (h7.unread x6)) (v4087_raw c a5 h5 a8 h8 a19 x4 x7) (v4090_raw c a6 h6 a9 h9 a20 x5 x8)) (ValueIdx.ix2 t n)).trans
  (step_apply ⟨16, by omega⟩ xs0 x6 x7 x8 _ _ _ _ _ (h_read a16 h16 xs0 16 (by omega) _) (w_read a7 h7 x6 _ 16 rfl (by omega) _)
    (rows_read a19 a8 h8 x7 _ _ 16 rfl (by omega) _ _ _)
    (rows_read a20 a9 h9 x8 _ _ 16 rfl (by omega) _ _ _) t n)

theorem B_k17 (t : Fin 128) (n : Fin 256) :
    (r_444 c a5 h5 a6 h6 a7 h7 a8 h8 a9 h9 a16 h16 a19 a20 x4 x5 x6 x7 x8 xs0) (ValueIdx.ix2 t n)
      = (r_430 c a5 h5 a6 h6 a7 h7 a8 h8 a9 h9 a16 h16 a19 a20 x4 x5 x6 x7 x8 xs0) (ValueIdx.ix2 t n) + T xs0 x6 x7 x8 ⟨17, by omega⟩ t n :=
  (congrFun (pay_k17 (r_430 c a5 h5 a6 h6 a7 h7 a8 h8 a9 h9 a16 h16 a19 a20 x4 x5 x6 x7 x8 xs0) (View.readAt (Elt Ideal) a16.view (Rect.unit (s := S20x128x256) ![17, 0, 0] S1x128x256.size inb_S20x128x256_S1x128x256_17_0_0).toLoadRect (h16.unread xs0))
    (View.readAt (Elt Ideal) a7.view (Rect.unit (s := S160x16x256) ![136, 0, 0] S8x16x256.size inb_S160x16x256_S8x16x256_136_0_0).toLoadRect (h7.unread x6)) (v4198_raw c a5 h5 a8 h8 a19 x4 x7) (v4201_raw c a6 h6 a9 h9 a20 x5 x8)) (ValueIdx.ix2 t n)).trans
  (step_apply ⟨17, by omega⟩ xs0 x6 x7 x8 _ _ _ _ _ (h_read a16 h16 xs0 17 (by omega) _) (w_read a7 h7 x6 _ 17 rfl (by omega) _)
    (rows_read a19 a8 h8 x7 _ _ 17 rfl (by omega) _ _ _)
    (rows_read a20 a9 h9 x8 _ _ 17 rfl (by omega) _ _ _) t n)

theorem B_k18 (t : Fin 128) (n : Fin 256) :
    (r_454 c a5 h5 a6 h6 a7 h7 a8 h8 a9 h9 a16 h16 a19 a20 x4 x5 x6 x7 x8 xs0) (ValueIdx.ix2 t n)
      = (r_444 c a5 h5 a6 h6 a7 h7 a8 h8 a9 h9 a16 h16 a19 a20 x4 x5 x6 x7 x8 xs0) (ValueIdx.ix2 t n) + T xs0 x6 x7 x8 ⟨18, by omega⟩ t n :=
  (congrFun (pay_k18 (r_444 c a5 h5 a6 h6 a7 h7 a8 h8 a9 h9 a16 h16 a19 a20 x4 x5 x6 x7 x8 xs0) (View.readAt (Elt Ideal) a16.view (Rect.unit (s := S20x128x256) ![18, 0, 0] S1x128x256.size inb_S20x128x256_S1x128x256_18_0_0).toLoadRect (h16.unread xs0))
    (View.readAt (Elt Ideal) a7.view (Rect.unit (s := S160x16x256) ![144, 0, 0] S8x16x256.size inb_S160x16x256_S8x16x256_144_0_0).toLoadRect (h7.unread x6)) (v4309_raw c a5 h5 a8 h8 a19 x4 x7) (v4312_raw c a6 h6 a9 h9 a20 x5 x8)) (ValueIdx.ix2 t n)).trans
  (step_apply ⟨18, by omega⟩ xs0 x6 x7 x8 _ _ _ _ _ (h_read a16 h16 xs0 18 (by omega) _) (w_read a7 h7 x6 _ 18 rfl (by omega) _)
    (rows_read a19 a8 h8 x7 _ _ 18 rfl (by omega) _ _ _)
    (rows_read a20 a9 h9 x8 _ _ 18 rfl (by omega) _ _ _) t n)

theorem B_k19 (t : Fin 128) (n : Fin 256) :
    (r_464 c a5 h5 a6 h6 a7 h7 a8 h8 a9 h9 a16 h16 a19 a20 x4 x5 x6 x7 x8 xs0) (ValueIdx.ix2 t n)
      = (r_454 c a5 h5 a6 h6 a7 h7 a8 h8 a9 h9 a16 h16 a19 a20 x4 x5 x6 x7 x8 xs0) (ValueIdx.ix2 t n) + T xs0 x6 x7 x8 ⟨19, by omega⟩ t n :=
  (congrFun (pay_k19 (r_454 c a5 h5 a6 h6 a7 h7 a8 h8 a9 h9 a16 h16 a19 a20 x4 x5 x6 x7 x8 xs0) (View.readAt (Elt Ideal) a16.view (Rect.unit (s := S20x128x256) ![19, 0, 0] S1x128x256.size inb_S20x128x256_S1x128x256_19_0_0).toLoadRect (h16.unread xs0))
    (View.readAt (Elt Ideal) a7.view (Rect.unit (s := S160x16x256) ![152, 0, 0] S8x16x256.size inb_S160x16x256_S8x16x256_152_0_0).toLoadRect (h7.unread x6)) (v4420_raw c a5 h5 a8 h8 a19 x4 x7) (v4423_raw c a6 h6 a9 h9 a20 x5 x8)) (ValueIdx.ix2 t n)).trans
  (step_apply ⟨19, by omega⟩ xs0 x6 x7 x8 _ _ _ _ _ (h_read a16 h16 xs0 19 (by omega) _) (w_read a7 h7 x6 _ 19 rfl (by omega) _)
    (rows_read a19 a8 h8 x7 _ _ 19 rfl (by omega) _ _ _)
    (rows_read a20 a9 h9 x8 _ _ 19 rfl (by omega) _ _ _) t n)

end Cert.KernelIdeal.Val

end
-- ==== Proof.TilesBv.lean ====
/- Case B: the accumulator after each tile, at an index, is the one before plus what the tile adds. -/
module

public import proofs.«01_k».proof.Proof.Tiles
public import proofs.«01_k».proof.Proof.Gen.KernelIdeal.Frame.RunB
import all proofs.«01_k».proof.Proof.Gen.KernelIdeal.Frame.RunB
import all proofs.«01_k».proof.Proof.Gen.KernelIdeal.Frame.RunA

@[expose] public section

set_option maxRecDepth 65536
set_option maxHeartbeats 4000000

noncomputable section

namespace Cert.KernelIdeal.Val

open Cert.KernelIdeal Cert.KernelIdeal.Gen.kernelRun0_B.sl Cert.KernelIdeal.Gen Idealize.ShloMosaic Cert.Spec

variable (c : Dev nD)
variable (a1 : Memref sig .tc .vmem S128x5120 .bf16) (h1 : a1.IsWhole) (a2 : Memref sig .tc .vmem S1x5120 .bf16) (h2 : a2.IsWhole) (a3 : Memref sig .tc .vmem S1x128 .i32) (h3 : a3.IsWhole)
variable (a4 : Memref sig .tc .vmem S160x16x256 .i8) (h4 : a4.IsWhole) (a5 : Memref sig .tc .vmem S160x256 .bf16) (h5 : a5.IsWhole) (a6 : Memref sig .tc .vmem S160x256 .bf16) (h6 : a6.IsWhole)
variable (a7 : Memref sig .tc .vmem S160x16x256 .i8) (h7 : a7.IsWhole) (a8 : Memref sig .tc .vmem S160x256 .bf16) (h8 : a8.IsWhole) (a9 : Memref sig .tc .vmem S160x256 .bf16) (h9 : a9.IsWhole)
variable (a10 : Memref sig .tc .vmem S160x16x256 .i8) (h10 : a10.IsWhole) (a11 : Memref sig .tc .vmem S160x256 .bf16) (h11 : a11.IsWhole) (a12 : Memref sig .tc .vmem S160x256 .bf16) (h12 : a12.IsWhole)
variable (a16 : Memref sig .tc .vmem S20x128x256 .bf16) (h16 : a16.IsWhole) (a17 : Memref sig .tc .vmem S128x128 .f32) (h17 : a17.IsWhole) (a18 : Memref sig .tc .vmem S128x128 .f32) (h18 : a18.IsWhole)
  (a19 : Memref sig .tc .vmem S20x8x2x256 .bf16) (a20 : Memref sig .tc .vmem S20x8x2x256 .bf16)
variable (x0 : Vec Ideal S128x5120 .bf16) (x1 : Vec Ideal S1x5120 .bf16) (x2 : Vec Ideal S1x128 .i32)
  (x3 x6 x9 : Vec Ideal S160x16x256 .i8) (x4 x5 x7 x8 x10 x11 : Vec Ideal S160x256 .bf16)
  (xs0 : Vec Ideal S20x128x256 .bf16) (xs1 xs2 : Vec Ideal S128x128 .f32)

theorem B_v0 (t : Fin 128) (n : Fin 256) :
    (r_482 c a5 h5 a6 h6 a8 h8 a9 h9 a10 h10 a11 h11 a12 h12 a16 h16 a19 a20 x4 x5 x7 x8 x9 x10 x11 xs0) (ValueIdx.ix2 t n)
      = (k0_pay667) (ValueIdx.ix2 t n) + T xs0 x9 x10 x11 ⟨0, by omega⟩ t n :=
  (congrFun (pay_v0 (k0_pay667) (View.readAt (Elt Ideal) a16.view (Rect.unit (s := S20x128x256) ![0, 0, 0] S1x128x256.size inb_S20x128x256_S1x128x256_0_0_0).toLoadRect (h16.unread xs0))
    (View.readAt (Elt Ideal) a10.view (Rect.unit (s := S160x16x256) ![0, 0, 0] S8x16x256.size inb_S160x16x256_S8x16x256_0_0_0).toLoadRect (h10.unread x9)) (v4568_raw c a5 h5 a8 h8 a11 h11 a19 x4 x7 x10) (v4571_raw c a6 h6 a9 h9 a12 h12 a20 x5 x8 x11)) (ValueIdx.ix2 t n)).trans
  (step_apply ⟨0, by omega⟩ xs0 x9 x10 x11 _ _ _ _ _ (h_read a16 h16 xs0 0 (by omega) _) (w_read a10 h10 x9 _ 0 rfl (by omega) _)
    (rows_read a19 a11 h11 x10 _ _ 0 rfl (by omega) _ _ _)
    (rows_read a20 a12 h12 x11 _ _ 0 rfl (by omega) _ _ _) t n)

theorem B_v1 (t : Fin 128) (n : Fin 256) :
    (r_494 c a5 h5 a6 h6 a8 h8 a9 h9 a10 h10 a11 h11 a12 h12 a16 h16 a19 a20 x4 x5 x7 x8 x9 x10 x11 xs0) (ValueIdx.ix2 t n)
      = (r_482 c a5 h5 a6 h6 a8 h8 a9 h9 a10 h10 a11 h11 a12 h12 a16 h16 a19 a20 x4 x5 x7 x8 x9 x10 x11 xs0) (ValueIdx.ix2 t n) + T xs0 x9 x10 x11 ⟨1, by omega⟩ t n :=
  (congrFun (pay_v1 (r_482 c a5 h5 a6 h6 a8 h8 a9 h9 a10 h10 a11 h11 a12 h12 a16 h16 a19 a20 x4 x5 x7 x8 x9 x10 x11 xs0) (View.readAt (Elt Ideal) a16.view (Rect.unit (s := S20x128x256) ![1, 0, 0] S1x128x256.size inb_S20x128x256_S1x128x256_1_0_0).toLoadRect (h16.unread xs0))
    (View.readAt (Elt Ideal) a10.view (Rect.unit (s := S160x16x256) ![8, 0, 0] S8x16x256.size inb_S160x16x256_S8x16x256_8_0_0).toLoadRect (h10.unread x9)) (v4679_raw c a5 h5 a8 h8 a11 h11 a19 x4 x7 x10) (v4682_raw c a6 h6 a9 h9 a12 h12 a20 x5 x8 x11)) (ValueIdx.ix2 t n)).trans
  (step_apply ⟨1, by omega⟩ xs0 x9 x10 x11 _ _ _ _ _ (h_read a16 h16 xs0 1 (by omega) _) (w_read a10 h10 x9 _ 1 rfl (by omega) _)
    (rows_read a19 a11 h11 x10 _ _ 1 rfl (by omega) _ _ _)
    (rows_read a20 a12 h12 x11 _ _ 1 rfl (by omega) _ _ _) t n)

theorem B_v2 (t : Fin 128) (n : Fin 256) :
    (r_512 c a5 h5 a6 h6 a8 h8 a9 h9 a10 h10 a11 h11 a12 h12 a16 h16 a19 a20 x4 x5 x7 x8 x9 x10 x11 xs0) (ValueIdx.ix2 t n)
      = (r_494 c a5 h5 a6 h6 a8 h8 a9 h9 a10 h10 a11 h11 a12 h12 a16 h16 a19 a20 x4 x5 x7 x8 x9 x10 x11 xs0) (ValueIdx.ix2 t n) + T xs0 x9 x10 x11 ⟨2, by omega⟩ t n :=
  (congrFun (pay_v2 (r_494 c a5 h5 a6 h6 a8 h8 a9 h9 a10 h10 a11 h11 a12 h12 a16 h16 a19 a20 x4 x5 x7 x8 x9 x10 x11 xs0) (View.readAt (Elt Ideal) a16.view (Rect.unit (s := S20x128x256) ![2, 0, 0] S1x128x256.size inb_S20x128x256_S1x128x256_2_0_0).toLoadRect (h16.unread xs0))
    (View.readAt (Elt Ideal) a10.view (Rect.unit (s := S160x16x256) ![16, 0, 0] S8x16x256.size inb_S160x16x256_S8x16x256_16_0_0).toLoadRect (h10.unread x9)) (v4790_raw c a5 h5 a8 h8 a11 h11 a19 x4 x7 x10) (v4793_raw c a6 h6 a9 h9 a12 h12 a20 x5 x8 x11)) (ValueIdx.ix2 t n)).trans
  (step_apply ⟨2, by omega⟩ xs0 x9 x10 x11 _ _ _ _ _ (h_read a16 h16 xs0 2 (by omega) _) (w_read a10 h10 x9 _ 2 rfl (by omega) _)
    (rows_read a19 a11 h11 x10 _ _ 2 rfl (by omega) _ _ _)
    (rows_read a20 a12 h12 x11 _ _ 2 rfl (by omega) _ _ _) t n)

theorem B_v3 (t : Fin 128) (n : Fin 256) :
    (r_521 c a5 h5 a6 h6 a8 h8 a9 h9 a10 h10 a11 h11 a12 h12 a16 h16 a19 a20 x4 x5 x7 x8 x9 x10 x11 xs0) (ValueIdx.ix2 t n)
      = (r_512 c a5 h5 a6 h6 a8 h8 a9 h9 a10 h10 a11 h11 a12 h12 a16 h16 a19 a20 x4 x5 x7 x8 x9 x10 x11 xs0) (ValueIdx.ix2 t n) + T xs0 x9 x10 x11 ⟨3, by omega⟩ t n :=
  (congrFun (pay_v3 (r_512 c a5 h5 a6 h6 a8 h8 a9 h9 a10 h10 a11 h11 a12 h12 a16 h16 a19 a20 x4 x5 x7 x8 x9 x10 x11 xs0) (View.readAt (Elt Ideal) a16.view (Rect.unit (s := S20x128x256) ![3, 0, 0] S1x128x256.size inb_S20x128x256_S1x128x256_3_0_0).toLoadRect (h16.unread xs0))
    (View.readAt (Elt Ideal) a10.view (Rect.unit (s := S160x16x256) ![24, 0, 0] S8x16x256.size inb_S160x16x256_S8x16x256_24_0_0).toLoadRect (h10.unread x9)) (v4901_raw c a5 h5 a8 h8 a11 h11 a19 x4 x7 x10) (v4904_raw c a6 h6 a9 h9 a12 h12 a20 x5 x8 x11)) (ValueIdx.ix2 t n)).trans
  (step_apply ⟨3, by omega⟩ xs0 x9 x10 x11 _ _ _ _ _ (h_read a16 h16 xs0 3 (by omega) _) (w_read a10 h10 x9 _ 3 rfl (by omega) _)
    (rows_read a19 a11 h11 x10 _ _ 3 rfl (by omega) _ _ _)
    (rows_read a20 a12 h12 x11 _ _ 3 rfl (by omega) _ _ _) t n)

theorem B_v4 (t : Fin 128) (n : Fin 256) :
    (r_531 c a5 h5 a6 h6 a8 h8 a9 h9 a10 h10 a11 h11 a12 h12 a16 h16 a19 a20 x4 x5 x7 x8 x9 x10 x11 xs0) (ValueIdx.ix2 t n)
      = (r_521 c a5 h5 a6 h6 a8 h8 a9 h9 a10 h10 a11 h11 a12 h12 a16 h16 a19 a20 x4 x5 x7 x8 x9 x10 x11 xs0) (ValueIdx.ix2 t n) + T xs0 x9 x10 x11 ⟨4, by omega⟩ t n :=
  (congrFun (pay_v4 (r_521 c a5 h5 a6 h6 a8 h8 a9 h9 a10 h10 a11 h11 a12 h12 a16 h16 a19 a20 x4 x5 x7 x8 x9 x10 x11 xs0) (View.readAt (Elt Ideal) a16.view (Rect.unit (s := S20x128x256) ![4, 0, 0] S1x128x256.size inb_S20x128x256_S1x128x256_4_0_0).toLoadRect (h16.unread xs0))
    (View.readAt (Elt Ideal) a10.view (Rect.unit (s := S160x16x256) ![32, 0, 0] S8x16x256.size inb_S160x16x256_S8x16x256_32_0_0).toLoadRect (h10.unread x9)) (v5012_raw c a5 h5 a8 h8 a11 h11 a19 x4 x7 x10) (v5015_raw c a6 h6 a9 h9 a12 h12 a20 x5 x8 x11)) (ValueIdx.ix2 t n)).trans
  (step_apply ⟨4, by omega⟩ xs0 x9 x10 x11 _ _ _ _ _ (h_read a16 h16 xs0 4 (by omega) _) (w_read a10 h10 x9 _ 4 rfl (by omega) _)
    (rows_read a19 a11 h11 x10 _ _ 4 rfl (by omega) _ _ _)
    (rows_read a20 a12 h12 x11 _ _ 4 rfl (by omega) _ _ _) t n)

theorem B_v5 (t : Fin 128) (n : Fin 256) :
    (r_548 c a5 h5 a6 h6 a8 h8 a9 h9 a10 h10 a11 h11 a12 h12 a16 h16 a19 a20 x4 x5 x7 x8 x9 x10 x11 xs0) (ValueIdx.ix2 t n)
      = (r_531 c a5 h5 a6 h6 a8 h8 a9 h9 a10 h10 a11 h11 a12 h12 a16 h16 a19 a20 x4 x5 x7 x8 x9 x10 x11 xs0) (ValueIdx.ix2 t n) + T xs0 x9 x10 x11 ⟨5, by omega⟩ t n :=
  (congrFun (pay_v5 (r_531 c a5 h5 a6 h6 a8 h8 a9 h9 a10 h10 a11 h11 a12 h12 a16 h16 a19 a20 x4 x5 x7 x8 x9 x10 x11 xs0) (View.readAt (Elt Ideal) a16.view (Rect.unit (s := S20x128x256) ![5, 0, 0] S1x128x256.size inb_S20x128x256_S1x128x256_5_0_0).toLoadRect (h16.unread xs0))
    (View.readAt (Elt Ideal) a10.view (Rect.unit (s := S160x16x256) ![40, 0, 0] S8x16x256.size inb_S160x16x256_S8x16x256_40_0_0).toLoadRect (h10.unread x9)) (v5123_raw c a5 h5 a8 h8 a11 h11 a19 x4 x7 x10) (v5126_raw c a6 h6 a9 h9 a12 h12 a20 x5 x8 x11)) (ValueIdx.ix2 t n)).trans
  (step_apply ⟨5, by omega⟩ xs0 x9 x10 x11 _ _ _ _ _ (h_read a16 h16 xs0 5 (by omega) _) (w_read a10 h10 x9 _ 5 rfl (by omega) _)
    (rows_read a19 a11 h11 x10 _ _ 5 rfl (by omega) _ _ _)
    (rows_read a20 a12 h12 x11 _ _ 5 rfl (by omega) _ _ _) t n)

theorem B_v6 (t : Fin 128) (n : Fin 256) :
    (r_560 c a5 h5 a6 h6 a8 h8 a9 h9 a10 h10 a11 h11 a12 h12 a16 h16 a19 a20 x4 x5 x7 x8 x9 x10 x11 xs0) (ValueIdx.ix2 t n)
      = (r_548 c a5 h5 a6 h6 a8 h8 a9 h9 a10 h10 a11 h11 a12 h12 a16 h16 a19 a20 x4 x5 x7 x8 x9 x10 x11 xs0) (ValueIdx.ix2 t n) + T xs0 x9 x10 x11 ⟨6, by omega⟩ t n :=
  (congrFun (pay_v6 (r_548 c a5 h5 a6 h6 a8 h8 a9 h9 a10 h10 a11 h11 a12 h12 a16 h16 a19 a20 x4 x5 x7 x8 x9 x10 x11 xs0) (View.readAt (Elt Ideal) a16.view (Rect.unit (s := S20x128x256) ![6, 0, 0] S1x128x256.size inb_S20x128x256_S1x128x256_6_0_0).toLoadRect (h16.unread xs0))
    (View.readAt (Elt Ideal) a10.view (Rect.unit (s := S160x16x256) ![48, 0, 0] S8x16x256.size inb_S160x16x256_S8x16x256_48_0_0).toLoadRect (h10.unread x9)) (v5234_raw c a5 h5 a8 h8 a11 h11 a19 x4 x7 x10) (v5237_raw c a6 h6 a9 h9 a12 h12 a20 x5 x8 x11)) (ValueIdx.ix2 t n)).trans
  (step_apply ⟨6, by omega⟩ xs0 x9 x10 x11 _ _ _ _ _ (h_read a16 h16 xs0 6 (by omega) _) (w_read a10 h10 x9 _ 6 rfl (by omega) _)
    (rows_read a19 a11 h11 x10 _ _ 6 rfl (by omega) _ _ _)
    (rows_read a20 a12 h12 x11 _ _ 6 rfl (by omega) _ _ _) t n)

theorem B_v7 (t : Fin 128) (n : Fin 256) :
    (r_578 c a5 h5 a6 h6 a8 h8 a9 h9 a10 h10 a11 h11 a12 h12 a16 h16 a19 a20 x4 x5 x7 x8 x9 x10 x11 xs0) (ValueIdx.ix2 t n)
      = (r_560 c a5 h5 a6 h6 a8 h8 a9 h9 a10 h10 a11 h11 a12 h12 a16 h16 a19 a20 x4 x5 x7 x8 x9 x10 x11 xs0) (ValueIdx.ix2 t n) + T xs0 x9 x10 x11 ⟨7, by omega⟩ t n :=
  (congrFun (pay_v7 (r_560 c a5 h5 a6 h6 a8 h8 a9 h9 a10 h10 a11 h11 a12 h12 a16 h16 a19 a20 x4 x5 x7 x8 x9 x10 x11 xs0) (View.readAt (Elt Ideal) a16.view (Rect.unit (s := S20x128x256) ![7, 0, 0] S1x128x256.size inb_S20x128x256_S1x128x256_7_0_0).toLoadRect (h16.unread xs0))
    (View.readAt (Elt Ideal) a10.view (Rect.unit (s := S160x16x256) ![56, 0, 0] S8x16x256.size inb_S160x16x256_S8x16x256_56_0_0).toLoadRect (h10.unread x9)) (v5345_raw c a5 h5 a8 h8 a11 h11 a19 x4 x7 x10) (v5348_raw c a6 h6 a9 h9 a12 h12 a20 x5 x8 x11)) (ValueIdx.ix2 t n)).trans
  (step_apply ⟨7, by omega⟩ xs0 x9 x10 x11 _ _ _ _ _ (h_read a16 h16 xs0 7 (by omega) _) (w_read a10 h10 x9 _ 7 rfl (by omega) _)
    (rows_read a19 a11 h11 x10 _ _ 7 rfl (by omega) _ _ _)
    (rows_read a20 a12 h12 x11 _ _ 7 rfl (by omega) _ _ _) t n)

theorem B_v8 (t : Fin 128) (n : Fin 256) :
    (r_587 c a5 h5 a6 h6 a8 h8 a9 h9 a10 h10 a11 h11 a12 h12 a16 h16 a19 a20 x4 x5 x7 x8 x9 x10 x11 xs0) (ValueIdx.ix2 t n)
      = (r_578 c a5 h5 a6 h6 a8 h8 a9 h9 a10 h10 a11 h11 a12 h12 a16 h16 a19 a20 x4 x5 x7 x8 x9 x10 x11 xs0) (ValueIdx.ix2 t n) + T xs0 x9 x10 x11 ⟨8, by omega⟩ t n :=
  (congrFun (pay_v8 (r_578 c a5 h5 a6 h6 a8 h8 a9 h9 a10 h10 a11 h11 a12 h12 a16 h16 a19 a20 x4 x5 x7 x8 x9 x10 x11 xs0) (View.readAt (Elt Ideal) a16.view (Rect.unit (s := S20x128x256) ![8, 0, 0] S1x128x256.size inb_S20x128x256_S1x128x256_8_0_0).toLoadRect (h16.unread xs0))
    (View.readAt (Elt Ideal) a10.view (Rect.unit (s := S160x16x256) ![64, 0, 0] S8x16x256.size inb_S160x16x256_S8x16x256_64_0_0).toLoadRect (h10.unread x9)) (v5456_raw c a5 h5 a8 h8 a11 h11 a19 x4 x7 x10) (v5459_raw c a6 h6 a9 h9 a12 h12 a20 x5 x8 x11)) (ValueIdx.ix2 t n)).trans
  (step_apply ⟨8, by omega⟩ xs0 x9 x10 x11 _ _ _ _ _ (h_read a16 h16 xs0 8 (by omega) _) (w_read a10 h10 x9 _ 8 rfl (by omega) _)
    (rows_read a19 a11 h11 x10 _ _ 8 rfl (by omega) _ _ _)
    (rows_read a20 a12 h12 x11 _ _ 8 rfl (by omega) _ _ _) t n)

theorem B_v9 (t : Fin 128) (n : Fin 256) :
    (r_597 c a5 h5 a6 h6 a8 h8 a9 h9 a10 h10 a11 h11 a12 h12 a16 h16 a19 a20 x4 x5 x7 x8 x9 x10 x11 xs0) (ValueIdx.ix2 t n)
      = (r_587 c a5 h5 a6 h6 a8 h8 a9 h9 a10 h10 a11 h11 a12 h12 a16 h16 a19 a20 x4 x5 x7 x8 x9 x10 x11 xs0) (ValueIdx.ix2 t n) + T xs0 x9 x10 x11 ⟨9, by omega⟩ t n :=
  (congrFun (pay_v9 (r_587 c a5 h5 a6 h6 a8 h8 a9 h9 a10 h10 a11 h11 a12 h12 a16 h16 a19 a20 x4 x5 x7 x8 x9 x10 x11 xs0) (View.readAt (Elt Ideal) a16.view (Rect.unit (s := S20x128x256) ![9, 0, 0] S1x128x256.size inb_S20x128x256_S1x128x256_9_0_0).toLoadRect (h16.unread xs0))
    (View.readAt (Elt Ideal) a10.view (Rect.unit (s := S160x16x256) ![72, 0, 0] S8x16x256.size inb_S160x16x256_S8x16x256_72_0_0).toLoadRect (h10.unread x9)) (v5567_raw c a5 h5 a8 h8 a11 h11 a19 x4 x7 x10) (v5570_raw c a6 h6 a9 h9 a12 h12 a20 x5 x8 x11)) (ValueIdx.ix2 t n)).trans
  (step_apply ⟨9, by omega⟩ xs0 x9 x10 x11 _ _ _ _ _ (h_read a16 h16 xs0 9 (by omega) _) (w_read a10 h10 x9 _ 9 rfl (by omega) _)
    (rows_read a19 a11 h11 x10 _ _ 9 rfl (by omega) _ _ _)
    (rows_read a20 a12 h12 x11 _ _ 9 rfl (by omega) _ _ _) t n)

theorem B_v10 (t : Fin 128) (n : Fin 256) :
    (r_614 c a5 h5 a6 h6 a8 h8 a9 h9 a10 h10 a11 h11 a12 h12 a16 h16 a19 a20 x4 x5 x7 x8 x9 x10 x11 xs0) (ValueIdx.ix2 t n)
      = (r_597 c a5 h5 a6 h6 a8 h8 a9 h9 a10 h10 a11 h11 a12 h12 a16 h16 a19 a20 x4 x5 x7 x8 x9 x10 x11 xs0) (ValueIdx.ix2 t n) + T xs0 x9 x10 x11 ⟨10, by omega⟩ t n :=
  (congrFun (pay_v10 (r_597 c a5 h5 a6 h6 a8 h8 a9 h9 a10 h10 a11 h11 a12 h12 a16 h16 a19 a20 x4 x5 x7 x8 x9 x10 x11 xs0) (View.readAt (Elt Ideal) a16.view (Rect.unit (s := S20x128x256) ![10, 0, 0] S1x128x256.size inb_S20x128x256_S1x128x256_10_0_0).toLoadRect (h16.unread xs0))
    (View.readAt (Elt Ideal) a10.view (Rect.unit (s := S160x16x256) ![80, 0, 0] S8x16x256.size inb_S160x16x256_S8x16x256_80_0_0).toLoadRect (h10.unread x9)) (v5678_raw c a5 h5 a8 h8 a11 h11 a19 x4 x7 x10) (v5681_raw c a6 h6 a9 h9 a12 h12 a20 x5 x8 x11)) (ValueIdx.ix2 t n)).trans
  (step_apply ⟨10, by omega⟩ xs0 x9 x10 x11 _ _ _ _ _ (h_read a16 h16 xs0 10 (by omega) _) (w_read a10 h10 x9 _ 10 rfl (by omega) _)
    (rows_read a19 a11 h11 x10 _ _ 10 rfl (by omega) _ _ _)
    (rows_read a20 a12 h12 x11 _ _ 10 rfl (by omega) _ _ _) t n)

theorem B_v11 (t : Fin 128) (n : Fin 256) :
    (r_626 c a5 h5 a6 h6 a8 h8 a9 h9 a10 h10 a11 h11 a12 h12 a16 h16 a19 a20 x4 x5 x7 x8 x9 x10 x11 xs0) (ValueIdx.ix2 t n)
      = (r_614 c a5 h5 a6 h6 a8 h8 a9 h9 a10 h10 a11 h11 a12 h12 a16 h16 a19 a20 x4 x5 x7 x8 x9 x10 x11 xs0) (ValueIdx.ix2 t n) + T xs0 x9 x10 x11 ⟨11, by omega⟩ t n :=
  (congrFun (pay_v11 (r_614 c a5 h5 a6 h6 a8 h8 a9 h9 a10 h10 a11 h11 a12 h12 a16 h16 a19 a20 x4 x5 x7 x8 x9 x10 x11 xs0) (View.readAt (Elt Ideal) a16.view (Rect.unit (s := S20x128x256) ![11, 0, 0] S1x128x256.size inb_S20x128x256_S1x128x256_11_0_0).toLoadRect (h16.unread xs0))
    (View.readAt (Elt Ideal) a10.view (Rect.unit (s := S160x16x256) ![88, 0, 0] S8x16x256.size inb_S160x16x256_S8x16x256_88_0_0).toLoadRect (h10.unread x9)) (v5789_raw c a5 h5 a8 h8 a11 h11 a19 x4 x7 x10) (v5792_raw c a6 h6 a9 h9 a12 h12 a20 x5 x8 x11)) (ValueIdx.ix2 t n)).trans
  (step_apply ⟨11, by omega⟩ xs0 x9 x10 x11 _ _ _ _ _ (h_read a16 h16 xs0 11 (by omega) _) (w_read a10 h10 x9 _ 11 rfl (by omega) _)
    (rows_read a19 a11 h11 x10 _ _ 11 rfl (by omega) _ _ _)
    (rows_read a20 a12 h12 x11 _ _ 11 rfl (by omega) _ _ _) t n)

theorem B_v12 (t : Fin 128) (n : Fin 256) :
    (r_644 c a5 h5 a6 h6 a8 h8 a9 h9 a10 h10 a11 h11 a12 h12 a16 h16 a19 a20 x4 x5 x7 x8 x9 x10 x11 xs0) (ValueIdx.ix2 t n)
      = (r_626 c a5 h5 a6 h6 a8 h8 a9 h9 a10 h10 a11 h11 a12 h12 a16 h16 a19 a20 x4 x5 x7 x8 x9 x10 x11 xs0) (ValueIdx.ix2 t n) + T xs0 x9 x10 x11 ⟨12, by omega⟩ t n :=
  (congrFun (pay_v12 (r_626 c a5 h5 a6 h6 a8 h8 a9 h9 a10 h10 a11 h11 a12 h12 a16 h16 a19 a20 x4 x5 x7 x8 x9 x10 x11 xs0) (View.readAt (Elt Ideal) a16.view (Rect.unit (s := S20x128x256) ![12, 0, 0] S1x128x256.size inb_S20x128x256_S1x128x256_12_0_0).toLoadRect (h16.unread xs0))
    (View.readAt (Elt Ideal) a10.view (Rect.unit (s := S160x16x256) ![96, 0, 0] S8x16x256.size inb_S160x16x256_S8x16x256_96_0_0).toLoadRect (h10.unread x9)) (v5900_raw c a5 h5 a8 h8 a11 h11 a19 x4 x7 x10) (v5903_raw c a6 h6 a9 h9 a12 h12 a20 x5 x8 x11)) (ValueIdx.ix2 t n)).trans
  (step_apply ⟨12, by omega⟩ xs0 x9 x10 x11 _ _ _ _ _ (h_read a16 h16 xs0 12 (by omega) _) (w_read a10 h10 x9 _ 12 rfl (by omega) _)
    (rows_read a19 a11 h11 x10 _ _ 12 rfl (by omega) _ _ _)
    (rows_read a20 a12 h12 x11 _ _ 12 rfl (by omega) _ _ _) t n)

theorem B_v13 (t : Fin 128) (n : Fin 256) :
    (r_653 c a5 h5 a6 h6 a8 h8 a9 h9 a10 h10 a11 h11 a12 h12 a16 h16 a19 a20 x4 x5 x7 x8 x9 x10 x11 xs0) (ValueIdx.ix2 t n)
      = (r_644 c a5 h5 a6 h6 a8 h8 a9 h9 a10 h10 a11 h11 a12 h12 a16 h16 a19 a20 x4 x5 x7 x8 x9 x10 x11 xs0) (ValueIdx.ix2 t n) + T xs0 x9 x10 x11 ⟨13, by omega⟩ t n :=
  (congrFun (pay_v13 (r_644 c a5 h5 a6 h6 a8 h8 a9 h9 a10 h10 a11 h11 a12 h12 a16 h16 a19 a20 x4 x5 x7 x8 x9 x10 x11 xs0) (View.readAt (Elt Ideal) a16.view (Rect.unit (s := S20x128x256) ![13, 0, 0] S1x128x256.size inb_S20x128x256_S1x128x256_13_0_0).toLoadRect (h16.unread xs0))
    (View.readAt (Elt Ideal) a10.view (Rect.unit (s := S160x16x256) ![104, 0, 0] S8x16x256.size inb_S160x16x256_S8x16x256_104_0_0).toLoadRect (h10.unread x9)) (v6011_raw c a5 h5 a8 h8 a11 h11 a19 x4 x7 x10) (v6014_raw c a6 h6 a9 h9 a12 h12 a20 x5 x8 x11)) (ValueIdx.ix2 t n)).trans
  (step_apply ⟨13, by omega⟩ xs0 x9 x10 x11 _ _ _ _ _ (h_read a16 h16 xs0 13 (by omega) _) (w_read a10 h10 x9 _ 13 rfl (by omega) _)
    (rows_read a19 a11 h11 x10 _ _ 13 rfl (by omega) _ _ _)
    (rows_read a20 a12 h12 x11 _ _ 13 rfl (by omega) _ _ _) t n)

theorem B_v14 (t : Fin 128) (n : Fin 256) :
    (r_663 c a5 h5 a6 h6 a8 h8 a9 h9 a10 h10 a11 h11 a12 h12 a16 h16 a19 a20 x4 x5 x7 x8 x9 x10 x11 xs0) (ValueIdx.ix2 t n)
      = (r_653 c a5 h5 a6 h6 a8 h8 a9 h9 a10 h10 a11 h11 a12 h12 a16 h16 a19 a20 x4 x5 x7 x8 x9 x10 x11 xs0) (ValueIdx.ix2 t n) + T xs0 x9 x10 x11 ⟨14, by omega⟩ t n :=
  (congrFun (pay_v14 (r_653 c a5 h5 a6 h6 a8 h8 a9 h9 a10 h10 a11 h11 a12 h12 a16 h16 a19 a20 x4 x5 x7 x8 x9 x10 x11 xs0) (View.readAt (Elt Ideal) a16.view (Rect.unit (s := S20x128x256) ![14, 0, 0] S1x128x256.size inb_S20x128x256_S1x128x256_14_0_0).toLoadRect (h16.unread xs0))
    (View.readAt (Elt Ideal) a10.view (Rect.unit (s := S160x16x256) ![112, 0, 0] S8x16x256.size inb_S160x16x256_S8x16x256_112_0_0).toLoadRect (h10.unread x9)) (v6122_raw c a5 h5 a8 h8 a11 h11 a19 x4 x7 x10) (v6125_raw c a6 h6 a9 h9 a12 h12 a20 x5 x8 x11)) (ValueIdx.ix2 t n)).trans
  (step_apply ⟨14, by omega⟩ xs0 x9 x10 x11 _ _ _ _ _ (h_read a16 h16 xs0 14 (by omega) _) (w_read a10 h10 x9 _ 14 rfl (by omega) _)
    (rows_read a19 a11 h11 x10 _ _ 14 rfl (by omega) _ _ _)
    (rows_read a20 a12 h12 x11 _ _ 14 rfl (by omega) _ _ _) t n)

theorem B_v15 (t : Fin 128) (n : Fin 256) :
    (r_680 c a5 h5 a6 h6 a8 h8 a9 h9 a10 h10 a11 h11 a12 h12 a16 h16 a19 a20 x4 x5 x7 x8 x9 x10 x11 xs0) (ValueIdx.ix2 t n)
      = (r_663 c a5 h5 a6 h6 a8 h8 a9 h9 a10 h10 a11 h11 a12 h12 a16 h16 a19 a20 x4 x5 x7 x8 x9 x10 x11 xs0) (ValueIdx.ix2 t n) + T xs0 x9 x10 x11 ⟨15, by omega⟩ t n :=
  (congrFun (pay_v15 (r_663 c a5 h5 a6 h6 a8 h8 a9 h9 a10 h10 a11 h11 a12 h12 a16 h16 a19 a20 x4 x5 x7 x8 x9 x10 x11 xs0) (View.readAt (Elt Ideal) a16.view (Rect.unit (s := S20x128x256) ![15, 0, 0] S1x128x256.size inb_S20x128x256_S1x128x256_15_0_0).toLoadRect (h16.unread xs0))
    (View.readAt (Elt Ideal) a10.view (Rect.unit (s := S160x16x256) ![120, 0, 0] S8x16x256.size inb_S160x16x256_S8x16x256_120_0_0).toLoadRect (h10.unread x9)) (v6233_raw c a5 h5 a8 h8 a11 h11 a19 x4 x7 x10) (v6236_raw c a6 h6 a9 h9 a12 h12 a20 x5 x8 x11)) (ValueIdx.ix2 t n)).trans
  (step_apply ⟨15, by omega⟩ xs0 x9 x10 x11 _ _ _ _ _ (h_read a16 h16 xs0 15 (by omega) _) (w_read a10 h10 x9 _ 15 rfl (by omega) _)
    (rows_read a19 a11 h11 x10 _ _ 15 rfl (by omega) _ _ _)
    (rows_read a20 a12 h12 x11 _ _ 15 rfl (by omega) _ _ _) t n)

theorem B_v16 (t : Fin 128) (n : Fin 256) :
    (r_692 c a5 h5 a6 h6 a8 h8 a9 h9 a10 h10 a11 h11 a12 h12 a16 h16 a19 a20 x4 x5 x7 x8 x9 x10 x11 xs0) (ValueIdx.ix2 t n)
      = (r_680 c a5 h5 a6 h6 a8 h8 a9 h9 a10 h10 a11 h11 a12 h12 a16 h16 a19 a20 x4 x5 x7 x8 x9 x10 x11 xs0) (ValueIdx.ix2 t n) + T xs0 x9 x10 x11 ⟨16, by omega⟩ t n :=
  (congrFun (pay_v16 (r_680 c a5 h5 a6 h6 a8 h8 a9 h9 a10 h10 a11 h11 a12 h12 a16 h16 a19 a20 x4 x5 x7 x8 x9 x10 x11 xs0) (View.readAt (Elt Ideal) a16.view (Rect.unit (s := S20x128x256) ![16, 0, 0] S1x128x256.size inb_S20x128x256_S1x128x256_16_0_0).toLoadRect (h16.unread xs0))
    (View.readAt (Elt Ideal) a10.view (Rect.unit (s := S160x16x256) ![128, 0, 0] S8x16x256.size inb_S160x16x256_S8x16x256_128_0_0).toLoadRect (h10.unread x9)) (v6344_raw c a5 h5 a8 h8 a11 h11 a19 x4 x7 x10) (v6347_raw c a6 h6 a9 h9 a12 h12 a20 x5 x8 x11)) (ValueIdx.ix2 t n)).trans
  (step_apply ⟨16, by omega⟩ xs0 x9 x10 x11 _ _ _ _ _ (h_read a16 h16 xs0 16 (by omega) _) (w_read a10 h10 x9 _ 16 rfl (by omega) _)
    (rows_read a19 a11 h11 x10 _ _ 16 rfl (by omega) _ _ _)
    (rows_read a20 a12 h12 x11 _ _ 16 rfl (by omega) _ _ _) t n)

theorem B_v17 (t : Fin 128) (n : Fin 256) :
    (r_710 c a5 h5 a6 h6 a8 h8 a9 h9 a10 h10 a11 h11 a12 h12 a16 h16 a19 a20 x4 x5 x7 x8 x9 x10 x11 xs0) (ValueIdx.ix2 t n)
      = (r_692 c a5 h5 a6 h6 a8 h8 a9 h9 a10 h10 a11 h11 a12 h12 a16 h16 a19 a20 x4 x5 x7 x8 x9 x10 x11 xs0) (ValueIdx.ix2 t n) + T xs0 x9 x10 x11 ⟨17, by omega⟩ t n :=
  (congrFun (pay_v17 (r_692 c a5 h5 a6 h6 a8 h8 a9 h9 a10 h10 a11 h11 a12 h12 a16 h16 a19 a20 x4 x5 x7 x8 x9 x10 x11 xs0) (View.readAt (Elt Ideal) a16.view (Rect.unit (s := S20x128x256) ![17, 0, 0] S1x128x256.size inb_S20x128x256_S1x128x256_17_0_0).toLoadRect (h16.unread xs0))
    (View.readAt (Elt Ideal) a10.view (Rect.unit (s := S160x16x256) ![136, 0, 0] S8x16x256.size inb_S160x16x256_S8x16x256_136_0_0).toLoadRect (h10.unread x9)) (v6455_raw c a5 h5 a8 h8 a11 h11 a19 x4 x7 x10) (v6458_raw c a6 h6 a9 h9 a12 h12 a20 x5 x8 x11)) (ValueIdx.ix2 t n)).trans
  (step_apply ⟨17, by omega⟩ xs0 x9 x10 x11 _ _ _ _ _ (h_read a16 h16 xs0 17 (by omega) _) (w_read a10 h10 x9 _ 17 rfl (by omega) _)
    (rows_read a19 a11 h11 x10 _ _ 17 rfl (by omega) _ _ _)
    (rows_read a20 a12 h12 x11 _ _ 17 rfl (by omega) _ _ _) t n)

theorem B_v18 (t : Fin 128) (n : Fin 256) :
    (r_719 c a5 h5 a6 h6 a8 h8 a9 h9 a10 h10 a11 h11 a12 h12 a16 h16 a19 a20 x4 x5 x7 x8 x9 x10 x11 xs0) (ValueIdx.ix2 t n)
      = (r_710 c a5 h5 a6 h6 a8 h8 a9 h9 a10 h10 a11 h11 a12 h12 a16 h16 a19 a20 x4 x5 x7 x8 x9 x10 x11 xs0) (ValueIdx.ix2 t n) + T xs0 x9 x10 x11 ⟨18, by omega⟩ t n :=
  (congrFun (pay_v18 (r_710 c a5 h5 a6 h6 a8 h8 a9 h9 a10 h10 a11 h11 a12 h12 a16 h16 a19 a20 x4 x5 x7 x8 x9 x10 x11 xs0) (View.readAt (Elt Ideal) a16.view (Rect.unit (s := S20x128x256) ![18, 0, 0] S1x128x256.size inb_S20x128x256_S1x128x256_18_0_0).toLoadRect (h16.unread xs0))
    (View.readAt (Elt Ideal) a10.view (Rect.unit (s := S160x16x256) ![144, 0, 0] S8x16x256.size inb_S160x16x256_S8x16x256_144_0_0).toLoadRect (h10.unread x9)) (v6566_raw c a5 h5 a8 h8 a11 h11 a19 x4 x7 x10) (v6569_raw c a6 h6 a9 h9 a12 h12 a20 x5 x8 x11)) (ValueIdx.ix2 t n)).trans
  (step_apply ⟨18, by omega⟩ xs0 x9 x10 x11 _ _ _ _ _ (h_read a16 h16 xs0 18 (by omega) _) (w_read a10 h10 x9 _ 18 rfl (by omega) _)
    (rows_read a19 a11 h11 x10 _ _ 18 rfl (by omega) _ _ _)
    (rows_read a20 a12 h12 x11 _ _ 18 rfl (by omega) _ _ _) t n)

theorem B_v19 (t : Fin 128) (n : Fin 256) :
    (k0_pay1 (r_719 c a5 h5 a6 h6 a8 h8 a9 h9 a10 h10 a11 h11 a12 h12 a16 h16 a19 a20 x4 x5 x7 x8 x9 x10 x11 xs0) (r_720 c a10 h10 x9) (r_723 c a5 h5 a6 h6 a8 h8 a9 h9 a10 h10 a11 h11 a12 h12 a19 a20 x4 x5 x7 x8 x9 x10 x11) (r_724 c a5 h5 a6 h6 a8 h8 a9 h9 a10 h10 a11 h11 a12 h12 a19 a20 x4 x5 x7 x8 x9 x10 x11) (r_725 c a5 h5 a6 h6 a8 h8 a9 h9 a10 h10 a11 h11 a12 h12 a19 a20 x4 x5 x7 x8 x9 x10 x11) (r_726 c a5 h5 a6 h6 a8 h8 a9 h9 a10 h10 a11 h11 a12 h12 a19 a20 x4 x5 x7 x8 x9 x10 x11) (r_727 c a5 h5 a6 h6 a8 h8 a9 h9 a10 h10 a11 h11 a12 h12 a19 a20 x4 x5 x7 x8 x9 x10 x11) (r_729 c a5 h5 a6 h6 a8 h8 a9 h9 a10 h10 a11 h11 a12 h12 a19 a20 x4 x5 x7 x8 x9 x10 x11) (r_730 c a5 h5 a6 h6 a8 h8 a9 h9 a10 h10 a11 h11 a12 h12 a19 a20 x4 x5 x7 x8 x9 x10 x11) (r_731 c a5 h5 a8 h8 a11 h11 a19 x4 x7 x10) (r_732 c a6 h6 a9 h9 a12 h12 a20 x5 x8 x11) (View.readAt (Elt Ideal) a16.view (Rect.unit (s := S20x128x256) ![19, 0, 0] S1x128x256.size inb_S20x128x256_S1x128x256_19_0_0).toLoadRect (h16.unread xs0))) (ValueIdx.ix2 t n)
      = (r_719 c a5 h5 a6 h6 a8 h8 a9 h9 a10 h10 a11 h11 a12 h12 a16 h16 a19 a20 x4 x5 x7 x8 x9 x10 x11 xs0) (ValueIdx.ix2 t n) + T xs0 x9 x10 x11 ⟨19, by omega⟩ t n :=
  (congrFun (pay_v19 (r_719 c a5 h5 a6 h6 a8 h8 a9 h9 a10 h10 a11 h11 a12 h12 a16 h16 a19 a20 x4 x5 x7 x8 x9 x10 x11 xs0) (View.readAt (Elt Ideal) a16.view (Rect.unit (s := S20x128x256) ![19, 0, 0] S1x128x256.size inb_S20x128x256_S1x128x256_19_0_0).toLoadRect (h16.unread xs0))
    (View.readAt (Elt Ideal) a10.view (Rect.unit (s := S160x16x256) ![152, 0, 0] S8x16x256.size inb_S160x16x256_S8x16x256_152_0_0).toLoadRect (h10.unread x9)) (v6677_raw c a5 h5 a8 h8 a11 h11 a19 x4 x7 x10) (v6680_raw c a6 h6 a9 h9 a12 h12 a20 x5 x8 x11)) (ValueIdx.ix2 t n)).trans
  (step_apply ⟨19, by omega⟩ xs0 x9 x10 x11 _ _ _ _ _ (h_read a16 h16 xs0 19 (by omega) _) (w_read a10 h10 x9 _ 19 rfl (by omega) _)
    (rows_read a19 a11 h11 x10 _ _ 19 rfl (by omega) _ _ _)
    (rows_read a20 a12 h12 x11 _ _ 19 rfl (by omega) _ _ _) t n)

end Cert.KernelIdeal.Val

end
-- ==== Proof.OutB.lean ====
/- Case B: the output blocks at an index. -/
module

public import proofs.«01_k».proof.Proof.TilesBq
public import proofs.«01_k».proof.Proof.TilesBk
public import proofs.«01_k».proof.Proof.TilesBv
public import proofs.«01_k».proof.Proof.OutBase
import all proofs.«01_k».proof.Proof.Gen.KernelIdeal.Frame.RunB
import all proofs.«01_k».proof.Proof.Gen.KernelIdeal.Frame.RunA

@[expose] public section

set_option maxRecDepth 65536
set_option maxHeartbeats 4000000

noncomputable section

namespace Cert.KernelIdeal.Val

open Cert.KernelIdeal Cert.KernelIdeal.Gen.kernelRun0_B.sl Cert.KernelIdeal.Gen Idealize.ShloMosaic Cert.Spec

variable (c : Dev nD)
variable (a1 : Memref sig .tc .vmem S128x5120 .bf16) (h1 : a1.IsWhole) (a2 : Memref sig .tc .vmem S1x5120 .bf16) (h2 : a2.IsWhole) (a3 : Memref sig .tc .vmem S1x128 .i32) (h3 : a3.IsWhole)
variable (a4 : Memref sig .tc .vmem S160x16x256 .i8) (h4 : a4.IsWhole) (a5 : Memref sig .tc .vmem S160x256 .bf16) (h5 : a5.IsWhole) (a6 : Memref sig .tc .vmem S160x256 .bf16) (h6 : a6.IsWhole)
variable (a7 : Memref sig .tc .vmem S160x16x256 .i8) (h7 : a7.IsWhole) (a8 : Memref sig .tc .vmem S160x256 .bf16) (h8 : a8.IsWhole) (a9 : Memref sig .tc .vmem S160x256 .bf16) (h9 : a9.IsWhole)
variable (a10 : Memref sig .tc .vmem S160x16x256 .i8) (h10 : a10.IsWhole) (a11 : Memref sig .tc .vmem S160x256 .bf16) (h11 : a11.IsWhole) (a12 : Memref sig .tc .vmem S160x256 .bf16) (h12 : a12.IsWhole)
variable (a16 : Memref sig .tc .vmem S20x128x256 .bf16) (h16 : a16.IsWhole) (a17 : Memref sig .tc .vmem S128x128 .f32) (h17 : a17.IsWhole) (a18 : Memref sig .tc .vmem S128x128 .f32) (h18 : a18.IsWhole)
  (a19 : Memref sig .tc .vmem S20x8x2x256 .bf16) (a20 : Memref sig .tc .vmem S20x8x2x256 .bf16)
variable (x0 : Vec Ideal S128x5120 .bf16) (x1 : Vec Ideal S1x5120 .bf16) (x2 : Vec Ideal S1x128 .i32)
  (x3 x6 x9 : Vec Ideal S160x16x256 .i8) (x4 x5 x7 x8 x10 x11 : Vec Ideal S160x256 .bf16)
  (xs0 : Vec Ideal S20x128x256 .bf16) (xs1 xs2 : Vec Ideal S128x128 .f32)

theorem B_q (t : Fin 128) (n : Fin 256) :
    (r_223 c a4 h4 a5 h5 a6 h6 a16 h16 a19 a20 x3 x4 x5 xs0) (ValueIdx.ix2 t n) = S xs0 x3 x4 x5 t n := by
  rw [S_eq, B_q19, B_q18, B_q17, B_q16, B_q15, B_q14, B_q13, B_q12, B_q11, B_q10, B_q9, B_q8, B_q7, B_q6, B_q5, B_q4, B_q3, B_q2, B_q1, B_q0]
  rw [show ∀ i, (k0_pay95 (F := Ideal)) i = 0 from fun _ => Ideal.ofBits_zero_f32]

theorem B_k (t : Fin 128) (n : Fin 256) :
    (r_464 c a5 h5 a6 h6 a7 h7 a8 h8 a9 h9 a16 h16 a19 a20 x4 x5 x6 x7 x8 xs0) (ValueIdx.ix2 t n) = S xs0 x6 x7 x8 t n := by
  rw [S_eq, B_k19, B_k18, B_k17, B_k16, B_k15, B_k14, B_k13, B_k12, B_k11, B_k10, B_k9, B_k8, B_k7, B_k6, B_k5, B_k4, B_k3, B_k2, B_k1, B_k0]
  rw [show ∀ i, (k0_pay371 (F := Ideal)) i = 0 from fun _ => Ideal.ofBits_zero_f32]

theorem B_v (t : Fin 128) (n : Fin 256) :
    (k0_pay1 (r_719 c a5 h5 a6 h6 a8 h8 a9 h9 a10 h10 a11 h11 a12 h12 a16 h16 a19 a20 x4 x5 x7 x8 x9 x10 x11 xs0) (r_720 c a10 h10 x9) (r_723 c a5 h5 a6 h6 a8 h8 a9 h9 a10 h10 a11 h11 a12 h12 a19 a20 x4 x5 x7 x8 x9 x10 x11) (r_724 c a5 h5 a6 h6 a8 h8 a9 h9 a10 h10 a11 h11 a12 h12 a19 a20 x4 x5 x7 x8 x9 x10 x11) (r_725 c a5 h5 a6 h6 a8 h8 a9 h9 a10 h10 a11 h11 a12 h12 a19 a20 x4 x5 x7 x8 x9 x10 x11) (r_726 c a5 h5 a6 h6 a8 h8 a9 h9 a10 h10 a11 h11 a12 h12 a19 a20 x4 x5 x7 x8 x9 x10 x11) (r_727 c a5 h5 a6 h6 a8 h8 a9 h9 a10 h10 a11 h11 a12 h12 a19 a20 x4 x5 x7 x8 x9 x10 x11) (r_729 c a5 h5 a6 h6 a8 h8 a9 h9 a10 h10 a11 h11 a12 h12 a19 a20 x4 x5 x7 x8 x9 x10 x11) (r_730 c a5 h5 a6 h6 a8 h8 a9 h9 a10 h10 a11 h11 a12 h12 a19 a20 x4 x5 x7 x8 x9 x10 x11) (r_731 c a5 h5 a8 h8 a11 h11 a19 x4 x7 x10) (r_732 c a6 h6 a9 h9 a12 h12 a20 x5 x8 x11) (View.readAt (Elt Ideal) a16.view (Rect.unit (s := S20x128x256) ![19, 0, 0] S1x128x256.size inb_S20x128x256_S1x128x256_19_0_0).toLoadRect (h16.unread xs0))) (ValueIdx.ix2 t n) = S xs0 x9 x10 x11 t n := by
  rw [S_eq, B_v19, B_v18, B_v17, B_v16, B_v15, B_v14, B_v13, B_v12, B_v11, B_v10, B_v9, B_v8, B_v7, B_v6, B_v5, B_v4, B_v3, B_v2, B_v1, B_v0]
  rw [show ∀ i, (k0_pay667 (F := Ideal)) i = 0 from fun _ => Ideal.ofBits_zero_f32]

theorem B_L12 (y : S2x128x128.Idx) :
    View.canon ([⟨Rect.unit (s := S2x128x128) ![1, 0, 0] S1x128x128.size inb_S2x128x128_S1x128x128_1_0_0, k0_pay370 (F := Ideal) k0_pay94 (r_223 c a4 h4 a5 h5 a6 h6 a16 h16 a19 a20 x3 x4 x5 xs0) (View.readAt (Elt Ideal) a17.view (Rect.unit (s := S128x128) ![0, 0] S128x128.size inb_S128x128_S128x128_0_0).toLoadRect (h17.unread xs1)) (View.readAt (Elt Ideal) a18.view (Rect.unit (s := S128x128) ![0, 0] S128x128.size inb_S128x128_S128x128_0_0).toLoadRect (h18.unread xs2))⟩, ⟨Rect.unit (s := S2x128x128) ![0, 0, 0] S1x128x128.size inb_S2x128x128_S1x128x128_0_0_0, k0_pay369 (F := Ideal) (r_224 c a4 h4 a5 h5 a6 h6 a16 h16 a17 h17 a18 h18 a19 a20 x3 x4 x5 xs0 xs1 xs2)⟩] : List (View.Piece (Elt Ideal) S2x128x128 .bf16)) y
      = Rp xs0 x3 x4 x5 xs1 xs2 y := by
  refine View.canon_eq_of_allAt _ y _ (View.cover_of_tiled_head _ _ _ (by rfl) y) ?_
  refine View.allAt_cons_unit _ _ _ _ _ (fun x hx => rope_piece xs0 x3 x4 x5 xs1 xs2 (r_223 c a4 h4 a5 h5 a6 h6 a16 h16 a19 a20 x3 x4 x5 xs0) _ _ _ 1 128 rfl (by omega) slices_S128x256_o0_128_S128x128 rfl (fun t n => B_q (t := t) (n := n) ..) (sq_whole a17 h17 xs1 _) (sq_whole a18 h18 xs2 _) y x (hx 0) ((hx 1).trans (Nat.zero_add _)) ((hx 2).trans (Nat.zero_add _))) ?_
  refine View.allAt_cons_unit _ _ _ _ _ (fun x hx => rope_piece xs0 x3 x4 x5 xs1 xs2 (r_223 c a4 h4 a5 h5 a6 h6 a16 h16 a19 a20 x3 x4 x5 xs0) _ _ _ 0 0 rfl (by omega) slices_S128x256_o0_0_S128x128 rfl (fun t n => B_q (t := t) (n := n) ..) (sq_whole a17 h17 xs1 _) (sq_whole a18 h18 xs2 _) y x (hx 0) ((hx 1).trans (Nat.zero_add _)) ((hx 2).trans (Nat.zero_add _))) ?_
  exact View.allAt_nil y _

theorem B_L13 (y : S2x128x128.Idx) :
    View.canon ([⟨Rect.unit (s := S2x128x128) ![1, 0, 0] S1x128x128.size inb_S2x128x128_S1x128x128_1_0_0, k0_pay666 (F := Ideal) k0_pay94 (r_464 c a5 h5 a6 h6 a7 h7 a8 h8 a9 h9 a16 h16 a19 a20 x4 x5 x6 x7 x8 xs0) (View.readAt (Elt Ideal) a17.view (Rect.unit (s := S128x128) ![0, 0] S128x128.size inb_S128x128_S128x128_0_0).toLoadRect (h17.unread xs1)) (View.readAt (Elt Ideal) a18.view (Rect.unit (s := S128x128) ![0, 0] S128x128.size inb_S128x128_S128x128_0_0).toLoadRect (h18.unread xs2))⟩, ⟨Rect.unit (s := S2x128x128) ![0, 0, 0] S1x128x128.size inb_S2x128x128_S1x128x128_0_0_0, k0_pay665 (F := Ideal) (r_465 c a5 h5 a6 h6 a7 h7 a8 h8 a9 h9 a16 h16 a17 h17 a18 h18 a19 a20 x4 x5 x6 x7 x8 xs0 xs1 xs2)⟩] : List (View.Piece (Elt Ideal) S2x128x128 .bf16)) y
      = Rp xs0 x6 x7 x8 xs1 xs2 y := by
  refine View.canon_eq_of_allAt _ y _ (View.cover_of_tiled_head _ _ _ (by rfl) y) ?_
  refine View.allAt_cons_unit _ _ _ _ _ (fun x hx => rope_piece xs0 x6 x7 x8 xs1 xs2 (r_464 c a5 h5 a6 h6 a7 h7 a8 h8 a9 h9 a16 h16 a19 a20 x4 x5 x6 x7 x8 xs0) _ _ _ 1 128 rfl (by omega) slices_S128x256_o0_128_S128x128 rfl (fun t n => B_k (t := t) (n := n) ..) (sq_whole a17 h17 xs1 _) (sq_whole a18 h18 xs2 _) y x (hx 0) ((hx 1).trans (Nat.zero_add _)) ((hx 2).trans (Nat.zero_add _))) ?_
  refine View.allAt_cons_unit _ _ _ _ _ (fun x hx => rope_piece xs0 x6 x7 x8 xs1 xs2 (r_464 c a5 h5 a6 h6 a7 h7 a8 h8 a9 h9 a16 h16 a19 a20 x4 x5 x6 x7 x8 xs0) _ _ _ 0 0 rfl (by omega) slices_S128x256_o0_0_S128x128 rfl (fun t n => B_k (t := t) (n := n) ..) (sq_whole a17 h17 xs1 _) (sq_whole a18 h18 xs2 _) y x (hx 0) ((hx 1).trans (Nat.zero_add _)) ((hx 2).trans (Nat.zero_add _))) ?_
  exact View.allAt_nil y _

theorem B_L14 (y : S2x128x128.Idx) :
    View.canon ([⟨Rect.unit (s := S2x128x128) ![1, 0, 0] ![1, 128, 128] inb_S2x128x128_S1x128x128_1_0_0, k0_pay3 (F := Ideal) (r_719 c a5 h5 a6 h6 a8 h8 a9 h9 a10 h10 a11 h11 a12 h12 a16 h16 a19 a20 x4 x5 x7 x8 x9 x10 x11 xs0) (r_720 c a10 h10 x9) (r_723 c a5 h5 a6 h6 a8 h8 a9 h9 a10 h10 a11 h11 a12 h12 a19 a20 x4 x5 x7 x8 x9 x10 x11) (r_724 c a5 h5 a6 h6 a8 h8 a9 h9 a10 h10 a11 h11 a12 h12 a19 a20 x4 x5 x7 x8 x9 x10 x11) (r_725 c a5 h5 a6 h6 a8 h8 a9 h9 a10 h10 a11 h11 a12 h12 a19 a20 x4 x5 x7 x8 x9 x10 x11) (r_726 c a5 h5 a6 h6 a8 h8 a9 h9 a10 h10 a11 h11 a12 h12 a19 a20 x4 x5 x7 x8 x9 x10 x11) (r_727 c a5 h5 a6 h6 a8 h8 a9 h9 a10 h10 a11 h11 a12 h12 a19 a20 x4 x5 x7 x8 x9 x10 x11) (r_729 c a5 h5 a6 h6 a8 h8 a9 h9 a10 h10 a11 h11 a12 h12 a19 a20 x4 x5 x7 x8 x9 x10 x11) (r_730 c a5 h5 a6 h6 a8 h8 a9 h9 a10 h10 a11 h11 a12 h12 a19 a20 x4 x5 x7 x8 x9 x10 x11) (r_731 c a5 h5 a8 h8 a11 h11 a19 x4 x7 x10) (r_732 c a6 h6 a9 h9 a12 h12 a20 x5 x8 x11) (View.readAt (Elt Ideal) a16.view (Rect.unit (s := S20x128x256) ![19, 0, 0] S1x128x256.size inb_S20x128x256_S1x128x256_19_0_0).toLoadRect (h16.unread xs0))⟩, ⟨Rect.unit (s := S2x128x128) ![0, 0, 0] ![1, 128, 128] inb_S2x128x128_S1x128x128_0_0_0, k0_pay2 (F := Ideal) (r_719 c a5 h5 a6 h6 a8 h8 a9 h9 a10 h10 a11 h11 a12 h12 a16 h16 a19 a20 x4 x5 x7 x8 x9 x10 x11 xs0) (r_720 c a10 h10 x9) (r_723 c a5 h5 a6 h6 a8 h8 a9 h9 a10 h10 a11 h11 a12 h12 a19 a20 x4 x5 x7 x8 x9 x10 x11) (r_724 c a5 h5 a6 h6 a8 h8 a9 h9 a10 h10 a11 h11 a12 h12 a19 a20 x4 x5 x7 x8 x9 x10 x11) (r_725 c a5 h5 a6 h6 a8 h8 a9 h9 a10 h10 a11 h11 a12 h12 a19 a20 x4 x5 x7 x8 x9 x10 x11) (r_726 c a5 h5 a6 h6 a8 h8 a9 h9 a10 h10 a11 h11 a12 h12 a19 a20 x4 x5 x7 x8 x9 x10 x11) (r_727 c a5 h5 a6 h6 a8 h8 a9 h9 a10 h10 a11 h11 a12 h12 a19 a20 x4 x5 x7 x8 x9 x10 x11) (r_729 c a5 h5 a6 h6 a8 h8 a9 h9 a10 h10 a11 h11 a12 h12 a19 a20 x4 x5 x7 x8 x9 x10 x11) (r_730 c a5 h5 a6 h6 a8 h8 a9 h9 a10 h10 a11 h11 a12 h12 a19 a20 x4 x5 x7 x8 x9 x10 x11) (r_731 c a5 h5 a8 h8 a11 h11 a19 x4 x7 x10) (r_732 c a6 h6 a9 h9 a12 h12 a20 x5 x8 x11) (View.readAt (Elt Ideal) a16.view (Rect.unit (s := S20x128x256) ![19, 0, 0] S1x128x256.size inb_S20x128x256_S1x128x256_19_0_0).toLoadRect (h16.unread xs0))⟩] : List (View.Piece (Elt Ideal) S2x128x128 .bf16)) y
      = Vp xs0 x9 x10 x11 y := by
  refine View.canon_eq_of_allAt _ y _ (View.cover_of_tiled_head _ _ _ (by rfl) y) ?_
  refine View.allAt_cons_unit _ _ _ _ _ (fun x hx => v_piece xs0 x9 x10 x11 (k0_pay1 (r_719 c a5 h5 a6 h6 a8 h8 a9 h9 a10 h10 a11 h11 a12 h12 a16 h16 a19 a20 x4 x5 x7 x8 x9 x10 x11 xs0) (r_720 c a10 h10 x9) (r_723 c a5 h5 a6 h6 a8 h8 a9 h9 a10 h10 a11 h11 a12 h12 a19 a20 x4 x5 x7 x8 x9 x10 x11) (r_724 c a5 h5 a6 h6 a8 h8 a9 h9 a10 h10 a11 h11 a12 h12 a19 a20 x4 x5 x7 x8 x9 x10 x11) (r_725 c a5 h5 a6 h6 a8 h8 a9 h9 a10 h10 a11 h11 a12 h12 a19 a20 x4 x5 x7 x8 x9 x10 x11) (r_726 c a5 h5 a6 h6 a8 h8 a9 h9 a10 h10 a11 h11 a12 h12 a19 a20 x4 x5 x7 x8 x9 x10 x11) (r_727 c a5 h5 a6 h6 a8 h8 a9 h9 a10 h10 a11 h11 a12 h12 a19 a20 x4 x5 x7 x8 x9 x10 x11) (r_729 c a5 h5 a6 h6 a8 h8 a9 h9 a10 h10 a11 h11 a12 h12 a19 a20 x4 x5 x7 x8 x9 x10 x11) (r_730 c a5 h5 a6 h6 a8 h8 a9 h9 a10 h10 a11 h11 a12 h12 a19 a20 x4 x5 x7 x8 x9 x10 x11) (r_731 c a5 h5 a8 h8 a11 h11 a19 x4 x7 x10) (r_732 c a6 h6 a9 h9 a12 h12 a20 x5 x8 x11) (View.readAt (Elt Ideal) a16.view (Rect.unit (s := S20x128x256) ![19, 0, 0] S1x128x256.size inb_S20x128x256_S1x128x256_19_0_0).toLoadRect (h16.unread xs0))) _ 1 128 rfl (by omega) slices_S128x256_o0_128_S128x128 rfl (fun t n => B_v (t := t) (n := n) ..) y x (hx 0) ((hx 1).trans (Nat.zero_add _)) ((hx 2).trans (Nat.zero_add _))) ?_
  refine View.allAt_cons_unit _ _ _ _ _ (fun x hx => v_piece xs0 x9 x10 x11 (k0_pay1 (r_719 c a5 h5 a6 h6 a8 h8 a9 h9 a10 h10 a11 h11 a12 h12 a16 h16 a19 a20 x4 x5 x7 x8 x9 x10 x11 xs0) (r_720 c a10 h10 x9) (r_723 c a5 h5 a6 h6 a8 h8 a9 h9 a10 h10 a11 h11 a12 h12 a19 a20 x4 x5 x7 x8 x9 x10 x11) (r_724 c a5 h5 a6 h6 a8 h8 a9 h9 a10 h10 a11 h11 a12 h12 a19 a20 x4 x5 x7 x8 x9 x10 x11) (r_725 c a5 h5 a6 h6 a8 h8 a9 h9 a10 h10 a11 h11 a12 h12 a19 a20 x4 x5 x7 x8 x9 x10 x11) (r_726 c a5 h5 a6 h6 a8 h8 a9 h9 a10 h10 a11 h11 a12 h12 a19 a20 x4 x5 x7 x8 x9 x10 x11) (r_727 c a5 h5 a6 h6 a8 h8 a9 h9 a10 h10 a11 h11 a12 h12 a19 a20 x4 x5 x7 x8 x9 x10 x11) (r_729 c a5 h5 a6 h6 a8 h8 a9 h9 a10 h10 a11 h11 a12 h12 a19 a20 x4 x5 x7 x8 x9 x10 x11) (r_730 c a5 h5 a6 h6 a8 h8 a9 h9 a10 h10 a11 h11 a12 h12 a19 a20 x4 x5 x7 x8 x9 x10 x11) (r_731 c a5 h5 a8 h8 a11 h11 a19 x4 x7 x10) (r_732 c a6 h6 a9 h9 a12 h12 a20 x5 x8 x11) (View.readAt (Elt Ideal) a16.view (Rect.unit (s := S20x128x256) ![19, 0, 0] S1x128x256.size inb_S20x128x256_S1x128x256_19_0_0).toLoadRect (h16.unread xs0))) _ 0 0 rfl (by omega) slices_S128x256_o0_0_S128x128 rfl (fun t n => B_v (t := t) (n := n) ..) y x (hx 0) ((hx 1).trans (Nat.zero_add _)) ((hx 2).trans (Nat.zero_add _))) ?_
  exact View.allAt_nil y _

end Cert.KernelIdeal.Val

end
-- ==== Proof.Blocks.lean ====
/- What each point of the grid leaves in the output blocks and in the scratch the kernel carries. -/
module

public import proofs.«01_k».proof.Proof.Gen.KernelIdeal.Frame
public import proofs.«01_k».proof.Proof.OutA
public import proofs.«01_k».proof.Proof.OutB
import all proofs.«01_k».proof.Proof.Gen.KernelIdeal.Frame.RunB
import all proofs.«01_k».proof.Proof.Gen.KernelIdeal.Frame.RunA

@[expose] public section

set_option maxRecDepth 65536
set_option maxHeartbeats 4000000

noncomputable section

namespace Cert.KernelIdeal.Val

open Cert.KernelIdeal Cert.KernelIdeal.Gen Idealize.ShloMosaic Idealize.ShloMosaic.TcCoe Cert.Spec

/-- The cosines of the positions' angles. -/
def Cf (x2 : Vec Ideal S1x128 .i32) (i : S128x128.Idx) : EReal := Ideal.cos (ang (x2 (ValueIdx.ix2 (0 : Fin 1) (i 0))) ((i 1).val / 2))

/-- The sines of the positions' angles, negated at the even lanes. -/
def Sf (x2 : Vec Ideal S1x128 .i32) (i : S128x128.Idx) : EReal :=
  if (i 1).val % 2 = 0 then -Ideal.sin (ang (x2 (ValueIdx.ix2 (0 : Fin 1) (i 0))) ((i 1).val / 2)) else Ideal.sin (ang (x2 (ValueIdx.ix2 (0 : Fin 1) (i 0))) ((i 1).val / 2))

section
variable (c : Dev nD) (i : grid0.Coords)

variable (a1 : Memref sig .tc .vmem S128x5120 .bf16) (h1 : a1.IsWhole)
variable (a2 : Memref sig .tc .vmem S1x5120 .bf16) (h2 : a2.IsWhole)
variable (a3 : Memref sig .tc .vmem S1x128 .i32) (h3 : a3.IsWhole)
variable (a4 : Memref sig .tc .vmem S160x16x256 .i8) (h4 : a4.IsWhole)
variable (a5 : Memref sig .tc .vmem S160x256 .bf16) (h5 : a5.IsWhole)
variable (a6 : Memref sig .tc .vmem S160x256 .bf16) (h6 : a6.IsWhole)
variable (a7 : Memref sig .tc .vmem S160x16x256 .i8) (h7 : a7.IsWhole)
variable (a8 : Memref sig .tc .vmem S160x256 .bf16) (h8 : a8.IsWhole)
variable (a9 : Memref sig .tc .vmem S160x256 .bf16) (h9 : a9.IsWhole)
variable (a10 : Memref sig .tc .vmem S160x16x256 .i8) (h10 : a10.IsWhole)
variable (a11 : Memref sig .tc .vmem S160x256 .bf16) (h11 : a11.IsWhole)
variable (a12 : Memref sig .tc .vmem S160x256 .bf16) (h12 : a12.IsWhole)
variable (a13 : Memref sig .tc .vmem S2x128x128 .bf16) (h13 : a13.IsWhole)
variable (a14 : Memref sig .tc .vmem S2x128x128 .bf16) (h14 : a14.IsWhole)
variable (a15 : Memref sig .tc .vmem S2x128x128 .bf16) (h15 : a15.IsWhole)
variable (a16 : Memref sig .tc .vmem S20x128x256 .bf16) (h16 : a16.IsWhole)
variable (a17 : Memref sig .tc .vmem S128x128 .f32) (h17 : a17.IsWhole)
variable (a18 : Memref sig .tc .vmem S128x128 .f32) (h18 : a18.IsWhole)
variable (a19 : Memref sig .tc .vmem S20x8x2x256 .bf16) (h19 : a19.IsWhole)
variable (a20 : Memref sig .tc .vmem S20x8x2x256 .bf16) (h20 : a20.IsWhole)
variable (x0 : Vec Ideal S128x5120 .bf16) (x1 : Vec Ideal S1x5120 .bf16) (x2 : Vec Ideal S1x128 .i32)
  (x3 x6 x9 : Vec Ideal S160x16x256 .i8) (x4 x5 x7 x8 x10 x11 : Vec Ideal S160x256 .bf16)
  (xs0 : Vec Ideal S20x128x256 .bf16) (xs1 xs2 : Vec Ideal S128x128 .f32)

theorem canonH : View.canon (kernelRun0_A.sl.HS0_40 (F := Ideal) c a1 h1 a2 h2 x0 x1) = hval x0 x1 := funext fun y => h_canon _ _ _ _ _ _ _ y
theorem canonC : View.canon (kernelRun0_A.sl.HS1_1 (F := Ideal) c a3 h3 x2) = Cf x2 := funext fun y => cos_canon _ _ _ _ y
theorem canonS : View.canon (kernelRun0_A.sl.HS2_1 (F := Ideal) c a3 h3 x2) = Sf x2 := funext fun y => sin_canon _ _ _ _ y

theorem outA_12 (hc : cond0_0 i) : out0_A_12 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 hc x0 x1 x2 x3 x4 x5 x6 x7 x8 x9 x10 x11 = Rp (hval x0 x1) x3 x4 x5 (Cf x2) (Sf x2) := by
  funext y
  unfold out0_A_12
  rw [View.read_writes_junk_eq_canon]
  refine (A_L12 (y := y) ..).trans ?_
  rw [canonH, canonC, canonS]

theorem outB_12 (hc : ¬cond0_0 i) : out0_B_12 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 hc x0 x1 x2 x3 x4 x5 x6 x7 x8 x9 x10 x11 xs0 xs1 xs2 = Rp xs0 x3 x4 x5 xs1 xs2 := by
  funext y
  unfold out0_B_12
  rw [View.read_writes_junk_eq_canon]
  exact B_L12 (y := y) ..

theorem outA_13 (hc : cond0_0 i) : out0_A_13 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 hc x0 x1 x2 x3 x4 x5 x6 x7 x8 x9 x10 x11 = Rp (hval x0 x1) x6 x7 x8 (Cf x2) (Sf x2) := by
  funext y
  unfold out0_A_13
  rw [View.read_writes_junk_eq_canon]
  refine (A_L13 (y := y) ..).trans ?_
  rw [canonH, canonC, canonS]

theorem outB_13 (hc : ¬cond0_0 i) : out0_B_13 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 hc x0 x1 x2 x3 x4 x5 x6 x7 x8 x9 x10 x11 xs0 xs1 xs2 = Rp xs0 x6 x7 x8 xs1 xs2 := by
  funext y
  unfold out0_B_13
  rw [View.read_writes_junk_eq_canon]
  exact B_L13 (y := y) ..

theorem outA_14 (hc : cond0_0 i) : out0_A_14 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 hc x0 x1 x2 x3 x4 x5 x6 x7 x8 x9 x10 x11 = Vp (hval x0 x1) x9 x10 x11 := by
  funext y
  unfold out0_A_14
  rw [View.read_writes_junk_eq_canon]
  refine (A_L14 (y := y) ..).trans ?_
  rw [canonH]

theorem outB_14 (hc : ¬cond0_0 i) : out0_B_14 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 hc x0 x1 x2 x3 x4 x5 x6 x7 x8 x9 x10 x11 xs0 xs1 xs2 = Vp xs0 x9 x10 x11 := by
  funext y
  unfold out0_B_14
  rw [View.read_writes_junk_eq_canon]
  exact B_L14 (y := y) ..

theorem scrA_0 (hc : cond0_0 i) : sout0_A_0 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 hc x0 x1 x2 x3 x4 x5 x6 x7 x8 x9 x10 x11 = hval x0 x1 := by
  unfold sout0_A_0
  rw [View.read_writes_junk_eq_canon]
  exact canonH ..

theorem scrB_0 (hc : ¬cond0_0 i) : sout0_B_0 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 hc x0 x1 x2 x3 x4 x5 x6 x7 x8 x9 x10 x11 xs0 xs1 xs2 = xs0 := rfl

theorem scrA_1 (hc : cond0_0 i) : sout0_A_1 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 hc x0 x1 x2 x3 x4 x5 x6 x7 x8 x9 x10 x11 = Cf x2 := by
  unfold sout0_A_1
  rw [View.read_writes_junk_eq_canon]
  exact canonC ..

theorem scrB_1 (hc : ¬cond0_0 i) : sout0_B_1 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 hc x0 x1 x2 x3 x4 x5 x6 x7 x8 x9 x10 x11 xs0 xs1 xs2 = xs1 := rfl

theorem scrA_2 (hc : cond0_0 i) : sout0_A_2 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 hc x0 x1 x2 x3 x4 x5 x6 x7 x8 x9 x10 x11 = Sf x2 := by
  unfold sout0_A_2
  rw [View.read_writes_junk_eq_canon]
  exact canonS ..

theorem scrB_2 (hc : ¬cond0_0 i) : sout0_B_2 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 hc x0 x1 x2 x3 x4 x5 x6 x7 x8 x9 x10 x11 xs0 xs1 xs2 = xs2 := rfl

end

variable (m : (ℓ : Loc nD τ sig) → Buf (Elt Ideal) ℓ) (c : Dev nD)

/-- The first point. -/
def t0 : Fin cfg0.N := ⟨0, by rw [show cfg0.N = 5 from N_0]; decide⟩

/-- Every point finds the scratch as the first point left it. -/
theorem scr_eq : ∀ (n : ℕ) (hn : n < cfg0.N), (outsAt0 m c n hn).2.2.2 = (hval (iblk m c 0 t0) (iblk m c 1 t0), Cf (iblk m c 2 t0), Sf (iblk m c 2 t0))
  | 0, hn => by
    refine (congrArg (fun z => z.2.2.2) (outsAt0_A m c ⟨0, hn⟩ rfl)).trans ?_
    rw [scrA_0, scrA_1, scrA_2]
    rfl
  | n + 1, hn => by
    have hN : cfg0.N = 5 := N_0
    have hB : ¬(⟨n + 1, hn⟩ : Fin cfg0.N).val % 5 = 0 := by dsimp only; omega
    refine (congrArg (fun z => z.2.2.2) (outsAt0_B m c ⟨n + 1, hn⟩ hB)).trans ?_
    rw [scrB_0, scrB_1, scrB_2]
    exact scr_eq n (Nat.lt_of_succ_lt hn)

/-- Output window 12's block after a point. -/
theorem out_12 (t : Fin cfg0.N) : (dats m 0 c).after 12 t
    = Rp (hval (iblk m c 0 t0) (iblk m c 1 t0)) (iblk m c 3 t) (iblk m c 4 t) (iblk m c 5 t) (Cf (iblk m c 2 t0)) (Sf (iblk m c 2 t0)) := by
  rw [after0_12]
  have hN : cfg0.N = 5 := N_0
  by_cases h0 : t.val % 5 = 0
  · obtain rfl : t = t0 := Fin.ext (by have := t.isLt; show t.val = 0; omega)
    refine (congrArg (fun z => z.1) (outsAt0_A m c t0 h0)).trans ?_
    dsimp only
    rw [outA_12]
  · refine (congrArg (fun z => z.1) (outsAt0_B m c t h0)).trans ?_
    dsimp only
    rw [outB_12, scr_eq]

/-- Output window 13's block after a point. -/
theorem out_13 (t : Fin cfg0.N) : (dats m 0 c).after 13 t
    = Rp (hval (iblk m c 0 t0) (iblk m c 1 t0)) (iblk m c 6 t) (iblk m c 7 t) (iblk m c 8 t) (Cf (iblk m c 2 t0)) (Sf (iblk m c 2 t0)) := by
  rw [after0_13]
  have hN : cfg0.N = 5 := N_0
  by_cases h0 : t.val % 5 = 0
  · obtain rfl : t = t0 := Fin.ext (by have := t.isLt; show t.val = 0; omega)
    refine (congrArg (fun z => z.2.1) (outsAt0_A m c t0 h0)).trans ?_
    dsimp only
    rw [outA_13]
  · refine (congrArg (fun z => z.2.1) (outsAt0_B m c t h0)).trans ?_
    dsimp only
    rw [outB_13, scr_eq]

/-- Output window 14's block after a point. -/
theorem out_14 (t : Fin cfg0.N) : (dats m 0 c).after 14 t
    = Vp (hval (iblk m c 0 t0) (iblk m c 1 t0)) (iblk m c 9 t) (iblk m c 10 t) (iblk m c 11 t) := by
  rw [after0_14]
  have hN : cfg0.N = 5 := N_0
  by_cases h0 : t.val % 5 = 0
  · obtain rfl : t = t0 := Fin.ext (by have := t.isLt; show t.val = 0; omega)
    refine (congrArg (fun z => z.2.2.1) (outsAt0_A m c t0 h0)).trans ?_
    dsimp only
    rw [outA_14]
  · refine (congrArg (fun z => z.2.2.1) (outsAt0_B m c t h0)).trans ?_
    dsimp only
    rw [outB_14, scr_eq]

end Cert.KernelIdeal.Val

end
-- ==== Proof.Goal.lean ====
/- The results, as functions of the arguments' elements. -/
module

public import proofs.«01_k».proof.Proof.Spec

@[expose] public section

noncomputable section

namespace Cert.Spec

open Idealize.ShloMosaic

variable (X : Fin 128 → Fin 5120 → EReal) (N : Fin 5120 → EReal) (P : Fin 128 → BitVec 32)
  (W : Fin 1280 → Fin 160 → Fin 16 → BitVec 8) (S M : Fin 1280 → Fin 160 → EReal)

/-- Column `n` of the projection of token `t`. -/
def pcol (t : Fin 128) (n : Fin 1280) : EReal := proj (X t) N (W n) (S n) (M n)

/-- The column of lane `l` of head `d`. -/
def hl (d : Fin 10) (l : Fin 128) : Fin 1280 := ⟨d.val * 128 + l.val, by have := d.isLt; have := l.isLt; omega⟩

/-- The first lane of the pair of lane `l`. -/
def lo (l : Fin 128) : Fin 128 := ⟨l.val / 2 * 2, by have := l.isLt; omega⟩

/-- The second lane of the pair of lane `l`. -/
def hi (l : Fin 128) : Fin 128 := ⟨l.val / 2 * 2 + 1, by have := l.isLt; omega⟩

/-- The rotated projection. -/
def gRot (t : Fin 128) (d : Fin 10) (l : Fin 128) : EReal :=
  rot (P t) l.val (pcol X N W S M t (hl d (lo l))) (pcol X N W S M t (hl d (hi l)))

/-- The projection that is not rotated. -/
def gVal (t : Fin 128) (d : Fin 10) (l : Fin 128) : EReal := pcol X N W S M t (hl d l)

end Cert.Spec

end
-- ==== Proof.Fold.lean ====
/- The kernel's order of the contraction against the reference's. -/
module

public import proofs.«01_k».proof.Proof.OutBase
public import proofs.«01_k».proof.Proof.H2
public import proofs.«01_k».proof.Proof.Goal

@[expose] public section

set_option maxRecDepth 16384

noncomputable section

namespace Cert.KernelIdeal.Val

open Cert.KernelIdeal Idealize.ShloMosaic Cert.Spec

/-- The three parts of a contraction index. -/
theorem kparts (u q j : ℕ) (hu : u < 2) (hq : q < 160) (hj : j < 16) :
    (u * 2560 + q * 16 + j) % 2560 / 16 = q ∧ (u * 2560 + q * 16 + j) % 16 = j ∧ (u * 2560 + q * 16 + j) / 2560 = u := by
  refine ⟨?_, ?_, ?_⟩ <;> omega

/-- The three parts of a row. -/
theorem rparts (g j u : ℕ) (hj : j < 16) (hu : u < 2) :
    (g * 32 + j * 2 + u) % 2 = u ∧ (g * 32 + j * 2 + u) / 32 = g ∧ (g * 32 + j * 2 + u) % 32 / 2 = j := by
  refine ⟨?_, ?_, ?_⟩ <;> omega

/-- The contraction index of row `r` of tile `b`. -/
def kmap : Fin 20 × Fin 256 ≃ Fin 5120 where
  toFun z := ⟨z.2.val % 2 * 2560 + (8 * z.1.val + z.2.val / 32) * 16 + z.2.val % 32 / 2, by have := z.1.isLt; have := z.2.isLt; omega⟩
  invFun k := (⟨k.val % 2560 / 16 / 8, by have := k.isLt; omega⟩, ⟨k.val % 2560 / 16 % 8 * 32 + k.val % 16 * 2 + k.val / 2560, by have := k.isLt; omega⟩)
  left_inv z := by
    obtain ⟨⟨b, hb⟩, ⟨r, hr⟩⟩ := z
    obtain ⟨e1, e2, e3⟩ := kparts (r % 2) (8 * b + r / 32) (r % 32 / 2) (by omega) (by omega) (by omega)
    refine Prod.ext (Fin.ext ?_) (Fin.ext ?_)
    · show (r % 2 * 2560 + (8 * b + r / 32) * 16 + r % 32 / 2) % 2560 / 16 / 8 = b
      rw [e1]
      omega
    · show (r % 2 * 2560 + (8 * b + r / 32) * 16 + r % 32 / 2) % 2560 / 16 % 8 * 32 + (r % 2 * 2560 + (8 * b + r / 32) * 16 + r % 32 / 2) % 16 * 2 + (r % 2 * 2560 + (8 * b + r / 32) * 16 + r % 32 / 2) / 2560 = r
      rw [e1, e2, e3, show (8 * b + r / 32) % 8 = r / 32 by omega]
      clear e1 e2 e3
      omega
  right_inv k := by
    obtain ⟨k, hk⟩ := k
    refine Fin.ext ?_
    show (k % 2560 / 16 % 8 * 32 + k % 16 * 2 + k / 2560) % 2 * 2560 + (8 * (k % 2560 / 16 / 8) + (k % 2560 / 16 % 8 * 32 + k % 16 * 2 + k / 2560) / 32) * 16 + (k % 2560 / 16 % 8 * 32 + k % 16 * 2 + k / 2560) % 32 / 2 = k
    obtain ⟨e1, e2, e3⟩ := rparts (k % 2560 / 16 % 8) (k % 16) (k / 2560) (by omega) (by omega)
    rw [e1, e2, e3]
    clear e1 e2 e3
    omega

/-- A tile's sums over the twenty tiles are the whole contraction. -/
theorem S_proj (x0 : S128x5120.Idx → EReal) (x1 : S1x5120.Idx → EReal) (w : S160x16x256.Idx → BitVec 8) (s m : S160x256.Idx → EReal)
    (t : Fin 128) (n : Fin 256) :
    S (hval x0 x1) w s m t n = proj (fun k => x0 (ValueIdx.ix2 t k)) (fun k => x1 (ValueIdx.ix2 (0 : Fin 1) k)) (fun g j => w (ValueIdx.ix3 g j n))
      (fun g => s (ValueIdx.ix2 g n)) (fun g => m (ValueIdx.ix2 g n)) := by
  unfold S T proj
  rw [← Fintype.sum_prod_type']
  refine Fintype.sum_equiv kmap _ _ (fun z => ?_)
  obtain ⟨⟨b, hb⟩, ⟨r, hr⟩⟩ := z
  obtain ⟨e1, e2, e3⟩ := kparts (r % 2) (8 * b + r / 32) (r % 32 / 2) (by omega) (by omega) (by omega)
  have hc : (⟨b * 256 + (r / 32 * 32 + r % 2 * 16 + r % 32 / 2), by omega⟩ : Fin 5120) = col (kmap (⟨b, hb⟩, ⟨r, hr⟩)) := by
    refine Fin.ext ?_
    show b * 256 + (r / 32 * 32 + r % 2 * 16 + r % 32 / 2) = (r % 2 * 2560 + (8 * b + r / 32) * 16 + r % 32 / 2) % 2560 / 16 * 32 + (r % 2 * 2560 + (8 * b + r / 32) * 16 + r % 32 / 2) / 2560 * 16 + (r % 2 * 2560 + (8 * b + r / 32) * 16 + r % 32 / 2) % 16
    rw [e1, e2, e3]
    omega
  have hg : (⟨8 * b + r / 32, by omega⟩ : Fin 160) = grp (kmap (⟨b, hb⟩, ⟨r, hr⟩)) := by
    refine Fin.ext ?_
    show 8 * b + r / 32 = (r % 2 * 2560 + (8 * b + r / 32) * 16 + r % 32 / 2) % 2560 / 16
    rw [e1]
  have hj : (⟨r % 32 / 2, by omega⟩ : Fin 16) = byt (kmap (⟨b, hb⟩, ⟨r, hr⟩)) := by
    refine Fin.ext ?_
    show r % 32 / 2 = (r % 2 * 2560 + (8 * b + r / 32) * 16 + r % 32 / 2) % 16
    rw [e2]
  have hu : r % 2 = (kmap (⟨b, hb⟩, ⟨r, hr⟩)).val / 2560 := by
    show r % 2 = (r % 2 * 2560 + (8 * b + r / 32) * 16 + r % 32 / 2) / 2560
    rw [e3]
  unfold wt
  rw [← hu, ← hg, ← hj, ← hc]
  rfl

end Cert.KernelIdeal.Val

end
-- ==== Proof.Arrays.lean ====
/- The kernel's result arrays as functions of its argument arrays. -/
module

public import proofs.«01_k».proof.Proof.Blocks
public import proofs.«01_k».proof.Proof.Fold
public import proofs.«01_k».proof.Proof.Goal
public import Idealize.ShloMosaic.Lib.Pipeline.FrameTail
public import Idealize.ShloMosaic.Lib.Pipeline.Value

@[expose] public section

set_option maxRecDepth 65536
set_option maxHeartbeats 2000000

noncomputable section

namespace Cert.KernelIdeal.Val

open Cert.KernelIdeal Cert.KernelIdeal.Gen Idealize.ShloMosaic Idealize.ShloMosaic.TcCoe Cert.Spec Idealize.SL.Sem

variable (m : (ℓ : Loc nD τ sig) → Buf (Elt Ideal) ℓ) (ρ : Dev nD → PrngReg) (c : Dev nD)

/-! ## The arguments, element by element -/

/-- The activations. -/
def aX : Fin 128 → Fin 5120 → EReal := fun t k => (m ((c : Thread nD τ).loc main_arg0) : S128x1x5120.Idx → EReal) (ValueIdx.ix3 t (0 : Fin 1) k)
/-- The norm's weights. -/
def aN : Fin 5120 → EReal := fun k => (m ((c : Thread nD τ).loc main_arg1) : S5120.Idx → EReal) (ValueIdx.ix1 k)
/-- The positions. -/
def aP : Fin 128 → BitVec 32 := fun t => (m ((c : Thread nD τ).loc main_arg2) : S128x1.Idx → BitVec 32) (ValueIdx.ix2 t (0 : Fin 1))

/-- The first projection's packed weights, scales and minima. -/
def aWq : Fin 1280 → Fin 160 → Fin 16 → BitVec 8 := fun n g j => (m ((c : Thread nD τ).loc main_arg3) : S1280x160x16.Idx → BitVec 8) (ValueIdx.ix3 n g j)
def aSq : Fin 1280 → Fin 160 → EReal := fun n g => (m ((c : Thread nD τ).loc main_arg4) : S1280x160.Idx → EReal) (ValueIdx.ix2 n g)
def aMq : Fin 1280 → Fin 160 → EReal := fun n g => (m ((c : Thread nD τ).loc main_arg5) : S1280x160.Idx → EReal) (ValueIdx.ix2 n g)

/-- The second projection's packed weights, scales and minima. -/
def aWk : Fin 1280 → Fin 160 → Fin 16 → BitVec 8 := fun n g j => (m ((c : Thread nD τ).loc main_arg6) : S1280x160x16.Idx → BitVec 8) (ValueIdx.ix3 n g j)
def aSk : Fin 1280 → Fin 160 → EReal := fun n g => (m ((c : Thread nD τ).loc main_arg7) : S1280x160.Idx → EReal) (ValueIdx.ix2 n g)
def aMk : Fin 1280 → Fin 160 → EReal := fun n g => (m ((c : Thread nD τ).loc main_arg8) : S1280x160.Idx → EReal) (ValueIdx.ix2 n g)

/-- The third projection's packed weights, scales and minima. -/
def aWv : Fin 1280 → Fin 160 → Fin 16 → BitVec 8 := fun n g j => (m ((c : Thread nD τ).loc main_arg9) : S1280x160x16.Idx → BitVec 8) (ValueIdx.ix3 n g j)
def aSv : Fin 1280 → Fin 160 → EReal := fun n g => (m ((c : Thread nD τ).loc main_arg10) : S1280x160.Idx → EReal) (ValueIdx.ix2 n g)
def aMv : Fin 1280 → Fin 160 → EReal := fun n g => (m ((c : Thread nD τ).loc main_arg11) : S1280x160.Idx → EReal) (ValueIdx.ix2 n g)

/-! ## The arrays the region finds -/

theorem V_v0 : V m c main_v0 = transpose S160x16x1280 [1, 2, 0] (m ((c : Thread nD τ).loc main_arg3) : S1280x160x16.Idx → BitVec 8) transposes_S1280x160x16_S160x16x1280_1_2_0 := by
  show StableHlo.after (List.flatten [hostOps0]) (fun b => m (c, b)) (Proc.devRef .tc main_v0) = _
  simp only [List.flatten_cons, List.flatten_nil, List.append_nil]
  after_results_simp

theorem V_v1 : V m c main_v1 = transpose S160x1280 [1, 0] (m ((c : Thread nD τ).loc main_arg4) : S1280x160.Idx → EReal) transposes_S1280x160_S160x1280_1_0 := by
  show StableHlo.after (List.flatten [hostOps0]) (fun b => m (c, b)) (Proc.devRef .tc main_v1) = _
  simp only [List.flatten_cons, List.flatten_nil, List.append_nil]
  after_results_simp

theorem V_v2 : V m c main_v2 = transpose S160x1280 [1, 0] (m ((c : Thread nD τ).loc main_arg5) : S1280x160.Idx → EReal) transposes_S1280x160_S160x1280_1_0 := by
  show StableHlo.after (List.flatten [hostOps0]) (fun b => m (c, b)) (Proc.devRef .tc main_v2) = _
  simp only [List.flatten_cons, List.flatten_nil, List.append_nil]
  after_results_simp

theorem V_v3 : V m c main_v3 = transpose S160x16x1280 [1, 2, 0] (m ((c : Thread nD τ).loc main_arg6) : S1280x160x16.Idx → BitVec 8) transposes_S1280x160x16_S160x16x1280_1_2_0 := by
  show StableHlo.after (List.flatten [hostOps0]) (fun b => m (c, b)) (Proc.devRef .tc main_v3) = _
  simp only [List.flatten_cons, List.flatten_nil, List.append_nil]
  after_results_simp

theorem V_v4 : V m c main_v4 = transpose S160x1280 [1, 0] (m ((c : Thread nD τ).loc main_arg7) : S1280x160.Idx → EReal) transposes_S1280x160_S160x1280_1_0 := by
  show StableHlo.after (List.flatten [hostOps0]) (fun b => m (c, b)) (Proc.devRef .tc main_v4) = _
  simp only [List.flatten_cons, List.flatten_nil, List.append_nil]
  after_results_simp

theorem V_v5 : V m c main_v5 = transpose S160x1280 [1, 0] (m ((c : Thread nD τ).loc main_arg8) : S1280x160.Idx → EReal) transposes_S1280x160_S160x1280_1_0 := by
  show StableHlo.after (List.flatten [hostOps0]) (fun b => m (c, b)) (Proc.devRef .tc main_v5) = _
  simp only [List.flatten_cons, List.flatten_nil, List.append_nil]
  after_results_simp

theorem V_v6 : V m c main_v6 = transpose S160x16x1280 [1, 2, 0] (m ((c : Thread nD τ).loc main_arg9) : S1280x160x16.Idx → BitVec 8) transposes_S1280x160x16_S160x16x1280_1_2_0 := by
  show StableHlo.after (List.flatten [hostOps0]) (fun b => m (c, b)) (Proc.devRef .tc main_v6) = _
  simp only [List.flatten_cons, List.flatten_nil, List.append_nil]
  after_results_simp

theorem V_v7 : V m c main_v7 = transpose S160x1280 [1, 0] (m ((c : Thread nD τ).loc main_arg10) : S1280x160.Idx → EReal) transposes_S1280x160_S160x1280_1_0 := by
  show StableHlo.after (List.flatten [hostOps0]) (fun b => m (c, b)) (Proc.devRef .tc main_v7) = _
  simp only [List.flatten_cons, List.flatten_nil, List.append_nil]
  after_results_simp

theorem V_v8 : V m c main_v8 = transpose S160x1280 [1, 0] (m ((c : Thread nD τ).loc main_arg11) : S1280x160.Idx → EReal) transposes_S1280x160_S160x1280_1_0 := by
  show StableHlo.after (List.flatten [hostOps0]) (fun b => m (c, b)) (Proc.devRef .tc main_v8) = _
  simp only [List.flatten_cons, List.flatten_nil, List.append_nil]
  after_results_simp

theorem V_v9 : V m c main_v9 = shapeCast S128x5120 (m ((c : Thread nD τ).loc main_arg0) : S128x1x5120.Idx → EReal) shapeCasts_S128x1x5120_S128x5120 := by
  show StableHlo.after (List.flatten [hostOps0]) (fun b => m (c, b)) (Proc.devRef .tc main_v9) = _
  simp only [List.flatten_cons, List.flatten_nil, List.append_nil]
  after_results_simp
  rfl

theorem V_v10 : V m c main_v10 = shapeCast S1x5120 (m ((c : Thread nD τ).loc main_arg1) : S5120.Idx → EReal) shapeCasts_S5120_S1x5120 := by
  show StableHlo.after (List.flatten [hostOps0]) (fun b => m (c, b)) (Proc.devRef .tc main_v10) = _
  simp only [List.flatten_cons, List.flatten_nil, List.append_nil]
  after_results_simp
  rfl

theorem V_v11 : V m c main_v11 = shapeCast S1x128 (m ((c : Thread nD τ).loc main_arg2) : S128x1.Idx → BitVec 32) shapeCasts_S128x1_S1x128 := by
  show StableHlo.after (List.flatten [hostOps0]) (fun b => m (c, b)) (Proc.devRef .tc main_v11) = _
  simp only [List.flatten_cons, List.flatten_nil, List.append_nil]
  after_results_simp
  rfl

/-! ## The blocks -/

theorem idx0 : ∀ t : Fin cfg0.N, win0_0.index t (0 : Fin 2) = 0 ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 3) = 0 ∧ win0_3.index t (1 : Fin 3) = 0 ∧ win0_3.index t (2 : Fin 3) = t.val := (by decide +kernel : ∀ t : Fin grid0.N, _)
theorem idx4 : ∀ t : Fin cfg0.N, win0_4.index t (0 : Fin 2) = 0 ∧ win0_4.index t (1 : Fin 2) = t.val := (by decide +kernel : ∀ t : Fin grid0.N, _)
theorem idx5 : ∀ t : Fin cfg0.N, win0_5.index t (0 : Fin 2) = 0 ∧ win0_5.index t (1 : Fin 2) = t.val := (by decide +kernel : ∀ t : Fin grid0.N, _)
theorem idx6 : ∀ t : Fin cfg0.N, win0_6.index t (0 : Fin 3) = 0 ∧ win0_6.index t (1 : Fin 3) = 0 ∧ win0_6.index t (2 : Fin 3) = t.val := (by decide +kernel : ∀ t : Fin grid0.N, _)
theorem idx7 : ∀ t : Fin cfg0.N, win0_7.index t (0 : Fin 2) = 0 ∧ win0_7.index t (1 : Fin 2) = t.val := (by decide +kernel : ∀ t : Fin grid0.N, _)
theorem idx8 : ∀ t : Fin cfg0.N, win0_8.index t (0 : Fin 2) = 0 ∧ win0_8.index t (1 : Fin 2) = t.val := (by decide +kernel : ∀ t : Fin grid0.N, _)
theorem idx9 : ∀ t : Fin cfg0.N, win0_9.index t (0 : Fin 3) = 0 ∧ win0_9.index t (1 : Fin 3) = 0 ∧ win0_9.index t (2 : Fin 3) = t.val := (by decide +kernel : ∀ t : Fin grid0.N, _)
theorem idx10 : ∀ t : Fin cfg0.N, win0_10.index t (0 : Fin 2) = 0 ∧ win0_10.index t (1 : Fin 2) = t.val := (by decide +kernel : ∀ t : Fin grid0.N, _)
theorem idx11 : ∀ t : Fin cfg0.N, win0_11.index t (0 : Fin 2) = 0 ∧ win0_11.index t (1 : Fin 2) = t.val := (by decide +kernel : ∀ t : Fin grid0.N, _)
theorem idx12 : ∀ t : Fin cfg0.N, win0_12.index t (0 : Fin 3) = t.val ∧ win0_12.index t (1 : Fin 3) = 0 ∧ win0_12.index t (2 : Fin 3) = 0 := (by decide +kernel : ∀ t : Fin grid0.N, _)
theorem idx13 : ∀ t : Fin cfg0.N, win0_13.index t (0 : Fin 3) = t.val ∧ win0_13.index t (1 : Fin 3) = 0 ∧ win0_13.index t (2 : Fin 3) = 0 := (by decide +kernel : ∀ t : Fin grid0.N, _)
theorem idx14 : ∀ t : Fin cfg0.N, win0_14.index t (0 : Fin 3) = t.val ∧ win0_14.index t (1 : Fin 3) = 0 ∧ win0_14.index t (2 : Fin 3) = 0 := (by decide +kernel : ∀ t : Fin grid0.N, _)

theorem blk0 (t : Fin cfg0.N) (a : Fin 128) (k : Fin 5120) : (iblk m c 0 t : S128x5120.Idx → EReal) (ValueIdx.ix2 a k) = aX m c a k := by
  obtain ⟨e0, e1⟩ := idx0 t
  show (V m c main_v9 : S128x5120.Idx → EReal) (((cfg0.win 0).blk t).view.emb (ValueIdx.ix2 a k)) = _
  rw [V_v9, show ((cfg0.win 0).blk t).view.emb (ValueIdx.ix2 a k) = (ValueIdx.ix2 a k : S128x5120.Idx) from by
    funext x; apply Fin.ext
    match x with
    | ⟨0, _⟩ => show win0_0.index t (0 : Fin 2) * 128 + 1 * a.val = a.val; omega
    | ⟨1, _⟩ => show win0_0.index t (1 : Fin 2) * 5120 + 1 * k.val = k.val; omega]
  exact shapeCast_apply _ _ (ValueIdx.ix2 a k : S128x5120.Idx) (ValueIdx.ix3 a (0 : Fin 1) k : S128x1x5120.Idx)
    (by rw [Shape.rowMajor_val_three, Shape.rowMajor_val_two]; show (a.val * 1 + 0) * 5120 + k.val = a.val * 5120 + k.val; omega)

theorem blk1 (t : Fin cfg0.N) (k : Fin 5120) : (iblk m c 1 t : S1x5120.Idx → EReal) (ValueIdx.ix2 (0 : Fin 1) k) = aN m c k := by
  obtain ⟨e0, e1⟩ := idx1 t
  show (V m c main_v10 : S1x5120.Idx → EReal) (((cfg0.win 1).blk t).view.emb (ValueIdx.ix2 (0 : Fin 1) k)) = _
  rw [V_v10, show ((cfg0.win 1).blk t).view.emb (ValueIdx.ix2 (0 : Fin 1) k) = (ValueIdx.ix2 (0 : Fin 1) k : S1x5120.Idx) from by
    funext x; apply Fin.ext
    match x with
    | ⟨0, _⟩ => show win0_1.index t (0 : Fin 2) * 1 + 1 * 0 = 0; omega
    | ⟨1, _⟩ => show win0_1.index t (1 : Fin 2) * 5120 + 1 * k.val = k.val; omega]
  exact shapeCast_apply _ _ (ValueIdx.ix2 (0 : Fin 1) k : S1x5120.Idx) (ValueIdx.ix1 k : S5120.Idx)
    (by rw [Shape.rowMajor_val_one, Shape.rowMajor_val_two]; show k.val = 0 * 5120 + k.val; omega)

theorem blk2 (t : Fin cfg0.N) (k : Fin 128) : (iblk m c 2 t : S1x128.Idx → BitVec 32) (ValueIdx.ix2 (0 : Fin 1) k) = aP m c k := by
  obtain ⟨e0, e1⟩ := idx2 t
  show (V m c main_v11 : S1x128.Idx → BitVec 32) (((cfg0.win 2).blk t).view.emb (ValueIdx.ix2 (0 : Fin 1) k)) = _
  rw [V_v11, show ((cfg0.win 2).blk t).view.emb (ValueIdx.ix2 (0 : Fin 1) k) = (ValueIdx.ix2 (0 : Fin 1) k : S1x128.Idx) from by
    funext x; apply Fin.ext
    match x with
    | ⟨0, _⟩ => show win0_2.index t (0 : Fin 2) * 1 + 1 * 0 = 0; omega
    | ⟨1, _⟩ => show win0_2.index t (1 : Fin 2) * 128 + 1 * k.val = k.val; omega]
  exact shapeCast_apply _ _ (ValueIdx.ix2 (0 : Fin 1) k : S1x128.Idx) (ValueIdx.ix2 k (0 : Fin 1) : S128x1.Idx)
    (by rw [Shape.rowMajor_val_two, Shape.rowMajor_val_two]; show k.val * 1 + 0 = 0 * 128 + k.val; omega)

/-- The column of the arrays of column `n` of a point's block. -/
def bcol (t : Fin cfg0.N) (n : Fin 256) : Fin 1280 := ⟨t.val * 256 + n.val, by have h : cfg0.N = 5 := N_0; have := t.isLt; have := n.isLt; omega⟩

theorem blk3 (t : Fin cfg0.N) (g : Fin 160) (j : Fin 16) (n : Fin 256) :
    (iblk m c 3 t : S160x16x256.Idx → BitVec 8) (ValueIdx.ix3 g j n) = aWq m c (bcol t n) g j := by
  obtain ⟨e0, e1, e2⟩ := idx3 t
  show (V m c main_v0 : S160x16x1280.Idx → BitVec 8) (((cfg0.win 3).blk t).view.emb (ValueIdx.ix3 g j n)) = _
  rw [V_v0, show ((cfg0.win 3).blk t).view.emb (ValueIdx.ix3 g j n) = (ValueIdx.ix3 g j (bcol t n) : S160x16x1280.Idx) from by
    funext x; apply Fin.ext
    match x with
    | ⟨0, _⟩ => show win0_3.index t (0 : Fin 3) * 160 + 1 * g.val = g.val; omega
    | ⟨1, _⟩ => show win0_3.index t (1 : Fin 3) * 16 + 1 * j.val = j.val; omega
    | ⟨2, _⟩ => show win0_3.index t (2 : Fin 3) * 256 + 1 * n.val = t.val * 256 + n.val; omega]
  exact transpose_apply _ _ _ _ (ValueIdx.ix3 (bcol t n) g j : S1280x160x16.Idx) (by intro b; match b with | ⟨0, _⟩ => rfl | ⟨1, _⟩ => rfl | ⟨2, _⟩ => rfl)

theorem blk4 (t : Fin cfg0.N) (g : Fin 160) (n : Fin 256) :
    (iblk m c 4 t : S160x256.Idx → EReal) (ValueIdx.ix2 g n) = aSq m c (bcol t n) g := by
  obtain ⟨e0, e1⟩ := idx4 t
  show (V m c main_v1 : S160x1280.Idx → EReal) (((cfg0.win 4).blk t).view.emb (ValueIdx.ix2 g n)) = _
  rw [V_v1, show ((cfg0.win 4).blk t).view.emb (ValueIdx.ix2 g n) = (ValueIdx.ix2 g (bcol t n) : S160x1280.Idx) from by
    funext x; apply Fin.ext
    match x with
    | ⟨0, _⟩ => show win0_4.index t (0 : Fin 2) * 160 + 1 * g.val = g.val; omega
    | ⟨1, _⟩ => show win0_4.index t (1 : Fin 2) * 256 + 1 * n.val = t.val * 256 + n.val; omega]
  exact transpose_apply _ _ _ _ (ValueIdx.ix2 (bcol t n) g : S1280x160.Idx) (by intro b; match b with | ⟨0, _⟩ => rfl | ⟨1, _⟩ => rfl)

theorem blk5 (t : Fin cfg0.N) (g : Fin 160) (n : Fin 256) :
    (iblk m c 5 t : S160x256.Idx → EReal) (ValueIdx.ix2 g n) = aMq m c (bcol t n) g := by
  obtain ⟨e0, e1⟩ := idx5 t
  show (V m c main_v2 : S160x1280.Idx → EReal) (((cfg0.win 5).blk t).view.emb (ValueIdx.ix2 g n)) = _
  rw [V_v2, show ((cfg0.win 5).blk t).view.emb (ValueIdx.ix2 g n) = (ValueIdx.ix2 g (bcol t n) : S160x1280.Idx) from by
    funext x; apply Fin.ext
    match x with
    | ⟨0, _⟩ => show win0_5.index t (0 : Fin 2) * 160 + 1 * g.val = g.val; omega
    | ⟨1, _⟩ => show win0_5.index t (1 : Fin 2) * 256 + 1 * n.val = t.val * 256 + n.val; omega]
  exact transpose_apply _ _ _ _ (ValueIdx.ix2 (bcol t n) g : S1280x160.Idx) (by intro b; match b with | ⟨0, _⟩ => rfl | ⟨1, _⟩ => rfl)

/-- A tile's contraction is a column of the projection. -/
theorem S_q (t : Fin cfg0.N) (a : Fin 128) (n : Fin 256) :
    S (hval (iblk m c 0 t0) (iblk m c 1 t0)) (iblk m c 3 t) (iblk m c 4 t) (iblk m c 5 t) a n
      = pcol (aX m c) (aN m c) (aWq m c) (aSq m c) (aMq m c) a (bcol t n) := by
  rw [S_proj]
  unfold pcol
  rw [show (fun k => (iblk m c 0 t0 : S128x5120.Idx → EReal) (ValueIdx.ix2 a k)) = aX m c a from funext fun k => blk0 m c t0 a k,
    show (fun k => (iblk m c 1 t0 : S1x5120.Idx → EReal) (ValueIdx.ix2 (0 : Fin 1) k)) = aN m c from funext fun k => blk1 m c t0 k,
    show (fun g j => (iblk m c 3 t : S160x16x256.Idx → BitVec 8) (ValueIdx.ix3 g j n)) = aWq m c (bcol t n) from funext fun g => funext fun j => blk3 m c t g j n,
    show (fun g => (iblk m c 4 t : S160x256.Idx → EReal) (ValueIdx.ix2 g n)) = aSq m c (bcol t n) from funext fun g => blk4 m c t g n,
    show (fun g => (iblk m c 5 t : S160x256.Idx → EReal) (ValueIdx.ix2 g n)) = aMq m c (bcol t n) from funext fun g => blk5 m c t g n]

theorem blk6 (t : Fin cfg0.N) (g : Fin 160) (j : Fin 16) (n : Fin 256) :
    (iblk m c 6 t : S160x16x256.Idx → BitVec 8) (ValueIdx.ix3 g j n) = aWk m c (bcol t n) g j := by
  obtain ⟨e0, e1, e2⟩ := idx6 t
  show (V m c main_v3 : S160x16x1280.Idx → BitVec 8) (((cfg0.win 6).blk t).view.emb (ValueIdx.ix3 g j n)) = _
  rw [V_v3, show ((cfg0.win 6).blk t).view.emb (ValueIdx.ix3 g j n) = (ValueIdx.ix3 g j (bcol t n) : S160x16x1280.Idx) from by
    funext x; apply Fin.ext
    match x with
    | ⟨0, _⟩ => show win0_6.index t (0 : Fin 3) * 160 + 1 * g.val = g.val; omega
    | ⟨1, _⟩ => show win0_6.index t (1 : Fin 3) * 16 + 1 * j.val = j.val; omega
    | ⟨2, _⟩ => show win0_6.index t (2 : Fin 3) * 256 + 1 * n.val = t.val * 256 + n.val; omega]
  exact transpose_apply _ _ _ _ (ValueIdx.ix3 (bcol t n) g j : S1280x160x16.Idx) (by intro b; match b with | ⟨0, _⟩ => rfl | ⟨1, _⟩ => rfl | ⟨2, _⟩ => rfl)

theorem blk7 (t : Fin cfg0.N) (g : Fin 160) (n : Fin 256) :
    (iblk m c 7 t : S160x256.Idx → EReal) (ValueIdx.ix2 g n) = aSk m c (bcol t n) g := by
  obtain ⟨e0, e1⟩ := idx7 t
  show (V m c main_v4 : S160x1280.Idx → EReal) (((cfg0.win 7).blk t).view.emb (ValueIdx.ix2 g n)) = _
  rw [V_v4, show ((cfg0.win 7).blk t).view.emb (ValueIdx.ix2 g n) = (ValueIdx.ix2 g (bcol t n) : S160x1280.Idx) from by
    funext x; apply Fin.ext
    match x with
    | ⟨0, _⟩ => show win0_7.index t (0 : Fin 2) * 160 + 1 * g.val = g.val; omega
    | ⟨1, _⟩ => show win0_7.index t (1 : Fin 2) * 256 + 1 * n.val = t.val * 256 + n.val; omega]
  exact transpose_apply _ _ _ _ (ValueIdx.ix2 (bcol t n) g : S1280x160.Idx) (by intro b; match b with | ⟨0, _⟩ => rfl | ⟨1, _⟩ => rfl)

theorem blk8 (t : Fin cfg0.N) (g : Fin 160) (n : Fin 256) :
    (iblk m c 8 t : S160x256.Idx → EReal) (ValueIdx.ix2 g n) = aMk m c (bcol t n) g := by
  obtain ⟨e0, e1⟩ := idx8 t
  show (V m c main_v5 : S160x1280.Idx → EReal) (((cfg0.win 8).blk t).view.emb (ValueIdx.ix2 g n)) = _
  rw [V_v5, show ((cfg0.win 8).blk t).view.emb (ValueIdx.ix2 g n) = (ValueIdx.ix2 g (bcol t n) : S160x1280.Idx) from by
    funext x; apply Fin.ext
    match x with
    | ⟨0, _⟩ => show win0_8.index t (0 : Fin 2) * 160 + 1 * g.val = g.val; omega
    | ⟨1, _⟩ => show win0_8.index t (1 : Fin 2) * 256 + 1 * n.val = t.val * 256 + n.val; omega]
  exact transpose_apply _ _ _ _ (ValueIdx.ix2 (bcol t n) g : S1280x160.Idx) (by intro b; match b with | ⟨0, _⟩ => rfl | ⟨1, _⟩ => rfl)

/-- A tile's contraction is a column of the projection. -/
theorem S_k (t : Fin cfg0.N) (a : Fin 128) (n : Fin 256) :
    S (hval (iblk m c 0 t0) (iblk m c 1 t0)) (iblk m c 6 t) (iblk m c 7 t) (iblk m c 8 t) a n
      = pcol (aX m c) (aN m c) (aWk m c) (aSk m c) (aMk m c) a (bcol t n) := by
  rw [S_proj]
  unfold pcol
  rw [show (fun k => (iblk m c 0 t0 : S128x5120.Idx → EReal) (ValueIdx.ix2 a k)) = aX m c a from funext fun k => blk0 m c t0 a k,
    show (fun k => (iblk m c 1 t0 : S1x5120.Idx → EReal) (ValueIdx.ix2 (0 : Fin 1) k)) = aN m c from funext fun k => blk1 m c t0 k,
    show (fun g j => (iblk m c 6 t : S160x16x256.Idx → BitVec 8) (ValueIdx.ix3 g j n)) = aWk m c (bcol t n) from funext fun g => funext fun j => blk6 m c t g j n,
    show (fun g => (iblk m c 7 t : S160x256.Idx → EReal) (ValueIdx.ix2 g n)) = aSk m c (bcol t n) from funext fun g => blk7 m c t g n,
    show (fun g => (iblk m c 8 t : S160x256.Idx → EReal) (ValueIdx.ix2 g n)) = aMk m c (bcol t n) from funext fun g => blk8 m c t g n]

theorem blk9 (t : Fin cfg0.N) (g : Fin 160) (j : Fin 16) (n : Fin 256) :
    (iblk m c 9 t : S160x16x256.Idx → BitVec 8) (ValueIdx.ix3 g j n) = aWv m c (bcol t n) g j := by
  obtain ⟨e0, e1, e2⟩ := idx9 t
  show (V m c main_v6 : S160x16x1280.Idx → BitVec 8) (((cfg0.win 9).blk t).view.emb (ValueIdx.ix3 g j n)) = _
  rw [V_v6, show ((cfg0.win 9).blk t).view.emb (ValueIdx.ix3 g j n) = (ValueIdx.ix3 g j (bcol t n) : S160x16x1280.Idx) from by
    funext x; apply Fin.ext
    match x with
    | ⟨0, _⟩ => show win0_9.index t (0 : Fin 3) * 160 + 1 * g.val = g.val; omega
    | ⟨1, _⟩ => show win0_9.index t (1 : Fin 3) * 16 + 1 * j.val = j.val; omega
    | ⟨2, _⟩ => show win0_9.index t (2 : Fin 3) * 256 + 1 * n.val = t.val * 256 + n.val; omega]
  exact transpose_apply _ _ _ _ (ValueIdx.ix3 (bcol t n) g j : S1280x160x16.Idx) (by intro b; match b with | ⟨0, _⟩ => rfl | ⟨1, _⟩ => rfl | ⟨2, _⟩ => rfl)

theorem blk10 (t : Fin cfg0.N) (g : Fin 160) (n : Fin 256) :
    (iblk m c 10 t : S160x256.Idx → EReal) (ValueIdx.ix2 g n) = aSv m c (bcol t n) g := by
  obtain ⟨e0, e1⟩ := idx10 t
  show (V m c main_v7 : S160x1280.Idx → EReal) (((cfg0.win 10).blk t).view.emb (ValueIdx.ix2 g n)) = _
  rw [V_v7, show ((cfg0.win 10).blk t).view.emb (ValueIdx.ix2 g n) = (ValueIdx.ix2 g (bcol t n) : S160x1280.Idx) from by
    funext x; apply Fin.ext
    match x with
    | ⟨0, _⟩ => show win0_10.index t (0 : Fin 2) * 160 + 1 * g.val = g.val; omega
    | ⟨1, _⟩ => show win0_10.index t (1 : Fin 2) * 256 + 1 * n.val = t.val * 256 + n.val; omega]
  exact transpose_apply _ _ _ _ (ValueIdx.ix2 (bcol t n) g : S1280x160.Idx) (by intro b; match b with | ⟨0, _⟩ => rfl | ⟨1, _⟩ => rfl)

theorem blk11 (t : Fin cfg0.N) (g : Fin 160) (n : Fin 256) :
    (iblk m c 11 t : S160x256.Idx → EReal) (ValueIdx.ix2 g n) = aMv m c (bcol t n) g := by
  obtain ⟨e0, e1⟩ := idx11 t
  show (V m c main_v8 : S160x1280.Idx → EReal) (((cfg0.win 11).blk t).view.emb (ValueIdx.ix2 g n)) = _
  rw [V_v8, show ((cfg0.win 11).blk t).view.emb (ValueIdx.ix2 g n) = (ValueIdx.ix2 g (bcol t n) : S160x1280.Idx) from by
    funext x; apply Fin.ext
    match x with
    | ⟨0, _⟩ => show win0_11.index t (0 : Fin 2) * 160 + 1 * g.val = g.val; omega
    | ⟨1, _⟩ => show win0_11.index t (1 : Fin 2) * 256 + 1 * n.val = t.val * 256 + n.val; omega]
  exact transpose_apply _ _ _ _ (ValueIdx.ix2 (bcol t n) g : S1280x160.Idx) (by intro b; match b with | ⟨0, _⟩ => rfl | ⟨1, _⟩ => rfl)

/-- A tile's contraction is a column of the projection. -/
theorem S_v (t : Fin cfg0.N) (a : Fin 128) (n : Fin 256) :
    S (hval (iblk m c 0 t0) (iblk m c 1 t0)) (iblk m c 9 t) (iblk m c 10 t) (iblk m c 11 t) a n
      = pcol (aX m c) (aN m c) (aWv m c) (aSv m c) (aMv m c) a (bcol t n) := by
  rw [S_proj]
  unfold pcol
  rw [show (fun k => (iblk m c 0 t0 : S128x5120.Idx → EReal) (ValueIdx.ix2 a k)) = aX m c a from funext fun k => blk0 m c t0 a k,
    show (fun k => (iblk m c 1 t0 : S1x5120.Idx → EReal) (ValueIdx.ix2 (0 : Fin 1) k)) = aN m c from funext fun k => blk1 m c t0 k,
    show (fun g j => (iblk m c 9 t : S160x16x256.Idx → BitVec 8) (ValueIdx.ix3 g j n)) = aWv m c (bcol t n) from funext fun g => funext fun j => blk9 m c t g j n,
    show (fun g => (iblk m c 10 t : S160x256.Idx → EReal) (ValueIdx.ix2 g n)) = aSv m c (bcol t n) from funext fun g => blk10 m c t g n,
    show (fun g => (iblk m c 11 t : S160x256.Idx → EReal) (ValueIdx.ix2 g n)) = aMv m c (bcol t n) from funext fun g => blk11 m c t g n]

/-! ## The result arrays -/

/-- The head of the arrays of head `u` of a point's block. -/
def bhead (t : Fin cfg0.N) (u : Fin 2) : Fin 10 := ⟨t.val * 2 + u.val, by have h : cfg0.N = 5 := N_0; have := t.isLt; have := u.isLt; omega⟩

theorem bcol_hcol (t : Fin cfg0.N) (u : Fin 2) (l : Fin 128) : bcol t (hcol u l) = hl (bhead t u) l :=
  Fin.ext (by show t.val * 256 + (128 * u.val + l.val) = (t.val * 2 + u.val) * 128 + l.val; omega)

/-- The array of window 12 after the run. -/
def G12 : S10x128x128.Idx → EReal := fun i => gRot (aX m c) (aN m c) (aP m c) (aWq m c) (aSq m c) (aMq m c) (i 1) (i 0) (i 2)

theorem after_12 (t : Fin cfg0.N) (u : Fin 2) (a l : Fin 128) :
    ((dats m 0 c).after 12 t : S2x128x128.Idx → EReal) (ValueIdx.ix3 u a l) = G12 m c (ValueIdx.ix3 (bhead t u) a l) := by
  refine (congrFun (out_12 m c t) (ValueIdx.ix3 u a l)).trans ?_
  show S (hval (iblk m c 0 t0) (iblk m c 1 t0)) (iblk m c 3 t) (iblk m c 4 t) (iblk m c 5 t) a (hcol u l) * Cf (iblk m c 2 t0) (ValueIdx.ix2 a l)
    + S (hval (iblk m c 0 t0) (iblk m c 1 t0)) (iblk m c 3 t) (iblk m c 4 t) (iblk m c 5 t) a (hcol u (swp l)) * Sf (iblk m c 2 t0) (ValueIdx.ix2 a l) = _
  rw [S_q, S_q, bcol_hcol, bcol_hcol]
  have hp : (iblk m c 2 t0 : S1x128.Idx → BitVec 32) (ValueIdx.ix2 (0 : Fin 1) a) = aP m c a := blk2 m c t0 a
  have hC : Cf (iblk m c 2 t0) (ValueIdx.ix2 a l) = Ideal.cos (ang (aP m c a) (l.val / 2)) := by
    rw [← hp]; rfl
  have hS : Sf (iblk m c 2 t0) (ValueIdx.ix2 a l) = if l.val % 2 = 0 then -Ideal.sin (ang (aP m c a) (l.val / 2)) else Ideal.sin (ang (aP m c a) (l.val / 2)) := by
    rw [← hp]; rfl
  rw [hC, hS]
  exact rot_eq (aP m c a) l (fun l => pcol (aX m c) (aN m c) (aWq m c) (aSq m c) (aMq m c) a (hl (bhead t u) l))

theorem emb12 (t : Fin cfg0.N) (u : Fin 2) (a l : Fin 128) :
    ((cfg0.win 12).blk t).view.emb (ValueIdx.ix3 u a l) = (ValueIdx.ix3 (bhead t u) a l : S10x128x128.Idx) := by
  obtain ⟨e0, e1, e2⟩ := idx12 t
  funext x; apply Fin.ext
  match x with
  | ⟨0, _⟩ => show win0_12.index t (0 : Fin 3) * 2 + 1 * u.val = t.val * 2 + u.val; omega
  | ⟨1, _⟩ => show win0_12.index t (1 : Fin 3) * 128 + 1 * a.val = a.val; omega
  | ⟨2, _⟩ => show win0_12.index t (2 : Fin 3) * 128 + 1 * l.val = l.val; omega

theorem flushed12 (t : Fin cfg0.N) : (dats m 0 c).flushed 12 t = ((cfg0.win 12).blk t).view.read (Elt Ideal) (G12 m c) := by
  funext y
  obtain ⟨u, a, l, rfl⟩ : ∃ (u : Fin 2) (a l : Fin 128), y = (ValueIdx.ix3 u a l : S2x128x128.Idx) := ⟨y 0, y 1, y 2, funext fun b => by match b with | ⟨0, _⟩ => rfl | ⟨1, _⟩ => rfl | ⟨2, _⟩ => rfl⟩
  show ((dats m 0 c).after 12 t : S2x128x128.Idx → EReal) (ValueIdx.ix3 u a l) = G12 m c (((cfg0.win 12).blk t).view.emb (ValueIdx.ix3 u a l))
  rw [emb12]
  exact after_12 m c t u a l

theorem mem12 (t : Fin cfg0.N) (u : Fin 2) (a l : Fin 128) (i : S10x128x128.Idx) (hi : i = ValueIdx.ix3 (bhead t u) a l) : i ∈ ((cfg0.win 12).blk t).view.set := by
  rw [hi, ← emb12 t u a l]
  exact ((cfg0.win 12).blk t).view.emb_mem_set _

theorem cover12 (i : S10x128x128.Idx) : ∃ t : Fin cfg0.N, (cfg0.win 12).flush t = true ∧ i ∈ ((cfg0.win 12).blk t).view.set := by
  have h0 : (i 0).val < 10 := (i 0).isLt
  have hN : cfg0.N = 5 := N_0
  refine ⟨⟨(i 0).val / 2, by omega⟩, flush0_12 _, ?_⟩
  have e : i = ValueIdx.ix3 (bhead (⟨(i 0).val / 2, by omega⟩ : Fin cfg0.N) (⟨(i 0).val % 2, by omega⟩ : Fin 2)) (i 1 : Fin 128) (i 2 : Fin 128) := by
    funext b
    match b with
    | ⟨0, _⟩ => exact Fin.ext (by show (i 0).val = (i 0).val / 2 * 2 + (i 0).val % 2; omega)
    | ⟨1, _⟩ => rfl
    | ⟨2, _⟩ => rfl
  exact mem12 (⟨(i 0).val / 2, by omega⟩ : Fin cfg0.N) (⟨(i 0).val % 2, by omega⟩ : Fin 2) (i 1 : Fin 128) (i 2 : Fin 128) i e

theorem arr12 : (dats m 0 c).arrAt 12 cfg0.N = G12 m c :=
  (dats m 0 c).arrAt_eq_of_cover 12 (G12 m c) (fun t _ => flushed12 m c t) cover12

/-- The array of window 13 after the run. -/
def G13 : S10x128x128.Idx → EReal := fun i => gRot (aX m c) (aN m c) (aP m c) (aWk m c) (aSk m c) (aMk m c) (i 1) (i 0) (i 2)

theorem after_13 (t : Fin cfg0.N) (u : Fin 2) (a l : Fin 128) :
    ((dats m 0 c).after 13 t : S2x128x128.Idx → EReal) (ValueIdx.ix3 u a l) = G13 m c (ValueIdx.ix3 (bhead t u) a l) := by
  refine (congrFun (out_13 m c t) (ValueIdx.ix3 u a l)).trans ?_
  show S (hval (iblk m c 0 t0) (iblk m c 1 t0)) (iblk m c 6 t) (iblk m c 7 t) (iblk m c 8 t) a (hcol u l) * Cf (iblk m c 2 t0) (ValueIdx.ix2 a l)
    + S (hval (iblk m c 0 t0) (iblk m c 1 t0)) (iblk m c 6 t) (iblk m c 7 t) (iblk m c 8 t) a (hcol u (swp l)) * Sf (iblk m c 2 t0) (ValueIdx.ix2 a l) = _
  rw [S_k, S_k, bcol_hcol, bcol_hcol]
  have hp : (iblk m c 2 t0 : S1x128.Idx → BitVec 32) (ValueIdx.ix2 (0 : Fin 1) a) = aP m c a := blk2 m c t0 a
  have hC : Cf (iblk m c 2 t0) (ValueIdx.ix2 a l) = Ideal.cos (ang (aP m c a) (l.val / 2)) := by
    rw [← hp]; rfl
  have hS : Sf (iblk m c 2 t0) (ValueIdx.ix2 a l) = if l.val % 2 = 0 then -Ideal.sin (ang (aP m c a) (l.val / 2)) else Ideal.sin (ang (aP m c a) (l.val / 2)) := by
    rw [← hp]; rfl
  rw [hC, hS]
  exact rot_eq (aP m c a) l (fun l => pcol (aX m c) (aN m c) (aWk m c) (aSk m c) (aMk m c) a (hl (bhead t u) l))

theorem emb13 (t : Fin cfg0.N) (u : Fin 2) (a l : Fin 128) :
    ((cfg0.win 13).blk t).view.emb (ValueIdx.ix3 u a l) = (ValueIdx.ix3 (bhead t u) a l : S10x128x128.Idx) := by
  obtain ⟨e0, e1, e2⟩ := idx13 t
  funext x; apply Fin.ext
  match x with
  | ⟨0, _⟩ => show win0_13.index t (0 : Fin 3) * 2 + 1 * u.val = t.val * 2 + u.val; omega
  | ⟨1, _⟩ => show win0_13.index t (1 : Fin 3) * 128 + 1 * a.val = a.val; omega
  | ⟨2, _⟩ => show win0_13.index t (2 : Fin 3) * 128 + 1 * l.val = l.val; omega

theorem flushed13 (t : Fin cfg0.N) : (dats m 0 c).flushed 13 t = ((cfg0.win 13).blk t).view.read (Elt Ideal) (G13 m c) := by
  funext y
  obtain ⟨u, a, l, rfl⟩ : ∃ (u : Fin 2) (a l : Fin 128), y = (ValueIdx.ix3 u a l : S2x128x128.Idx) := ⟨y 0, y 1, y 2, funext fun b => by match b with | ⟨0, _⟩ => rfl | ⟨1, _⟩ => rfl | ⟨2, _⟩ => rfl⟩
  show ((dats m 0 c).after 13 t : S2x128x128.Idx → EReal) (ValueIdx.ix3 u a l) = G13 m c (((cfg0.win 13).blk t).view.emb (ValueIdx.ix3 u a l))
  rw [emb13]
  exact after_13 m c t u a l

theorem mem13 (t : Fin cfg0.N) (u : Fin 2) (a l : Fin 128) (i : S10x128x128.Idx) (hi : i = ValueIdx.ix3 (bhead t u) a l) : i ∈ ((cfg0.win 13).blk t).view.set := by
  rw [hi, ← emb13 t u a l]
  exact ((cfg0.win 13).blk t).view.emb_mem_set _

theorem cover13 (i : S10x128x128.Idx) : ∃ t : Fin cfg0.N, (cfg0.win 13).flush t = true ∧ i ∈ ((cfg0.win 13).blk t).view.set := by
  have h0 : (i 0).val < 10 := (i 0).isLt
  have hN : cfg0.N = 5 := N_0
  refine ⟨⟨(i 0).val / 2, by omega⟩, flush0_13 _, ?_⟩
  have e : i = ValueIdx.ix3 (bhead (⟨(i 0).val / 2, by omega⟩ : Fin cfg0.N) (⟨(i 0).val % 2, by omega⟩ : Fin 2)) (i 1 : Fin 128) (i 2 : Fin 128) := by
    funext b
    match b with
    | ⟨0, _⟩ => exact Fin.ext (by show (i 0).val = (i 0).val / 2 * 2 + (i 0).val % 2; omega)
    | ⟨1, _⟩ => rfl
    | ⟨2, _⟩ => rfl
  exact mem13 (⟨(i 0).val / 2, by omega⟩ : Fin cfg0.N) (⟨(i 0).val % 2, by omega⟩ : Fin 2) (i 1 : Fin 128) (i 2 : Fin 128) i e

theorem arr13 : (dats m 0 c).arrAt 13 cfg0.N = G13 m c :=
  (dats m 0 c).arrAt_eq_of_cover 13 (G13 m c) (fun t _ => flushed13 m c t) cover13

/-- The array of window 14 after the run. -/
def G14 : S10x128x128.Idx → EReal := fun i => gVal (aX m c) (aN m c) (aWv m c) (aSv m c) (aMv m c) (i 1) (i 0) (i 2)

theorem after_14 (t : Fin cfg0.N) (u : Fin 2) (a l : Fin 128) :
    ((dats m 0 c).after 14 t : S2x128x128.Idx → EReal) (ValueIdx.ix3 u a l) = G14 m c (ValueIdx.ix3 (bhead t u) a l) := by
  refine (congrFun (out_14 m c t) (ValueIdx.ix3 u a l)).trans ?_
  show S (hval (iblk m c 0 t0) (iblk m c 1 t0)) (iblk m c 9 t) (iblk m c 10 t) (iblk m c 11 t) a (hcol u l) = _
  rw [S_v, bcol_hcol]
  rfl

theorem emb14 (t : Fin cfg0.N) (u : Fin 2) (a l : Fin 128) :
    ((cfg0.win 14).blk t).view.emb (ValueIdx.ix3 u a l) = (ValueIdx.ix3 (bhead t u) a l : S10x128x128.Idx) := by
  obtain ⟨e0, e1, e2⟩ := idx14 t
  funext x; apply Fin.ext
  match x with
  | ⟨0, _⟩ => show win0_14.index t (0 : Fin 3) * 2 + 1 * u.val = t.val * 2 + u.val; omega
  | ⟨1, _⟩ => show win0_14.index t (1 : Fin 3) * 128 + 1 * a.val = a.val; omega
  | ⟨2, _⟩ => show win0_14.index t (2 : Fin 3) * 128 + 1 * l.val = l.val; omega

theorem flushed14 (t : Fin cfg0.N) : (dats m 0 c).flushed 14 t = ((cfg0.win 14).blk t).view.read (Elt Ideal) (G14 m c) := by
  funext y
  obtain ⟨u, a, l, rfl⟩ : ∃ (u : Fin 2) (a l : Fin 128), y = (ValueIdx.ix3 u a l : S2x128x128.Idx) := ⟨y 0, y 1, y 2, funext fun b => by match b with | ⟨0, _⟩ => rfl | ⟨1, _⟩ => rfl | ⟨2, _⟩ => rfl⟩
  show ((dats m 0 c).after 14 t : S2x128x128.Idx → EReal) (ValueIdx.ix3 u a l) = G14 m c (((cfg0.win 14).blk t).view.emb (ValueIdx.ix3 u a l))
  rw [emb14]
  exact after_14 m c t u a l

theorem mem14 (t : Fin cfg0.N) (u : Fin 2) (a l : Fin 128) (i : S10x128x128.Idx) (hi : i = ValueIdx.ix3 (bhead t u) a l) : i ∈ ((cfg0.win 14).blk t).view.set := by
  rw [hi, ← emb14 t u a l]
  exact ((cfg0.win 14).blk t).view.emb_mem_set _

theorem cover14 (i : S10x128x128.Idx) : ∃ t : Fin cfg0.N, (cfg0.win 14).flush t = true ∧ i ∈ ((cfg0.win 14).blk t).view.set := by
  have h0 : (i 0).val < 10 := (i 0).isLt
  have hN : cfg0.N = 5 := N_0
  refine ⟨⟨(i 0).val / 2, by omega⟩, flush0_14 _, ?_⟩
  have e : i = ValueIdx.ix3 (bhead (⟨(i 0).val / 2, by omega⟩ : Fin cfg0.N) (⟨(i 0).val % 2, by omega⟩ : Fin 2)) (i 1 : Fin 128) (i 2 : Fin 128) := by
    funext b
    match b with
    | ⟨0, _⟩ => exact Fin.ext (by show (i 0).val = (i 0).val / 2 * 2 + (i 0).val % 2; omega)
    | ⟨1, _⟩ => rfl
    | ⟨2, _⟩ => rfl
  exact mem14 (⟨(i 0).val / 2, by omega⟩ : Fin cfg0.N) (⟨(i 0).val % 2, by omega⟩ : Fin 2) (i 1 : Fin 128) (i 2 : Fin 128) i e

theorem arr14 : (dats m 0 c).arrAt 14 cfg0.N = G14 m c :=
  (dats m 0 c).arrAt_eq_of_cover 14 (G14 m c) (fun t _ => flushed14 m c t) cover14

end Cert.KernelIdeal.Val

end
-- ==== Proof.Final.lean ====
/- The whole kernel program: what its three results hold after a run. -/
module

public import proofs.«01_k».proof.Proof.Arrays

@[expose] public section

set_option maxRecDepth 65536
set_option maxHeartbeats 2000000

noncomputable section

namespace Cert.KernelIdeal.Val

open Cert.KernelIdeal Cert.KernelIdeal.Gen Idealize.ShloMosaic Idealize.ShloMosaic.TcCoe Cert.Spec Idealize.SL.Sem

variable (m : (ℓ : Loc nD τ sig) → Buf (Elt Ideal) ℓ) (ρ : Dev nD → PrngReg) (c : Dev nD)

/-- A result array, moved to tokens first and given the axis of length one. -/
def fold (G : S10x128x128.Idx → EReal) : S128x1x10x128.Idx → EReal :=
  shapeCast S128x1x10x128 (transpose S128x10x128 [1, 0, 2] G transposes_S10x128x128_S128x10x128_1_0_2) shapeCasts_S128x10x128_S128x1x10x128

theorem fold_apply (G : S10x128x128.Idx → EReal) (t : Fin 128) (d : Fin 10) (l : Fin 128) :
    fold G (ValueIdx.ix4 t (0 : Fin 1) d l) = G (ValueIdx.ix3 d t l) := by
  refine (shapeCast_apply _ _ (ValueIdx.ix4 t (0 : Fin 1) d l : S128x1x10x128.Idx) (ValueIdx.ix3 t d l : S128x10x128.Idx)
    (by rw [Shape.rowMajor_val_three, Shape.rowMajor_val_four]; show (t.val * 10 + d.val) * 128 + l.val = ((t.val * 1 + 0) * 10 + d.val) * 128 + l.val; omega)).trans ?_
  exact transpose_apply _ _ _ _ (ValueIdx.ix3 d t l : S10x128x128.Idx) (by intro b; match b with | ⟨0, _⟩ => rfl | ⟨1, _⟩ => rfl | ⟨2, _⟩ => rfl)

theorem tail14 : Pipeline.afterTail₀ cfgs (dats m) 0 (V0 m) [hostOps1] c main_v14 = fold (G12 m c) := by
  have h : Pipeline.withArrays (cfgs 0).spec c (V0 m c) (fun w => (dats m 0 c).arrAt w (cfgs 0).N) (Proc.devRef .tc main_v12_0) = G12 m c :=
    (Pipeline.withArrays_arr (cfgs 0).spec launch0.win.arr_inj c (V0 m c) _ 12).trans (arr12 m c)
  unfold Pipeline.afterTail₀
  simp only [List.flatten_cons, List.flatten_nil, List.append_nil]
  after_results_simp
  rw [h]
  rfl

theorem tail16 : Pipeline.afterTail₀ cfgs (dats m) 0 (V0 m) [hostOps1] c main_v16 = fold (G13 m c) := by
  have h : Pipeline.withArrays (cfgs 0).spec c (V0 m c) (fun w => (dats m 0 c).arrAt w (cfgs 0).N) (Proc.devRef .tc main_v12_1) = G13 m c :=
    (Pipeline.withArrays_arr (cfgs 0).spec launch0.win.arr_inj c (V0 m c) _ 13).trans (arr13 m c)
  unfold Pipeline.afterTail₀
  simp only [List.flatten_cons, List.flatten_nil, List.append_nil]
  after_results_simp
  rw [h]
  rfl

theorem tail18 : Pipeline.afterTail₀ cfgs (dats m) 0 (V0 m) [hostOps1] c main_v18 = fold (G14 m c) := by
  have h : Pipeline.withArrays (cfgs 0).spec c (V0 m c) (fun w => (dats m 0 c).arrAt w (cfgs 0).N) (Proc.devRef .tc main_v12_2) = G14 m c :=
    (Pipeline.withArrays_arr (cfgs 0).spec launch0.win.arr_inj c (V0 m c) _ 14).trans (arr14 m c)
  unfold Pipeline.afterTail₀
  simp only [List.flatten_cons, List.flatten_nil, List.append_nil]
  after_results_simp
  rw [h]
  rfl

/-- Every run ends with the three results at the projections' values. -/
theorem results : θ_run defs (onTc (τ := τ) (main (F := Ideal))) ⟨m, fun _ => 0, ρ⟩ (fun r => ∀ c : Dev nD,
      r.2.mem ((c.tc : Thread nD τ).loc main_v14) = fold (G12 m c)
      ∧ r.2.mem ((c.tc : Thread nD τ).loc main_v16) = fold (G13 m c)
      ∧ r.2.mem ((c.tc : Thread nD τ).loc main_v18) = fold (G14 m c)) :=
  (θ_run defs _ _).mono (fun _ h c => ⟨((h c).2 main_v14 (Pipeline.mem_restRefs_of main_v14 (by decide) (by decide))).trans (tail14 m c),
    ((h c).2 main_v16 (Pipeline.mem_restRefs_of main_v16 (by decide) (by decide))).trans (tail16 m c),
    ((h c).2 main_v18 (Pipeline.mem_restRefs_of main_v18 (by decide) (by decide))).trans (tail18 m c)⟩) (run_main m ρ)

end Cert.KernelIdeal.Val

end
-- ==== Proof.RefRead.lean ====
/- The reference's three results read at an index. -/
module

public import proofs.«01_k».proof.Proof.Gen.ReferenceIdeal.Read
public import proofs.«01_k».proof.Proof.Spec

@[expose] public section

set_option maxRecDepth 16384

noncomputable section

namespace Cert.ReferenceIdeal.Read

open Idealize.ShloMosaic Cert.Spec

/-- The normalised activations, in the order of the operand's columns. -/
theorem h_apply (x0 : (⟨S128x1x5120, .bf16⟩ : BufTy).Contents (Elt Ideal)) (x1 : (⟨S5120, .bf16⟩ : BufTy).Contents (Elt Ideal))
    (t : Fin 128) (e : Fin 5120) :
    val_main_v15 (F := Ideal) x0 x1 (ValueIdx.ix3 t (0 : Fin 1) e)
      = hn (fun k => x0 (ValueIdx.ix3 t (0 : Fin 1) k)) (fun k => x1 (ValueIdx.ix1 k)) e := by
  rw [val_main_v15_apply, val_main_v14_apply, val_main_v10_apply, val_main_v9_apply, val_main_v8_apply, val_main_v7_apply,
    val_main_v5_apply, val_main_v3_apply, val_main_v2_apply, val_main_v4_apply, val_main_v6_apply, val_main_v13_apply,
    val_main_v12_apply, val_main_v11_apply, val_main_v0_apply, val_main_cst_apply, val_main_cst_0_apply, val_main_cst_1_apply]
  have hs : ∀ k : Fin 5120, idx_main_v2 (idx_main_v3 (idx_main_v9 (ValueIdx.ix3 t (0 : Fin 1) e))) k = ValueIdx.ix3 t (0 : Fin 1) k := by
    intro k; funext a; match a with | ⟨0, _⟩ => rfl | ⟨1, _⟩ => rfl | ⟨2, _⟩ => rfl
  have hn' : idx_main_v12 (idx_main_v13 (ValueIdx.ix3 t (0 : Fin 1) e)) = ValueIdx.ix1 e := by
    funext a; match a with | ⟨0, _⟩ => rfl
  rw [hn']
  simp only [hs]
  show x0 (ValueIdx.ix3 t (0 : Fin 1) e) * Ideal.rsqrt (Ideal.div (Ideal.ofBits .f32 0x00000000#32 + ∑ k : Fin 5120, x0 (ValueIdx.ix3 t (0 : Fin 1) k) * x0 (ValueIdx.ix3 t (0 : Fin 1) k)) _ + _) * x1 (ValueIdx.ix1 e) = _
  rw [Ideal.ofBits_zero_f32, zero_add]
  rfl

/-- The activations' columns in the order of the contraction: the low halves of all groups, then the high halves. -/
theorem hcat_apply (x0 : (⟨S128x1x5120, .bf16⟩ : BufTy).Contents (Elt Ideal)) (x1 : (⟨S5120, .bf16⟩ : BufTy).Contents (Elt Ideal))
    (t : Fin 128) (k : Fin 5120) :
    val_main_v23 (F := Ideal) x0 x1 (ValueIdx.ix2 t k) = hn (fun k => x0 (ValueIdx.ix3 t (0 : Fin 1) k)) (fun k => x1 (ValueIdx.ix1 k)) (col k) := by
  have ht := t.isLt
  have hk := k.isLt
  unfold val_main_v23
  by_cases h : k.val < 2560
  · rw [concatenate_pair_apply_left (t := S128x5120) (s₁ := S128x2560) (s₂ := S128x2560) 1 _ _ _ (ValueIdx.ix2 t k) rfl (ValueIdx.ix2 (n1 := 2560) t ⟨k.val, h⟩ : S128x2560.Idx)
      (by intro b; match b with | ⟨0, _⟩ => rfl | ⟨1, _⟩ => rfl)]
    rw [val_main_v19_apply]
    rw [show idx_main_v19 (ValueIdx.ix2 (n1 := 2560) t ⟨k.val, by omega⟩) = ValueIdx.ix3 t (grp k) (byt k) from by
      funext a
      match a with
      | ⟨0, _⟩ => exact Fin.ext (by show (t.val * 2560 + (k.val)) / 2560 = t.val; omega)
      | ⟨1, _⟩ => exact Fin.ext (by show (t.val * 2560 + (k.val)) / 16 % 160 = k.val % 2560 / 16; omega)
      | ⟨2, _⟩ => exact Fin.ext (by show (t.val * 2560 + (k.val)) % 16 = k.val % 16; omega)]
    rw [val_main_v18_apply, show idx_main_v18 (ValueIdx.ix3 t (grp k) (byt k)) = ValueIdx.ix4 t (grp k) (0 : Fin 1) (byt k) from by
      funext a
      match a with
      | ⟨0, _⟩ => exact Fin.ext (by show ((t.val * 160 + k.val % 2560 / 16) * 16 + k.val % 16) / 2560 = t.val; omega)
      | ⟨1, _⟩ => exact Fin.ext (by show ((t.val * 160 + k.val % 2560 / 16) * 16 + k.val % 16) / 16 % 160 = k.val % 2560 / 16; omega)
      | ⟨2, _⟩ => rfl
      | ⟨3, _⟩ => exact Fin.ext (by show ((t.val * 160 + k.val % 2560 / 16) * 16 + k.val % 16) % 16 = k.val % 16; omega)]
    rw [val_main_v17_apply, show idx_main_v17 (ValueIdx.ix4 t (grp k) (0 : Fin 1) (byt k)) = ValueIdx.ix4 t (grp k) (0 : Fin 2) (byt k) from by
      funext a; match a with | ⟨0, _⟩ => rfl | ⟨1, _⟩ => rfl | ⟨2, _⟩ => rfl | ⟨3, _⟩ => rfl]
    rw [val_main_v16_apply, show idx_main_v16 (ValueIdx.ix4 t (grp k) (0 : Fin 2) (byt k)) = ValueIdx.ix3 t (0 : Fin 1) (col k) from by
      funext a
      match a with
      | ⟨0, _⟩ => exact Fin.ext (by show (((t.val * 160 + k.val % 2560 / 16) * 2 + 0) * 16 + k.val % 16) / 5120 = t.val; omega)
      | ⟨1, _⟩ => rfl
      | ⟨2, _⟩ => exact Fin.ext (by show (((t.val * 160 + k.val % 2560 / 16) * 2 + 0) * 16 + k.val % 16) % 5120 = k.val % 2560 / 16 * 32 + k.val / 2560 * 16 + k.val % 16; omega)]
    rw [h_apply]
  · rw [concatenate_pair_apply_right (t := S128x5120) (s₁ := S128x2560) (s₂ := S128x2560) 1 _ _ _ (ValueIdx.ix2 t k) rfl rfl (ValueIdx.ix2 (n1 := 2560) t ⟨k.val - 2560, by omega⟩ : S128x2560.Idx)
      (by intro b hb; match b with | ⟨0, _⟩ => rfl | ⟨1, _⟩ => exact absurd rfl hb)
      (by show k.val - 2560 + 2560 = k.val; omega)]
    rw [val_main_v22_apply]
    rw [show idx_main_v22 (ValueIdx.ix2 (n1 := 2560) t ⟨k.val - 2560, by omega⟩) = ValueIdx.ix3 t (grp k) (byt k) from by
      funext a
      match a with
      | ⟨0, _⟩ => exact Fin.ext (by show (t.val * 2560 + (k.val - 2560)) / 2560 = t.val; omega)
      | ⟨1, _⟩ => exact Fin.ext (by show (t.val * 2560 + (k.val - 2560)) / 16 % 160 = k.val % 2560 / 16; omega)
      | ⟨2, _⟩ => exact Fin.ext (by show (t.val * 2560 + (k.val - 2560)) % 16 = k.val % 16; omega)]
    rw [val_main_v21_apply, show idx_main_v21 (ValueIdx.ix3 t (grp k) (byt k)) = ValueIdx.ix4 t (grp k) (0 : Fin 1) (byt k) from by
      funext a
      match a with
      | ⟨0, _⟩ => exact Fin.ext (by show ((t.val * 160 + k.val % 2560 / 16) * 16 + k.val % 16) / 2560 = t.val; omega)
      | ⟨1, _⟩ => exact Fin.ext (by show ((t.val * 160 + k.val % 2560 / 16) * 16 + k.val % 16) / 16 % 160 = k.val % 2560 / 16; omega)
      | ⟨2, _⟩ => rfl
      | ⟨3, _⟩ => exact Fin.ext (by show ((t.val * 160 + k.val % 2560 / 16) * 16 + k.val % 16) % 16 = k.val % 16; omega)]
    rw [val_main_v20_apply, show idx_main_v20 (ValueIdx.ix4 t (grp k) (0 : Fin 1) (byt k)) = ValueIdx.ix4 t (grp k) (1 : Fin 2) (byt k) from by
      funext a; match a with | ⟨0, _⟩ => rfl | ⟨1, _⟩ => rfl | ⟨2, _⟩ => rfl | ⟨3, _⟩ => rfl]
    rw [val_main_v16_apply, show idx_main_v16 (ValueIdx.ix4 t (grp k) (1 : Fin 2) (byt k)) = ValueIdx.ix3 t (0 : Fin 1) (col k) from by
      funext a
      match a with
      | ⟨0, _⟩ => exact Fin.ext (by show (((t.val * 160 + k.val % 2560 / 16) * 2 + 1) * 16 + k.val % 16) / 5120 = t.val; omega)
      | ⟨1, _⟩ => rfl
      | ⟨2, _⟩ => exact Fin.ext (by show (((t.val * 160 + k.val % 2560 / 16) * 2 + 1) * 16 + k.val % 16) % 5120 = k.val % 2560 / 16 * 32 + k.val / 2560 * 16 + k.val % 16; omega)]
    rw [h_apply]

/-- The dequantised weights. -/
theorem w_apply (x3 : (⟨S1280x160x16, .i8⟩ : BufTy).Contents (Elt Ideal)) (x4 x5 : (⟨S1280x160, .bf16⟩ : BufTy).Contents (Elt Ideal))
    (n : Fin 1280) (k : Fin 5120) :
    val_main_v40 (F := Ideal) x3 x4 x5 (ValueIdx.ix2 n k)
      = wt (fun g j => x3 (ValueIdx.ix3 n g j)) (fun g => x4 (ValueIdx.ix2 n g)) (fun g => x5 (ValueIdx.ix2 n g)) k := by
  have hn := n.isLt
  have hk := k.isLt
  unfold val_main_v40
  by_cases h : k.val < 2560
  · rw [concatenate_pair_apply_left (t := S1280x5120) (s₁ := S1280x2560) (s₂ := S1280x2560) 1 _ _ _ (ValueIdx.ix2 n k) rfl (ValueIdx.ix2 (n1 := 2560) n ⟨k.val, h⟩ : S1280x2560.Idx)
      (by intro b; match b with | ⟨0, _⟩ => rfl | ⟨1, _⟩ => rfl)]
    rw [val_main_v34_apply, val_main_v33_apply, val_main_v32_apply, val_main_v31_apply, val_main_v30_apply, val_main_c_apply, val_main_v25_apply,
      val_main_v24_apply, val_main_v27_apply, val_main_v26_apply, val_main_v29_apply, val_main_v28_apply]
    have e3 : idx_main_v25 (ValueIdx.ix2 (n1 := 2560) n ⟨k.val, h⟩) = ValueIdx.ix3 n (grp k) (byt k) := by
      funext a
      match a with
      | ⟨0, _⟩ => exact Fin.ext (by show (n.val * 2560 + (k.val)) / 2560 = n.val; omega)
      | ⟨1, _⟩ => exact Fin.ext (by show (n.val * 2560 + (k.val)) / 16 % 160 = k.val % 2560 / 16; omega)
      | ⟨2, _⟩ => exact Fin.ext (by show (n.val * 2560 + (k.val)) % 16 = k.val % 16; omega)
    have e4 : idx_main_v26 (idx_main_v27 (ValueIdx.ix2 (n1 := 2560) n ⟨k.val, h⟩)) = ValueIdx.ix2 n (grp k) := by
      funext a
      match a with
      | ⟨0, _⟩ => exact Fin.ext (by show (n.val * 2560 + (k.val)) / 2560 = n.val; omega)
      | ⟨1, _⟩ => exact Fin.ext (by show (n.val * 2560 + (k.val)) / 16 % 160 = k.val % 2560 / 16; omega)
    have e5 : idx_main_v28 (idx_main_v29 (ValueIdx.ix2 (n1 := 2560) n ⟨k.val, h⟩)) = ValueIdx.ix2 n (grp k) := e4
    rw [e3, e4, e5]
    unfold wt nib
    rw [if_pos (by omega)]
    rfl
  · rw [concatenate_pair_apply_right (t := S1280x5120) (s₁ := S1280x2560) (s₂ := S1280x2560) 1 _ _ _ (ValueIdx.ix2 n k) rfl rfl (ValueIdx.ix2 (n1 := 2560) n ⟨k.val - 2560, by omega⟩ : S1280x2560.Idx)
      (by intro b hb; match b with | ⟨0, _⟩ => rfl | ⟨1, _⟩ => exact absurd rfl hb)
      (by show k.val - 2560 + 2560 = k.val; omega)]
    rw [val_main_v39_apply, val_main_v38_apply, val_main_v37_apply, val_main_v36_apply, val_main_v35_apply, val_main_c_2_apply, val_main_v25_apply,
      val_main_v24_apply, val_main_v27_apply, val_main_v26_apply, val_main_v29_apply, val_main_v28_apply]
    have e3 : idx_main_v25 (ValueIdx.ix2 (n1 := 2560) n ⟨k.val - 2560, by omega⟩) = ValueIdx.ix3 n (grp k) (byt k) := by
      funext a
      match a with
      | ⟨0, _⟩ => exact Fin.ext (by show (n.val * 2560 + (k.val - 2560)) / 2560 = n.val; omega)
      | ⟨1, _⟩ => exact Fin.ext (by show (n.val * 2560 + (k.val - 2560)) / 16 % 160 = k.val % 2560 / 16; omega)
      | ⟨2, _⟩ => exact Fin.ext (by show (n.val * 2560 + (k.val - 2560)) % 16 = k.val % 16; omega)
    have e4 : idx_main_v26 (idx_main_v27 (ValueIdx.ix2 (n1 := 2560) n ⟨k.val - 2560, by omega⟩)) = ValueIdx.ix2 n (grp k) := by
      funext a
      match a with
      | ⟨0, _⟩ => exact Fin.ext (by show (n.val * 2560 + (k.val - 2560)) / 2560 = n.val; omega)
      | ⟨1, _⟩ => exact Fin.ext (by show (n.val * 2560 + (k.val - 2560)) / 16 % 160 = k.val % 2560 / 16; omega)
    have e5 : idx_main_v28 (idx_main_v29 (ValueIdx.ix2 (n1 := 2560) n ⟨k.val - 2560, by omega⟩)) = ValueIdx.ix2 n (grp k) := e4
    rw [e3, e4, e5]
    unfold wt nib
    rw [if_neg (by omega)]
    rfl

/-- One element of a projection. -/
theorem proj_apply (x0 : (⟨S128x1x5120, .bf16⟩ : BufTy).Contents (Elt Ideal)) (x1 : (⟨S5120, .bf16⟩ : BufTy).Contents (Elt Ideal))
    (x3 : (⟨S1280x160x16, .i8⟩ : BufTy).Contents (Elt Ideal)) (x4 x5 : (⟨S1280x160, .bf16⟩ : BufTy).Contents (Elt Ideal))
    (t : Fin 128) (n : Fin 1280) :
    val_main_v41 (F := Ideal) x0 x1 x3 x4 x5 (ValueIdx.ix2 t n)
      = proj (fun k => x0 (ValueIdx.ix3 t (0 : Fin 1) k)) (fun k => x1 (ValueIdx.ix1 k)) (fun g j => x3 (ValueIdx.ix3 n g j))
          (fun g => x4 (ValueIdx.ix2 n g)) (fun g => x5 (ValueIdx.ix2 n g)) := by
  rw [val_main_v41_apply]
  unfold proj
  refine Finset.sum_congr rfl fun k _ => ?_
  rw [show lidx_main_v41 (ValueIdx.ix2 t n) k = ValueIdx.ix2 t k from by funext a; match a with | ⟨0, _⟩ => rfl | ⟨1, _⟩ => rfl,
    show ridx_main_v41 (ValueIdx.ix2 t n) k = ValueIdx.ix2 n k from by funext a; match a with | ⟨0, _⟩ => rfl | ⟨1, _⟩ => rfl,
    hcat_apply, w_apply]

end Cert.ReferenceIdeal.Read

end
-- ==== Proof.RefOut.lean ====
/- The reference's results at an index. -/
module

public import proofs.«01_k».proof.Proof.RefRead
public import proofs.«01_k».proof.Proof.Goal

@[expose] public section

set_option maxRecDepth 16384

noncomputable section

namespace Cert.ReferenceIdeal.Read

open Idealize.ShloMosaic Cert.Spec

variable (x0 : (⟨S128x1x5120, .bf16⟩ : BufTy).Contents (Elt Ideal)) (x1 : (⟨S5120, .bf16⟩ : BufTy).Contents (Elt Ideal))
  (x2 : (⟨S128x1, .i32⟩ : BufTy).Contents (Elt Ideal))
  (x3 : (⟨S1280x160x16, .i8⟩ : BufTy).Contents (Elt Ideal)) (x4 x5 : (⟨S1280x160, .bf16⟩ : BufTy).Contents (Elt Ideal))

theorem two_f32 : Ideal.ofBits .f32 0x40000000#32 = ((2 : ℝ) : EReal) := by
  simp [Ideal.ofBits, Ideal.ieee]
  rw [← EReal.coe_mul]
  norm_num

theorem iota_apply (k : Fin 64) : val_main_v81 (F := Ideal) (ValueIdx.ix1 k) = ((k.val : ℝ) : EReal) := by
  have h : ∀ k : Fin 64, (BitVec.ofNat 32 k.val).toInt = (k.val : ℤ) := by decide +kernel
  show (((BitVec.ofNat 32 k.val).toInt : ℝ) : EReal) = _
  rw [h k, Int.cast_natCast]

/-- The angle of pair `k` at token `t`. -/
theorem ang_ref (t : Fin 128) (k : Fin 64) :
    val_main_v96 (F := Ideal) x2 (ValueIdx.ix4 t (0 : Fin 1) (0 : Fin 1) k) = ang (x2 (ValueIdx.ix2 t (0 : Fin 1))) k.val := by
  rw [val_main_v96_apply, val_main_v94_apply, val_main_v92_apply, val_main_v91_apply, val_main_v95_apply, val_main_v93_apply, val_main_v90_apply,
    val_main_v89_apply, val_main_v88_apply, val_main_v87_apply, val_main_v86_apply, val_main_v85_apply, val_main_v84_apply, val_main_v83_apply, val_main_v82_apply,
    val_main_cst_7_apply, val_main_cst_8_apply, val_main_cst_9_apply, val_main_cst_10_apply]
  have e1 : idx_main_v92 (idx_main_v94 (ValueIdx.ix4 t (0 : Fin 1) (0 : Fin 1) k)) = ValueIdx.ix2 t (0 : Fin 1) := by
    funext a; match a with | ⟨0, _⟩ => rfl | ⟨1, _⟩ => rfl
  have e2 : idx_main_v93 (idx_main_v95 (ValueIdx.ix4 t (0 : Fin 1) (0 : Fin 1) k)) = ValueIdx.ix1 k := by
    funext a; match a with | ⟨0, _⟩ => rfl
  rw [e1, e2, iota_apply]
  show (((x2 (ValueIdx.ix2 t (0 : Fin 1))).toInt : ℝ) : EReal) * Ideal.pow (Ideal.ofBits .f32 0x461C4000#32)
    (Ideal.div (-(Ideal.ofBits .f32 0x00000000#32 + Ideal.ofBits .f32 0x40000000#32 * ((k.val : ℝ) : EReal))) (Ideal.ofBits .f32 0x43000000#32)) = _
  rw [Ideal.ofBits_zero_f32, zero_add, two_f32, ← EReal.coe_mul]
  unfold ang
  rw [Nat.cast_mul, Nat.cast_ofNat]

theorem v42_ref (t : Fin 128) (d : Fin 10) (l : Fin 128) :
    val_main_v42 (F := Ideal) x0 x1 x3 x4 x5 (ValueIdx.ix4 t (0 : Fin 1) d l)
      = pcol (fun t k => x0 (ValueIdx.ix3 t (0 : Fin 1) k)) (fun k => x1 (ValueIdx.ix1 k)) (fun n g j => x3 (ValueIdx.ix3 n g j))
          (fun n g => x4 (ValueIdx.ix2 n g)) (fun n g => x5 (ValueIdx.ix2 n g)) t (hl d l) := by
  have ht := t.isLt
  have hd := d.isLt
  have hl' := l.isLt
  rw [val_main_v42_apply, show idx_main_v42 (ValueIdx.ix4 t (0 : Fin 1) d l) = ValueIdx.ix2 t (hl d l) from by
    funext a
    match a with
    | ⟨0, _⟩ => exact Fin.ext (by show (((t.val * 1 + 0) * 10 + d.val) * 128 + l.val) / 1280 = t.val; omega)
    | ⟨1, _⟩ => exact Fin.ext (by show (((t.val * 1 + 0) * 10 + d.val) * 128 + l.val) % 1280 = d.val * 128 + l.val; omega)]
  exact proj_apply _ _ _ _ _ t (hl d l)

theorem lo_ref (t : Fin 128) (d : Fin 10) (k : Fin 64) :
    val_main_v101 (F := Ideal) x0 x1 x3 x4 x5 (ValueIdx.ix4 t (0 : Fin 1) d k)
      = val_main_v42 (F := Ideal) x0 x1 x3 x4 x5 (ValueIdx.ix4 t (0 : Fin 1) d (⟨k.val * 2, by have := k.isLt; omega⟩ : Fin 128)) := by
  have ht := t.isLt
  have hd := d.isLt
  have hk := k.isLt
  rw [val_main_v101_apply, val_main_v100_apply, val_main_v99_apply]
  refine congrArg _ (funext fun a => ?_)
  match a with
  | ⟨0, _⟩ => exact Fin.ext (by show ((((((((t.val * 1 + 0) * 10 + d.val) * 64 + k.val) / 640) * 1 + 0) * 10 + (((t.val * 1 + 0) * 10 + d.val) * 64 + k.val) / 64 % 10) * 64 + (((t.val * 1 + 0) * 10 + d.val) * 64 + k.val) / 1 % 64) * 2 + 0) / 1280 = t.val; omega)
  | ⟨1, _⟩ => rfl
  | ⟨2, _⟩ => exact Fin.ext (by show ((((((((t.val * 1 + 0) * 10 + d.val) * 64 + k.val) / 640) * 1 + 0) * 10 + (((t.val * 1 + 0) * 10 + d.val) * 64 + k.val) / 64 % 10) * 64 + (((t.val * 1 + 0) * 10 + d.val) * 64 + k.val) / 1 % 64) * 2 + 0) / 128 % 10 = d.val; omega)
  | ⟨3, _⟩ => exact Fin.ext (by show ((((((((t.val * 1 + 0) * 10 + d.val) * 64 + k.val) / 640) * 1 + 0) * 10 + (((t.val * 1 + 0) * 10 + d.val) * 64 + k.val) / 64 % 10) * 64 + (((t.val * 1 + 0) * 10 + d.val) * 64 + k.val) / 1 % 64) * 2 + 0) % 128 = k.val * 2; omega)

theorem hi_ref (t : Fin 128) (d : Fin 10) (k : Fin 64) :
    val_main_v103 (F := Ideal) x0 x1 x3 x4 x5 (ValueIdx.ix4 t (0 : Fin 1) d k)
      = val_main_v42 (F := Ideal) x0 x1 x3 x4 x5 (ValueIdx.ix4 t (0 : Fin 1) d (⟨k.val * 2 + 1, by have := k.isLt; omega⟩ : Fin 128)) := by
  have ht := t.isLt
  have hd := d.isLt
  have hk := k.isLt
  rw [val_main_v103_apply, val_main_v102_apply, val_main_v99_apply]
  refine congrArg _ (funext fun a => ?_)
  match a with
  | ⟨0, _⟩ => exact Fin.ext (by show ((((((((t.val * 1 + 0) * 10 + d.val) * 64 + k.val) / 640) * 1 + 0) * 10 + (((t.val * 1 + 0) * 10 + d.val) * 64 + k.val) / 64 % 10) * 64 + (((t.val * 1 + 0) * 10 + d.val) * 64 + k.val) / 1 % 64) * 2 + (1 + 0)) / 1280 = t.val; omega)
  | ⟨1, _⟩ => rfl
  | ⟨2, _⟩ => exact Fin.ext (by show ((((((((t.val * 1 + 0) * 10 + d.val) * 64 + k.val) / 640) * 1 + 0) * 10 + (((t.val * 1 + 0) * 10 + d.val) * 64 + k.val) / 64 % 10) * 64 + (((t.val * 1 + 0) * 10 + d.val) * 64 + k.val) / 1 % 64) * 2 + (1 + 0)) / 128 % 10 = d.val; omega)
  | ⟨3, _⟩ => exact Fin.ext (by show ((((((((t.val * 1 + 0) * 10 + d.val) * 64 + k.val) / 640) * 1 + 0) * 10 + (((t.val * 1 + 0) * 10 + d.val) * 64 + k.val) / 64 % 10) * 64 + (((t.val * 1 + 0) * 10 + d.val) * 64 + k.val) / 1 % 64) * 2 + (1 + 0)) % 128 = k.val * 2 + 1; omega)

theorem cos_ref (t : Fin 128) (d : Fin 10) (k : Fin 64) :
    val_main_v104 (F := Ideal) x2 (ValueIdx.ix4 t (0 : Fin 1) d k) = Ideal.cos (ang (x2 (ValueIdx.ix2 t (0 : Fin 1))) k.val) := by
  rw [val_main_v104_apply, val_main_v97_apply, ← ang_ref x2 t k]
  refine congrArg (fun i => Ideal.cos (val_main_v96 (F := Ideal) x2 i)) (funext fun a => ?_)
  match a with | ⟨0, _⟩ => rfl | ⟨1, _⟩ => rfl | ⟨2, _⟩ => rfl | ⟨3, _⟩ => rfl

theorem sin_ref (t : Fin 128) (d : Fin 10) (k : Fin 64) :
    val_main_v106 (F := Ideal) x2 (ValueIdx.ix4 t (0 : Fin 1) d k) = Ideal.sin (ang (x2 (ValueIdx.ix2 t (0 : Fin 1))) k.val) := by
  rw [val_main_v106_apply, val_main_v98_apply, ← ang_ref x2 t k]
  refine congrArg (fun i => Ideal.sin (val_main_v96 (F := Ideal) x2 i)) (funext fun a => ?_)
  match a with | ⟨0, _⟩ => rfl | ⟨1, _⟩ => rfl | ⟨2, _⟩ => rfl | ⟨3, _⟩ => rfl

theorem even_ref (t : Fin 128) (d : Fin 10) (k : Fin 64) :
    val_main_v108 (F := Ideal) x0 x1 x2 x3 x4 x5 (ValueIdx.ix4 t (0 : Fin 1) d k)
      = val_main_v101 (F := Ideal) x0 x1 x3 x4 x5 (ValueIdx.ix4 t (0 : Fin 1) d k) * Ideal.cos (ang (x2 (ValueIdx.ix2 t (0 : Fin 1))) k.val)
        - val_main_v103 (F := Ideal) x0 x1 x3 x4 x5 (ValueIdx.ix4 t (0 : Fin 1) d k) * Ideal.sin (ang (x2 (ValueIdx.ix2 t (0 : Fin 1))) k.val) := by
  rw [val_main_v108_apply, val_main_v105_apply, val_main_v107_apply, cos_ref, sin_ref]
  rfl

theorem odd_ref (t : Fin 128) (d : Fin 10) (k : Fin 64) :
    val_main_v113 (F := Ideal) x0 x1 x2 x3 x4 x5 (ValueIdx.ix4 t (0 : Fin 1) d k)
      = val_main_v101 (F := Ideal) x0 x1 x3 x4 x5 (ValueIdx.ix4 t (0 : Fin 1) d k) * Ideal.sin (ang (x2 (ValueIdx.ix2 t (0 : Fin 1))) k.val)
        + val_main_v103 (F := Ideal) x0 x1 x3 x4 x5 (ValueIdx.ix4 t (0 : Fin 1) d k) * Ideal.cos (ang (x2 (ValueIdx.ix2 t (0 : Fin 1))) k.val) := by
  rw [val_main_v113_apply, val_main_v110_apply, val_main_v112_apply, show val_main_v109 (F := Ideal) x2 = val_main_v106 (F := Ideal) x2 from rfl,
    show val_main_v111 (F := Ideal) x2 = val_main_v104 (F := Ideal) x2 from rfl, cos_ref, sin_ref]
  rfl

theorem rot_ref (t : Fin 128) (d : Fin 10) (l : Fin 128) :
    val_main_v118 (F := Ideal) x0 x1 x2 x3 x4 x5 (ValueIdx.ix4 t (0 : Fin 1) d l)
      = rot (x2 (ValueIdx.ix2 t (0 : Fin 1))) l.val (val_main_v42 (F := Ideal) x0 x1 x3 x4 x5 (ValueIdx.ix4 t (0 : Fin 1) d (lo l)))
          (val_main_v42 (F := Ideal) x0 x1 x3 x4 x5 (ValueIdx.ix4 t (0 : Fin 1) d (hi l))) := by
  have ht := t.isLt
  have hd := d.isLt
  have hl' := l.isLt
  rw [val_main_v118_apply, val_main_v117_apply]
  rw [show idx_main_v117 (ValueIdx.ix4 t (0 : Fin 1) d l) = ValueIdx.ix5 t (0 : Fin 1) d (⟨l.val / 2, by omega⟩ : Fin 64) (⟨l.val % 2, by omega⟩ : Fin 2) from by
    funext a
    match a with
    | ⟨0, _⟩ => exact Fin.ext (by show (((t.val * 1 + 0) * 10 + d.val) * 128 + l.val) / 1280 = t.val; omega)
    | ⟨1, _⟩ => rfl
    | ⟨2, _⟩ => exact Fin.ext (by show (((t.val * 1 + 0) * 10 + d.val) * 128 + l.val) / 128 % 10 = d.val; omega)
    | ⟨3, _⟩ => exact Fin.ext (by show (((t.val * 1 + 0) * 10 + d.val) * 128 + l.val) / 2 % 64 = l.val / 2; omega)
    | ⟨4, _⟩ => exact Fin.ext (by show (((t.val * 1 + 0) * 10 + d.val) * 128 + l.val) % 2 = l.val % 2; omega)]
  unfold val_main_v116 rot
  by_cases h : l.val % 2 = 0
  · rw [if_pos h]
    rw [concatenate_pair_apply_left (t := S128x1x10x64x2) (s₁ := S128x1x10x64x1) (s₂ := S128x1x10x64x1) 4 _ _ _ _ rfl
      (ValueIdx.ix5 t (0 : Fin 1) d (⟨l.val / 2, by omega⟩ : Fin 64) (0 : Fin 1) : S128x1x10x64x1.Idx)
      (by intro b; match b with | ⟨0, _⟩ => rfl | ⟨1, _⟩ => rfl | ⟨2, _⟩ => rfl | ⟨3, _⟩ => rfl | ⟨4, _⟩ => exact h.symm)]
    rw [val_main_v114_apply, show idx_main_v114 (ValueIdx.ix5 t (0 : Fin 1) d (⟨l.val / 2, by omega⟩ : Fin 64) (0 : Fin 1)) = ValueIdx.ix4 t (0 : Fin 1) d (⟨l.val / 2, by omega⟩ : Fin 64) from by
      funext a; match a with | ⟨0, _⟩ => rfl | ⟨1, _⟩ => rfl | ⟨2, _⟩ => rfl | ⟨3, _⟩ => rfl]
    rw [even_ref, lo_ref, hi_ref]
    rfl
  · rw [if_neg h]
    rw [concatenate_pair_apply_right (t := S128x1x10x64x2) (s₁ := S128x1x10x64x1) (s₂ := S128x1x10x64x1) 4 _ _ _ _ rfl rfl
      (ValueIdx.ix5 t (0 : Fin 1) d (⟨l.val / 2, by omega⟩ : Fin 64) (0 : Fin 1) : S128x1x10x64x1.Idx)
      (by intro b hb; match b with | ⟨0, _⟩ => rfl | ⟨1, _⟩ => rfl | ⟨2, _⟩ => rfl | ⟨3, _⟩ => rfl | ⟨4, _⟩ => exact absurd rfl hb)
      (by show 0 + 1 = l.val % 2; omega)]
    rw [val_main_v115_apply, show idx_main_v115 (ValueIdx.ix5 t (0 : Fin 1) d (⟨l.val / 2, by omega⟩ : Fin 64) (0 : Fin 1)) = ValueIdx.ix4 t (0 : Fin 1) d (⟨l.val / 2, by omega⟩ : Fin 64) from by
      funext a; match a with | ⟨0, _⟩ => rfl | ⟨1, _⟩ => rfl | ⟨2, _⟩ => rfl | ⟨3, _⟩ => rfl]
    rw [odd_ref, lo_ref, hi_ref]
    rfl

/-- The first result. -/
theorem out0_ref (t : Fin 128) (d : Fin 10) (l : Fin 128) :
    val_main_v118 (F := Ideal) x0 x1 x2 x3 x4 x5 (ValueIdx.ix4 t (0 : Fin 1) d l)
      = gRot (fun t k => x0 (ValueIdx.ix3 t (0 : Fin 1) k)) (fun k => x1 (ValueIdx.ix1 k)) (fun t => x2 (ValueIdx.ix2 t (0 : Fin 1)))
          (fun n g j => x3 (ValueIdx.ix3 n g j)) (fun n g => x4 (ValueIdx.ix2 n g)) (fun n g => x5 (ValueIdx.ix2 n g)) t d l := by
  rw [rot_ref, v42_ref, v42_ref]
  rfl

/-- The second result is the first's function of the second set of weights. -/
theorem out1_eq : val_main_v156 (F := Ideal) x0 x1 x2 x3 x4 x5 = val_main_v118 (F := Ideal) x0 x1 x2 x3 x4 x5 := rfl

/-- The third result. -/
theorem out2_ref (t : Fin 128) (d : Fin 10) (l : Fin 128) :
    val_main_v157 (F := Ideal) x0 x1 x3 x4 x5 (ValueIdx.ix4 t (0 : Fin 1) d l)
      = gVal (fun t k => x0 (ValueIdx.ix3 t (0 : Fin 1) k)) (fun k => x1 (ValueIdx.ix1 k))
          (fun n g j => x3 (ValueIdx.ix3 n g j)) (fun n g => x4 (ValueIdx.ix2 n g)) (fun n g => x5 (ValueIdx.ix2 n g)) t d l := by
  rw [val_main_v157_apply, show val_main_v80 (F := Ideal) x0 x1 x3 x4 x5 = val_main_v42 (F := Ideal) x0 x1 x3 x4 x5 from rfl]
  exact v42_ref x0 x1 x3 x4 x5 t d l

end Cert.ReferenceIdeal.Read

end
-- ==== Proof.Algebraic.lean ====
/- The value claim: from equal arguments the kernel and the reference end with the same three results. -/
module

public import proofs.«01_k».proof.Defs
public import proofs.«01_k».proof.Proof.Final
public import proofs.«01_k».proof.Proof.RefOut

@[expose] public section

set_option maxRecDepth 65536
set_option maxHeartbeats 2000000

noncomputable section

namespace Cert.Value

open Idealize.ShloMosaic Idealize.SL.Sem Cert.Spec

/-- An index of a result, by its four coordinates. -/
theorem ix4_of (i : Cert.KernelIdeal.S128x1x10x128.Idx) :
    ∃ (t : Fin 128) (d : Fin 10) (l : Fin 128), i = (ValueIdx.ix4 t (0 : Fin 1) d l : Cert.KernelIdeal.S128x1x10x128.Idx) :=
  ⟨i 0, i 2, i 3, funext fun b => by
    match b with
    | ⟨0, _⟩ => rfl
    | ⟨1, _⟩ => exact Subsingleton.elim (α := Fin 1) _ _
    | ⟨2, _⟩ => rfl
    | ⟨3, _⟩ => rfl⟩

variable (m : (ℓ : Loc Cert.KernelIdeal.nD Cert.KernelIdeal.τ Cert.KernelIdeal.sig) → Buf (Elt Ideal) ℓ) (c : Dev Cert.KernelIdeal.nD)

theorem ref0 : Cert.ReferenceIdeal.Read.val_main_v118 (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
    = Cert.KernelIdeal.Val.fold (Cert.KernelIdeal.Val.G12 m c) := by
  funext i
  obtain ⟨t, d, l, rfl⟩ := ix4_of i
  rw [Cert.KernelIdeal.Val.fold_apply]
  exact Cert.ReferenceIdeal.Read.out0_ref _ _ _ _ _ _ t d l

theorem ref1 : Cert.ReferenceIdeal.Read.val_main_v156 (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) (m ((c.tc : Thread Cert.KernelIdeal.nD Cert.KernelIdeal.τ).loc Cert.KernelIdeal.main_arg8))
    = Cert.KernelIdeal.Val.fold (Cert.KernelIdeal.Val.G13 m c) := by
  rw [Cert.ReferenceIdeal.Read.out1_eq]
  funext i
  obtain ⟨t, d, l, rfl⟩ := ix4_of i
  rw [Cert.KernelIdeal.Val.fold_apply]
  exact Cert.ReferenceIdeal.Read.out0_ref _ _ _ _ _ _ t d l

theorem ref2 : Cert.ReferenceIdeal.Read.val_main_v157 (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)) (m ((c.tc : Thread Cert.KernelIdeal.nD Cert.KernelIdeal.τ).loc Cert.KernelIdeal.main_arg11))
    = Cert.KernelIdeal.Val.fold (Cert.KernelIdeal.Val.G14 m c) := by
  funext i
  obtain ⟨t, d, l, rfl⟩ := ix4_of i
  rw [Cert.KernelIdeal.Val.fold_apply]
  exact Cert.ReferenceIdeal.Read.out2_ref _ _ _ _ _ t d l

/-- Both programs run, and from equal arguments the three results are equal. -/
theorem algebraic : Cert.algebraic_KernelIdeal_ReferenceIdeal (hKernelIdeal := Cert.KernelIdeal.Gen.facts) (hReferenceIdeal := Cert.ReferenceIdeal.Gen.facts) := by
  intro m g m' g' _ hargs
  refine ⟨fun c => Cert.KernelIdeal.Val.fold (Cert.KernelIdeal.Val.G12 m c), fun c => Cert.KernelIdeal.Val.fold (Cert.KernelIdeal.Val.G13 m c),
    fun c => Cert.KernelIdeal.Val.fold (Cert.KernelIdeal.Val.G14 m c), ?_, ?_⟩
  · exact (θ_run (Cert.KernelIdeal.defs (F := Ideal)) _ _).mono (fun r h c => ⟨(h.1 c).1, (h.1 c).2.1, (h.1 c).2.2, h.2 c⟩)
      (θ_run_and (Cert.KernelIdeal.Val.results m g) (Cert.KernelIdeal.Gen.unchanged (F := Ideal) m g))
  · refine (θ_run (Cert.ReferenceIdeal.defs (F := Ideal)) _ _).mono (fun r h c => ?_) (Cert.ReferenceIdeal.Value.run (F := Ideal) m' g')
    obtain ⟨h0, h1, h2, hrest⟩ := h c
    obtain ⟨a0, a1, a2, a3, a4, a5, a6, a7, a8, a9, a10, a11⟩ := hargs c
    refine ⟨h0.trans ?_, h1.trans ?_, h2.trans ?_, hrest⟩
    · rw [Cert.ReferenceIdeal.Read.val_main_v118_eq]
      rw [a0, a1, a2, a3, a4, a5]
      exact ref0 m c
    · rw [Cert.ReferenceIdeal.Read.val_main_v156_eq]
      rw [a0, a1, a2, a6, a7, a8]
      exact ref1 m c
    · refine (Cert.ReferenceIdeal.Read.val_main_v157_eq _ _ _ _ _).trans ?_
      rw [a0, a1, a9, a10, a11]
      exact ref2 m c

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Algebraic
public import Idealize.ShloMosaic.Lib.Bf16PairInverse
public import Idealize.ShloMosaic.Adequacy
public import Idealize.ShloMosaic.Init

@[expose] public section

noncomputable section

namespace Cert.Proof

open Idealize.ShloMosaic Idealize.SL.Sem Cert.Kernel

/-- The scratch of packed pairs, the packing, and the stores, loads and bit casts of its words: each read as pairs of
    bf16 rows, at its own shapes. -/
theorem preserves : Cert.preserves_Kernel_KernelIdeal :=
  open IdealRules.bf16_pair in
  ⟨bufferStatement KernelIdeal.S20x8x2x256 KernelIdeal.S20x8x1x256, packStatement KernelIdeal.S8x256,
    statement KernelIdeal.S1x8x2x256 KernelIdeal.S1x8x1x256, statement KernelIdeal.S16x256 KernelIdeal.S8x256⟩

theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  fun m ρ _ => (θ_run Cert.ReferenceIdeal.defs _ _).mono
    (fun r h => ⟨fun c => (h c).2.2.2, sem_eq_zero_of_no_sems (by decide) r.2⟩) (Cert.ReferenceIdeal.Value.run (F := Ideal) m ρ),
  preserves, Cert.Value.algebraic⟩

end Cert.Proof

end
